-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mlp_rows_agree [hPre_mlp_rows_agree : Cert.Pre_mlp_rows_agree.Facts] (m : (ℓ : Loc Cert.KernelIdeal.nD Cert.KernelIdeal.τ Cert.KernelIdeal.sig) → Buf (Elt Ideal) ℓ) : Prop :=
  ∀ c : Dev Cert.KernelIdeal.nD,
    (Cert.Pre_mlp_rows_agree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mlp_rows_agree [hPre_mlp_rows_agree : Cert.Pre_mlp_rows_agree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mlp_rows_agree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_mlp_rows_agree [hKernelIdeal : Cert.KernelIdeal.Facts] [hPre_mlp_rows_agree : Cert.Pre_mlp_rows_agree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mlp_rows_agree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_mlp_rows_agree [hReferenceIdeal : Cert.ReferenceIdeal.Facts] [hPre_mlp_rows_agree : Cert.Pre_mlp_rows_agree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mlp_rows_agree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_mlp_rows_agree [hKernelIdeal : Cert.KernelIdeal.Facts] [hReferenceIdeal : Cert.ReferenceIdeal.Facts] [hPre_mlp_rows_agree : Cert.Pre_mlp_rows_agree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mlp_rows_agree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1629) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_mlp_rows_agree : Cert.Pre_mlp_rows_agree.Facts),
    quiescent_Kernel (hKernel := hKernel)
    ∧ quiescent_KernelIdeal (hKernelIdeal := hKernelIdeal)
    ∧ quiescent_KernelIdeal_pre_mlp_rows_agree (hKernelIdeal := hKernelIdeal) (hPre_mlp_rows_agree := hPre_mlp_rows_agree)
    ∧ quiescent_ReferenceIdeal (hReferenceIdeal := hReferenceIdeal)
    ∧ quiescent_ReferenceIdeal_pre_mlp_rows_agree (hReferenceIdeal := hReferenceIdeal) (hPre_mlp_rows_agree := hPre_mlp_rows_agree)
    ∧ preserves_Kernel_KernelIdeal
    ∧ algebraic_KernelIdeal_ReferenceIdeal_pre_mlp_rows_agree (hKernelIdeal := hKernelIdeal) (hReferenceIdeal := hReferenceIdeal) (hPre_mlp_rows_agree := hPre_mlp_rows_agree)
-- ==== Pre_mlp_rows_agree.lean ====
abbrev S64x512x1024 : Shape := ⟨3, ![64, 512, 1024]⟩
abbrev S64x1x768 : Shape := ⟨3, ![64, 1, 768]⟩
abbrev S1x64x1024 : Shape := ⟨3, ![1, 64, 1024]⟩
abbrev S8x3072x1024 : Shape := ⟨3, ![8, 3072, 1024]⟩
abbrev S8x3072 : Shape := ⟨2, ![8, 3072]⟩
abbrev S8x1024x1024 : Shape := ⟨3, ![8, 1024, 1024]⟩
abbrev S8x1024 : Shape := ⟨2, ![8, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S1x1024 : Shape := ⟨2, ![1, 1024]⟩

class Facts : Prop where
  slices_S8x1024_S1x1024_0_0 : S8x1024.Slices ![0, 0] S1x1024
  bcast_S1x1024_S8x1024_0_1 : S1x1024.BroadcastsInDim S8x1024 (![0, 1] : Fin 2 → Fin S8x1024.rank)

variable [Facts]

def fn {F : FTy → Type} [FloatOps F] (main_arg0 : FVec F S64x512x1024 .f32) (main_arg1 : FVec F S64x1x768 .f32) (main_arg2 : FVec F S1x64x1024 .f32) (main_arg3 : FVec F S8x3072x1024 .f32) (main_arg4 : FVec F S8x3072 .f32) (main_arg5 : FVec F S8x1024x1024 .f32) (main_arg6 : FVec F S8x1024 .f32) (main_arg7 : FVec F S8x1024 .f32) (main_arg8 : FVec F S8x1024 .f32) (main_arg9 : FVec F S8x3072x1024 .f32) (main_arg10 : FVec F S8x3072 .f32) (main_arg11 : FVec F S8x1024x1024 .f32) (main_arg12 : FVec F S8x1024 .f32) (main_arg13 : FVec F S8x1024 .f32) (main_arg14 : FVec F S8x1024 .f32) (main_arg15 : FVec F S8x1024 .f32) (main_arg16 : FVec F S8x1024 .f32) (main_arg17 : FVec F S8x4096x1024 .f32) (main_arg18 : FVec F S8x4096 .f32) (main_arg19 : FVec F S8x1024x4096 .f32) (main_arg20 : FVec F S8x1024 .f32) : IVec S8x1024 1 :=
  let main_v0 : FVec F S1x1024 .f32 := (extractStridedSlice S1x1024 ![0, 0] · slices_S8x1024_S1x1024_0_0) main_arg15
  let main_v1 : FVec F S8x1024 .f32 := broadcastInDim S8x1024 ![0, 1] bcast_S1x1024_S8x1024_0_1 main_v0
  let main_v2 : IVec S8x1024 1 := cmpf .oeq main_arg15 main_v1
  let main_v3 : FVec F S1x1024 .f32 := (extractStridedSlice S1x1024 ![0, 0] · slices_S8x1024_S1x1024_0_0) main_arg16
  let main_v4 : FVec F S8x1024 .f32 := broadcastInDim S8x1024 ![0, 1] bcast_S1x1024_S8x1024_0_1 main_v3
  let main_v5 : IVec S8x1024 1 := cmpf .oeq main_arg16 main_v4
  let main_v6 : IVec S8x1024 1 := andi main_v2 main_v5
  let main_v7 : FVec F S1x1024 .f32 := (extractStridedSlice S1x1024 ![0, 0] · slices_S8x1024_S1x1024_0_0) main_arg20
  let main_v8 : FVec F S8x1024 .f32 := broadcastInDim S8x1024 ![0, 1] bcast_S1x1024_S8x1024_0_1 main_v7
  let main_v9 : IVec S8x1024 1 := cmpf .oeq main_arg20 main_v8
  let main_v10 : IVec S8x1024 1 := andi main_v6 main_v9
  main_v10
-- ==== Kernel.lean ====
abbrev S64x512x1024 : Shape := ⟨3, ![64, 512, 1024]⟩
abbrev S64x1x768 : Shape := ⟨3, ![64, 1, 768]⟩
abbrev S1x64x1024 : Shape := ⟨3, ![1, 64, 1024]⟩
abbrev S8x3072x1024 : Shape := ⟨3, ![8, 3072, 1024]⟩
abbrev S8x3072 : Shape := ⟨2, ![8, 3072]⟩
abbrev S8x1024x1024 : Shape := ⟨3, ![8, 1024, 1024]⟩
abbrev S8x1024 : Shape := ⟨2, ![8, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S64x1024 : Shape := ⟨2, ![64, 1024]⟩
abbrev S64x64x1024 : Shape := ⟨3, ![64, 64, 1024]⟩
abbrev S8x1x3072 : Shape := ⟨3, ![8, 1, 3072]⟩
abbrev S8x1x1024 : Shape := ⟨3, ![8, 1, 1024]⟩
abbrev S8x1x4096 : Shape := ⟨3, ![8, 1, 4096]⟩
abbrev S1x512x1024 : Shape := ⟨3, ![1, 512, 1024]⟩
abbrev S1x3072x1024 : Shape := ⟨3, ![1, 3072, 1024]⟩
abbrev S1x1x3072 : Shape := ⟨3, ![1, 1, 3072]⟩
abbrev S1x1024x1024 : Shape := ⟨3, ![1, 1024, 1024]⟩
abbrev S1x1x1024 : Shape := ⟨3, ![1, 1, 1024]⟩
abbrev S1x1024 : Shape := ⟨2, ![1, 1024]⟩
abbrev S64 : Shape := ⟨1, ![64]⟩
abbrev S64x1 : Shape := ⟨2, ![64, 1]⟩
abbrev S3072x1024 : Shape := ⟨2, ![3072, 1024]⟩
abbrev S1x3072 : Shape := ⟨2, ![1, 3072]⟩
abbrev S1024x1024 : Shape := ⟨2, ![1024, 1024]⟩
abbrev S512x1024 : Shape := ⟨2, ![512, 1024]⟩
abbrev S64x64 : Shape := ⟨2, ![64, 64]⟩
abbrev S512x64 : Shape := ⟨2, ![512, 64]⟩
abbrev S64x512 : Shape := ⟨2, ![64, 512]⟩
abbrev S64x3072 : Shape := ⟨2, ![64, 3072]⟩
abbrev S4096x1024 : Shape := ⟨2, ![4096, 1024]⟩
abbrev S512 : Shape := ⟨1, ![512]⟩
abbrev S512x1 : Shape := ⟨2, ![512, 1]⟩

abbrev nBuf : Space → Nat
  | .hbm => 85
  | .vmem => 312
  | .smem => 0
  | _ => 0

abbrev vmemTy0_0 (i : Nat) : BufTy := match i % 128 with
  | 0 => ⟨S1x64x1024, .f32⟩
  | 1 => ⟨S1x64x1024, .f32⟩
  | 2 => ⟨S1x512x1024, .bf16⟩
  | 3 => ⟨S1x512x1024, .bf16⟩
  | 4 => ⟨S1x3072x1024, .bf16⟩
  | 5 => ⟨S1x1x3072, .f32⟩
  | 6 => ⟨S1x1024x1024, .bf16⟩
  | 7 => ⟨S1x1x1024, .f32⟩
  | 8 => ⟨S1x1x1024, .f32⟩
  | 9 => ⟨S1x1x1024, .f32⟩
  | 10 => ⟨S1x64x1024, .f32⟩
  | 11 => ⟨S1x64x1024, .f32⟩
  | 12 => ⟨S1x64x1024, .f32⟩
  | 13 => ⟨S1x64x1024, .f32⟩
  | 14 => ⟨S1x3072x1024, .bf16⟩
  | 15 => ⟨S1x1x3072, .f32⟩
  | 16 => ⟨S1x1024x1024, .bf16⟩
  | 17 => ⟨S1x1x1024, .f32⟩
  | 18 => ⟨S1x1x1024, .f32⟩
  | 19 => ⟨S1x1x1024, .f32⟩
  | 20 => ⟨S1x64x1024, .f32⟩
  | 21 => ⟨S1x64x1024, .f32⟩
  | 22 => ⟨S512x1024, .f32⟩
  | 23 => ⟨S512x1024, .f32⟩
  | 24 => ⟨S1x1024x1024, .bf16⟩
  | 25 => ⟨S1x1024x1024, .bf16⟩
  | 26 => ⟨S1x1x1024, .f32⟩
  | 27 => ⟨S1x1x1024, .f32⟩
  | 28 => ⟨S1x1024x1024, .bf16⟩
  | 29 => ⟨S1x1024x1024, .bf16⟩
  | 30 => ⟨S1x1x1024, .f32⟩
  | 31 => ⟨S1x1x1024, .f32⟩
  | 32 => ⟨S1x1x1024, .f32⟩
  | 33 => ⟨S1x1x1024, .f32⟩
  | 34 => ⟨S1x1x1024, .f32⟩
  | 35 => ⟨S1x1x1024, .f32⟩
  | 36 => ⟨S512x1024, .f32⟩
  | 37 => ⟨S512x1024, .f32⟩
  | 38 => ⟨S512x1024, .bf16⟩
  | 39 => ⟨S1x64x1024, .f32⟩
  | 40 => ⟨S1x64x1024, .f32⟩
  | 41 => ⟨S1x512x1024, .bf16⟩
  | 42 => ⟨S1x512x1024, .bf16⟩
  | 43 => ⟨S1x3072x1024, .bf16⟩
  | 44 => ⟨S1x1x3072, .f32⟩
  | 45 => ⟨S1x1024x1024, .bf16⟩
  | 46 => ⟨S1x1x1024, .f32⟩
  | 47 => ⟨S1x1x1024, .f32⟩
  | 48 => ⟨S1x1x1024, .f32⟩
  | 49 => ⟨S1x64x1024, .f32⟩
  | 50 => ⟨S1x64x1024, .f32⟩
  | 51 => ⟨S1x64x1024, .f32⟩
  | 52 => ⟨S1x64x1024, .f32⟩
  | 53 => ⟨S1x3072x1024, .bf16⟩
  | 54 => ⟨S1x1x3072, .f32⟩
  | 55 => ⟨S1x1024x1024, .bf16⟩
  | 56 => ⟨S1x1x1024, .f32⟩
  | 57 => ⟨S1x1x1024, .f32⟩
  | 58 => ⟨S1x1x1024, .f32⟩
  | 59 => ⟨S1x64x1024, .f32⟩
  | 60 => ⟨S1x64x1024, .f32⟩
  | 61 => ⟨S512x1024, .f32⟩
  | 62 => ⟨S512x1024, .f32⟩
  | 63 => ⟨S1x1024x1024, .bf16⟩
  | 64 => ⟨S1x1024x1024, .bf16⟩
  | 65 => ⟨S1x1x1024, .f32⟩
  | 66 => ⟨S1x1x1024, .f32⟩
  | 67 => ⟨S1x1024x1024, .bf16⟩
  | 68 => ⟨S1x1024x1024, .bf16⟩
  | 69 => ⟨S1x1x1024, .f32⟩
  | 70 => ⟨S1x1x1024, .f32⟩
  | 71 => ⟨S1x1x1024, .f32⟩
  | 72 => ⟨S1x1x1024, .f32⟩
  | 73 => ⟨S1x1x1024, .f32⟩
  | 74 => ⟨S1x1x1024, .f32⟩
  | 75 => ⟨S512x1024, .f32⟩
  | 76 => ⟨S512x1024, .f32⟩
  | 77 => ⟨S512x1024, .bf16⟩
  | 78 => ⟨S1x64x1024, .f32⟩
  | 79 => ⟨S1x64x1024, .f32⟩
  | 80 => ⟨S1x512x1024, .bf16⟩
  | 81 => ⟨S1x512x1024, .bf16⟩
  | 82 => ⟨S1x3072x1024, .bf16⟩
  | 83 => ⟨S1x1x3072, .f32⟩
  | 84 => ⟨S1x1024x1024, .bf16⟩
  | 85 => ⟨S1x1x1024, .f32⟩
  | 86 => ⟨S1x1x1024, .f32⟩
  | 87 => ⟨S1x1x1024, .f32⟩
  | 88 => ⟨S1x64x1024, .f32⟩
  | 89 => ⟨S1x64x1024, .f32⟩
  | 90 => ⟨S1x64x1024, .f32⟩
  | 91 => ⟨S1x64x1024, .f32⟩
  | 92 => ⟨S1x3072x1024, .bf16⟩
  | 93 => ⟨S1x1x3072, .f32⟩
  | 94 => ⟨S1x1024x1024, .bf16⟩
  | 95 => ⟨S1x1x1024, .f32⟩
  | 96 => ⟨S1x1x1024, .f32⟩
  | 97 => ⟨S1x1x1024, .f32⟩
  | 98 => ⟨S1x64x1024, .f32⟩
  | 99 => ⟨S1x64x1024, .f32⟩
  | 100 => ⟨S512x1024, .f32⟩
  | 101 => ⟨S512x1024, .f32⟩
  | 102 => ⟨S1x1024x1024, .bf16⟩
  | 103 => ⟨S1x1024x1024, .bf16⟩
  | 104 => ⟨S1x1x1024, .f32⟩
  | 105 => ⟨S1x1x1024, .f32⟩
  | 106 => ⟨S1x1024x1024, .bf16⟩
  | 107 => ⟨S1x1024x1024, .bf16⟩
  | 108 => ⟨S1x1x1024, .f32⟩
  | 109 => ⟨S1x1x1024, .f32⟩
  | 110 => ⟨S1x1x1024, .f32⟩
  | 111 => ⟨S1x1x1024, .f32⟩
  | 112 => ⟨S1x1x1024, .f32⟩
  | 113 => ⟨S1x1x1024, .f32⟩
  | 114 => ⟨S512x1024, .f32⟩
  | 115 => ⟨S512x1024, .f32⟩
  | 116 => ⟨S512x1024, .bf16⟩
  | 117 => ⟨S1x64x1024, .f32⟩
  | 118 => ⟨S1x64x1024, .f32⟩
  | 119 => ⟨S1x512x1024, .bf16⟩
  | 120 => ⟨S1x512x1024, .bf16⟩
  | 121 => ⟨S1x3072x1024, .bf16⟩
  | 122 => ⟨S1x1x3072, .f32⟩
  | 123 => ⟨S1x1024x1024, .bf16⟩
  | 124 => ⟨S1x1x1024, .f32⟩
  | 125 => ⟨S1x1x1024, .f32⟩
  | 126 => ⟨S1x1x1024, .f32⟩
  | 127 => ⟨S1x64x1024, .f32⟩
  | _ => ⟨S64x512x1024, .f32⟩

abbrev vmemTy0_1 (i : Nat) : BufTy := match i % 128 with
  | 0 => ⟨S1x64x1024, .f32⟩
  | 1 => ⟨S1x64x1024, .f32⟩
  | 2 => ⟨S1x64x1024, .f32⟩
  | 3 => ⟨S1x3072x1024, .bf16⟩
  | 4 => ⟨S1x1x3072, .f32⟩
  | 5 => ⟨S1x1024x1024, .bf16⟩
  | 6 => ⟨S1x1x1024, .f32⟩
  | 7 => ⟨S1x1x1024, .f32⟩
  | 8 => ⟨S1x1x1024, .f32⟩
  | 9 => ⟨S1x64x1024, .f32⟩
  | 10 => ⟨S1x64x1024, .f32⟩
  | 11 => ⟨S512x1024, .f32⟩
  | 12 => ⟨S512x1024, .f32⟩
  | 13 => ⟨S1x1024x1024, .bf16⟩
  | 14 => ⟨S1x1024x1024, .bf16⟩
  | 15 => ⟨S1x1x1024, .f32⟩
  | 16 => ⟨S1x1x1024, .f32⟩
  | 17 => ⟨S1x1024x1024, .bf16⟩
  | 18 => ⟨S1x1024x1024, .bf16⟩
  | 19 => ⟨S1x1x1024, .f32⟩
  | 20 => ⟨S1x1x1024, .f32⟩
  | 21 => ⟨S1x1x1024, .f32⟩
  | 22 => ⟨S1x1x1024, .f32⟩
  | 23 => ⟨S1x1x1024, .f32⟩
  | 24 => ⟨S1x1x1024, .f32⟩
  | 25 => ⟨S512x1024, .f32⟩
  | 26 => ⟨S512x1024, .f32⟩
  | 27 => ⟨S512x1024, .bf16⟩
  | 28 => ⟨S1x64x1024, .f32⟩
  | 29 => ⟨S1x64x1024, .f32⟩
  | 30 => ⟨S1x512x1024, .bf16⟩
  | 31 => ⟨S1x512x1024, .bf16⟩
  | 32 => ⟨S1x3072x1024, .bf16⟩
  | 33 => ⟨S1x1x3072, .f32⟩
  | 34 => ⟨S1x1024x1024, .bf16⟩
  | 35 => ⟨S1x1x1024, .f32⟩
  | 36 => ⟨S1x1x1024, .f32⟩
  | 37 => ⟨S1x1x1024, .f32⟩
  | 38 => ⟨S1x64x1024, .f32⟩
  | 39 => ⟨S1x64x1024, .f32⟩
  | 40 => ⟨S1x64x1024, .f32⟩
  | 41 => ⟨S1x64x1024, .f32⟩
  | 42 => ⟨S1x3072x1024, .bf16⟩
  | 43 => ⟨S1x1x3072, .f32⟩
  | 44 => ⟨S1x1024x1024, .bf16⟩
  | 45 => ⟨S1x1x1024, .f32⟩
  | 46 => ⟨S1x1x1024, .f32⟩
  | 47 => ⟨S1x1x1024, .f32⟩
  | 48 => ⟨S1x64x1024, .f32⟩
  | 49 => ⟨S1x64x1024, .f32⟩
  | 50 => ⟨S512x1024, .f32⟩
  | 51 => ⟨S512x1024, .f32⟩
  | 52 => ⟨S1x1024x1024, .bf16⟩
  | 53 => ⟨S1x1024x1024, .bf16⟩
  | 54 => ⟨S1x1x1024, .f32⟩
  | 55 => ⟨S1x1x1024, .f32⟩
  | 56 => ⟨S1x1024x1024, .bf16⟩
  | 57 => ⟨S1x1024x1024, .bf16⟩
  | 58 => ⟨S1x1x1024, .f32⟩
  | 59 => ⟨S1x1x1024, .f32⟩
  | 60 => ⟨S1x1x1024, .f32⟩
  | 61 => ⟨S1x1x1024, .f32⟩
  | 62 => ⟨S1x1x1024, .f32⟩
  | 63 => ⟨S1x1x1024, .f32⟩
  | 64 => ⟨S512x1024, .f32⟩
  | 65 => ⟨S512x1024, .f32⟩
  | 66 => ⟨S512x1024, .bf16⟩
  | 67 => ⟨S1x64x1024, .f32⟩
  | 68 => ⟨S1x64x1024, .f32⟩
  | 69 => ⟨S1x512x1024, .bf16⟩
  | 70 => ⟨S1x512x1024, .bf16⟩
  | 71 => ⟨S1x3072x1024, .bf16⟩
  | 72 => ⟨S1x1x3072, .f32⟩
  | 73 => ⟨S1x1024x1024, .bf16⟩
  | 74 => ⟨S1x1x1024, .f32⟩
  | 75 => ⟨S1x1x1024, .f32⟩
  | 76 => ⟨S1x1x1024, .f32⟩
  | 77 => ⟨S1x64x1024, .f32⟩
  | 78 => ⟨S1x64x1024, .f32⟩
  | 79 => ⟨S1x64x1024, .f32⟩
  | 80 => ⟨S1x64x1024, .f32⟩
  | 81 => ⟨S1x3072x1024, .bf16⟩
  | 82 => ⟨S1x1x3072, .f32⟩
  | 83 => ⟨S1x1024x1024, .bf16⟩
  | 84 => ⟨S1x1x1024, .f32⟩
  | 85 => ⟨S1x1x1024, .f32⟩
  | 86 => ⟨S1x1x1024, .f32⟩
  | 87 => ⟨S1x64x1024, .f32⟩
  | 88 => ⟨S1x64x1024, .f32⟩
  | 89 => ⟨S512x1024, .f32⟩
  | 90 => ⟨S512x1024, .f32⟩
  | 91 => ⟨S1x1024x1024, .bf16⟩
  | 92 => ⟨S1x1024x1024, .bf16⟩
  | 93 => ⟨S1x1x1024, .f32⟩
  | 94 => ⟨S1x1x1024, .f32⟩
  | 95 => ⟨S1x1024x1024, .bf16⟩
  | 96 => ⟨S1x1024x1024, .bf16⟩
  | 97 => ⟨S1x1x1024, .f32⟩
  | 98 => ⟨S1x1x1024, .f32⟩
  | 99 => ⟨S1x1x1024, .f32⟩
  | 100 => ⟨S1x1x1024, .f32⟩
  | 101 => ⟨S1x1x1024, .f32⟩
  | 102 => ⟨S1x1x1024, .f32⟩
  | 103 => ⟨S512x1024, .f32⟩
  | 104 => ⟨S512x1024, .f32⟩
  | 105 => ⟨S512x1024, .bf16⟩
  | 106 => ⟨S1x64x1024, .f32⟩
  | 107 => ⟨S1x64x1024, .f32⟩
  | 108 => ⟨S1x512x1024, .bf16⟩
  | 109 => ⟨S1x512x1024, .bf16⟩
  | 110 => ⟨S1x3072x1024, .bf16⟩
  | 111 => ⟨S1x1x3072, .f32⟩
  | 112 => ⟨S1x1024x1024, .bf16⟩
  | 113 => ⟨S1x1x1024, .f32⟩
  | 114 => ⟨S1x1x1024, .f32⟩
  | 115 => ⟨S1x1x1024, .f32⟩
  | 116 => ⟨S1x64x1024, .f32⟩
  | 117 => ⟨S1x64x1024, .f32⟩
  | 118 => ⟨S1x64x1024, .f32⟩
  | 119 => ⟨S1x64x1024, .f32⟩
  | 120 => ⟨S1x3072x1024, .bf16⟩
  | 121 => ⟨S1x1x3072, .f32⟩
  | 122 => ⟨S1x1024x1024, .bf16⟩
  | 123 => ⟨S1x1x1024, .f32⟩
  | 124 => ⟨S1x1x1024, .f32⟩
  | 125 => ⟨S1x1x1024, .f32⟩
  | 126 => ⟨S1x64x1024, .f32⟩
  | 127 => ⟨S1x64x1024, .f32⟩
  | _ => ⟨S64x512x1024, .f32⟩

abbrev vmemTy0_2 (i : Nat) : BufTy := match i % 128 with
  | 0 => ⟨S512x1024, .f32⟩
  | 1 => ⟨S512x1024, .f32⟩
  | 2 => ⟨S1x1024x1024, .bf16⟩
  | 3 => ⟨S1x1024x1024, .bf16⟩
  | 4 => ⟨S1x1x1024, .f32⟩
  | 5 => ⟨S1x1x1024, .f32⟩
  | 6 => ⟨S1x1024x1024, .bf16⟩
  | 7 => ⟨S1x1024x1024, .bf16⟩
  | 8 => ⟨S1x1x1024, .f32⟩
  | 9 => ⟨S1x1x1024, .f32⟩
  | 10 => ⟨S1x1x1024, .f32⟩
  | 11 => ⟨S1x1x1024, .f32⟩
  | 12 => ⟨S1x1x1024, .f32⟩
  | 13 => ⟨S1x1x1024, .f32⟩
  | 14 => ⟨S512x1024, .f32⟩
  | 15 => ⟨S512x1024, .f32⟩
  | 16 => ⟨S512x1024, .bf16⟩
  | 17 => ⟨S1x64x1024, .f32⟩
  | 18 => ⟨S1x64x1024, .f32⟩
  | 19 => ⟨S1x512x1024, .bf16⟩
  | 20 => ⟨S1x512x1024, .bf16⟩
  | 21 => ⟨S1x3072x1024, .bf16⟩
  | 22 => ⟨S1x1x3072, .f32⟩
  | 23 => ⟨S1x1024x1024, .bf16⟩
  | 24 => ⟨S1x1x1024, .f32⟩
  | 25 => ⟨S1x1x1024, .f32⟩
  | 26 => ⟨S1x1x1024, .f32⟩
  | 27 => ⟨S1x64x1024, .f32⟩
  | 28 => ⟨S1x64x1024, .f32⟩
  | 29 => ⟨S1x64x1024, .f32⟩
  | 30 => ⟨S1x64x1024, .f32⟩
  | 31 => ⟨S1x3072x1024, .bf16⟩
  | 32 => ⟨S1x1x3072, .f32⟩
  | 33 => ⟨S1x1024x1024, .bf16⟩
  | 34 => ⟨S1x1x1024, .f32⟩
  | 35 => ⟨S1x1x1024, .f32⟩
  | 36 => ⟨S1x1x1024, .f32⟩
  | 37 => ⟨S1x64x1024, .f32⟩
  | 38 => ⟨S1x64x1024, .f32⟩
  | 39 => ⟨S512x1024, .f32⟩
  | 40 => ⟨S512x1024, .f32⟩
  | 41 => ⟨S1x1024x1024, .bf16⟩
  | 42 => ⟨S1x1024x1024, .bf16⟩
  | 43 => ⟨S1x1x1024, .f32⟩
  | 44 => ⟨S1x1x1024, .f32⟩
  | 45 => ⟨S1x1024x1024, .bf16⟩
  | 46 => ⟨S1x1024x1024, .bf16⟩
  | 47 => ⟨S1x1x1024, .f32⟩
  | 48 => ⟨S1x1x1024, .f32⟩
  | 49 => ⟨S1x1x1024, .f32⟩
  | 50 => ⟨S1x1x1024, .f32⟩
  | 51 => ⟨S1x1x1024, .f32⟩
  | 52 => ⟨S1x1x1024, .f32⟩
  | 53 => ⟨S512x1024, .f32⟩
  | 54 => ⟨S512x1024, .f32⟩
  | 55 => ⟨S512x1024, .bf16⟩
  | _ => ⟨S64x512x1024, .f32⟩

abbrev vmemTy (i : Nat) : BufTy := match i / 128 with
  | 0 => vmemTy0_0 i
  | 1 => vmemTy0_1 i
  | 2 => vmemTy0_2 i
  | _ => ⟨S64x512x1024, .f32⟩

abbrev bufTy : (tb : Table) → Fin (tcTables nBuf tb) → BufTy
  | .hbm, ⟨0, _⟩ => ⟨S64x512x1024, .f32⟩
  | .hbm, ⟨1, _⟩ => ⟨S64x1x768, .f32⟩
  | .hbm, ⟨2, _⟩ => ⟨S1x64x1024, .f32⟩
  | .hbm, ⟨3, _⟩ => ⟨S8x3072x1024, .f32⟩
  | .hbm, ⟨4, _⟩ => ⟨S8x3072, .f32⟩
  | .hbm, ⟨5, _⟩ => ⟨S8x1024x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x3072x1024, .f32⟩
  | .hbm, ⟨10, _⟩ => ⟨S8x3072, .f32⟩
  | .hbm, ⟨11, _⟩ => ⟨S8x1024x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x4096x1024, .f32⟩
  | .hbm, ⟨18, _⟩ => ⟨S8x4096, .f32⟩
  | .hbm, ⟨19, _⟩ => ⟨S8x1024x4096, .f32⟩
  | .hbm, ⟨20, _⟩ => ⟨S8x1024, .f32⟩
  | .hbm, ⟨21, _⟩ => ⟨S64x1024, .f32⟩
  | .hbm, ⟨22, _⟩ => ⟨S64x64x1024, .f32⟩
  | .hbm, ⟨23, _⟩ => ⟨S1x64x1024, .f32⟩
  | .hbm, ⟨24, _⟩ => ⟨S64x64x1024, .f32⟩
  | .hbm, ⟨25, _⟩ => ⟨S64x64x1024, .f32⟩
  | .hbm, ⟨26, _⟩ => ⟨S64x512x1024, .bf16⟩
  | .hbm, ⟨27, _⟩ => ⟨S8x3072x1024, .bf16⟩
  | .hbm, ⟨28, _⟩ => ⟨S8x1024x1024, .bf16⟩
  | .hbm, ⟨29, _⟩ => ⟨S8x3072x1024, .bf16⟩
  | .hbm, ⟨30, _⟩ => ⟨S8x1024x1024, .bf16⟩
  | .hbm, ⟨31, _⟩ => ⟨S8x4096x1024, .bf16⟩
  | .hbm, ⟨32, _⟩ => ⟨S8x1024x4096, .bf16⟩
  | .hbm, ⟨33, _⟩ => ⟨S8x1x3072, .f32⟩
  | .hbm, ⟨34, _⟩ => ⟨S8x1x1024, .f32⟩
  | .hbm, ⟨35, _⟩ => ⟨S8x1x3072, .f32⟩
  | .hbm, ⟨36, _⟩ => ⟨S8x1x1024, .f32⟩
  | .hbm, ⟨37, _⟩ => ⟨S8x1x4096, .f32⟩
  | .hbm, ⟨38, _⟩ => ⟨S8x1x1024, .f32⟩
  | .hbm, ⟨39, _⟩ => ⟨S8x1x1024, .f32⟩
  | .hbm, ⟨40, _⟩ => ⟨S8x1x1024, .f32⟩
  | .hbm, ⟨41, _⟩ => ⟨S8x1x1024, .f32⟩
  | .hbm, ⟨42, _⟩ => ⟨S8x1x1024, .f32⟩
  | .hbm, ⟨43, _⟩ => ⟨S8x1x1024, .f32⟩
  | .hbm, ⟨44, _⟩ => ⟨S8x1x1024, .f32⟩
  | .hbm, ⟨45, _⟩ => ⟨S64x64x1024, .f32⟩
  | .hbm, ⟨46, _⟩ => ⟨S64x64x1024, .f32⟩
  | .hbm, ⟨47, _⟩ => ⟨S4096x1024, .f32⟩
  | .hbm, ⟨48, _⟩ => ⟨S4096x1024, .f32⟩
  | .hbm, ⟨49, _⟩ => ⟨S64x64x1024, .f32⟩
  | .hbm, ⟨50, _⟩ => ⟨S64x64x1024, .f32⟩
  | .hbm, ⟨51, _⟩ => ⟨S64x64x1024, .f32⟩
  | .hbm, ⟨52, _⟩ => ⟨S4096x1024, .f32⟩
  | .hbm, ⟨53, _⟩ => ⟨S4096x1024, .f32⟩
  | .hbm, ⟨54, _⟩ => ⟨S64x64x1024, .f32⟩
  | .hbm, ⟨55, _⟩ => ⟨S64x64x1024, .f32⟩
  | .hbm, ⟨56, _⟩ => ⟨S64x64x1024, .f32⟩
  | .hbm, ⟨57, _⟩ => ⟨S4096x1024, .f32⟩
  | .hbm, ⟨58, _⟩ => ⟨S4096x1024, .f32⟩
  | .hbm, ⟨59, _⟩ => ⟨S64x64x1024, .f32⟩
  | .hbm, ⟨60, _⟩ => ⟨S64x64x1024, .f32⟩
  | .hbm, ⟨61, _⟩ => ⟨S64x64x1024, .f32⟩
  | .hbm, ⟨62, _⟩ => ⟨S4096x1024, .f32⟩
  | .hbm, ⟨63, _⟩ => ⟨S4096x1024, .f32⟩
  | .hbm, ⟨64, _⟩ => ⟨S64x64x1024, .f32⟩
  | .hbm, ⟨65, _⟩ => ⟨S64x64x1024, .f32⟩
  | .hbm, ⟨66, _⟩ => ⟨S64x64x1024, .f32⟩
  | .hbm, ⟨67, _⟩ => ⟨S4096x1024, .f32⟩
  | .hbm, ⟨68, _⟩ => ⟨S4096x1024, .f32⟩
  | .hbm, ⟨69, _⟩ => ⟨S64x64x1024, .f32⟩
  | .hbm, ⟨70, _⟩ => ⟨S64x64x1024, .f32⟩
  | .hbm, ⟨71, _⟩ => ⟨S64x64x1024, .f32⟩
  | .hbm, ⟨72, _⟩ => ⟨S4096x1024, .f32⟩
  | .hbm, ⟨73, _⟩ => ⟨S4096x1024, .f32⟩
  | .hbm, ⟨74, _⟩ => ⟨S64x64x1024, .f32⟩
  | .hbm, ⟨75, _⟩ => ⟨S64x64x1024, .f32⟩
  | .hbm, ⟨76, _⟩ => ⟨S64x64x1024, .f32⟩
  | .hbm, ⟨77, _⟩ => ⟨S4096x1024, .f32⟩
  | .hbm, ⟨78, _⟩ => ⟨S4096x1024, .f32⟩
  | .hbm, ⟨79, _⟩ => ⟨S64x64x1024, .f32⟩
  | .hbm, ⟨80, _⟩ => ⟨S64x64x1024, .f32⟩
  | .hbm, ⟨81, _⟩ => ⟨S64x64x1024, .f32⟩
  | .hbm, ⟨82, _⟩ => ⟨S4096x1024, .f32⟩
  | .hbm, ⟨83, _⟩ => ⟨S4096x1024, .f32⟩
  | .hbm, ⟨84, _⟩ => ⟨S64x64x1024, .f32⟩
  | .local _ .vmem, ⟨i, _⟩ => vmemTy i
  | _, _ => ⟨S64x512x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 304 → Bool
  | ⟨i, _⟩ => dmaSemScopedAt i

abbrev sig : RefSig :=
  ofTc nBuf bufTy 0 304 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc2_stg7_0 : Ref sig .tc := ⟨.vmem, 36, rfl⟩
abbrev cc2_stg7_1 : Ref sig .tc := ⟨.vmem, 37, rfl⟩
abbrev cc2_scratch0 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg8_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg7_1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg1_1 : Ref sig .tc := ⟨.vmem, 64, rfl⟩
abbrev cc5_stg2_0 : Ref sig .tc := ⟨.vmem, 65, rfl⟩
abbrev cc5_stg2_1 : Ref sig .tc := ⟨.vmem, 66, rfl⟩
abbrev cc5_stg3_0 : Ref sig .tc := ⟨.vmem, 67, rfl⟩
abbrev cc5_stg3_1 : Ref sig .tc := ⟨.vmem, 68, rfl⟩
abbrev cc5_stg4_0 : Ref sig .tc := ⟨.vmem, 69, rfl⟩
abbrev cc5_stg4_1 : Ref sig .tc := ⟨.vmem, 70, rfl⟩
abbrev cc5_stg5_0 : Ref sig .tc := ⟨.vmem, 71, rfl⟩
abbrev cc5_stg5_1 : Ref sig .tc := ⟨.vmem, 72, rfl⟩
abbrev cc5_stg6_0 : Ref sig .tc := ⟨.vmem, 73, rfl⟩
abbrev cc5_stg6_1 : Ref sig .tc := ⟨.vmem, 74, rfl⟩
abbrev cc5_stg7_0 : Ref sig .tc := ⟨.vmem, 75, rfl⟩
abbrev cc5_stg7_1 : Ref sig .tc := ⟨.vmem, 76, rfl⟩
abbrev cc5_scratch0 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg3_0 : Ref sig .tc := ⟨.vmem, 83, rfl⟩
abbrev cc6_stg4_0 : Ref sig .tc := ⟨.vmem, 84, rfl⟩
abbrev cc6_stg5_0 : Ref sig .tc := ⟨.vmem, 85, rfl⟩
abbrev cc6_stg6_0 : Ref sig .tc := ⟨.vmem, 86, rfl⟩
abbrev cc6_stg7_0 : Ref sig .tc := ⟨.vmem, 87, rfl⟩
abbrev cc6_stg8_0 : Ref sig .tc := ⟨.vmem, 88, rfl⟩
abbrev cc6_stg8_1 : Ref sig .tc := ⟨.vmem, 89, rfl⟩
abbrev cc7_stg0_0 : Ref sig .tc := ⟨.vmem, 90, rfl⟩
abbrev cc7_stg0_1 : Ref sig .tc := ⟨.vmem, 91, rfl⟩
abbrev cc7_stg1_0 : Ref sig .tc := ⟨.vmem, 92, rfl⟩
abbrev cc7_stg2_0 : Ref sig .tc := ⟨.vmem, 93, rfl⟩
abbrev cc7_stg3_0 : Ref sig .tc := ⟨.vmem, 94, rfl⟩
abbrev cc7_stg4_0 : Ref sig .tc := ⟨.vmem, 95, rfl⟩
abbrev cc7_stg5_0 : Ref sig .tc := ⟨.vmem, 96, rfl⟩
abbrev cc7_stg6_0 : Ref sig .tc := ⟨.vmem, 97, rfl⟩
abbrev cc7_stg7_0 : Ref sig .tc := ⟨.vmem, 98, rfl⟩
abbrev cc7_stg7_1 : Ref sig .tc := ⟨.vmem, 99, rfl⟩
abbrev cc8_stg0_0 : Ref sig .tc := ⟨.vmem, 100, rfl⟩
abbrev cc8_stg0_1 : Ref sig .tc := ⟨.vmem, 101, rfl⟩
abbrev cc8_stg1_0 : Ref sig .tc := ⟨.vmem, 102, rfl⟩
abbrev cc8_stg1_1 : Ref sig .tc := ⟨.vmem, 103, rfl⟩
abbrev cc8_stg2_0 : Ref sig .tc := ⟨.vmem, 104, rfl⟩
abbrev cc8_stg2_1 : Ref sig .tc := ⟨.vmem, 105, rfl⟩
abbrev cc8_stg3_0 : Ref sig .tc := ⟨.vmem, 106, rfl⟩
abbrev cc8_stg3_1 : Ref sig .tc := ⟨.vmem, 107, rfl⟩
abbrev cc8_stg4_0 : Ref sig .tc := ⟨.vmem, 108, rfl⟩
abbrev cc8_stg4_1 : Ref sig .tc := ⟨.vmem, 109, rfl⟩
abbrev cc8_stg5_0 : Ref sig .tc := ⟨.vmem, 110, rfl⟩
abbrev cc8_stg5_1 : Ref sig .tc := ⟨.vmem, 111, rfl⟩
abbrev cc8_stg6_0 : Ref sig .tc := ⟨.vmem, 112, rfl⟩
abbrev cc8_stg6_1 : Ref sig .tc := ⟨.vmem, 113, rfl⟩
abbrev cc8_stg7_0 : Ref sig .tc := ⟨.vmem, 114, rfl⟩
abbrev cc8_stg7_1 : Ref sig .tc := ⟨.vmem, 115, rfl⟩
abbrev cc8_scratch0 : Ref sig .tc := ⟨.vmem, 116, rfl⟩
abbrev cc9_stg0_0 : Ref sig .tc := ⟨.vmem, 117, rfl⟩
abbrev cc9_stg0_1 : Ref sig .tc := ⟨.vmem, 118, rfl⟩
abbrev cc9_stg1_0 : Ref sig .tc := ⟨.vmem, 119, rfl⟩
abbrev cc9_stg1_1 : Ref sig .tc := ⟨.vmem, 120, rfl⟩
abbrev cc9_stg2_0 : Ref sig .tc := ⟨.vmem, 121, rfl⟩
abbrev cc9_stg3_0 : Ref sig .tc := ⟨.vmem, 122, rfl⟩
abbrev cc9_stg4_0 : Ref sig .tc := ⟨.vmem, 123, rfl⟩
abbrev cc9_stg5_0 : Ref sig .tc := ⟨.vmem, 124, rfl⟩
abbrev cc9_stg6_0 : Ref sig .tc := ⟨.vmem, 125, rfl⟩
abbrev cc9_stg7_0 : Ref sig .tc := ⟨.vmem, 126, rfl⟩
abbrev cc9_stg8_0 : Ref sig .tc := ⟨.vmem, 127, rfl⟩
abbrev cc9_stg8_1 : Ref sig .tc := ⟨.vmem, 128, rfl⟩
abbrev cc10_stg0_0 : Ref sig .tc := ⟨.vmem, 129, rfl⟩
abbrev cc10_stg0_1 : Ref sig .tc := ⟨.vmem, 130, rfl⟩
abbrev cc10_stg1_0 : Ref sig .tc := ⟨.vmem, 131, rfl⟩
abbrev cc10_stg2_0 : Ref sig .tc := ⟨.vmem, 132, rfl⟩
abbrev cc10_stg3_0 : Ref sig .tc := ⟨.vmem, 133, rfl⟩
abbrev cc10_stg4_0 : Ref sig .tc := ⟨.vmem, 134, rfl⟩
abbrev cc10_stg5_0 : Ref sig .tc := ⟨.vmem, 135, rfl⟩
abbrev cc10_stg6_0 : Ref sig .tc := ⟨.vmem, 136, rfl⟩
abbrev cc10_stg7_0 : Ref sig .tc := ⟨.vmem, 137, rfl⟩
abbrev cc10_stg7_1 : Ref sig .tc := ⟨.vmem, 138, rfl⟩
abbrev cc11_stg0_0 : Ref sig .tc := ⟨.vmem, 139, rfl⟩
abbrev cc11_stg0_1 : Ref sig .tc := ⟨.vmem, 140, rfl⟩
abbrev cc11_stg1_0 : Ref sig .tc := ⟨.vmem, 141, rfl⟩
abbrev cc11_stg1_1 : Ref sig .tc := ⟨.vmem, 142, rfl⟩
abbrev cc11_stg2_0 : Ref sig .tc := ⟨.vmem, 143, rfl⟩
abbrev cc11_stg2_1 : Ref sig .tc := ⟨.vmem, 144, rfl⟩
abbrev cc11_stg3_0 : Ref sig .tc := ⟨.vmem, 145, rfl⟩
abbrev cc11_stg3_1 : Ref sig .tc := ⟨.vmem, 146, rfl⟩
abbrev cc11_stg4_0 : Ref sig .tc := ⟨.vmem, 147, rfl⟩
abbrev cc11_stg4_1 : Ref sig .tc := ⟨.vmem, 148, rfl⟩
abbrev cc11_stg5_0 : Ref sig .tc := ⟨.vmem, 149, rfl⟩
abbrev cc11_stg5_1 : Ref sig .tc := ⟨.vmem, 150, rfl⟩
abbrev cc11_stg6_0 : Ref sig .tc := ⟨.vmem, 151, rfl⟩
abbrev cc11_stg6_1 : Ref sig .tc := ⟨.vmem, 152, rfl⟩
abbrev cc11_stg7_0 : Ref sig .tc := ⟨.vmem, 153, rfl⟩
abbrev cc11_stg7_1 : Ref sig .tc := ⟨.vmem, 154, rfl⟩
abbrev cc11_scratch0 : Ref sig .tc := ⟨.vmem, 155, rfl⟩
abbrev cc12_stg0_0 : Ref sig .tc := ⟨.vmem, 156, rfl⟩
abbrev cc12_stg0_1 : Ref sig .tc := ⟨.vmem, 157, rfl⟩
abbrev cc12_stg1_0 : Ref sig .tc := ⟨.vmem, 158, rfl⟩
abbrev cc12_stg1_1 : Ref sig .tc := ⟨.vmem, 159, rfl⟩
abbrev cc12_stg2_0 : Ref sig .tc := ⟨.vmem, 160, rfl⟩
abbrev cc12_stg3_0 : Ref sig .tc := ⟨.vmem, 161, rfl⟩
abbrev cc12_stg4_0 : Ref sig .tc := ⟨.vmem, 162, rfl⟩
abbrev cc12_stg5_0 : Ref sig .tc := ⟨.vmem, 163, rfl⟩
abbrev cc12_stg6_0 : Ref sig .tc := ⟨.vmem, 164, rfl⟩
abbrev cc12_stg7_0 : Ref sig .tc := ⟨.vmem, 165, rfl⟩
abbrev cc12_stg8_0 : Ref sig .tc := ⟨.vmem, 166, rfl⟩
abbrev cc12_stg8_1 : Ref sig .tc := ⟨.vmem, 167, rfl⟩
abbrev cc13_stg0_0 : Ref sig .tc := ⟨.vmem, 168, rfl⟩
abbrev cc13_stg0_1 : Ref sig .tc := ⟨.vmem, 169, rfl⟩
abbrev cc13_stg1_0 : Ref sig .tc := ⟨.vmem, 170, rfl⟩
abbrev cc13_stg2_0 : Ref sig .tc := ⟨.vmem, 171, rfl⟩
abbrev cc13_stg3_0 : Ref sig .tc := ⟨.vmem, 172, rfl⟩
abbrev cc13_stg4_0 : Ref sig .tc := ⟨.vmem, 173, rfl⟩
abbrev cc13_stg5_0 : Ref sig .tc := ⟨.vmem, 174, rfl⟩
abbrev cc13_stg6_0 : Ref sig .tc := ⟨.vmem, 175, rfl⟩
abbrev cc13_stg7_0 : Ref sig .tc := ⟨.vmem, 176, rfl⟩
abbrev cc13_stg7_1 : Ref sig .tc := ⟨.vmem, 177, rfl⟩
abbrev cc14_stg0_0 : Ref sig .tc := ⟨.vmem, 178, rfl⟩
abbrev cc14_stg0_1 : Ref sig .tc := ⟨.vmem, 179, rfl⟩
abbrev cc14_stg1_0 : Ref sig .tc := ⟨.vmem, 180, rfl⟩
abbrev cc14_stg1_1 : Ref sig .tc := ⟨.vmem, 181, rfl⟩
abbrev cc14_stg2_0 : Ref sig .tc := ⟨.vmem, 182, rfl⟩
abbrev cc14_stg2_1 : Ref sig .tc := ⟨.vmem, 183, rfl⟩
abbrev cc14_stg3_0 : Ref sig .tc := ⟨.vmem, 184, rfl⟩
abbrev cc14_stg3_1 : Ref sig .tc := ⟨.vmem, 185, rfl⟩
abbrev cc14_stg4_0 : Ref sig .tc := ⟨.vmem, 186, rfl⟩
abbrev cc14_stg4_1 : Ref sig .tc := ⟨.vmem, 187, rfl⟩
abbrev cc14_stg5_0 : Ref sig .tc := ⟨.vmem, 188, rfl⟩
abbrev cc14_stg5_1 : Ref sig .tc := ⟨.vmem, 189, rfl⟩
abbrev cc14_stg6_0 : Ref sig .tc := ⟨.vmem, 190, rfl⟩
abbrev cc14_stg6_1 : Ref sig .tc := ⟨.vmem, 191, rfl⟩
abbrev cc14_stg7_0 : Ref sig .tc := ⟨.vmem, 192, rfl⟩
abbrev cc14_stg7_1 : Ref sig .tc := ⟨.vmem, 193, rfl⟩
abbrev cc14_scratch0 : Ref sig .tc := ⟨.vmem, 194, rfl⟩
abbrev cc15_stg0_0 : Ref sig .tc := ⟨.vmem, 195, rfl⟩
abbrev cc15_stg0_1 : Ref sig .tc := ⟨.vmem, 196, rfl⟩
abbrev cc15_stg1_0 : Ref sig .tc := ⟨.vmem, 197, rfl⟩
abbrev cc15_stg1_1 : Ref sig .tc := ⟨.vmem, 198, rfl⟩
abbrev cc15_stg2_0 : Ref sig .tc := ⟨.vmem, 199, rfl⟩
abbrev cc15_stg3_0 : Ref sig .tc := ⟨.vmem, 200, rfl⟩
abbrev cc15_stg4_0 : Ref sig .tc := ⟨.vmem, 201, rfl⟩
abbrev cc15_stg5_0 : Ref sig .tc := ⟨.vmem, 202, rfl⟩
abbrev cc15_stg6_0 : Ref sig .tc := ⟨.vmem, 203, rfl⟩
abbrev cc15_stg7_0 : Ref sig .tc := ⟨.vmem, 204, rfl⟩
abbrev cc15_stg8_0 : Ref sig .tc := ⟨.vmem, 205, rfl⟩
abbrev cc15_stg8_1 : Ref sig .tc := ⟨.vmem, 206, rfl⟩
abbrev cc16_stg0_0 : Ref sig .tc := ⟨.vmem, 207, rfl⟩
abbrev cc16_stg0_1 : Ref sig .tc := ⟨.vmem, 208, rfl⟩
abbrev cc16_stg1_0 : Ref sig .tc := ⟨.vmem, 209, rfl⟩
abbrev cc16_stg2_0 : Ref sig .tc := ⟨.vmem, 210, rfl⟩
abbrev cc16_stg3_0 : Ref sig .tc := ⟨.vmem, 211, rfl⟩
abbrev cc16_stg4_0 : Ref sig .tc := ⟨.vmem, 212, rfl⟩
abbrev cc16_stg5_0 : Ref sig .tc := ⟨.vmem, 213, rfl⟩
abbrev cc16_stg6_0 : Ref sig .tc := ⟨.vmem, 214, rfl⟩
abbrev cc16_stg7_0 : Ref sig .tc := ⟨.vmem, 215, rfl⟩
abbrev cc16_stg7_1 : Ref sig .tc := ⟨.vmem, 216, rfl⟩
abbrev cc17_stg0_0 : Ref sig .tc := ⟨.vmem, 217, rfl⟩
abbrev cc17_stg0_1 : Ref sig .tc := ⟨.vmem, 218, rfl⟩
abbrev cc17_stg1_0 : Ref sig .tc := ⟨.vmem, 219, rfl⟩
abbrev cc17_stg1_1 : Ref sig .tc := ⟨.vmem, 220, rfl⟩
abbrev cc17_stg2_0 : Ref sig .tc := ⟨.vmem, 221, rfl⟩
abbrev cc17_stg2_1 : Ref sig .tc := ⟨.vmem, 222, rfl⟩
abbrev cc17_stg3_0 : Ref sig .tc := ⟨.vmem, 223, rfl⟩
abbrev cc17_stg3_1 : Ref sig .tc := ⟨.vmem, 224, rfl⟩
abbrev cc17_stg4_0 : Ref sig .tc := ⟨.vmem, 225, rfl⟩
abbrev cc17_stg4_1 : Ref sig .tc := ⟨.vmem, 226, rfl⟩
abbrev cc17_stg5_0 : Ref sig .tc := ⟨.vmem, 227, rfl⟩
abbrev cc17_stg5_1 : Ref sig .tc := ⟨.vmem, 228, rfl⟩
abbrev cc17_stg6_0 : Ref sig .tc := ⟨.vmem, 229, rfl⟩
abbrev cc17_stg6_1 : Ref sig .tc := ⟨.vmem, 230, rfl⟩
abbrev cc17_stg7_0 : Ref sig .tc := ⟨.vmem, 231, rfl⟩
abbrev cc17_stg7_1 : Ref sig .tc := ⟨.vmem, 232, rfl⟩
abbrev cc17_scratch0 : Ref sig .tc := ⟨.vmem, 233, rfl⟩
abbrev cc18_stg0_0 : Ref sig .tc := ⟨.vmem, 234, rfl⟩
abbrev cc18_stg0_1 : Ref sig .tc := ⟨.vmem, 235, rfl⟩
abbrev cc18_stg1_0 : Ref sig .tc := ⟨.vmem, 236, rfl⟩
abbrev cc18_stg1_1 : Ref sig .tc := ⟨.vmem, 237, rfl⟩
abbrev cc18_stg2_0 : Ref sig .tc := ⟨.vmem, 238, rfl⟩
abbrev cc18_stg3_0 : Ref sig .tc := ⟨.vmem, 239, rfl⟩
abbrev cc18_stg4_0 : Ref sig .tc := ⟨.vmem, 240, rfl⟩
abbrev cc18_stg5_0 : Ref sig .tc := ⟨.vmem, 241, rfl⟩
abbrev cc18_stg6_0 : Ref sig .tc := ⟨.vmem, 242, rfl⟩
abbrev cc18_stg7_0 : Ref sig .tc := ⟨.vmem, 243, rfl⟩
abbrev cc18_stg8_0 : Ref sig .tc := ⟨.vmem, 244, rfl⟩
abbrev cc18_stg8_1 : Ref sig .tc := ⟨.vmem, 245, rfl⟩
abbrev cc19_stg0_0 : Ref sig .tc := ⟨.vmem, 246, rfl⟩
abbrev cc19_stg0_1 : Ref sig .tc := ⟨.vmem, 247, rfl⟩
abbrev cc19_stg1_0 : Ref sig .tc := ⟨.vmem, 248, rfl⟩
abbrev cc19_stg2_0 : Ref sig .tc := ⟨.vmem, 249, rfl⟩
abbrev cc19_stg3_0 : Ref sig .tc := ⟨.vmem, 250, rfl⟩
abbrev cc19_stg4_0 : Ref sig .tc := ⟨.vmem, 251, rfl⟩
abbrev cc19_stg5_0 : Ref sig .tc := ⟨.vmem, 252, rfl⟩
abbrev cc19_stg6_0 : Ref sig .tc := ⟨.vmem, 253, rfl⟩
abbrev cc19_stg7_0 : Ref sig .tc := ⟨.vmem, 254, rfl⟩
abbrev cc19_stg7_1 : Ref sig .tc := ⟨.vmem, 255, rfl⟩
abbrev cc20_stg0_0 : Ref sig .tc := ⟨.vmem, 256, rfl⟩
abbrev cc20_stg0_1 : Ref sig .tc := ⟨.vmem, 257, rfl⟩
abbrev cc20_stg1_0 : Ref sig .tc := ⟨.vmem, 258, rfl⟩
abbrev cc20_stg1_1 : Ref sig .tc := ⟨.vmem, 259, rfl⟩
abbrev cc20_stg2_0 : Ref sig .tc := ⟨.vmem, 260, rfl⟩
abbrev cc20_stg2_1 : Ref sig .tc := ⟨.vmem, 261, rfl⟩
abbrev cc20_stg3_0 : Ref sig .tc := ⟨.vmem, 262, rfl⟩
abbrev cc20_stg3_1 : Ref sig .tc := ⟨.vmem, 263, rfl⟩
abbrev cc20_stg4_0 : Ref sig .tc := ⟨.vmem, 264, rfl⟩
abbrev cc20_stg4_1 : Ref sig .tc := ⟨.vmem, 265, rfl⟩
abbrev cc20_stg5_0 : Ref sig .tc := ⟨.vmem, 266, rfl⟩
abbrev cc20_stg5_1 : Ref sig .tc := ⟨.vmem, 267, rfl⟩
abbrev cc20_stg6_0 : Ref sig .tc := ⟨.vmem, 268, rfl⟩
abbrev cc20_stg6_1 : Ref sig .tc := ⟨.vmem, 269, rfl⟩
abbrev cc20_stg7_0 : Ref sig .tc := ⟨.vmem, 270, rfl⟩
abbrev cc20_stg7_1 : Ref sig .tc := ⟨.vmem, 271, rfl⟩
abbrev cc20_scratch0 : Ref sig .tc := ⟨.vmem, 272, rfl⟩
abbrev cc21_stg0_0 : Ref sig .tc := ⟨.vmem, 273, rfl⟩
abbrev cc21_stg0_1 : Ref sig .tc := ⟨.vmem, 274, rfl⟩
abbrev cc21_stg1_0 : Ref sig .tc := ⟨.vmem, 275, rfl⟩
abbrev cc21_stg1_1 : Ref sig .tc := ⟨.vmem, 276, rfl⟩
abbrev cc21_stg2_0 : Ref sig .tc := ⟨.vmem, 277, rfl⟩
abbrev cc21_stg3_0 : Ref sig .tc := ⟨.vmem, 278, rfl⟩
abbrev cc21_stg4_0 : Ref sig .tc := ⟨.vmem, 279, rfl⟩
abbrev cc21_stg5_0 : Ref sig .tc := ⟨.vmem, 280, rfl⟩
abbrev cc21_stg6_0 : Ref sig .tc := ⟨.vmem, 281, rfl⟩
abbrev cc21_stg7_0 : Ref sig .tc := ⟨.vmem, 282, rfl⟩
abbrev cc21_stg8_0 : Ref sig .tc := ⟨.vmem, 283, rfl⟩
abbrev cc21_stg8_1 : Ref sig .tc := ⟨.vmem, 284, rfl⟩
abbrev cc22_stg0_0 : Ref sig .tc := ⟨.vmem, 285, rfl⟩
abbrev cc22_stg0_1 : Ref sig .tc := ⟨.vmem, 286, rfl⟩
abbrev cc22_stg1_0 : Ref sig .tc := ⟨.vmem, 287, rfl⟩
abbrev cc22_stg2_0 : Ref sig .tc := ⟨.vmem, 288, rfl⟩
abbrev cc22_stg3_0 : Ref sig .tc := ⟨.vmem, 289, rfl⟩
abbrev cc22_stg4_0 : Ref sig .tc := ⟨.vmem, 290, rfl⟩
abbrev cc22_stg5_0 : Ref sig .tc := ⟨.vmem, 291, rfl⟩
abbrev cc22_stg6_0 : Ref sig .tc := ⟨.vmem, 292, rfl⟩
abbrev cc22_stg7_0 : Ref sig .tc := ⟨.vmem, 293, rfl⟩
abbrev cc22_stg7_1 : Ref sig .tc := ⟨.vmem, 294, rfl⟩
abbrev cc23_stg0_0 : Ref sig .tc := ⟨.vmem, 295, rfl⟩
abbrev cc23_stg0_1 : Ref sig .tc := ⟨.vmem, 296, rfl⟩
abbrev cc23_stg1_0 : Ref sig .tc := ⟨.vmem, 297, rfl⟩
abbrev cc23_stg1_1 : Ref sig .tc := ⟨.vmem, 298, rfl⟩
abbrev cc23_stg2_0 : Ref sig .tc := ⟨.vmem, 299, rfl⟩
abbrev cc23_stg2_1 : Ref sig .tc := ⟨.vmem, 300, rfl⟩
abbrev cc23_stg3_0 : Ref sig .tc := ⟨.vmem, 301, rfl⟩
abbrev cc23_stg3_1 : Ref sig .tc := ⟨.vmem, 302, rfl⟩
abbrev cc23_stg4_0 : Ref sig .tc := ⟨.vmem, 303, rfl⟩
abbrev cc23_stg4_1 : Ref sig .tc := ⟨.vmem, 304, rfl⟩
abbrev cc23_stg5_0 : Ref sig .tc := ⟨.vmem, 305, rfl⟩
abbrev cc23_stg5_1 : Ref sig .tc := ⟨.vmem, 306, rfl⟩
abbrev cc23_stg6_0 : Ref sig .tc := ⟨.vmem, 307, rfl⟩
abbrev cc23_stg6_1 : Ref sig .tc := ⟨.vmem, 308, rfl⟩
abbrev cc23_stg7_0 : Ref sig .tc := ⟨.vmem, 309, rfl⟩
abbrev cc23_stg7_1 : Ref sig .tc := ⟨.vmem, 310, rfl⟩
abbrev cc23_scratch0 : Ref sig .tc := ⟨.vmem, 311, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc2_sem7_0 : DmaSem sig := 36
abbrev cc2_sem7_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc3_sem8_0 : DmaSem sig := 48
abbrev cc3_sem8_1 : DmaSem sig := 49
abbrev cc4_sem0_0 : DmaSem sig := 50
abbrev cc4_sem0_1 : DmaSem sig := 51
abbrev cc4_sem1_0 : DmaSem sig := 52
abbrev cc4_sem2_0 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem7_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem2_1 : DmaSem sig := 65
abbrev cc5_sem3_0 : DmaSem sig := 66
abbrev cc5_sem3_1 : DmaSem sig := 67
abbrev cc5_sem4_0 : DmaSem sig := 68
abbrev cc5_sem4_1 : DmaSem sig := 69
abbrev cc5_sem5_0 : DmaSem sig := 70
abbrev cc5_sem5_1 : DmaSem sig := 71
abbrev cc5_sem6_0 : DmaSem sig := 72
abbrev cc5_sem6_1 : DmaSem sig := 73
abbrev cc5_sem7_0 : DmaSem sig := 74
abbrev cc5_sem7_1 : DmaSem sig := 75
abbrev cc6_sem0_0 : DmaSem sig := 76
abbrev cc6_sem0_1 : DmaSem sig := 77
abbrev cc6_sem1_0 : DmaSem sig := 78
abbrev cc6_sem1_1 : DmaSem sig := 79
abbrev cc6_sem2_0 : DmaSem sig := 80
abbrev cc6_sem3_0 : DmaSem sig := 81
abbrev cc6_sem4_0 : DmaSem sig := 82
abbrev cc6_sem5_0 : DmaSem sig := 83
abbrev cc6_sem6_0 : DmaSem sig := 84
abbrev cc6_sem7_0 : DmaSem sig := 85
abbrev cc6_sem8_0 : DmaSem sig := 86
abbrev cc6_sem8_1 : DmaSem sig := 87
abbrev cc7_sem0_0 : DmaSem sig := 88
abbrev cc7_sem0_1 : DmaSem sig := 89
abbrev cc7_sem1_0 : DmaSem sig := 90
abbrev cc7_sem2_0 : DmaSem sig := 91
abbrev cc7_sem3_0 : DmaSem sig := 92
abbrev cc7_sem4_0 : DmaSem sig := 93
abbrev cc7_sem5_0 : DmaSem sig := 94
abbrev cc7_sem6_0 : DmaSem sig := 95
abbrev cc7_sem7_0 : DmaSem sig := 96
abbrev cc7_sem7_1 : DmaSem sig := 97
abbrev cc8_sem0_0 : DmaSem sig := 98
abbrev cc8_sem0_1 : DmaSem sig := 99
abbrev cc8_sem1_0 : DmaSem sig := 100
abbrev cc8_sem1_1 : DmaSem sig := 101
abbrev cc8_sem2_0 : DmaSem sig := 102
abbrev cc8_sem2_1 : DmaSem sig := 103
abbrev cc8_sem3_0 : DmaSem sig := 104
abbrev cc8_sem3_1 : DmaSem sig := 105
abbrev cc8_sem4_0 : DmaSem sig := 106
abbrev cc8_sem4_1 : DmaSem sig := 107
abbrev cc8_sem5_0 : DmaSem sig := 108
abbrev cc8_sem5_1 : DmaSem sig := 109
abbrev cc8_sem6_0 : DmaSem sig := 110
abbrev cc8_sem6_1 : DmaSem sig := 111
abbrev cc8_sem7_0 : DmaSem sig := 112
abbrev cc8_sem7_1 : DmaSem sig := 113
abbrev cc9_sem0_0 : DmaSem sig := 114
abbrev cc9_sem0_1 : DmaSem sig := 115
abbrev cc9_sem1_0 : DmaSem sig := 116
abbrev cc9_sem1_1 : DmaSem sig := 117
abbrev cc9_sem2_0 : DmaSem sig := 118
abbrev cc9_sem3_0 : DmaSem sig := 119
abbrev cc9_sem4_0 : DmaSem sig := 120
abbrev cc9_sem5_0 : DmaSem sig := 121
abbrev cc9_sem6_0 : DmaSem sig := 122
abbrev cc9_sem7_0 : DmaSem sig := 123
abbrev cc9_sem8_0 : DmaSem sig := 124
abbrev cc9_sem8_1 : DmaSem sig := 125
abbrev cc10_sem0_0 : DmaSem sig := 126
abbrev cc10_sem0_1 : DmaSem sig := 127
abbrev cc10_sem1_0 : DmaSem sig := 128
abbrev cc10_sem2_0 : DmaSem sig := 129
abbrev cc10_sem3_0 : DmaSem sig := 130
abbrev cc10_sem4_0 : DmaSem sig := 131
abbrev cc10_sem5_0 : DmaSem sig := 132
abbrev cc10_sem6_0 : DmaSem sig := 133
abbrev cc10_sem7_0 : DmaSem sig := 134
abbrev cc10_sem7_1 : DmaSem sig := 135
abbrev cc11_sem0_0 : DmaSem sig := 136
abbrev cc11_sem0_1 : DmaSem sig := 137
abbrev cc11_sem1_0 : DmaSem sig := 138
abbrev cc11_sem1_1 : DmaSem sig := 139
abbrev cc11_sem2_0 : DmaSem sig := 140
abbrev cc11_sem2_1 : DmaSem sig := 141
abbrev cc11_sem3_0 : DmaSem sig := 142
abbrev cc11_sem3_1 : DmaSem sig := 143
abbrev cc11_sem4_0 : DmaSem sig := 144
abbrev cc11_sem4_1 : DmaSem sig := 145
abbrev cc11_sem5_0 : DmaSem sig := 146
abbrev cc11_sem5_1 : DmaSem sig := 147
abbrev cc11_sem6_0 : DmaSem sig := 148
abbrev cc11_sem6_1 : DmaSem sig := 149
abbrev cc11_sem7_0 : DmaSem sig := 150
abbrev cc11_sem7_1 : DmaSem sig := 151
abbrev cc12_sem0_0 : DmaSem sig := 152
abbrev cc12_sem0_1 : DmaSem sig := 153
abbrev cc12_sem1_0 : DmaSem sig := 154
abbrev cc12_sem1_1 : DmaSem sig := 155
abbrev cc12_sem2_0 : DmaSem sig := 156
abbrev cc12_sem3_0 : DmaSem sig := 157
abbrev cc12_sem4_0 : DmaSem sig := 158
abbrev cc12_sem5_0 : DmaSem sig := 159
abbrev cc12_sem6_0 : DmaSem sig := 160
abbrev cc12_sem7_0 : DmaSem sig := 161
abbrev cc12_sem8_0 : DmaSem sig := 162
abbrev cc12_sem8_1 : DmaSem sig := 163
abbrev cc13_sem0_0 : DmaSem sig := 164
abbrev cc13_sem0_1 : DmaSem sig := 165
abbrev cc13_sem1_0 : DmaSem sig := 166
abbrev cc13_sem2_0 : DmaSem sig := 167
abbrev cc13_sem3_0 : DmaSem sig := 168
abbrev cc13_sem4_0 : DmaSem sig := 169
abbrev cc13_sem5_0 : DmaSem sig := 170
abbrev cc13_sem6_0 : DmaSem sig := 171
abbrev cc13_sem7_0 : DmaSem sig := 172
abbrev cc13_sem7_1 : DmaSem sig := 173
abbrev cc14_sem0_0 : DmaSem sig := 174
abbrev cc14_sem0_1 : DmaSem sig := 175
abbrev cc14_sem1_0 : DmaSem sig := 176
abbrev cc14_sem1_1 : DmaSem sig := 177
abbrev cc14_sem2_0 : DmaSem sig := 178
abbrev cc14_sem2_1 : DmaSem sig := 179
abbrev cc14_sem3_0 : DmaSem sig := 180
abbrev cc14_sem3_1 : DmaSem sig := 181
abbrev cc14_sem4_0 : DmaSem sig := 182
abbrev cc14_sem4_1 : DmaSem sig := 183
abbrev cc14_sem5_0 : DmaSem sig := 184
abbrev cc14_sem5_1 : DmaSem sig := 185
abbrev cc14_sem6_0 : DmaSem sig := 186
abbrev cc14_sem6_1 : DmaSem sig := 187
abbrev cc14_sem7_0 : DmaSem sig := 188
abbrev cc14_sem7_1 : DmaSem sig := 189
abbrev cc15_sem0_0 : DmaSem sig := 190
abbrev cc15_sem0_1 : DmaSem sig := 191
abbrev cc15_sem1_0 : DmaSem sig := 192
abbrev cc15_sem1_1 : DmaSem sig := 193
abbrev cc15_sem2_0 : DmaSem sig := 194
abbrev cc15_sem3_0 : DmaSem sig := 195
abbrev cc15_sem4_0 : DmaSem sig := 196
abbrev cc15_sem5_0 : DmaSem sig := 197
abbrev cc15_sem6_0 : DmaSem sig := 198
abbrev cc15_sem7_0 : DmaSem sig := 199
abbrev cc15_sem8_0 : DmaSem sig := 200
abbrev cc15_sem8_1 : DmaSem sig := 201
abbrev cc16_sem0_0 : DmaSem sig := 202
abbrev cc16_sem0_1 : DmaSem sig := 203
abbrev cc16_sem1_0 : DmaSem sig := 204
abbrev cc16_sem2_0 : DmaSem sig := 205
abbrev cc16_sem3_0 : DmaSem sig := 206
abbrev cc16_sem4_0 : DmaSem sig := 207
abbrev cc16_sem5_0 : DmaSem sig := 208
abbrev cc16_sem6_0 : DmaSem sig := 209
abbrev cc16_sem7_0 : DmaSem sig := 210
abbrev cc16_sem7_1 : DmaSem sig := 211
abbrev cc17_sem0_0 : DmaSem sig := 212
abbrev cc17_sem0_1 : DmaSem sig := 213
abbrev cc17_sem1_0 : DmaSem sig := 214
abbrev cc17_sem1_1 : DmaSem sig := 215
abbrev cc17_sem2_0 : DmaSem sig := 216
abbrev cc17_sem2_1 : DmaSem sig := 217
abbrev cc17_sem3_0 : DmaSem sig := 218
abbrev cc17_sem3_1 : DmaSem sig := 219
abbrev cc17_sem4_0 : DmaSem sig := 220
abbrev cc17_sem4_1 : DmaSem sig := 221
abbrev cc17_sem5_0 : DmaSem sig := 222
abbrev cc17_sem5_1 : DmaSem sig := 223
abbrev cc17_sem6_0 : DmaSem sig := 224
abbrev cc17_sem6_1 : DmaSem sig := 225
abbrev cc17_sem7_0 : DmaSem sig := 226
abbrev cc17_sem7_1 : DmaSem sig := 227
abbrev cc18_sem0_0 : DmaSem sig := 228
abbrev cc18_sem0_1 : DmaSem sig := 229
abbrev cc18_sem1_0 : DmaSem sig := 230
abbrev cc18_sem1_1 : DmaSem sig := 231
abbrev cc18_sem2_0 : DmaSem sig := 232
abbrev cc18_sem3_0 : DmaSem sig := 233
abbrev cc18_sem4_0 : DmaSem sig := 234
abbrev cc18_sem5_0 : DmaSem sig := 235
abbrev cc18_sem6_0 : DmaSem sig := 236
abbrev cc18_sem7_0 : DmaSem sig := 237
abbrev cc18_sem8_0 : DmaSem sig := 238
abbrev cc18_sem8_1 : DmaSem sig := 239
abbrev cc19_sem0_0 : DmaSem sig := 240
abbrev cc19_sem0_1 : DmaSem sig := 241
abbrev cc19_sem1_0 : DmaSem sig := 242
abbrev cc19_sem2_0 : DmaSem sig := 243
abbrev cc19_sem3_0 : DmaSem sig := 244
abbrev cc19_sem4_0 : DmaSem sig := 245
abbrev cc19_sem5_0 : DmaSem sig := 246
abbrev cc19_sem6_0 : DmaSem sig := 247
abbrev cc19_sem7_0 : DmaSem sig := 248
abbrev cc19_sem7_1 : DmaSem sig := 249
abbrev cc20_sem0_0 : DmaSem sig := 250
abbrev cc20_sem0_1 : DmaSem sig := 251
abbrev cc20_sem1_0 : DmaSem sig := 252
abbrev cc20_sem1_1 : DmaSem sig := 253
abbrev cc20_sem2_0 : DmaSem sig := 254
abbrev cc20_sem2_1 : DmaSem sig := 255
abbrev cc20_sem3_0 : DmaSem sig := 256
abbrev cc20_sem3_1 : DmaSem sig := 257
abbrev cc20_sem4_0 : DmaSem sig := 258
abbrev cc20_sem4_1 : DmaSem sig := 259
abbrev cc20_sem5_0 : DmaSem sig := 260
abbrev cc20_sem5_1 : DmaSem sig := 261
abbrev cc20_sem6_0 : DmaSem sig := 262
abbrev cc20_sem6_1 : DmaSem sig := 263
abbrev cc20_sem7_0 : DmaSem sig := 264
abbrev cc20_sem7_1 : DmaSem sig := 265
abbrev cc21_sem0_0 : DmaSem sig := 266
abbrev cc21_sem0_1 : DmaSem sig := 267
abbrev cc21_sem1_0 : DmaSem sig := 268
abbrev cc21_sem1_1 : DmaSem sig := 269
abbrev cc21_sem2_0 : DmaSem sig := 270
abbrev cc21_sem3_0 : DmaSem sig := 271
abbrev cc21_sem4_0 : DmaSem sig := 272
abbrev cc21_sem5_0 : DmaSem sig := 273
abbrev cc21_sem6_0 : DmaSem sig := 274
abbrev cc21_sem7_0 : DmaSem sig := 275
abbrev cc21_sem8_0 : DmaSem sig := 276
abbrev cc21_sem8_1 : DmaSem sig := 277
abbrev cc22_sem0_0 : DmaSem sig := 278
abbrev cc22_sem0_1 : DmaSem sig := 279
abbrev cc22_sem1_0 : DmaSem sig := 280
abbrev cc22_sem2_0 : DmaSem sig := 281
abbrev cc22_sem3_0 : DmaSem sig := 282
abbrev cc22_sem4_0 : DmaSem sig := 283
abbrev cc22_sem5_0 : DmaSem sig := 284
abbrev cc22_sem6_0 : DmaSem sig := 285
abbrev cc22_sem7_0 : DmaSem sig := 286
abbrev cc22_sem7_1 : DmaSem sig := 287
abbrev cc23_sem0_0 : DmaSem sig := 288
abbrev cc23_sem0_1 : DmaSem sig := 289
abbrev cc23_sem1_0 : DmaSem sig := 290
abbrev cc23_sem1_1 : DmaSem sig := 291
abbrev cc23_sem2_0 : DmaSem sig := 292
abbrev cc23_sem2_1 : DmaSem sig := 293
abbrev cc23_sem3_0 : DmaSem sig := 294
abbrev cc23_sem3_1 : DmaSem sig := 295
abbrev cc23_sem4_0 : DmaSem sig := 296
abbrev cc23_sem4_1 : DmaSem sig := 297
abbrev cc23_sem5_0 : DmaSem sig := 298
abbrev cc23_sem5_1 : DmaSem sig := 299
abbrev cc23_sem6_0 : DmaSem sig := 300
abbrev cc23_sem6_1 : DmaSem sig := 301
abbrev cc23_sem7_0 : DmaSem sig := 302
abbrev cc23_sem7_1 : DmaSem sig := 303

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x3072x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1x1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S512x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_3 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_4 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_5 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_6 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_7 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x3072x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x1x3072 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1x64x1024 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![64], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc4_transform_2 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc4_transform_3 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc4_transform_4 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc4_transform_5 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc4_transform_6 (i : grid4.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x64x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x3072x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1x3072 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024x1024 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1x64x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨2, ![8, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc5_transform_3 (i : grid5.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc5_transform_4 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_6 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S1x1024x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S1x1x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![false, true]

abbrev stage5_5 : Fin 2 → Memref sig .tc .vmem S1x1x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![false, true]

abbrev stage5_6 : Fin 2 → Memref sig .tc .vmem S1x1x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![false, true]

abbrev stage5_7 : Fin 2 → Memref sig .tc .vmem S512x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]

abbrev grid6 : Pipeline.Grid := ⟨1, ![64], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc6_transform_3 (i : grid6.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc6_transform_4 (i : grid6.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc6_transform_5 (i : grid6.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc6_transform_6 (i : grid6.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc6_transform_7 (i : grid6.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc6_transform_8 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x64x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x512x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x3072x1024 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x1x3072 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1024x1024 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x1x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 2 → Memref sig .tc .vmem S1x64x1024 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![64], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_2 (i : grid7.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_3 (i : grid7.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_4 (i : grid7.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_5 (i : grid7.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_6 (i : grid7.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc7_transform_7 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x64x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x3072x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1x3072 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1024x1024 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x1x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S1x64x1024 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨2, ![8, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc8_transform_2 (i : grid8.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc8_transform_3 (i : grid8.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg1.toNat]

def cc8_transform_4 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc8_transform_5 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc8_transform_6 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc8_transform_7 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S512x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1x1024x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x1x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1x1024x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![false, true]

abbrev stage8_4 : Fin 2 → Memref sig .tc .vmem S1x1x1024 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![false, true]

abbrev stage8_5 : Fin 2 → Memref sig .tc .vmem S1x1x1024 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![false, true]

abbrev stage8_6 : Fin 2 → Memref sig .tc .vmem S1x1x1024 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![false, true]

abbrev stage8_7 : Fin 2 → Memref sig .tc .vmem S512x1024 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true, false]

abbrev grid9 : Pipeline.Grid := ⟨1, ![64], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_3 (i : grid9.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_4 (i : grid9.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_5 (i : grid9.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_6 (i : grid9.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_7 (i : grid9.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc9_transform_8 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x64x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x512x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x3072x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x1x3072 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1024x1024 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x1x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x1x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x1x1024 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 2 → Memref sig .tc .vmem S1x64x1024 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev grid10 : Pipeline.Grid := ⟨1, ![64], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc10_transform_2 (i : grid10.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc10_transform_3 (i : grid10.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc10_transform_4 (i : grid10.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc10_transform_5 (i : grid10.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc10_transform_6 (i : grid10.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc10_transform_7 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x64x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x3072x1024 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x1x3072 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x1024x1024 .bf16 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1x1024 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x1x1024 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x1x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S1x64x1024 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev grid11 : Pipeline.Grid := ⟨2, ![8, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc11_transform_2 (i : grid11.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc11_transform_3 (i : grid11.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc11_transform_4 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc11_transform_5 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc11_transform_6 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc11_transform_7 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage11_0 : Fin 2 → Memref sig .tc .vmem S512x1024 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S1x1024x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1x1x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![false, true]

abbrev stage11_3 : Fin 2 → Memref sig .tc .vmem S1x1024x1024 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![false, true]

abbrev stage11_4 : Fin 2 → Memref sig .tc .vmem S1x1x1024 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![false, true]

abbrev stage11_5 : Fin 2 → Memref sig .tc .vmem S1x1x1024 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![false, true]

abbrev stage11_6 : Fin 2 → Memref sig .tc .vmem S1x1x1024 .f32 := fun | 0 => Memref.whole cc11_stg6_0 | 1 => Memref.whole cc11_stg6_1 | ⟨_ + 2, h⟩ => absurd h (Nat.not_lt.2 (Nat.le_add_left _ _))
abbrev sem11_6 : Fin 2 → DmaSem sig := fun | 0 => cc11_sem6_0 | 1 => cc11_sem6_1 | ⟨_ + 2, h⟩ => absurd h (Nat.not_lt.2 (Nat.le_add_left _ _))
abbrev reads11_6 : Fin grid11.rank → Bool := ![false, true]

abbrev stage11_7 : Fin 2 → Memref sig .tc .vmem S512x1024 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true, false]

abbrev grid12 : Pipeline.Grid := ⟨1, ![64], ![false]⟩

def cc12_transform_0 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc12_transform_3 (i : grid12.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc12_transform_4 (i : grid12.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc12_transform_5 (i : grid12.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc12_transform_6 (i : grid12.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc12_transform_7 (i : grid12.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc12_transform_8 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S1x64x1024 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x512x1024 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x3072x1024 .bf16 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x1x3072 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x1024x1024 .bf16 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x1x1024 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x1x1024 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S1x1x1024 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 2 → Memref sig .tc .vmem S1x64x1024 .f32 := fun | 0 => Memref.whole cc12_stg8_0 | 1 => Memref.whole cc12_stg8_1 | ⟨_ + 2, h⟩ => absurd h (Nat.not_lt.2 (Nat.le_add_left _ _))
abbrev sem12_8 : Fin 2 → DmaSem sig := fun | 0 => cc12_sem8_0 | 1 => cc12_sem8_1 | ⟨_ + 2, h⟩ => absurd h (Nat.not_lt.2 (Nat.le_add_left _ _))
abbrev reads12_8 : Fin grid12.rank → Bool := ![true]

abbrev grid13 : Pipeline.Grid := ⟨1, ![64], ![false]⟩

def cc13_transform_0 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_1 (i : grid13.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc13_transform_2 (i : grid13.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc13_transform_3 (i : grid13.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc13_transform_4 (i : grid13.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc13_transform_5 (i : grid13.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc13_transform_6 (i : grid13.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc13_transform_7 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S1x64x1024 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x3072x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x1x3072 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x1024x1024 .bf16 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x1x1024 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x1x1024 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x1x1024 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S1x64x1024 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev grid14 : Pipeline.Grid := ⟨2, ![8, 4], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_1 (i : grid14.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg1.toNat, c0_i32.toNat]

def cc14_transform_2 (i : grid14.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, c0_i32.toNat, arg1.toNat]

def cc14_transform_3 (i : grid14.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, c0_i32.toNat, arg1.toNat]

def cc14_transform_4 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc14_transform_5 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc14_transform_6 (i : grid14.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc14_transform_7 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage14_0 : Fin 2 → Memref sig .tc .vmem S512x1024 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 2 → Memref sig .tc .vmem S1x1024x1024 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1x1x1024 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![false, true]

abbrev stage14_3 : Fin 2 → Memref sig .tc .vmem S1x1024x1024 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![false, true]

abbrev stage14_4 : Fin 2 → Memref sig .tc .vmem S1x1x1024 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![false, true]

abbrev stage14_5 : Fin 2 → Memref sig .tc .vmem S1x1x1024 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![false, true]

abbrev stage14_6 : Fin 2 → Memref sig .tc .vmem S1x1x1024 .f32 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![false, true]

abbrev stage14_7 : Fin 2 → Memref sig .tc .vmem S512x1024 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true, false]

abbrev grid15 : Pipeline.Grid := ⟨1, ![64], ![false]⟩

def cc15_transform_0 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_1 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc15_transform_2 (i : grid15.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc15_transform_3 (i : grid15.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc15_transform_4 (i : grid15.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc15_transform_5 (i : grid15.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc15_transform_6 (i : grid15.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc15_transform_7 (i : grid15.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc15_transform_8 (i : grid15.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage15_0 : Fin 2 → Memref sig .tc .vmem S1x64x1024 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x512x1024 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x3072x1024 .bf16 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x1x3072 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x1024x1024 .bf16 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S1x1x1024 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x1x1024 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 1 → Memref sig .tc .vmem S1x1x1024 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))
abbrev reads15_7 : Fin grid15.rank → Bool := ![false]

abbrev stage15_8 : Fin 2 → Memref sig .tc .vmem S1x64x1024 .f32 := fun | 0 => Memref.whole cc15_stg8_0 | 1 => Memref.whole cc15_stg8_1 | ⟨_ + 2, h⟩ => absurd h (Nat.not_lt.2 (Nat.le_add_left _ _))
abbrev sem15_8 : Fin 2 → DmaSem sig := fun | 0 => cc15_sem8_0 | 1 => cc15_sem8_1 | ⟨_ + 2, h⟩ => absurd h (Nat.not_lt.2 (Nat.le_add_left _ _))
abbrev reads15_8 : Fin grid15.rank → Bool := ![true]

abbrev grid16 : Pipeline.Grid := ⟨1, ![64], ![false]⟩

def cc16_transform_0 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc16_transform_1 (i : grid16.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc16_transform_2 (i : grid16.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc16_transform_3 (i : grid16.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc16_transform_4 (i : grid16.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc16_transform_5 (i : grid16.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc16_transform_6 (i : grid16.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc16_transform_7 (i : grid16.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage16_0 : Fin 2 → Memref sig .tc .vmem S1x64x1024 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S1x3072x1024 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x1x3072 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x1024x1024 .bf16 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x1x1024 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x1x1024 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S1x1x1024 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 2 → Memref sig .tc .vmem S1x64x1024 .f32 := fun | 0 => Memref.whole cc16_stg7_0 | 1 => Memref.whole cc16_stg7_1 | ⟨_ + 2, h⟩ => absurd h (Nat.not_lt.2 (Nat.le_add_left _ _))
abbrev sem16_7 : Fin 2 → DmaSem sig := fun | 0 => cc16_sem7_0 | 1 => cc16_sem7_1 | ⟨_ + 2, h⟩ => absurd h (Nat.not_lt.2 (Nat.le_add_left _ _))
abbrev reads16_7 : Fin grid16.rank → Bool := ![true]

abbrev grid17 : Pipeline.Grid := ⟨2, ![8, 4], ![false, false]⟩

def cc17_transform_0 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc17_transform_1 (i : grid17.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg1.toNat, c0_i32.toNat]

def cc17_transform_2 (i : grid17.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, c0_i32.toNat, arg1.toNat]

def cc17_transform_3 (i : grid17.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, c0_i32.toNat, arg1.toNat]

def cc17_transform_4 (i : grid17.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc17_transform_5 (i : grid17.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc17_transform_6 (i : grid17.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc17_transform_7 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage17_0 : Fin 2 → Memref sig .tc .vmem S512x1024 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, false]

abbrev stage17_1 : Fin 2 → Memref sig .tc .vmem S1x1024x1024 .bf16 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![false, true]

abbrev stage17_2 : Fin 2 → Memref sig .tc .vmem S1x1x1024 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![false, true]

abbrev stage17_3 : Fin 2 → Memref sig .tc .vmem S1x1024x1024 .bf16 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![false, true]

abbrev stage17_4 : Fin 2 → Memref sig .tc .vmem S1x1x1024 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![false, true]

abbrev stage17_5 : Fin 2 → Memref sig .tc .vmem S1x1x1024 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![false, true]

abbrev stage17_6 : Fin 2 → Memref sig .tc .vmem S1x1x1024 .f32 := fun | 0 => Memref.whole cc17_stg6_0 | 1 => Memref.whole cc17_stg6_1 | ⟨_ + 2, h⟩ => absurd h (Nat.not_lt.2 (Nat.le_add_left _ _))
abbrev sem17_6 : Fin 2 → DmaSem sig := fun | 0 => cc17_sem6_0 | 1 => cc17_sem6_1 | ⟨_ + 2, h⟩ => absurd h (Nat.not_lt.2 (Nat.le_add_left _ _))
abbrev reads17_6 : Fin grid17.rank → Bool := ![false, true]

abbrev stage17_7 : Fin 2 → Memref sig .tc .vmem S512x1024 .f32 := fun | 0 => Memref.whole cc17_stg7_0 | 1 => Memref.whole cc17_stg7_1 | ⟨_ + 2, h⟩ => absurd h (Nat.not_lt.2 (Nat.le_add_left _ _))
abbrev sem17_7 : Fin 2 → DmaSem sig := fun | 0 => cc17_sem7_0 | 1 => cc17_sem7_1 | ⟨_ + 2, h⟩ => absurd h (Nat.not_lt.2 (Nat.le_add_left _ _))
abbrev reads17_7 : Fin grid17.rank → Bool := ![true, false]

abbrev grid18 : Pipeline.Grid := ⟨1, ![64], ![false]⟩

def cc18_transform_0 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc18_transform_1 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc18_transform_2 (i : grid18.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc18_transform_3 (i : grid18.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc18_transform_4 (i : grid18.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc18_transform_5 (i : grid18.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc18_transform_6 (i : grid18.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc18_transform_7 (i : grid18.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc18_transform_8 (i : grid18.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage18_0 : Fin 2 → Memref sig .tc .vmem S1x64x1024 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S1x512x1024 .bf16 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S1x3072x1024 .bf16 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x1x3072 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x1024x1024 .bf16 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 1 → Memref sig .tc .vmem S1x1x1024 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))
abbrev reads18_5 : Fin grid18.rank → Bool := ![false]

abbrev stage18_6 : Fin 1 → Memref sig .tc .vmem S1x1x1024 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))
abbrev reads18_6 : Fin grid18.rank → Bool := ![false]

abbrev stage18_7 : Fin 1 → Memref sig .tc .vmem S1x1x1024 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))
abbrev reads18_7 : Fin grid18.rank → Bool := ![false]

abbrev stage18_8 : Fin 2 → Memref sig .tc .vmem S1x64x1024 .f32 := fun | 0 => Memref.whole cc18_stg8_0 | 1 => Memref.whole cc18_stg8_1 | ⟨_ + 2, h⟩ => absurd h (Nat.not_lt.2 (Nat.le_add_left _ _))
abbrev sem18_8 : Fin 2 → DmaSem sig := fun | 0 => cc18_sem8_0 | 1 => cc18_sem8_1 | ⟨_ + 2, h⟩ => absurd h (Nat.not_lt.2 (Nat.le_add_left _ _))
abbrev reads18_8 : Fin grid18.rank → Bool := ![true]

abbrev grid19 : Pipeline.Grid := ⟨1, ![64], ![false]⟩

def cc19_transform_0 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc19_transform_1 (i : grid19.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc19_transform_2 (i : grid19.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc19_transform_3 (i : grid19.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc19_transform_4 (i : grid19.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc19_transform_5 (i : grid19.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc19_transform_6 (i : grid19.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc19_transform_7 (i : grid19.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage19_0 : Fin 2 → Memref sig .tc .vmem S1x64x1024 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x3072x1024 .bf16 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x1x3072 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x1024x1024 .bf16 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 1 → Memref sig .tc .vmem S1x1x1024 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))
abbrev reads19_4 : Fin grid19.rank → Bool := ![false]

abbrev stage19_5 : Fin 1 → Memref sig .tc .vmem S1x1x1024 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))
abbrev reads19_5 : Fin grid19.rank → Bool := ![false]

abbrev stage19_6 : Fin 1 → Memref sig .tc .vmem S1x1x1024 .f32 := fun | 0 => Memref.whole cc19_stg6_0 | ⟨_ + 1, h⟩ => absurd h (Nat.not_lt.2 (Nat.le_add_left _ _))
abbrev sem19_6 : Fin 1 → DmaSem sig := fun | 0 => cc19_sem6_0 | ⟨_ + 1, h⟩ => absurd h (Nat.not_lt.2 (Nat.le_add_left _ _))
abbrev reads19_6 : Fin grid19.rank → Bool := ![false]

abbrev stage19_7 : Fin 2 → Memref sig .tc .vmem S1x64x1024 .f32 := fun | 0 => Memref.whole cc19_stg7_0 | 1 => Memref.whole cc19_stg7_1 | ⟨_ + 2, h⟩ => absurd h (Nat.not_lt.2 (Nat.le_add_left _ _))
abbrev sem19_7 : Fin 2 → DmaSem sig := fun | 0 => cc19_sem7_0 | 1 => cc19_sem7_1 | ⟨_ + 2, h⟩ => absurd h (Nat.not_lt.2 (Nat.le_add_left _ _))
abbrev reads19_7 : Fin grid19.rank → Bool := ![true]

abbrev grid20 : Pipeline.Grid := ⟨2, ![8, 4], ![false, false]⟩

def cc20_transform_0 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc20_transform_1 (i : grid20.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, arg1.toNat, c0_i32.toNat]

def cc20_transform_2 (i : grid20.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, c0_i32.toNat, arg1.toNat]

def cc20_transform_3 (i : grid20.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  let c0_i32_0 : BitVec 32 := 0#32
  ![c6_i32.toNat, c0_i32.toNat, arg1.toNat]

def cc20_transform_4 (i : grid20.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc20_transform_5 (i : grid20.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc20_transform_6 (i : grid20.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc20_transform_7 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage20_0 : Fin 2 → Memref sig .tc .vmem S512x1024 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, false]

abbrev stage20_1 : Fin 2 → Memref sig .tc .vmem S1x1024x1024 .bf16 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![false, true]

abbrev stage20_2 : Fin 2 → Memref sig .tc .vmem S1x1x1024 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![false, true]

abbrev stage20_3 : Fin 2 → Memref sig .tc .vmem S1x1024x1024 .bf16 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![false, true]

abbrev stage20_4 : Fin 2 → Memref sig .tc .vmem S1x1x1024 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![false, true]

abbrev stage20_5 : Fin 2 → Memref sig .tc .vmem S1x1x1024 .f32 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![false, true]

abbrev stage20_6 : Fin 2 → Memref sig .tc .vmem S1x1x1024 .f32 := fun | 0 => Memref.whole cc20_stg6_0 | 1 => Memref.whole cc20_stg6_1 | ⟨_ + 2, h⟩ => absurd h (Nat.not_lt.2 (Nat.le_add_left _ _))
abbrev sem20_6 : Fin 2 → DmaSem sig := fun | 0 => cc20_sem6_0 | 1 => cc20_sem6_1 | ⟨_ + 2, h⟩ => absurd h (Nat.not_lt.2 (Nat.le_add_left _ _))
abbrev reads20_6 : Fin grid20.rank → Bool := ![false, true]

abbrev stage20_7 : Fin 2 → Memref sig .tc .vmem S512x1024 .f32 := fun | 0 => Memref.whole cc20_stg7_0 | 1 => Memref.whole cc20_stg7_1 | ⟨_ + 2, h⟩ => absurd h (Nat.not_lt.2 (Nat.le_add_left _ _))
abbrev sem20_7 : Fin 2 → DmaSem sig := fun | 0 => cc20_sem7_0 | 1 => cc20_sem7_1 | ⟨_ + 2, h⟩ => absurd h (Nat.not_lt.2 (Nat.le_add_left _ _))
abbrev reads20_7 : Fin grid20.rank → Bool := ![true, false]

abbrev grid21 : Pipeline.Grid := ⟨1, ![64], ![false]⟩

def cc21_transform_0 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc21_transform_1 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc21_transform_2 (i : grid21.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc21_transform_3 (i : grid21.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc21_transform_4 (i : grid21.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc21_transform_5 (i : grid21.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc21_transform_6 (i : grid21.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc21_transform_7 (i : grid21.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc21_transform_8 (i : grid21.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage21_0 : Fin 2 → Memref sig .tc .vmem S1x64x1024 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S1x512x1024 .bf16 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 1 → Memref sig .tc .vmem S1x3072x1024 .bf16 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 1 → Memref sig .tc .vmem S1x1x3072 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))
abbrev reads21_3 : Fin grid21.rank → Bool := ![false]

abbrev stage21_4 : Fin 1 → Memref sig .tc .vmem S1x1024x1024 .bf16 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))
abbrev reads21_4 : Fin grid21.rank → Bool := ![false]

abbrev stage21_5 : Fin 1 → Memref sig .tc .vmem S1x1x1024 .f32 := fun | 0 => Memref.whole cc21_stg5_0 | ⟨_ + 1, h⟩ => absurd h (Nat.not_lt.2 (Nat.le_add_left _ _))
abbrev sem21_5 : Fin 1 → DmaSem sig := fun | 0 => cc21_sem5_0 | ⟨_ + 1, h⟩ => absurd h (Nat.not_lt.2 (Nat.le_add_left _ _))
abbrev reads21_5 : Fin grid21.rank → Bool := ![false]

abbrev stage21_6 : Fin 1 → Memref sig .tc .vmem S1x1x1024 .f32 := fun | 0 => Memref.whole cc21_stg6_0 | ⟨_ + 1, h⟩ => absurd h (Nat.not_lt.2 (Nat.le_add_left _ _))
abbrev sem21_6 : Fin 1 → DmaSem sig := fun | 0 => cc21_sem6_0 | ⟨_ + 1, h⟩ => absurd h (Nat.not_lt.2 (Nat.le_add_left _ _))
abbrev reads21_6 : Fin grid21.rank → Bool := ![false]

abbrev stage21_7 : Fin 1 → Memref sig .tc .vmem S1x1x1024 .f32 := fun | 0 => Memref.whole cc21_stg7_0 | ⟨_ + 1, h⟩ => absurd h (Nat.not_lt.2 (Nat.le_add_left _ _))
abbrev sem21_7 : Fin 1 → DmaSem sig := fun | 0 => cc21_sem7_0 | ⟨_ + 1, h⟩ => absurd h (Nat.not_lt.2 (Nat.le_add_left _ _))
abbrev reads21_7 : Fin grid21.rank → Bool := ![false]

abbrev stage21_8 : Fin 2 → Memref sig .tc .vmem S1x64x1024 .f32 := fun | 0 => Memref.whole cc21_stg8_0 | 1 => Memref.whole cc21_stg8_1 | ⟨_ + 2, h⟩ => absurd h (Nat.not_lt.2 (Nat.le_add_left _ _))
abbrev sem21_8 : Fin 2 → DmaSem sig := fun | 0 => cc21_sem8_0 | 1 => cc21_sem8_1 | ⟨_ + 2, h⟩ => absurd h (Nat.not_lt.2 (Nat.le_add_left _ _))
abbrev reads21_8 : Fin grid21.rank → Bool := ![true]

abbrev grid22 : Pipeline.Grid := ⟨1, ![64], ![false]⟩

def cc22_transform_0 (i : grid22.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc22_transform_1 (i : grid22.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc22_transform_2 (i : grid22.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc22_transform_3 (i : grid22.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc22_transform_4 (i : grid22.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc22_transform_5 (i : grid22.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc22_transform_6 (i : grid22.Coords) : Fin 3 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, c0_i32.toNat, c0_i32_0.toNat]

def cc22_transform_7 (i : grid22.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage22_0 : Fin 2 → Memref sig .tc .vmem S1x64x1024 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S1x3072x1024 .bf16 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x1x3072 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 1 → Memref sig .tc .vmem S1x1024x1024 .bf16 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))
abbrev reads22_3 : Fin grid22.rank → Bool := ![false]

abbrev stage22_4 : Fin 1 → Memref sig .tc .vmem S1x1x1024 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))
abbrev reads22_4 : Fin grid22.rank → Bool := ![false]

abbrev stage22_5 : Fin 1 → Memref sig .tc .vmem S1x1x1024 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))
abbrev reads22_5 : Fin grid22.rank → Bool := ![false]

abbrev stage22_6 : Fin 1 → Memref sig .tc .vmem S1x1x1024 .f32 := fun | 0 => Memref.whole cc22_stg6_0 | ⟨_ + 1, h⟩ => absurd h (Nat.not_lt.2 (Nat.le_add_left _ _))
abbrev sem22_6 : Fin 1 → DmaSem sig := fun | 0 => cc22_sem6_0 | ⟨_ + 1, h⟩ => absurd h (Nat.not_lt.2 (Nat.le_add_left _ _))
abbrev reads22_6 : Fin grid22.rank → Bool := ![false]

abbrev stage22_7 : Fin 2 → Memref sig .tc .vmem S1x64x1024 .f32 := fun | 0 => Memref.whole cc22_stg7_0 | 1 => Memref.whole cc22_stg7_1 | ⟨_ + 2, h⟩ => absurd h (Nat.not_lt.2 (Nat.le_add_left _ _))
abbrev sem22_7 : Fin 2 → DmaSem sig := fun | 0 => cc22_sem7_0 | 1 => cc22_sem7_1 | ⟨_ + 2, h⟩ => absurd h (Nat.not_lt.2 (Nat.le_add_left _ _))
abbrev reads22_7 : Fin grid22.rank → Bool := ![true]

abbrev grid23 : Pipeline.Grid := ⟨2, ![8, 4], ![false, false]⟩

def cc23_transform_0 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc23_transform_1 (i : grid23.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, arg1.toNat, c0_i32.toNat]

def cc23_transform_2 (i : grid23.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, c0_i32.toNat, arg1.toNat]

def cc23_transform_3 (i : grid23.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  let c0_i32_0 : BitVec 32 := 0#32
  ![c7_i32.toNat, c0_i32.toNat, arg1.toNat]

def cc23_transform_4 (i : grid23.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc23_transform_5 (i : grid23.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc23_transform_6 (i : grid23.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc23_transform_7 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage23_0 : Fin 2 → Memref sig .tc .vmem S512x1024 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true, false]

abbrev stage23_1 : Fin 2 → Memref sig .tc .vmem S1x1024x1024 .bf16 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![false, true]

abbrev stage23_2 : Fin 2 → Memref sig .tc .vmem S1x1x1024 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![false, true]

abbrev stage23_3 : Fin 2 → Memref sig .tc .vmem S1x1024x1024 .bf16 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![false, true]

abbrev stage23_4 : Fin 2 → Memref sig .tc .vmem S1x1x1024 .f32 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![false, true]

abbrev stage23_5 : Fin 2 → Memref sig .tc .vmem S1x1x1024 .f32 := fun | 0 => Memref.whole cc23_stg5_0 | 1 => Memref.whole cc23_stg5_1 | ⟨_ + 2, h⟩ => absurd h (Nat.not_lt.2 (Nat.le_add_left _ _))
abbrev sem23_5 : Fin 2 → DmaSem sig := fun | 0 => cc23_sem5_0 | 1 => cc23_sem5_1 | ⟨_ + 2, h⟩ => absurd h (Nat.not_lt.2 (Nat.le_add_left _ _))
abbrev reads23_5 : Fin grid23.rank → Bool := ![false, true]

abbrev stage23_6 : Fin 2 → Memref sig .tc .vmem S1x1x1024 .f32 := fun | 0 => Memref.whole cc23_stg6_0 | 1 => Memref.whole cc23_stg6_1 | ⟨_ + 2, h⟩ => absurd h (Nat.not_lt.2 (Nat.le_add_left _ _))
abbrev sem23_6 : Fin 2 → DmaSem sig := fun | 0 => cc23_sem6_0 | 1 => cc23_sem6_1 | ⟨_ + 2, h⟩ => absurd h (Nat.not_lt.2 (Nat.le_add_left _ _))
abbrev reads23_6 : Fin grid23.rank → Bool := ![false, true]

abbrev stage23_7 : Fin 2 → Memref sig .tc .vmem S512x1024 .f32 := fun | 0 => Memref.whole cc23_stg7_0 | 1 => Memref.whole cc23_stg7_1 | ⟨_ + 2, h⟩ => absurd h (Nat.not_lt.2 (Nat.le_add_left _ _))
abbrev sem23_7 : Fin 2 → DmaSem sig := fun | 0 => cc23_sem7_0 | 1 => cc23_sem7_1 | ⟨_ + 2, h⟩ => absurd h (Nat.not_lt.2 (Nat.le_add_left _ _))
abbrev reads23_7 : Fin grid23.rank → Bool := ![true, false]
-- ==== KernelIdeal.lean ====
variable {F : FTy → Type} [FloatOps F] [Named F]
def κ : String → Option EReal := fun
  | "mask" => some ⊥
  | _ => none
-- ==== ReferenceIdeal.lean ====
abbrev S64x512x1024 : Shape := ⟨3, ![64, 512, 1024]⟩
abbrev S64x1x768 : Shape := ⟨3, ![64, 1, 768]⟩
abbrev S1x64x1024 : Shape := ⟨3, ![1, 64, 1024]⟩
abbrev S8x3072x1024 : Shape := ⟨3, ![8, 3072, 1024]⟩
abbrev S8x3072 : Shape := ⟨2, ![8, 3072]⟩
abbrev S8x1024x1024 : Shape := ⟨3, ![8, 1024, 1024]⟩
abbrev S8x1024 : Shape := ⟨2, ![8, 1024]⟩
abbrev S8x4096x1024 : Shape := ⟨3, ![8, 4096, 1024]⟩
abbrev S8x4096 : Shape := ⟨2, ![8, 4096]⟩
abbrev S8x1024x4096 : Shape := ⟨3, ![8, 1024, 4096]⟩
abbrev S64x1024 : Shape := ⟨2, ![64, 1024]⟩
abbrev S64x64x1024 : Shape := ⟨3, ![64, 64, 1024]⟩
abbrev S_ : Shape := ⟨0, ![]⟩
abbrev S64x64 : Shape := ⟨2, ![64, 64]⟩
abbrev S1x1024 : Shape := ⟨2, ![1, 1024]⟩
abbrev S1024 : Shape := ⟨1, ![1024]⟩
abbrev S64x64x1 : Shape := ⟨3, ![64, 64, 1]⟩
abbrev S1x1x1024 : Shape := ⟨3, ![1, 1, 1024]⟩
abbrev S1x3072x1024 : Shape := ⟨3, ![1, 3072, 1024]⟩
abbrev S3072x1024 : Shape := ⟨2, ![3072, 1024]⟩
abbrev S1x3072 : Shape := ⟨2, ![1, 3072]⟩
abbrev S3072 : Shape := ⟨1, ![3072]⟩
abbrev S1x1024x1024 : Shape := ⟨3, ![1, 1024, 1024]⟩
abbrev S1024x1024 : Shape := ⟨2, ![1024, 1024]⟩
abbrev S64x64x16x64 : Shape := ⟨4, ![64, 64, 16, 64]⟩
abbrev S64x16x64x64 : Shape := ⟨4, ![64, 16, 64, 64]⟩
abbrev S64x512x16x64 : Shape := ⟨4, ![64, 512, 16, 64]⟩
abbrev S64x16x512x64 : Shape := ⟨4, ![64, 16, 512, 64]⟩
abbrev S64x16x64x512 : Shape := ⟨4, ![64, 16, 64, 512]⟩
abbrev S64x16x64 : Shape := ⟨3, ![64, 16, 64]⟩
abbrev S64x16x64x1 : Shape := ⟨4, ![64, 16, 64, 1]⟩
abbrev S1x4096x1024 : Shape := ⟨3, ![1, 4096, 1024]⟩
abbrev S4096x1024 : Shape := ⟨2, ![4096, 1024]⟩
abbrev S1024x4096 : Shape := ⟨2, ![1024, 4096]⟩
abbrev S64x64x4096 : Shape := ⟨3, ![64, 64, 4096]⟩
abbrev S1x4096 : Shape := ⟨2, ![1, 4096]⟩
abbrev S4096 : Shape := ⟨1, ![4096]⟩
abbrev S1x1x4096 : Shape := ⟨3, ![1, 1, 4096]⟩
abbrev S1x1024x4096 : Shape := ⟨3, ![1, 1024, 4096]⟩

abbrev nBuf : Space → Nat
  | .hbm => 2397
  | .vmem => 0
  | .smem => 0
  | _ => 0

abbrev hbmTy0_0 (i : Nat) : BufTy := match i % 128 with
  | 0 => ⟨S64x512x1024, .f32⟩
  | 1 => ⟨S64x1x768, .f32⟩
  | 2 => ⟨S1x64x1024, .f32⟩
  | 3 => ⟨S8x3072x1024, .f32⟩
  | 4 => ⟨S8x3072, .f32⟩
  | 5 => ⟨S8x1024x1024, .f32⟩
  | 6 => ⟨S8x1024, .f32⟩
  | 7 => ⟨S8x1024, .f32⟩
  | 8 => ⟨S8x1024, .f32⟩
  | 9 => ⟨S8x3072x1024, .f32⟩
  | 10 => ⟨S8x3072, .f32⟩
  | 11 => ⟨S8x1024x1024, .f32⟩
  | 12 => ⟨S8x1024, .f32⟩
  | 13 => ⟨S8x1024, .f32⟩
  | 14 => ⟨S8x1024, .f32⟩
  | 15 => ⟨S8x1024, .f32⟩
  | 16 => ⟨S8x1024, .f32⟩
  | 17 => ⟨S8x4096x1024, .f32⟩
  | 18 => ⟨S8x4096, .f32⟩
  | 19 => ⟨S8x1024x4096, .f32⟩
  | 20 => ⟨S8x1024, .f32⟩
  | 21 => ⟨S64x1024, .f32⟩
  | 22 => ⟨S64x64x1024, .f32⟩
  | 23 => ⟨S1x64x1024, .f32⟩
  | 24 => ⟨S64x64x1024, .f32⟩
  | 25 => ⟨S64x64x1024, .f32⟩
  | 26 => ⟨S_, .i1⟩
  | 27 => ⟨S64x64, .i1⟩
  | 28 => ⟨S64x64, .i32⟩
  | 29 => ⟨S_, .i32⟩
  | 30 => ⟨S64x64, .i32⟩
  | 31 => ⟨S64x64, .i32⟩
  | 32 => ⟨S64x64, .i32⟩
  | 33 => ⟨S64x64, .i1⟩
  | 34 => ⟨S_, .i1⟩
  | 35 => ⟨S64x64, .i1⟩
  | 36 => ⟨S64x64, .i1⟩
  | 37 => ⟨S1x1024, .f32⟩
  | 38 => ⟨S1024, .f32⟩
  | 39 => ⟨S1x1024, .f32⟩
  | 40 => ⟨S1024, .f32⟩
  | 41 => ⟨S_, .f32⟩
  | 42 => ⟨S64x64, .f32⟩
  | 43 => ⟨S64x64x1, .f32⟩
  | 44 => ⟨S_, .f32⟩
  | 45 => ⟨S64x64x1, .f32⟩
  | 46 => ⟨S64x64x1, .f32⟩
  | 47 => ⟨S_, .i32⟩
  | 48 => ⟨S_, .f32⟩
  | 49 => ⟨S64x64, .f32⟩
  | 50 => ⟨S64x64x1, .f32⟩
  | 51 => ⟨S_, .f32⟩
  | 52 => ⟨S64x64x1, .f32⟩
  | 53 => ⟨S64x64x1, .f32⟩
  | 54 => ⟨S64x64x1024, .f32⟩
  | 55 => ⟨S64x64x1024, .f32⟩
  | 56 => ⟨S64x64x1024, .f32⟩
  | 57 => ⟨S_, .f32⟩
  | 58 => ⟨S_, .f32⟩
  | 59 => ⟨S_, .f32⟩
  | 60 => ⟨S_, .f32⟩
  | 61 => ⟨S64x64, .f32⟩
  | 62 => ⟨S64x64x1, .f32⟩
  | 63 => ⟨S64x64x1, .f32⟩
  | 64 => ⟨S64x64x1, .f32⟩
  | 65 => ⟨S_, .f32⟩
  | 66 => ⟨S_, .i1⟩
  | 67 => ⟨S_, .f32⟩
  | 68 => ⟨S_, .f32⟩
  | 69 => ⟨S64x64x1, .f32⟩
  | 70 => ⟨S64x64x1, .f32⟩
  | 71 => ⟨S64x64x1024, .f32⟩
  | 72 => ⟨S64x64x1024, .f32⟩
  | 73 => ⟨S_, .f32⟩
  | 74 => ⟨S64x64x1, .f32⟩
  | 75 => ⟨S64x64x1, .f32⟩
  | 76 => ⟨S64x64x1, .f32⟩
  | 77 => ⟨S64x64x1024, .f32⟩
  | 78 => ⟨S64x64x1024, .f32⟩
  | 79 => ⟨S1x1x1024, .f32⟩
  | 80 => ⟨S64x64x1024, .f32⟩
  | 81 => ⟨S64x64x1024, .f32⟩
  | 82 => ⟨S1x1x1024, .f32⟩
  | 83 => ⟨S64x64x1024, .f32⟩
  | 84 => ⟨S64x64x1024, .f32⟩
  | 85 => ⟨S1x3072x1024, .f32⟩
  | 86 => ⟨S3072x1024, .f32⟩
  | 87 => ⟨S1x3072, .f32⟩
  | 88 => ⟨S3072, .f32⟩
  | 89 => ⟨S1x1024x1024, .f32⟩
  | 90 => ⟨S1024x1024, .f32⟩
  | 91 => ⟨S1x1024, .f32⟩
  | 92 => ⟨S1024, .f32⟩
  | 93 => ⟨S1024x1024, .f32⟩
  | 94 => ⟨S1024x1024, .f32⟩
  | 95 => ⟨S1024x1024, .f32⟩
  | 96 => ⟨S1024, .f32⟩
  | 97 => ⟨S1024, .f32⟩
  | 98 => ⟨S1024, .f32⟩
  | 99 => ⟨S1024x1024, .f32⟩
  | 100 => ⟨S64x64x1024, .f32⟩
  | 101 => ⟨S1x1x1024, .f32⟩
  | 102 => ⟨S64x64x1024, .f32⟩
  | 103 => ⟨S64x64x1024, .f32⟩
  | 104 => ⟨S64x64x16x64, .f32⟩
  | 105 => ⟨S64x16x64x64, .f32⟩
  | 106 => ⟨S1024x1024, .f32⟩
  | 107 => ⟨S64x512x1024, .f32⟩
  | 108 => ⟨S1x1x1024, .f32⟩
  | 109 => ⟨S64x512x1024, .f32⟩
  | 110 => ⟨S64x512x1024, .f32⟩
  | 111 => ⟨S64x512x16x64, .f32⟩
  | 112 => ⟨S64x16x512x64, .f32⟩
  | 113 => ⟨S1024x1024, .f32⟩
  | 114 => ⟨S64x512x1024, .f32⟩
  | 115 => ⟨S1x1x1024, .f32⟩
  | 116 => ⟨S64x512x1024, .f32⟩
  | 117 => ⟨S64x512x1024, .f32⟩
  | 118 => ⟨S64x512x16x64, .f32⟩
  | 119 => ⟨S64x16x512x64, .f32⟩
  | 120 => ⟨S64x16x64x512, .f32⟩
  | 121 => ⟨S_, .f32⟩
  | 122 => ⟨S64x16x64x512, .f32⟩
  | 123 => ⟨S64x16x64x512, .f32⟩
  | 124 => ⟨S_, .f32⟩
  | 125 => ⟨S64x16x64, .f32⟩
  | 126 => ⟨S_, .f32⟩
  | 127 => ⟨S64x16x64, .f32⟩
  | _ => ⟨S64x512x1024, .f32⟩

abbrev hbmTy0_1 (i : Nat) : BufTy := match i % 128 with
  | 0 => ⟨S64x16x64, .f32⟩
  | 1 => ⟨S64x16x64x1, .f32⟩
  | 2 => ⟨S64x16x64x512, .f32⟩
  | 3 => ⟨S64x16x64x512, .f32⟩
  | 4 => ⟨S64x16x64x512, .f32⟩
  | 5 => ⟨S_, .f32⟩
  | 6 => ⟨S64x16x64, .f32⟩
  | 7 => ⟨S64x16x64x1, .f32⟩
  | 8 => ⟨S64x16x64x512, .f32⟩
  | 9 => ⟨S64x16x64x512, .f32⟩
  | 10 => ⟨S64x16x64x64, .f32⟩
  | 11 => ⟨S64x64x16x64, .f32⟩
  | 12 => ⟨S64x64x1024, .f32⟩
  | 13 => ⟨S1024x1024, .f32⟩
  | 14 => ⟨S64x64x1024, .f32⟩
  | 15 => ⟨S1x1x1024, .f32⟩
  | 16 => ⟨S64x64x1024, .f32⟩
  | 17 => ⟨S64x64x1024, .f32⟩
  | 18 => ⟨S64x64x1024, .f32⟩
  | 19 => ⟨S1x1024, .f32⟩
  | 20 => ⟨S1024, .f32⟩
  | 21 => ⟨S1x1024, .f32⟩
  | 22 => ⟨S1024, .f32⟩
  | 23 => ⟨S_, .f32⟩
  | 24 => ⟨S64x64, .f32⟩
  | 25 => ⟨S64x64x1, .f32⟩
  | 26 => ⟨S_, .f32⟩
  | 27 => ⟨S64x64x1, .f32⟩
  | 28 => ⟨S64x64x1, .f32⟩
  | 29 => ⟨S_, .i32⟩
  | 30 => ⟨S_, .f32⟩
  | 31 => ⟨S64x64, .f32⟩
  | 32 => ⟨S64x64x1, .f32⟩
  | 33 => ⟨S_, .f32⟩
  | 34 => ⟨S64x64x1, .f32⟩
  | 35 => ⟨S64x64x1, .f32⟩
  | 36 => ⟨S64x64x1024, .f32⟩
  | 37 => ⟨S64x64x1024, .f32⟩
  | 38 => ⟨S64x64x1024, .f32⟩
  | 39 => ⟨S_, .f32⟩
  | 40 => ⟨S_, .f32⟩
  | 41 => ⟨S_, .f32⟩
  | 42 => ⟨S_, .f32⟩
  | 43 => ⟨S64x64, .f32⟩
  | 44 => ⟨S64x64x1, .f32⟩
  | 45 => ⟨S64x64x1, .f32⟩
  | 46 => ⟨S64x64x1, .f32⟩
  | 47 => ⟨S_, .f32⟩
  | 48 => ⟨S_, .i1⟩
  | 49 => ⟨S_, .f32⟩
  | 50 => ⟨S_, .f32⟩
  | 51 => ⟨S64x64x1, .f32⟩
  | 52 => ⟨S64x64x1, .f32⟩
  | 53 => ⟨S64x64x1024, .f32⟩
  | 54 => ⟨S64x64x1024, .f32⟩
  | 55 => ⟨S_, .f32⟩
  | 56 => ⟨S64x64x1, .f32⟩
  | 57 => ⟨S64x64x1, .f32⟩
  | 58 => ⟨S64x64x1, .f32⟩
  | 59 => ⟨S64x64x1024, .f32⟩
  | 60 => ⟨S64x64x1024, .f32⟩
  | 61 => ⟨S1x1x1024, .f32⟩
  | 62 => ⟨S64x64x1024, .f32⟩
  | 63 => ⟨S64x64x1024, .f32⟩
  | 64 => ⟨S1x1x1024, .f32⟩
  | 65 => ⟨S64x64x1024, .f32⟩
  | 66 => ⟨S64x64x1024, .f32⟩
  | 67 => ⟨S1x3072x1024, .f32⟩
  | 68 => ⟨S3072x1024, .f32⟩
  | 69 => ⟨S1x3072, .f32⟩
  | 70 => ⟨S3072, .f32⟩
  | 71 => ⟨S1x1024x1024, .f32⟩
  | 72 => ⟨S1024x1024, .f32⟩
  | 73 => ⟨S1x1024, .f32⟩
  | 74 => ⟨S1024, .f32⟩
  | 75 => ⟨S1024x1024, .f32⟩
  | 76 => ⟨S1024x1024, .f32⟩
  | 77 => ⟨S1024x1024, .f32⟩
  | 78 => ⟨S1024, .f32⟩
  | 79 => ⟨S1024, .f32⟩
  | 80 => ⟨S1024, .f32⟩
  | 81 => ⟨S1024x1024, .f32⟩
  | 82 => ⟨S64x64x1024, .f32⟩
  | 83 => ⟨S1x1x1024, .f32⟩
  | 84 => ⟨S64x64x1024, .f32⟩
  | 85 => ⟨S64x64x1024, .f32⟩
  | 86 => ⟨S64x64x16x64, .f32⟩
  | 87 => ⟨S64x16x64x64, .f32⟩
  | 88 => ⟨S1024x1024, .f32⟩
  | 89 => ⟨S64x64x1024, .f32⟩
  | 90 => ⟨S1x1x1024, .f32⟩
  | 91 => ⟨S64x64x1024, .f32⟩
  | 92 => ⟨S64x64x1024, .f32⟩
  | 93 => ⟨S64x64x16x64, .f32⟩
  | 94 => ⟨S64x16x64x64, .f32⟩
  | 95 => ⟨S1024x1024, .f32⟩
  | 96 => ⟨S64x64x1024, .f32⟩
  | 97 => ⟨S1x1x1024, .f32⟩
  | 98 => ⟨S64x64x1024, .f32⟩
  | 99 => ⟨S64x64x1024, .f32⟩
  | 100 => ⟨S64x64x16x64, .f32⟩
  | 101 => ⟨S64x16x64x64, .f32⟩
  | 102 => ⟨S64x16x64x64, .f32⟩
  | 103 => ⟨S_, .f32⟩
  | 104 => ⟨S64x16x64x64, .f32⟩
  | 105 => ⟨S64x16x64x64, .f32⟩
  | 106 => ⟨S_, .f32⟩
  | 107 => ⟨S_, .f32⟩
  | 108 => ⟨S64x16x64x64, .i1⟩
  | 109 => ⟨S64x16x64x64, .f32⟩
  | 110 => ⟨S64x16x64x64, .f32⟩
  | 111 => ⟨S_, .f32⟩
  | 112 => ⟨S64x16x64, .f32⟩
  | 113 => ⟨S_, .f32⟩
  | 114 => ⟨S64x16x64, .f32⟩
  | 115 => ⟨S64x16x64, .f32⟩
  | 116 => ⟨S64x16x64x1, .f32⟩
  | 117 => ⟨S64x16x64x64, .f32⟩
  | 118 => ⟨S64x16x64x64, .f32⟩
  | 119 => ⟨S64x16x64x64, .f32⟩
  | 120 => ⟨S_, .f32⟩
  | 121 => ⟨S64x16x64, .f32⟩
  | 122 => ⟨S64x16x64x1, .f32⟩
  | 123 => ⟨S64x16x64x64, .f32⟩
  | 124 => ⟨S64x16x64x64, .f32⟩
  | 125 => ⟨S64x16x64x64, .f32⟩
  | 126 => ⟨S64x64x16x64, .f32⟩
  | 127 => ⟨S64x64x1024, .f32⟩
  | _ => ⟨S64x512x1024, .f32⟩

abbrev hbmTy0_2 (i : Nat) : BufTy := match i % 128 with
  | 0 => ⟨S1024x1024, .f32⟩
  | 1 => ⟨S64x64x1024, .f32⟩
  | 2 => ⟨S1x1x1024, .f32⟩
  | 3 => ⟨S64x64x1024, .f32⟩
  | 4 => ⟨S64x64x1024, .f32⟩
  | 5 => ⟨S64x64x1024, .f32⟩
  | 6 => ⟨S1x1024, .f32⟩
  | 7 => ⟨S1024, .f32⟩
  | 8 => ⟨S1x1024, .f32⟩
  | 9 => ⟨S1024, .f32⟩
  | 10 => ⟨S_, .f32⟩
  | 11 => ⟨S64x64, .f32⟩
  | 12 => ⟨S64x64x1, .f32⟩
  | 13 => ⟨S_, .f32⟩
  | 14 => ⟨S64x64x1, .f32⟩
  | 15 => ⟨S64x64x1, .f32⟩
  | 16 => ⟨S_, .i32⟩
  | 17 => ⟨S_, .f32⟩
  | 18 => ⟨S64x64, .f32⟩
  | 19 => ⟨S64x64x1, .f32⟩
  | 20 => ⟨S_, .f32⟩
  | 21 => ⟨S64x64x1, .f32⟩
  | 22 => ⟨S64x64x1, .f32⟩
  | 23 => ⟨S64x64x1024, .f32⟩
  | 24 => ⟨S64x64x1024, .f32⟩
  | 25 => ⟨S64x64x1024, .f32⟩
  | 26 => ⟨S_, .f32⟩
  | 27 => ⟨S_, .f32⟩
  | 28 => ⟨S_, .f32⟩
  | 29 => ⟨S_, .f32⟩
  | 30 => ⟨S64x64, .f32⟩
  | 31 => ⟨S64x64x1, .f32⟩
  | 32 => ⟨S64x64x1, .f32⟩
  | 33 => ⟨S64x64x1, .f32⟩
  | 34 => ⟨S_, .f32⟩
  | 35 => ⟨S_, .i1⟩
  | 36 => ⟨S_, .f32⟩
  | 37 => ⟨S_, .f32⟩
  | 38 => ⟨S64x64x1, .f32⟩
  | 39 => ⟨S64x64x1, .f32⟩
  | 40 => ⟨S64x64x1024, .f32⟩
  | 41 => ⟨S64x64x1024, .f32⟩
  | 42 => ⟨S_, .f32⟩
  | 43 => ⟨S64x64x1, .f32⟩
  | 44 => ⟨S64x64x1, .f32⟩
  | 45 => ⟨S64x64x1, .f32⟩
  | 46 => ⟨S64x64x1024, .f32⟩
  | 47 => ⟨S64x64x1024, .f32⟩
  | 48 => ⟨S1x1x1024, .f32⟩
  | 49 => ⟨S64x64x1024, .f32⟩
  | 50 => ⟨S64x64x1024, .f32⟩
  | 51 => ⟨S1x1x1024, .f32⟩
  | 52 => ⟨S64x64x1024, .f32⟩
  | 53 => ⟨S64x64x1024, .f32⟩
  | 54 => ⟨S1x4096x1024, .f32⟩
  | 55 => ⟨S4096x1024, .f32⟩
  | 56 => ⟨S1024x4096, .f32⟩
  | 57 => ⟨S64x64x4096, .f32⟩
  | 58 => ⟨S1x4096, .f32⟩
  | 59 => ⟨S4096, .f32⟩
  | 60 => ⟨S1x1x4096, .f32⟩
  | 61 => ⟨S64x64x4096, .f32⟩
  | 62 => ⟨S64x64x4096, .f32⟩
  | 63 => ⟨S_, .f32⟩
  | 64 => ⟨S64x64x4096, .f32⟩
  | 65 => ⟨S64x64x4096, .f32⟩
  | 66 => ⟨S1x1024x4096, .f32⟩
  | 67 => ⟨S1024x4096, .f32⟩
  | 68 => ⟨S4096x1024, .f32⟩
  | 69 => ⟨S64x64x1024, .f32⟩
  | 70 => ⟨S1x1024, .f32⟩
  | 71 => ⟨S1024, .f32⟩
  | 72 => ⟨S1x1x1024, .f32⟩
  | 73 => ⟨S64x64x1024, .f32⟩
  | 74 => ⟨S64x64x1024, .f32⟩
  | 75 => ⟨S64x64x1024, .f32⟩
  | 76 => ⟨S1x1024, .f32⟩
  | 77 => ⟨S1024, .f32⟩
  | 78 => ⟨S1x1024, .f32⟩
  | 79 => ⟨S1024, .f32⟩
  | 80 => ⟨S_, .f32⟩
  | 81 => ⟨S64x64, .f32⟩
  | 82 => ⟨S64x64x1, .f32⟩
  | 83 => ⟨S_, .f32⟩
  | 84 => ⟨S64x64x1, .f32⟩
  | 85 => ⟨S64x64x1, .f32⟩
  | 86 => ⟨S_, .i32⟩
  | 87 => ⟨S_, .f32⟩
  | 88 => ⟨S64x64, .f32⟩
  | 89 => ⟨S64x64x1, .f32⟩
  | 90 => ⟨S_, .f32⟩
  | 91 => ⟨S64x64x1, .f32⟩
  | 92 => ⟨S64x64x1, .f32⟩
  | 93 => ⟨S64x64x1024, .f32⟩
  | 94 => ⟨S64x64x1024, .f32⟩
  | 95 => ⟨S64x64x1024, .f32⟩
  | 96 => ⟨S_, .f32⟩
  | 97 => ⟨S_, .f32⟩
  | 98 => ⟨S_, .f32⟩
  | 99 => ⟨S_, .f32⟩
  | 100 => ⟨S64x64, .f32⟩
  | 101 => ⟨S64x64x1, .f32⟩
  | 102 => ⟨S64x64x1, .f32⟩
  | 103 => ⟨S64x64x1, .f32⟩
  | 104 => ⟨S_, .f32⟩
  | 105 => ⟨S_, .i1⟩
  | 106 => ⟨S_, .f32⟩
  | 107 => ⟨S_, .f32⟩
  | 108 => ⟨S64x64x1, .f32⟩
  | 109 => ⟨S64x64x1, .f32⟩
  | 110 => ⟨S64x64x1024, .f32⟩
  | 111 => ⟨S64x64x1024, .f32⟩
  | 112 => ⟨S_, .f32⟩
  | 113 => ⟨S64x64x1, .f32⟩
  | 114 => ⟨S64x64x1, .f32⟩
  | 115 => ⟨S64x64x1, .f32⟩
  | 116 => ⟨S64x64x1024, .f32⟩
  | 117 => ⟨S64x64x1024, .f32⟩
  | 118 => ⟨S1x1x1024, .f32⟩
  | 119 => ⟨S64x64x1024, .f32⟩
  | 120 => ⟨S64x64x1024, .f32⟩
  | 121 => ⟨S1x1x1024, .f32⟩
  | 122 => ⟨S64x64x1024, .f32⟩
  | 123 => ⟨S64x64x1024, .f32⟩
  | 124 => ⟨S1x3072x1024, .f32⟩
  | 125 => ⟨S3072x1024, .f32⟩
  | 126 => ⟨S1x3072, .f32⟩
  | 127 => ⟨S3072, .f32⟩
  | _ => ⟨S64x512x1024, .f32⟩

abbrev hbmTy0_3 (i : Nat) : BufTy := match i % 128 with
  | 0 => ⟨S1x1024x1024, .f32⟩
  | 1 => ⟨S1024x1024, .f32⟩
  | 2 => ⟨S1x1024, .f32⟩
  | 3 => ⟨S1024, .f32⟩
  | 4 => ⟨S1024x1024, .f32⟩
  | 5 => ⟨S1024x1024, .f32⟩
  | 6 => ⟨S1024x1024, .f32⟩
  | 7 => ⟨S1024, .f32⟩
  | 8 => ⟨S1024, .f32⟩
  | 9 => ⟨S1024, .f32⟩
  | 10 => ⟨S1024x1024, .f32⟩
  | 11 => ⟨S64x64x1024, .f32⟩
  | 12 => ⟨S1x1x1024, .f32⟩
  | 13 => ⟨S64x64x1024, .f32⟩
  | 14 => ⟨S64x64x1024, .f32⟩
  | 15 => ⟨S64x64x16x64, .f32⟩
  | 16 => ⟨S64x16x64x64, .f32⟩
  | 17 => ⟨S1024x1024, .f32⟩
  | 18 => ⟨S64x512x1024, .f32⟩
  | 19 => ⟨S1x1x1024, .f32⟩
  | 20 => ⟨S64x512x1024, .f32⟩
  | 21 => ⟨S64x512x1024, .f32⟩
  | 22 => ⟨S64x512x16x64, .f32⟩
  | 23 => ⟨S64x16x512x64, .f32⟩
  | 24 => ⟨S1024x1024, .f32⟩
  | 25 => ⟨S64x512x1024, .f32⟩
  | 26 => ⟨S1x1x1024, .f32⟩
  | 27 => ⟨S64x512x1024, .f32⟩
  | 28 => ⟨S64x512x1024, .f32⟩
  | 29 => ⟨S64x512x16x64, .f32⟩
  | 30 => ⟨S64x16x512x64, .f32⟩
  | 31 => ⟨S64x16x64x512, .f32⟩
  | 32 => ⟨S_, .f32⟩
  | 33 => ⟨S64x16x64x512, .f32⟩
  | 34 => ⟨S64x16x64x512, .f32⟩
  | 35 => ⟨S_, .f32⟩
  | 36 => ⟨S64x16x64, .f32⟩
  | 37 => ⟨S_, .f32⟩
  | 38 => ⟨S64x16x64, .f32⟩
  | 39 => ⟨S64x16x64, .f32⟩
  | 40 => ⟨S64x16x64x1, .f32⟩
  | 41 => ⟨S64x16x64x512, .f32⟩
  | 42 => ⟨S64x16x64x512, .f32⟩
  | 43 => ⟨S64x16x64x512, .f32⟩
  | 44 => ⟨S_, .f32⟩
  | 45 => ⟨S64x16x64, .f32⟩
  | 46 => ⟨S64x16x64x1, .f32⟩
  | 47 => ⟨S64x16x64x512, .f32⟩
  | 48 => ⟨S64x16x64x512, .f32⟩
  | 49 => ⟨S64x16x64x64, .f32⟩
  | 50 => ⟨S64x64x16x64, .f32⟩
  | 51 => ⟨S64x64x1024, .f32⟩
  | 52 => ⟨S1024x1024, .f32⟩
  | 53 => ⟨S64x64x1024, .f32⟩
  | 54 => ⟨S1x1x1024, .f32⟩
  | 55 => ⟨S64x64x1024, .f32⟩
  | 56 => ⟨S64x64x1024, .f32⟩
  | 57 => ⟨S64x64x1024, .f32⟩
  | 58 => ⟨S1x1024, .f32⟩
  | 59 => ⟨S1024, .f32⟩
  | 60 => ⟨S1x1024, .f32⟩
  | 61 => ⟨S1024, .f32⟩
  | 62 => ⟨S_, .f32⟩
  | 63 => ⟨S64x64, .f32⟩
  | 64 => ⟨S64x64x1, .f32⟩
  | 65 => ⟨S_, .f32⟩
  | 66 => ⟨S64x64x1, .f32⟩
  | 67 => ⟨S64x64x1, .f32⟩
  | 68 => ⟨S_, .i32⟩
  | 69 => ⟨S_, .f32⟩
  | 70 => ⟨S64x64, .f32⟩
  | 71 => ⟨S64x64x1, .f32⟩
  | 72 => ⟨S_, .f32⟩
  | 73 => ⟨S64x64x1, .f32⟩
  | 74 => ⟨S64x64x1, .f32⟩
  | 75 => ⟨S64x64x1024, .f32⟩
  | 76 => ⟨S64x64x1024, .f32⟩
  | 77 => ⟨S64x64x1024, .f32⟩
  | 78 => ⟨S_, .f32⟩
  | 79 => ⟨S_, .f32⟩
  | 80 => ⟨S_, .f32⟩
  | 81 => ⟨S_, .f32⟩
  | 82 => ⟨S64x64, .f32⟩
  | 83 => ⟨S64x64x1, .f32⟩
  | 84 => ⟨S64x64x1, .f32⟩
  | 85 => ⟨S64x64x1, .f32⟩
  | 86 => ⟨S_, .f32⟩
  | 87 => ⟨S_, .i1⟩
  | 88 => ⟨S_, .f32⟩
  | 89 => ⟨S_, .f32⟩
  | 90 => ⟨S64x64x1, .f32⟩
  | 91 => ⟨S64x64x1, .f32⟩
  | 92 => ⟨S64x64x1024, .f32⟩
  | 93 => ⟨S64x64x1024, .f32⟩
  | 94 => ⟨S_, .f32⟩
  | 95 => ⟨S64x64x1, .f32⟩
  | 96 => ⟨S64x64x1, .f32⟩
  | 97 => ⟨S64x64x1, .f32⟩
  | 98 => ⟨S64x64x1024, .f32⟩
  | 99 => ⟨S64x64x1024, .f32⟩
  | 100 => ⟨S1x1x1024, .f32⟩
  | 101 => ⟨S64x64x1024, .f32⟩
  | 102 => ⟨S64x64x1024, .f32⟩
  | 103 => ⟨S1x1x1024, .f32⟩
  | 104 => ⟨S64x64x1024, .f32⟩
  | 105 => ⟨S64x64x1024, .f32⟩
  | 106 => ⟨S1x3072x1024, .f32⟩
  | 107 => ⟨S3072x1024, .f32⟩
  | 108 => ⟨S1x3072, .f32⟩
  | 109 => ⟨S3072, .f32⟩
  | 110 => ⟨S1x1024x1024, .f32⟩
  | 111 => ⟨S1024x1024, .f32⟩
  | 112 => ⟨S1x1024, .f32⟩
  | 113 => ⟨S1024, .f32⟩
  | 114 => ⟨S1024x1024, .f32⟩
  | 115 => ⟨S1024x1024, .f32⟩
  | 116 => ⟨S1024x1024, .f32⟩
  | 117 => ⟨S1024, .f32⟩
  | 118 => ⟨S1024, .f32⟩
  | 119 => ⟨S1024, .f32⟩
  | 120 => ⟨S1024x1024, .f32⟩
  | 121 => ⟨S64x64x1024, .f32⟩
  | 122 => ⟨S1x1x1024, .f32⟩
  | 123 => ⟨S64x64x1024, .f32⟩
  | 124 => ⟨S64x64x1024, .f32⟩
  | 125 => ⟨S64x64x16x64, .f32⟩
  | 126 => ⟨S64x16x64x64, .f32⟩
  | 127 => ⟨S1024x1024, .f32⟩
  | _ => ⟨S64x512x1024, .f32⟩

abbrev hbmTy0_4 (i : Nat) : BufTy := match i % 128 with
  | 0 => ⟨S64x64x1024, .f32⟩
  | 1 => ⟨S1x1x1024, .f32⟩
  | 2 => ⟨S64x64x1024, .f32⟩
  | 3 => ⟨S64x64x1024, .f32⟩
  | 4 => ⟨S64x64x16x64, .f32⟩
  | 5 => ⟨S64x16x64x64, .f32⟩
  | 6 => ⟨S1024x1024, .f32⟩
  | 7 => ⟨S64x64x1024, .f32⟩
  | 8 => ⟨S1x1x1024, .f32⟩
  | 9 => ⟨S64x64x1024, .f32⟩
  | 10 => ⟨S64x64x1024, .f32⟩
  | 11 => ⟨S64x64x16x64, .f32⟩
  | 12 => ⟨S64x16x64x64, .f32⟩
  | 13 => ⟨S64x16x64x64, .f32⟩
  | 14 => ⟨S_, .f32⟩
  | 15 => ⟨S64x16x64x64, .f32⟩
  | 16 => ⟨S64x16x64x64, .f32⟩
  | 17 => ⟨S_, .f32⟩
  | 18 => ⟨S_, .f32⟩
  | 19 => ⟨S64x16x64x64, .i1⟩
  | 20 => ⟨S64x16x64x64, .f32⟩
  | 21 => ⟨S64x16x64x64, .f32⟩
  | 22 => ⟨S_, .f32⟩
  | 23 => ⟨S64x16x64, .f32⟩
  | 24 => ⟨S_, .f32⟩
  | 25 => ⟨S64x16x64, .f32⟩
  | 26 => ⟨S64x16x64, .f32⟩
  | 27 => ⟨S64x16x64x1, .f32⟩
  | 28 => ⟨S64x16x64x64, .f32⟩
  | 29 => ⟨S64x16x64x64, .f32⟩
  | 30 => ⟨S64x16x64x64, .f32⟩
  | 31 => ⟨S_, .f32⟩
  | 32 => ⟨S64x16x64, .f32⟩
  | 33 => ⟨S64x16x64x1, .f32⟩
  | 34 => ⟨S64x16x64x64, .f32⟩
  | 35 => ⟨S64x16x64x64, .f32⟩
  | 36 => ⟨S64x16x64x64, .f32⟩
  | 37 => ⟨S64x64x16x64, .f32⟩
  | 38 => ⟨S64x64x1024, .f32⟩
  | 39 => ⟨S1024x1024, .f32⟩
  | 40 => ⟨S64x64x1024, .f32⟩
  | 41 => ⟨S1x1x1024, .f32⟩
  | 42 => ⟨S64x64x1024, .f32⟩
  | 43 => ⟨S64x64x1024, .f32⟩
  | 44 => ⟨S64x64x1024, .f32⟩
  | 45 => ⟨S1x1024, .f32⟩
  | 46 => ⟨S1024, .f32⟩
  | 47 => ⟨S1x1024, .f32⟩
  | 48 => ⟨S1024, .f32⟩
  | 49 => ⟨S_, .f32⟩
  | 50 => ⟨S64x64, .f32⟩
  | 51 => ⟨S64x64x1, .f32⟩
  | 52 => ⟨S_, .f32⟩
  | 53 => ⟨S64x64x1, .f32⟩
  | 54 => ⟨S64x64x1, .f32⟩
  | 55 => ⟨S_, .i32⟩
  | 56 => ⟨S_, .f32⟩
  | 57 => ⟨S64x64, .f32⟩
  | 58 => ⟨S64x64x1, .f32⟩
  | 59 => ⟨S_, .f32⟩
  | 60 => ⟨S64x64x1, .f32⟩
  | 61 => ⟨S64x64x1, .f32⟩
  | 62 => ⟨S64x64x1024, .f32⟩
  | 63 => ⟨S64x64x1024, .f32⟩
  | 64 => ⟨S64x64x1024, .f32⟩
  | 65 => ⟨S_, .f32⟩
  | 66 => ⟨S_, .f32⟩
  | 67 => ⟨S_, .f32⟩
  | 68 => ⟨S_, .f32⟩
  | 69 => ⟨S64x64, .f32⟩
  | 70 => ⟨S64x64x1, .f32⟩
  | 71 => ⟨S64x64x1, .f32⟩
  | 72 => ⟨S64x64x1, .f32⟩
  | 73 => ⟨S_, .f32⟩
  | 74 => ⟨S_, .i1⟩
  | 75 => ⟨S_, .f32⟩
  | 76 => ⟨S_, .f32⟩
  | 77 => ⟨S64x64x1, .f32⟩
  | 78 => ⟨S64x64x1, .f32⟩
  | 79 => ⟨S64x64x1024, .f32⟩
  | 80 => ⟨S64x64x1024, .f32⟩
  | 81 => ⟨S_, .f32⟩
  | 82 => ⟨S64x64x1, .f32⟩
  | 83 => ⟨S64x64x1, .f32⟩
  | 84 => ⟨S64x64x1, .f32⟩
  | 85 => ⟨S64x64x1024, .f32⟩
  | 86 => ⟨S64x64x1024, .f32⟩
  | 87 => ⟨S1x1x1024, .f32⟩
  | 88 => ⟨S64x64x1024, .f32⟩
  | 89 => ⟨S64x64x1024, .f32⟩
  | 90 => ⟨S1x1x1024, .f32⟩
  | 91 => ⟨S64x64x1024, .f32⟩
  | 92 => ⟨S64x64x1024, .f32⟩
  | 93 => ⟨S1x4096x1024, .f32⟩
  | 94 => ⟨S4096x1024, .f32⟩
  | 95 => ⟨S1024x4096, .f32⟩
  | 96 => ⟨S64x64x4096, .f32⟩
  | 97 => ⟨S1x4096, .f32⟩
  | 98 => ⟨S4096, .f32⟩
  | 99 => ⟨S1x1x4096, .f32⟩
  | 100 => ⟨S64x64x4096, .f32⟩
  | 101 => ⟨S64x64x4096, .f32⟩
  | 102 => ⟨S_, .f32⟩
  | 103 => ⟨S64x64x4096, .f32⟩
  | 104 => ⟨S64x64x4096, .f32⟩
  | 105 => ⟨S1x1024x4096, .f32⟩
  | 106 => ⟨S1024x4096, .f32⟩
  | 107 => ⟨S4096x1024, .f32⟩
  | 108 => ⟨S64x64x1024, .f32⟩
  | 109 => ⟨S1x1024, .f32⟩
  | 110 => ⟨S1024, .f32⟩
  | 111 => ⟨S1x1x1024, .f32⟩
  | 112 => ⟨S64x64x1024, .f32⟩
  | 113 => ⟨S64x64x1024, .f32⟩
  | 114 => ⟨S64x64x1024, .f32⟩
  | 115 => ⟨S1x1024, .f32⟩
  | 116 => ⟨S1024, .f32⟩
  | 117 => ⟨S1x1024, .f32⟩
  | 118 => ⟨S1024, .f32⟩
  | 119 => ⟨S_, .f32⟩
  | 120 => ⟨S64x64, .f32⟩
  | 121 => ⟨S64x64x1, .f32⟩
  | 122 => ⟨S_, .f32⟩
  | 123 => ⟨S64x64x1, .f32⟩
  | 124 => ⟨S64x64x1, .f32⟩
  | 125 => ⟨S_, .i32⟩
  | 126 => ⟨S_, .f32⟩
  | 127 => ⟨S64x64, .f32⟩
  | _ => ⟨S64x512x1024, .f32⟩

abbrev hbmTy0_5 (i : Nat) : BufTy := match i % 128 with
  | 0 => ⟨S64x64x1, .f32⟩
  | 1 => ⟨S_, .f32⟩
  | 2 => ⟨S64x64x1, .f32⟩
  | 3 => ⟨S64x64x1, .f32⟩
  | 4 => ⟨S64x64x1024, .f32⟩
  | 5 => ⟨S64x64x1024, .f32⟩
  | 6 => ⟨S64x64x1024, .f32⟩
  | 7 => ⟨S_, .f32⟩
  | 8 => ⟨S_, .f32⟩
  | 9 => ⟨S_, .f32⟩
  | 10 => ⟨S_, .f32⟩
  | 11 => ⟨S64x64, .f32⟩
  | 12 => ⟨S64x64x1, .f32⟩
  | 13 => ⟨S64x64x1, .f32⟩
  | 14 => ⟨S64x64x1, .f32⟩
  | 15 => ⟨S_, .f32⟩
  | 16 => ⟨S_, .i1⟩
  | 17 => ⟨S_, .f32⟩
  | 18 => ⟨S_, .f32⟩
  | 19 => ⟨S64x64x1, .f32⟩
  | 20 => ⟨S64x64x1, .f32⟩
  | 21 => ⟨S64x64x1024, .f32⟩
  | 22 => ⟨S64x64x1024, .f32⟩
  | 23 => ⟨S_, .f32⟩
  | 24 => ⟨S64x64x1, .f32⟩
  | 25 => ⟨S64x64x1, .f32⟩
  | 26 => ⟨S64x64x1, .f32⟩
  | 27 => ⟨S64x64x1024, .f32⟩
  | 28 => ⟨S64x64x1024, .f32⟩
  | 29 => ⟨S1x1x1024, .f32⟩
  | 30 => ⟨S64x64x1024, .f32⟩
  | 31 => ⟨S64x64x1024, .f32⟩
  | 32 => ⟨S1x1x1024, .f32⟩
  | 33 => ⟨S64x64x1024, .f32⟩
  | 34 => ⟨S64x64x1024, .f32⟩
  | 35 => ⟨S1x3072x1024, .f32⟩
  | 36 => ⟨S3072x1024, .f32⟩
  | 37 => ⟨S1x3072, .f32⟩
  | 38 => ⟨S3072, .f32⟩
  | 39 => ⟨S1x1024x1024, .f32⟩
  | 40 => ⟨S1024x1024, .f32⟩
  | 41 => ⟨S1x1024, .f32⟩
  | 42 => ⟨S1024, .f32⟩
  | 43 => ⟨S1024x1024, .f32⟩
  | 44 => ⟨S1024x1024, .f32⟩
  | 45 => ⟨S1024x1024, .f32⟩
  | 46 => ⟨S1024, .f32⟩
  | 47 => ⟨S1024, .f32⟩
  | 48 => ⟨S1024, .f32⟩
  | 49 => ⟨S1024x1024, .f32⟩
  | 50 => ⟨S64x64x1024, .f32⟩
  | 51 => ⟨S1x1x1024, .f32⟩
  | 52 => ⟨S64x64x1024, .f32⟩
  | 53 => ⟨S64x64x1024, .f32⟩
  | 54 => ⟨S64x64x16x64, .f32⟩
  | 55 => ⟨S64x16x64x64, .f32⟩
  | 56 => ⟨S1024x1024, .f32⟩
  | 57 => ⟨S64x512x1024, .f32⟩
  | 58 => ⟨S1x1x1024, .f32⟩
  | 59 => ⟨S64x512x1024, .f32⟩
  | 60 => ⟨S64x512x1024, .f32⟩
  | 61 => ⟨S64x512x16x64, .f32⟩
  | 62 => ⟨S64x16x512x64, .f32⟩
  | 63 => ⟨S1024x1024, .f32⟩
  | 64 => ⟨S64x512x1024, .f32⟩
  | 65 => ⟨S1x1x1024, .f32⟩
  | 66 => ⟨S64x512x1024, .f32⟩
  | 67 => ⟨S64x512x1024, .f32⟩
  | 68 => ⟨S64x512x16x64, .f32⟩
  | 69 => ⟨S64x16x512x64, .f32⟩
  | 70 => ⟨S64x16x64x512, .f32⟩
  | 71 => ⟨S_, .f32⟩
  | 72 => ⟨S64x16x64x512, .f32⟩
  | 73 => ⟨S64x16x64x512, .f32⟩
  | 74 => ⟨S_, .f32⟩
  | 75 => ⟨S64x16x64, .f32⟩
  | 76 => ⟨S_, .f32⟩
  | 77 => ⟨S64x16x64, .f32⟩
  | 78 => ⟨S64x16x64, .f32⟩
  | 79 => ⟨S64x16x64x1, .f32⟩
  | 80 => ⟨S64x16x64x512, .f32⟩
  | 81 => ⟨S64x16x64x512, .f32⟩
  | 82 => ⟨S64x16x64x512, .f32⟩
  | 83 => ⟨S_, .f32⟩
  | 84 => ⟨S64x16x64, .f32⟩
  | 85 => ⟨S64x16x64x1, .f32⟩
  | 86 => ⟨S64x16x64x512, .f32⟩
  | 87 => ⟨S64x16x64x512, .f32⟩
  | 88 => ⟨S64x16x64x64, .f32⟩
  | 89 => ⟨S64x64x16x64, .f32⟩
  | 90 => ⟨S64x64x1024, .f32⟩
  | 91 => ⟨S1024x1024, .f32⟩
  | 92 => ⟨S64x64x1024, .f32⟩
  | 93 => ⟨S1x1x1024, .f32⟩
  | 94 => ⟨S64x64x1024, .f32⟩
  | 95 => ⟨S64x64x1024, .f32⟩
  | 96 => ⟨S64x64x1024, .f32⟩
  | 97 => ⟨S1x1024, .f32⟩
  | 98 => ⟨S1024, .f32⟩
  | 99 => ⟨S1x1024, .f32⟩
  | 100 => ⟨S1024, .f32⟩
  | 101 => ⟨S_, .f32⟩
  | 102 => ⟨S64x64, .f32⟩
  | 103 => ⟨S64x64x1, .f32⟩
  | 104 => ⟨S_, .f32⟩
  | 105 => ⟨S64x64x1, .f32⟩
  | 106 => ⟨S64x64x1, .f32⟩
  | 107 => ⟨S_, .i32⟩
  | 108 => ⟨S_, .f32⟩
  | 109 => ⟨S64x64, .f32⟩
  | 110 => ⟨S64x64x1, .f32⟩
  | 111 => ⟨S_, .f32⟩
  | 112 => ⟨S64x64x1, .f32⟩
  | 113 => ⟨S64x64x1, .f32⟩
  | 114 => ⟨S64x64x1024, .f32⟩
  | 115 => ⟨S64x64x1024, .f32⟩
  | 116 => ⟨S64x64x1024, .f32⟩
  | 117 => ⟨S_, .f32⟩
  | 118 => ⟨S_, .f32⟩
  | 119 => ⟨S_, .f32⟩
  | 120 => ⟨S_, .f32⟩
  | 121 => ⟨S64x64, .f32⟩
  | 122 => ⟨S64x64x1, .f32⟩
  | 123 => ⟨S64x64x1, .f32⟩
  | 124 => ⟨S64x64x1, .f32⟩
  | 125 => ⟨S_, .f32⟩
  | 126 => ⟨S_, .i1⟩
  | 127 => ⟨S_, .f32⟩
  | _ => ⟨S64x512x1024, .f32⟩

abbrev hbmTy0_6 (i : Nat) : BufTy := match i % 128 with
  | 0 => ⟨S_, .f32⟩
  | 1 => ⟨S64x64x1, .f32⟩
  | 2 => ⟨S64x64x1, .f32⟩
  | 3 => ⟨S64x64x1024, .f32⟩
  | 4 => ⟨S64x64x1024, .f32⟩
  | 5 => ⟨S_, .f32⟩
  | 6 => ⟨S64x64x1, .f32⟩
  | 7 => ⟨S64x64x1, .f32⟩
  | 8 => ⟨S64x64x1, .f32⟩
  | 9 => ⟨S64x64x1024, .f32⟩
  | 10 => ⟨S64x64x1024, .f32⟩
  | 11 => ⟨S1x1x1024, .f32⟩
  | 12 => ⟨S64x64x1024, .f32⟩
  | 13 => ⟨S64x64x1024, .f32⟩
  | 14 => ⟨S1x1x1024, .f32⟩
  | 15 => ⟨S64x64x1024, .f32⟩
  | 16 => ⟨S64x64x1024, .f32⟩
  | 17 => ⟨S1x3072x1024, .f32⟩
  | 18 => ⟨S3072x1024, .f32⟩
  | 19 => ⟨S1x3072, .f32⟩
  | 20 => ⟨S3072, .f32⟩
  | 21 => ⟨S1x1024x1024, .f32⟩
  | 22 => ⟨S1024x1024, .f32⟩
  | 23 => ⟨S1x1024, .f32⟩
  | 24 => ⟨S1024, .f32⟩
  | 25 => ⟨S1024x1024, .f32⟩
  | 26 => ⟨S1024x1024, .f32⟩
  | 27 => ⟨S1024x1024, .f32⟩
  | 28 => ⟨S1024, .f32⟩
  | 29 => ⟨S1024, .f32⟩
  | 30 => ⟨S1024, .f32⟩
  | 31 => ⟨S1024x1024, .f32⟩
  | 32 => ⟨S64x64x1024, .f32⟩
  | 33 => ⟨S1x1x1024, .f32⟩
  | 34 => ⟨S64x64x1024, .f32⟩
  | 35 => ⟨S64x64x1024, .f32⟩
  | 36 => ⟨S64x64x16x64, .f32⟩
  | 37 => ⟨S64x16x64x64, .f32⟩
  | 38 => ⟨S1024x1024, .f32⟩
  | 39 => ⟨S64x64x1024, .f32⟩
  | 40 => ⟨S1x1x1024, .f32⟩
  | 41 => ⟨S64x64x1024, .f32⟩
  | 42 => ⟨S64x64x1024, .f32⟩
  | 43 => ⟨S64x64x16x64, .f32⟩
  | 44 => ⟨S64x16x64x64, .f32⟩
  | 45 => ⟨S1024x1024, .f32⟩
  | 46 => ⟨S64x64x1024, .f32⟩
  | 47 => ⟨S1x1x1024, .f32⟩
  | 48 => ⟨S64x64x1024, .f32⟩
  | 49 => ⟨S64x64x1024, .f32⟩
  | 50 => ⟨S64x64x16x64, .f32⟩
  | 51 => ⟨S64x16x64x64, .f32⟩
  | 52 => ⟨S64x16x64x64, .f32⟩
  | 53 => ⟨S_, .f32⟩
  | 54 => ⟨S64x16x64x64, .f32⟩
  | 55 => ⟨S64x16x64x64, .f32⟩
  | 56 => ⟨S_, .f32⟩
  | 57 => ⟨S_, .f32⟩
  | 58 => ⟨S64x16x64x64, .i1⟩
  | 59 => ⟨S64x16x64x64, .f32⟩
  | 60 => ⟨S64x16x64x64, .f32⟩
  | 61 => ⟨S_, .f32⟩
  | 62 => ⟨S64x16x64, .f32⟩
  | 63 => ⟨S_, .f32⟩
  | 64 => ⟨S64x16x64, .f32⟩
  | 65 => ⟨S64x16x64, .f32⟩
  | 66 => ⟨S64x16x64x1, .f32⟩
  | 67 => ⟨S64x16x64x64, .f32⟩
  | 68 => ⟨S64x16x64x64, .f32⟩
  | 69 => ⟨S64x16x64x64, .f32⟩
  | 70 => ⟨S_, .f32⟩
  | 71 => ⟨S64x16x64, .f32⟩
  | 72 => ⟨S64x16x64x1, .f32⟩
  | 73 => ⟨S64x16x64x64, .f32⟩
  | 74 => ⟨S64x16x64x64, .f32⟩
  | 75 => ⟨S64x16x64x64, .f32⟩
  | 76 => ⟨S64x64x16x64, .f32⟩
  | 77 => ⟨S64x64x1024, .f32⟩
  | 78 => ⟨S1024x1024, .f32⟩
  | 79 => ⟨S64x64x1024, .f32⟩
  | 80 => ⟨S1x1x1024, .f32⟩
  | 81 => ⟨S64x64x1024, .f32⟩
  | 82 => ⟨S64x64x1024, .f32⟩
  | 83 => ⟨S64x64x1024, .f32⟩
  | 84 => ⟨S1x1024, .f32⟩
  | 85 => ⟨S1024, .f32⟩
  | 86 => ⟨S1x1024, .f32⟩
  | 87 => ⟨S1024, .f32⟩
  | 88 => ⟨S_, .f32⟩
  | 89 => ⟨S64x64, .f32⟩
  | 90 => ⟨S64x64x1, .f32⟩
  | 91 => ⟨S_, .f32⟩
  | 92 => ⟨S64x64x1, .f32⟩
  | 93 => ⟨S64x64x1, .f32⟩
  | 94 => ⟨S_, .i32⟩
  | 95 => ⟨S_, .f32⟩
  | 96 => ⟨S64x64, .f32⟩
  | 97 => ⟨S64x64x1, .f32⟩
  | 98 => ⟨S_, .f32⟩
  | 99 => ⟨S64x64x1, .f32⟩
  | 100 => ⟨S64x64x1, .f32⟩
  | 101 => ⟨S64x64x1024, .f32⟩
  | 102 => ⟨S64x64x1024, .f32⟩
  | 103 => ⟨S64x64x1024, .f32⟩
  | 104 => ⟨S_, .f32⟩
  | 105 => ⟨S_, .f32⟩
  | 106 => ⟨S_, .f32⟩
  | 107 => ⟨S_, .f32⟩
  | 108 => ⟨S64x64, .f32⟩
  | 109 => ⟨S64x64x1, .f32⟩
  | 110 => ⟨S64x64x1, .f32⟩
  | 111 => ⟨S64x64x1, .f32⟩
  | 112 => ⟨S_, .f32⟩
  | 113 => ⟨S_, .i1⟩
  | 114 => ⟨S_, .f32⟩
  | 115 => ⟨S_, .f32⟩
  | 116 => ⟨S64x64x1, .f32⟩
  | 117 => ⟨S64x64x1, .f32⟩
  | 118 => ⟨S64x64x1024, .f32⟩
  | 119 => ⟨S64x64x1024, .f32⟩
  | 120 => ⟨S_, .f32⟩
  | 121 => ⟨S64x64x1, .f32⟩
  | 122 => ⟨S64x64x1, .f32⟩
  | 123 => ⟨S64x64x1, .f32⟩
  | 124 => ⟨S64x64x1024, .f32⟩
  | 125 => ⟨S64x64x1024, .f32⟩
  | 126 => ⟨S1x1x1024, .f32⟩
  | 127 => ⟨S64x64x1024, .f32⟩
  | _ => ⟨S64x512x1024, .f32⟩

abbrev hbmTy0_7 (i : Nat) : BufTy := match i % 128 with
  | 0 => ⟨S64x64x1024, .f32⟩
  | 1 => ⟨S1x1x1024, .f32⟩
  | 2 => ⟨S64x64x1024, .f32⟩
  | 3 => ⟨S64x64x1024, .f32⟩
  | 4 => ⟨S1x4096x1024, .f32⟩
  | 5 => ⟨S4096x1024, .f32⟩
  | 6 => ⟨S1024x4096, .f32⟩
  | 7 => ⟨S64x64x4096, .f32⟩
  | 8 => ⟨S1x4096, .f32⟩
  | 9 => ⟨S4096, .f32⟩
  | 10 => ⟨S1x1x4096, .f32⟩
  | 11 => ⟨S64x64x4096, .f32⟩
  | 12 => ⟨S64x64x4096, .f32⟩
  | 13 => ⟨S_, .f32⟩
  | 14 => ⟨S64x64x4096, .f32⟩
  | 15 => ⟨S64x64x4096, .f32⟩
  | 16 => ⟨S1x1024x4096, .f32⟩
  | 17 => ⟨S1024x4096, .f32⟩
  | 18 => ⟨S4096x1024, .f32⟩
  | 19 => ⟨S64x64x1024, .f32⟩
  | 20 => ⟨S1x1024, .f32⟩
  | 21 => ⟨S1024, .f32⟩
  | 22 => ⟨S1x1x1024, .f32⟩
  | 23 => ⟨S64x64x1024, .f32⟩
  | 24 => ⟨S64x64x1024, .f32⟩
  | 25 => ⟨S64x64x1024, .f32⟩
  | 26 => ⟨S1x1024, .f32⟩
  | 27 => ⟨S1024, .f32⟩
  | 28 => ⟨S1x1024, .f32⟩
  | 29 => ⟨S1024, .f32⟩
  | 30 => ⟨S_, .f32⟩
  | 31 => ⟨S64x64, .f32⟩
  | 32 => ⟨S64x64x1, .f32⟩
  | 33 => ⟨S_, .f32⟩
  | 34 => ⟨S64x64x1, .f32⟩
  | 35 => ⟨S64x64x1, .f32⟩
  | 36 => ⟨S_, .i32⟩
  | 37 => ⟨S_, .f32⟩
  | 38 => ⟨S64x64, .f32⟩
  | 39 => ⟨S64x64x1, .f32⟩
  | 40 => ⟨S_, .f32⟩
  | 41 => ⟨S64x64x1, .f32⟩
  | 42 => ⟨S64x64x1, .f32⟩
  | 43 => ⟨S64x64x1024, .f32⟩
  | 44 => ⟨S64x64x1024, .f32⟩
  | 45 => ⟨S64x64x1024, .f32⟩
  | 46 => ⟨S_, .f32⟩
  | 47 => ⟨S_, .f32⟩
  | 48 => ⟨S_, .f32⟩
  | 49 => ⟨S_, .f32⟩
  | 50 => ⟨S64x64, .f32⟩
  | 51 => ⟨S64x64x1, .f32⟩
  | 52 => ⟨S64x64x1, .f32⟩
  | 53 => ⟨S64x64x1, .f32⟩
  | 54 => ⟨S_, .f32⟩
  | 55 => ⟨S_, .i1⟩
  | 56 => ⟨S_, .f32⟩
  | 57 => ⟨S_, .f32⟩
  | 58 => ⟨S64x64x1, .f32⟩
  | 59 => ⟨S64x64x1, .f32⟩
  | 60 => ⟨S64x64x1024, .f32⟩
  | 61 => ⟨S64x64x1024, .f32⟩
  | 62 => ⟨S_, .f32⟩
  | 63 => ⟨S64x64x1, .f32⟩
  | 64 => ⟨S64x64x1, .f32⟩
  | 65 => ⟨S64x64x1, .f32⟩
  | 66 => ⟨S64x64x1024, .f32⟩
  | 67 => ⟨S64x64x1024, .f32⟩
  | 68 => ⟨S1x1x1024, .f32⟩
  | 69 => ⟨S64x64x1024, .f32⟩
  | 70 => ⟨S64x64x1024, .f32⟩
  | 71 => ⟨S1x1x1024, .f32⟩
  | 72 => ⟨S64x64x1024, .f32⟩
  | 73 => ⟨S64x64x1024, .f32⟩
  | 74 => ⟨S1x3072x1024, .f32⟩
  | 75 => ⟨S3072x1024, .f32⟩
  | 76 => ⟨S1x3072, .f32⟩
  | 77 => ⟨S3072, .f32⟩
  | 78 => ⟨S1x1024x1024, .f32⟩
  | 79 => ⟨S1024x1024, .f32⟩
  | 80 => ⟨S1x1024, .f32⟩
  | 81 => ⟨S1024, .f32⟩
  | 82 => ⟨S1024x1024, .f32⟩
  | 83 => ⟨S1024x1024, .f32⟩
  | 84 => ⟨S1024x1024, .f32⟩
  | 85 => ⟨S1024, .f32⟩
  | 86 => ⟨S1024, .f32⟩
  | 87 => ⟨S1024, .f32⟩
  | 88 => ⟨S1024x1024, .f32⟩
  | 89 => ⟨S64x64x1024, .f32⟩
  | 90 => ⟨S1x1x1024, .f32⟩
  | 91 => ⟨S64x64x1024, .f32⟩
  | 92 => ⟨S64x64x1024, .f32⟩
  | 93 => ⟨S64x64x16x64, .f32⟩
  | 94 => ⟨S64x16x64x64, .f32⟩
  | 95 => ⟨S1024x1024, .f32⟩
  | 96 => ⟨S64x512x1024, .f32⟩
  | 97 => ⟨S1x1x1024, .f32⟩
  | 98 => ⟨S64x512x1024, .f32⟩
  | 99 => ⟨S64x512x1024, .f32⟩
  | 100 => ⟨S64x512x16x64, .f32⟩
  | 101 => ⟨S64x16x512x64, .f32⟩
  | 102 => ⟨S1024x1024, .f32⟩
  | 103 => ⟨S64x512x1024, .f32⟩
  | 104 => ⟨S1x1x1024, .f32⟩
  | 105 => ⟨S64x512x1024, .f32⟩
  | 106 => ⟨S64x512x1024, .f32⟩
  | 107 => ⟨S64x512x16x64, .f32⟩
  | 108 => ⟨S64x16x512x64, .f32⟩
  | 109 => ⟨S64x16x64x512, .f32⟩
  | 110 => ⟨S_, .f32⟩
  | 111 => ⟨S64x16x64x512, .f32⟩
  | 112 => ⟨S64x16x64x512, .f32⟩
  | 113 => ⟨S_, .f32⟩
  | 114 => ⟨S64x16x64, .f32⟩
  | 115 => ⟨S_, .f32⟩
  | 116 => ⟨S64x16x64, .f32⟩
  | 117 => ⟨S64x16x64, .f32⟩
  | 118 => ⟨S64x16x64x1, .f32⟩
  | 119 => ⟨S64x16x64x512, .f32⟩
  | 120 => ⟨S64x16x64x512, .f32⟩
  | 121 => ⟨S64x16x64x512, .f32⟩
  | 122 => ⟨S_, .f32⟩
  | 123 => ⟨S64x16x64, .f32⟩
  | 124 => ⟨S64x16x64x1, .f32⟩
  | 125 => ⟨S64x16x64x512, .f32⟩
  | 126 => ⟨S64x16x64x512, .f32⟩
  | 127 => ⟨S64x16x64x64, .f32⟩
  | _ => ⟨S64x512x1024, .f32⟩

abbrev hbmTy0_8 (i : Nat) : BufTy := match i % 128 with
  | 0 => ⟨S64x64x16x64, .f32⟩
  | 1 => ⟨S64x64x1024, .f32⟩
  | 2 => ⟨S1024x1024, .f32⟩
  | 3 => ⟨S64x64x1024, .f32⟩
  | 4 => ⟨S1x1x1024, .f32⟩
  | 5 => ⟨S64x64x1024, .f32⟩
  | 6 => ⟨S64x64x1024, .f32⟩
  | 7 => ⟨S64x64x1024, .f32⟩
  | 8 => ⟨S1x1024, .f32⟩
  | 9 => ⟨S1024, .f32⟩
  | 10 => ⟨S1x1024, .f32⟩
  | 11 => ⟨S1024, .f32⟩
  | 12 => ⟨S_, .f32⟩
  | 13 => ⟨S64x64, .f32⟩
  | 14 => ⟨S64x64x1, .f32⟩
  | 15 => ⟨S_, .f32⟩
  | 16 => ⟨S64x64x1, .f32⟩
  | 17 => ⟨S64x64x1, .f32⟩
  | 18 => ⟨S_, .i32⟩
  | 19 => ⟨S_, .f32⟩
  | 20 => ⟨S64x64, .f32⟩
  | 21 => ⟨S64x64x1, .f32⟩
  | 22 => ⟨S_, .f32⟩
  | 23 => ⟨S64x64x1, .f32⟩
  | 24 => ⟨S64x64x1, .f32⟩
  | 25 => ⟨S64x64x1024, .f32⟩
  | 26 => ⟨S64x64x1024, .f32⟩
  | 27 => ⟨S64x64x1024, .f32⟩
  | 28 => ⟨S_, .f32⟩
  | 29 => ⟨S_, .f32⟩
  | 30 => ⟨S_, .f32⟩
  | 31 => ⟨S_, .f32⟩
  | 32 => ⟨S64x64, .f32⟩
  | 33 => ⟨S64x64x1, .f32⟩
  | 34 => ⟨S64x64x1, .f32⟩
  | 35 => ⟨S64x64x1, .f32⟩
  | 36 => ⟨S_, .f32⟩
  | 37 => ⟨S_, .i1⟩
  | 38 => ⟨S_, .f32⟩
  | 39 => ⟨S_, .f32⟩
  | 40 => ⟨S64x64x1, .f32⟩
  | 41 => ⟨S64x64x1, .f32⟩
  | 42 => ⟨S64x64x1024, .f32⟩
  | 43 => ⟨S64x64x1024, .f32⟩
  | 44 => ⟨S_, .f32⟩
  | 45 => ⟨S64x64x1, .f32⟩
  | 46 => ⟨S64x64x1, .f32⟩
  | 47 => ⟨S64x64x1, .f32⟩
  | 48 => ⟨S64x64x1024, .f32⟩
  | 49 => ⟨S64x64x1024, .f32⟩
  | 50 => ⟨S1x1x1024, .f32⟩
  | 51 => ⟨S64x64x1024, .f32⟩
  | 52 => ⟨S64x64x1024, .f32⟩
  | 53 => ⟨S1x1x1024, .f32⟩
  | 54 => ⟨S64x64x1024, .f32⟩
  | 55 => ⟨S64x64x1024, .f32⟩
  | 56 => ⟨S1x3072x1024, .f32⟩
  | 57 => ⟨S3072x1024, .f32⟩
  | 58 => ⟨S1x3072, .f32⟩
  | 59 => ⟨S3072, .f32⟩
  | 60 => ⟨S1x1024x1024, .f32⟩
  | 61 => ⟨S1024x1024, .f32⟩
  | 62 => ⟨S1x1024, .f32⟩
  | 63 => ⟨S1024, .f32⟩
  | 64 => ⟨S1024x1024, .f32⟩
  | 65 => ⟨S1024x1024, .f32⟩
  | 66 => ⟨S1024x1024, .f32⟩
  | 67 => ⟨S1024, .f32⟩
  | 68 => ⟨S1024, .f32⟩
  | 69 => ⟨S1024, .f32⟩
  | 70 => ⟨S1024x1024, .f32⟩
  | 71 => ⟨S64x64x1024, .f32⟩
  | 72 => ⟨S1x1x1024, .f32⟩
  | 73 => ⟨S64x64x1024, .f32⟩
  | 74 => ⟨S64x64x1024, .f32⟩
  | 75 => ⟨S64x64x16x64, .f32⟩
  | 76 => ⟨S64x16x64x64, .f32⟩
  | 77 => ⟨S1024x1024, .f32⟩
  | 78 => ⟨S64x64x1024, .f32⟩
  | 79 => ⟨S1x1x1024, .f32⟩
  | 80 => ⟨S64x64x1024, .f32⟩
  | 81 => ⟨S64x64x1024, .f32⟩
  | 82 => ⟨S64x64x16x64, .f32⟩
  | 83 => ⟨S64x16x64x64, .f32⟩
  | 84 => ⟨S1024x1024, .f32⟩
  | 85 => ⟨S64x64x1024, .f32⟩
  | 86 => ⟨S1x1x1024, .f32⟩
  | 87 => ⟨S64x64x1024, .f32⟩
  | 88 => ⟨S64x64x1024, .f32⟩
  | 89 => ⟨S64x64x16x64, .f32⟩
  | 90 => ⟨S64x16x64x64, .f32⟩
  | 91 => ⟨S64x16x64x64, .f32⟩
  | 92 => ⟨S_, .f32⟩
  | 93 => ⟨S64x16x64x64, .f32⟩
  | 94 => ⟨S64x16x64x64, .f32⟩
  | 95 => ⟨S_, .f32⟩
  | 96 => ⟨S_, .f32⟩
  | 97 => ⟨S64x16x64x64, .i1⟩
  | 98 => ⟨S64x16x64x64, .f32⟩
  | 99 => ⟨S64x16x64x64, .f32⟩
  | 100 => ⟨S_, .f32⟩
  | 101 => ⟨S64x16x64, .f32⟩
  | 102 => ⟨S_, .f32⟩
  | 103 => ⟨S64x16x64, .f32⟩
  | 104 => ⟨S64x16x64, .f32⟩
  | 105 => ⟨S64x16x64x1, .f32⟩
  | 106 => ⟨S64x16x64x64, .f32⟩
  | 107 => ⟨S64x16x64x64, .f32⟩
  | 108 => ⟨S64x16x64x64, .f32⟩
  | 109 => ⟨S_, .f32⟩
  | 110 => ⟨S64x16x64, .f32⟩
  | 111 => ⟨S64x16x64x1, .f32⟩
  | 112 => ⟨S64x16x64x64, .f32⟩
  | 113 => ⟨S64x16x64x64, .f32⟩
  | 114 => ⟨S64x16x64x64, .f32⟩
  | 115 => ⟨S64x64x16x64, .f32⟩
  | 116 => ⟨S64x64x1024, .f32⟩
  | 117 => ⟨S1024x1024, .f32⟩
  | 118 => ⟨S64x64x1024, .f32⟩
  | 119 => ⟨S1x1x1024, .f32⟩
  | 120 => ⟨S64x64x1024, .f32⟩
  | 121 => ⟨S64x64x1024, .f32⟩
  | 122 => ⟨S64x64x1024, .f32⟩
  | 123 => ⟨S1x1024, .f32⟩
  | 124 => ⟨S1024, .f32⟩
  | 125 => ⟨S1x1024, .f32⟩
  | 126 => ⟨S1024, .f32⟩
  | 127 => ⟨S_, .f32⟩
  | _ => ⟨S64x512x1024, .f32⟩

abbrev hbmTy0_9 (i : Nat) : BufTy := match i % 128 with
  | 0 => ⟨S64x64, .f32⟩
  | 1 => ⟨S64x64x1, .f32⟩
  | 2 => ⟨S_, .f32⟩
  | 3 => ⟨S64x64x1, .f32⟩
  | 4 => ⟨S64x64x1, .f32⟩
  | 5 => ⟨S_, .i32⟩
  | 6 => ⟨S_, .f32⟩
  | 7 => ⟨S64x64, .f32⟩
  | 8 => ⟨S64x64x1, .f32⟩
  | 9 => ⟨S_, .f32⟩
  | 10 => ⟨S64x64x1, .f32⟩
  | 11 => ⟨S64x64x1, .f32⟩
  | 12 => ⟨S64x64x1024, .f32⟩
  | 13 => ⟨S64x64x1024, .f32⟩
  | 14 => ⟨S64x64x1024, .f32⟩
  | 15 => ⟨S_, .f32⟩
  | 16 => ⟨S_, .f32⟩
  | 17 => ⟨S_, .f32⟩
  | 18 => ⟨S_, .f32⟩
  | 19 => ⟨S64x64, .f32⟩
  | 20 => ⟨S64x64x1, .f32⟩
  | 21 => ⟨S64x64x1, .f32⟩
  | 22 => ⟨S64x64x1, .f32⟩
  | 23 => ⟨S_, .f32⟩
  | 24 => ⟨S_, .i1⟩
  | 25 => ⟨S_, .f32⟩
  | 26 => ⟨S_, .f32⟩
  | 27 => ⟨S64x64x1, .f32⟩
  | 28 => ⟨S64x64x1, .f32⟩
  | 29 => ⟨S64x64x1024, .f32⟩
  | 30 => ⟨S64x64x1024, .f32⟩
  | 31 => ⟨S_, .f32⟩
  | 32 => ⟨S64x64x1, .f32⟩
  | 33 => ⟨S64x64x1, .f32⟩
  | 34 => ⟨S64x64x1, .f32⟩
  | 35 => ⟨S64x64x1024, .f32⟩
  | 36 => ⟨S64x64x1024, .f32⟩
  | 37 => ⟨S1x1x1024, .f32⟩
  | 38 => ⟨S64x64x1024, .f32⟩
  | 39 => ⟨S64x64x1024, .f32⟩
  | 40 => ⟨S1x1x1024, .f32⟩
  | 41 => ⟨S64x64x1024, .f32⟩
  | 42 => ⟨S64x64x1024, .f32⟩
  | 43 => ⟨S1x4096x1024, .f32⟩
  | 44 => ⟨S4096x1024, .f32⟩
  | 45 => ⟨S1024x4096, .f32⟩
  | 46 => ⟨S64x64x4096, .f32⟩
  | 47 => ⟨S1x4096, .f32⟩
  | 48 => ⟨S4096, .f32⟩
  | 49 => ⟨S1x1x4096, .f32⟩
  | 50 => ⟨S64x64x4096, .f32⟩
  | 51 => ⟨S64x64x4096, .f32⟩
  | 52 => ⟨S_, .f32⟩
  | 53 => ⟨S64x64x4096, .f32⟩
  | 54 => ⟨S64x64x4096, .f32⟩
  | 55 => ⟨S1x1024x4096, .f32⟩
  | 56 => ⟨S1024x4096, .f32⟩
  | 57 => ⟨S4096x1024, .f32⟩
  | 58 => ⟨S64x64x1024, .f32⟩
  | 59 => ⟨S1x1024, .f32⟩
  | 60 => ⟨S1024, .f32⟩
  | 61 => ⟨S1x1x1024, .f32⟩
  | 62 => ⟨S64x64x1024, .f32⟩
  | 63 => ⟨S64x64x1024, .f32⟩
  | 64 => ⟨S64x64x1024, .f32⟩
  | 65 => ⟨S1x1024, .f32⟩
  | 66 => ⟨S1024, .f32⟩
  | 67 => ⟨S1x1024, .f32⟩
  | 68 => ⟨S1024, .f32⟩
  | 69 => ⟨S_, .f32⟩
  | 70 => ⟨S64x64, .f32⟩
  | 71 => ⟨S64x64x1, .f32⟩
  | 72 => ⟨S_, .f32⟩
  | 73 => ⟨S64x64x1, .f32⟩
  | 74 => ⟨S64x64x1, .f32⟩
  | 75 => ⟨S_, .i32⟩
  | 76 => ⟨S_, .f32⟩
  | 77 => ⟨S64x64, .f32⟩
  | 78 => ⟨S64x64x1, .f32⟩
  | 79 => ⟨S_, .f32⟩
  | 80 => ⟨S64x64x1, .f32⟩
  | 81 => ⟨S64x64x1, .f32⟩
  | 82 => ⟨S64x64x1024, .f32⟩
  | 83 => ⟨S64x64x1024, .f32⟩
  | 84 => ⟨S64x64x1024, .f32⟩
  | 85 => ⟨S_, .f32⟩
  | 86 => ⟨S_, .f32⟩
  | 87 => ⟨S_, .f32⟩
  | 88 => ⟨S_, .f32⟩
  | 89 => ⟨S64x64, .f32⟩
  | 90 => ⟨S64x64x1, .f32⟩
  | 91 => ⟨S64x64x1, .f32⟩
  | 92 => ⟨S64x64x1, .f32⟩
  | 93 => ⟨S_, .f32⟩
  | 94 => ⟨S_, .i1⟩
  | 95 => ⟨S_, .f32⟩
  | 96 => ⟨S_, .f32⟩
  | 97 => ⟨S64x64x1, .f32⟩
  | 98 => ⟨S64x64x1, .f32⟩
  | 99 => ⟨S64x64x1024, .f32⟩
  | 100 => ⟨S64x64x1024, .f32⟩
  | 101 => ⟨S_, .f32⟩
  | 102 => ⟨S64x64x1, .f32⟩
  | 103 => ⟨S64x64x1, .f32⟩
  | 104 => ⟨S64x64x1, .f32⟩
  | 105 => ⟨S64x64x1024, .f32⟩
  | 106 => ⟨S64x64x1024, .f32⟩
  | 107 => ⟨S1x1x1024, .f32⟩
  | 108 => ⟨S64x64x1024, .f32⟩
  | 109 => ⟨S64x64x1024, .f32⟩
  | 110 => ⟨S1x1x1024, .f32⟩
  | 111 => ⟨S64x64x1024, .f32⟩
  | 112 => ⟨S64x64x1024, .f32⟩
  | 113 => ⟨S1x3072x1024, .f32⟩
  | 114 => ⟨S3072x1024, .f32⟩
  | 115 => ⟨S1x3072, .f32⟩
  | 116 => ⟨S3072, .f32⟩
  | 117 => ⟨S1x1024x1024, .f32⟩
  | 118 => ⟨S1024x1024, .f32⟩
  | 119 => ⟨S1x1024, .f32⟩
  | 120 => ⟨S1024, .f32⟩
  | 121 => ⟨S1024x1024, .f32⟩
  | 122 => ⟨S1024x1024, .f32⟩
  | 123 => ⟨S1024x1024, .f32⟩
  | 124 => ⟨S1024, .f32⟩
  | 125 => ⟨S1024, .f32⟩
  | 126 => ⟨S1024, .f32⟩
  | 127 => ⟨S1024x1024, .f32⟩
  | _ => ⟨S64x512x1024, .f32⟩

abbrev hbmTy0_10 (i : Nat) : BufTy := match i % 128 with
  | 0 => ⟨S64x64x1024, .f32⟩
  | 1 => ⟨S1x1x1024, .f32⟩
  | 2 => ⟨S64x64x1024, .f32⟩
  | 3 => ⟨S64x64x1024, .f32⟩
  | 4 => ⟨S64x64x16x64, .f32⟩
  | 5 => ⟨S64x16x64x64, .f32⟩
  | 6 => ⟨S1024x1024, .f32⟩
  | 7 => ⟨S64x512x1024, .f32⟩
  | 8 => ⟨S1x1x1024, .f32⟩
  | 9 => ⟨S64x512x1024, .f32⟩
  | 10 => ⟨S64x512x1024, .f32⟩
  | 11 => ⟨S64x512x16x64, .f32⟩
  | 12 => ⟨S64x16x512x64, .f32⟩
  | 13 => ⟨S1024x1024, .f32⟩
  | 14 => ⟨S64x512x1024, .f32⟩
  | 15 => ⟨S1x1x1024, .f32⟩
  | 16 => ⟨S64x512x1024, .f32⟩
  | 17 => ⟨S64x512x1024, .f32⟩
  | 18 => ⟨S64x512x16x64, .f32⟩
  | 19 => ⟨S64x16x512x64, .f32⟩
  | 20 => ⟨S64x16x64x512, .f32⟩
  | 21 => ⟨S_, .f32⟩
  | 22 => ⟨S64x16x64x512, .f32⟩
  | 23 => ⟨S64x16x64x512, .f32⟩
  | 24 => ⟨S_, .f32⟩
  | 25 => ⟨S64x16x64, .f32⟩
  | 26 => ⟨S_, .f32⟩
  | 27 => ⟨S64x16x64, .f32⟩
  | 28 => ⟨S64x16x64, .f32⟩
  | 29 => ⟨S64x16x64x1, .f32⟩
  | 30 => ⟨S64x16x64x512, .f32⟩
  | 31 => ⟨S64x16x64x512, .f32⟩
  | 32 => ⟨S64x16x64x512, .f32⟩
  | 33 => ⟨S_, .f32⟩
  | 34 => ⟨S64x16x64, .f32⟩
  | 35 => ⟨S64x16x64x1, .f32⟩
  | 36 => ⟨S64x16x64x512, .f32⟩
  | 37 => ⟨S64x16x64x512, .f32⟩
  | 38 => ⟨S64x16x64x64, .f32⟩
  | 39 => ⟨S64x64x16x64, .f32⟩
  | 40 => ⟨S64x64x1024, .f32⟩
  | 41 => ⟨S1024x1024, .f32⟩
  | 42 => ⟨S64x64x1024, .f32⟩
  | 43 => ⟨S1x1x1024, .f32⟩
  | 44 => ⟨S64x64x1024, .f32⟩
  | 45 => ⟨S64x64x1024, .f32⟩
  | 46 => ⟨S64x64x1024, .f32⟩
  | 47 => ⟨S1x1024, .f32⟩
  | 48 => ⟨S1024, .f32⟩
  | 49 => ⟨S1x1024, .f32⟩
  | 50 => ⟨S1024, .f32⟩
  | 51 => ⟨S_, .f32⟩
  | 52 => ⟨S64x64, .f32⟩
  | 53 => ⟨S64x64x1, .f32⟩
  | 54 => ⟨S_, .f32⟩
  | 55 => ⟨S64x64x1, .f32⟩
  | 56 => ⟨S64x64x1, .f32⟩
  | 57 => ⟨S_, .i32⟩
  | 58 => ⟨S_, .f32⟩
  | 59 => ⟨S64x64, .f32⟩
  | 60 => ⟨S64x64x1, .f32⟩
  | 61 => ⟨S_, .f32⟩
  | 62 => ⟨S64x64x1, .f32⟩
  | 63 => ⟨S64x64x1, .f32⟩
  | 64 => ⟨S64x64x1024, .f32⟩
  | 65 => ⟨S64x64x1024, .f32⟩
  | 66 => ⟨S64x64x1024, .f32⟩
  | 67 => ⟨S_, .f32⟩
  | 68 => ⟨S_, .f32⟩
  | 69 => ⟨S_, .f32⟩
  | 70 => ⟨S_, .f32⟩
  | 71 => ⟨S64x64, .f32⟩
  | 72 => ⟨S64x64x1, .f32⟩
  | 73 => ⟨S64x64x1, .f32⟩
  | 74 => ⟨S64x64x1, .f32⟩
  | 75 => ⟨S_, .f32⟩
  | 76 => ⟨S_, .i1⟩
  | 77 => ⟨S_, .f32⟩
  | 78 => ⟨S_, .f32⟩
  | 79 => ⟨S64x64x1, .f32⟩
  | 80 => ⟨S64x64x1, .f32⟩
  | 81 => ⟨S64x64x1024, .f32⟩
  | 82 => ⟨S64x64x1024, .f32⟩
  | 83 => ⟨S_, .f32⟩
  | 84 => ⟨S64x64x1, .f32⟩
  | 85 => ⟨S64x64x1, .f32⟩
  | 86 => ⟨S64x64x1, .f32⟩
  | 87 => ⟨S64x64x1024, .f32⟩
  | 88 => ⟨S64x64x1024, .f32⟩
  | 89 => ⟨S1x1x1024, .f32⟩
  | 90 => ⟨S64x64x1024, .f32⟩
  | 91 => ⟨S64x64x1024, .f32⟩
  | 92 => ⟨S1x1x1024, .f32⟩
  | 93 => ⟨S64x64x1024, .f32⟩
  | 94 => ⟨S64x64x1024, .f32⟩
  | 95 => ⟨S1x3072x1024, .f32⟩
  | 96 => ⟨S3072x1024, .f32⟩
  | 97 => ⟨S1x3072, .f32⟩
  | 98 => ⟨S3072, .f32⟩
  | 99 => ⟨S1x1024x1024, .f32⟩
  | 100 => ⟨S1024x1024, .f32⟩
  | 101 => ⟨S1x1024, .f32⟩
  | 102 => ⟨S1024, .f32⟩
  | 103 => ⟨S1024x1024, .f32⟩
  | 104 => ⟨S1024x1024, .f32⟩
  | 105 => ⟨S1024x1024, .f32⟩
  | 106 => ⟨S1024, .f32⟩
  | 107 => ⟨S1024, .f32⟩
  | 108 => ⟨S1024, .f32⟩
  | 109 => ⟨S1024x1024, .f32⟩
  | 110 => ⟨S64x64x1024, .f32⟩
  | 111 => ⟨S1x1x1024, .f32⟩
  | 112 => ⟨S64x64x1024, .f32⟩
  | 113 => ⟨S64x64x1024, .f32⟩
  | 114 => ⟨S64x64x16x64, .f32⟩
  | 115 => ⟨S64x16x64x64, .f32⟩
  | 116 => ⟨S1024x1024, .f32⟩
  | 117 => ⟨S64x64x1024, .f32⟩
  | 118 => ⟨S1x1x1024, .f32⟩
  | 119 => ⟨S64x64x1024, .f32⟩
  | 120 => ⟨S64x64x1024, .f32⟩
  | 121 => ⟨S64x64x16x64, .f32⟩
  | 122 => ⟨S64x16x64x64, .f32⟩
  | 123 => ⟨S1024x1024, .f32⟩
  | 124 => ⟨S64x64x1024, .f32⟩
  | 125 => ⟨S1x1x1024, .f32⟩
  | 126 => ⟨S64x64x1024, .f32⟩
  | 127 => ⟨S64x64x1024, .f32⟩
  | _ => ⟨S64x512x1024, .f32⟩

abbrev hbmTy0_11 (i : Nat) : BufTy := match i % 128 with
  | 0 => ⟨S64x64x16x64, .f32⟩
  | 1 => ⟨S64x16x64x64, .f32⟩
  | 2 => ⟨S64x16x64x64, .f32⟩
  | 3 => ⟨S_, .f32⟩
  | 4 => ⟨S64x16x64x64, .f32⟩
  | 5 => ⟨S64x16x64x64, .f32⟩
  | 6 => ⟨S_, .f32⟩
  | 7 => ⟨S_, .f32⟩
  | 8 => ⟨S64x16x64x64, .i1⟩
  | 9 => ⟨S64x16x64x64, .f32⟩
  | 10 => ⟨S64x16x64x64, .f32⟩
  | 11 => ⟨S_, .f32⟩
  | 12 => ⟨S64x16x64, .f32⟩
  | 13 => ⟨S_, .f32⟩
  | 14 => ⟨S64x16x64, .f32⟩
  | 15 => ⟨S64x16x64, .f32⟩
  | 16 => ⟨S64x16x64x1, .f32⟩
  | 17 => ⟨S64x16x64x64, .f32⟩
  | 18 => ⟨S64x16x64x64, .f32⟩
  | 19 => ⟨S64x16x64x64, .f32⟩
  | 20 => ⟨S_, .f32⟩
  | 21 => ⟨S64x16x64, .f32⟩
  | 22 => ⟨S64x16x64x1, .f32⟩
  | 23 => ⟨S64x16x64x64, .f32⟩
  | 24 => ⟨S64x16x64x64, .f32⟩
  | 25 => ⟨S64x16x64x64, .f32⟩
  | 26 => ⟨S64x64x16x64, .f32⟩
  | 27 => ⟨S64x64x1024, .f32⟩
  | 28 => ⟨S1024x1024, .f32⟩
  | 29 => ⟨S64x64x1024, .f32⟩
  | 30 => ⟨S1x1x1024, .f32⟩
  | 31 => ⟨S64x64x1024, .f32⟩
  | 32 => ⟨S64x64x1024, .f32⟩
  | 33 => ⟨S64x64x1024, .f32⟩
  | 34 => ⟨S1x1024, .f32⟩
  | 35 => ⟨S1024, .f32⟩
  | 36 => ⟨S1x1024, .f32⟩
  | 37 => ⟨S1024, .f32⟩
  | 38 => ⟨S_, .f32⟩
  | 39 => ⟨S64x64, .f32⟩
  | 40 => ⟨S64x64x1, .f32⟩
  | 41 => ⟨S_, .f32⟩
  | 42 => ⟨S64x64x1, .f32⟩
  | 43 => ⟨S64x64x1, .f32⟩
  | 44 => ⟨S_, .i32⟩
  | 45 => ⟨S_, .f32⟩
  | 46 => ⟨S64x64, .f32⟩
  | 47 => ⟨S64x64x1, .f32⟩
  | 48 => ⟨S_, .f32⟩
  | 49 => ⟨S64x64x1, .f32⟩
  | 50 => ⟨S64x64x1, .f32⟩
  | 51 => ⟨S64x64x1024, .f32⟩
  | 52 => ⟨S64x64x1024, .f32⟩
  | 53 => ⟨S64x64x1024, .f32⟩
  | 54 => ⟨S_, .f32⟩
  | 55 => ⟨S_, .f32⟩
  | 56 => ⟨S_, .f32⟩
  | 57 => ⟨S_, .f32⟩
  | 58 => ⟨S64x64, .f32⟩
  | 59 => ⟨S64x64x1, .f32⟩
  | 60 => ⟨S64x64x1, .f32⟩
  | 61 => ⟨S64x64x1, .f32⟩
  | 62 => ⟨S_, .f32⟩
  | 63 => ⟨S_, .i1⟩
  | 64 => ⟨S_, .f32⟩
  | 65 => ⟨S_, .f32⟩
  | 66 => ⟨S64x64x1, .f32⟩
  | 67 => ⟨S64x64x1, .f32⟩
  | 68 => ⟨S64x64x1024, .f32⟩
  | 69 => ⟨S64x64x1024, .f32⟩
  | 70 => ⟨S_, .f32⟩
  | 71 => ⟨S64x64x1, .f32⟩
  | 72 => ⟨S64x64x1, .f32⟩
  | 73 => ⟨S64x64x1, .f32⟩
  | 74 => ⟨S64x64x1024, .f32⟩
  | 75 => ⟨S64x64x1024, .f32⟩
  | 76 => ⟨S1x1x1024, .f32⟩
  | 77 => ⟨S64x64x1024, .f32⟩
  | 78 => ⟨S64x64x1024, .f32⟩
  | 79 => ⟨S1x1x1024, .f32⟩
  | 80 => ⟨S64x64x1024, .f32⟩
  | 81 => ⟨S64x64x1024, .f32⟩
  | 82 => ⟨S1x4096x1024, .f32⟩
  | 83 => ⟨S4096x1024, .f32⟩
  | 84 => ⟨S1024x4096, .f32⟩
  | 85 => ⟨S64x64x4096, .f32⟩
  | 86 => ⟨S1x4096, .f32⟩
  | 87 => ⟨S4096, .f32⟩
  | 88 => ⟨S1x1x4096, .f32⟩
  | 89 => ⟨S64x64x4096, .f32⟩
  | 90 => ⟨S64x64x4096, .f32⟩
  | 91 => ⟨S_, .f32⟩
  | 92 => ⟨S64x64x4096, .f32⟩
  | 93 => ⟨S64x64x4096, .f32⟩
  | 94 => ⟨S1x1024x4096, .f32⟩
  | 95 => ⟨S1024x4096, .f32⟩
  | 96 => ⟨S4096x1024, .f32⟩
  | 97 => ⟨S64x64x1024, .f32⟩
  | 98 => ⟨S1x1024, .f32⟩
  | 99 => ⟨S1024, .f32⟩
  | 100 => ⟨S1x1x1024, .f32⟩
  | 101 => ⟨S64x64x1024, .f32⟩
  | 102 => ⟨S64x64x1024, .f32⟩
  | 103 => ⟨S64x64x1024, .f32⟩
  | 104 => ⟨S1x1024, .f32⟩
  | 105 => ⟨S1024, .f32⟩
  | 106 => ⟨S1x1024, .f32⟩
  | 107 => ⟨S1024, .f32⟩
  | 108 => ⟨S_, .f32⟩
  | 109 => ⟨S64x64, .f32⟩
  | 110 => ⟨S64x64x1, .f32⟩
  | 111 => ⟨S_, .f32⟩
  | 112 => ⟨S64x64x1, .f32⟩
  | 113 => ⟨S64x64x1, .f32⟩
  | 114 => ⟨S_, .i32⟩
  | 115 => ⟨S_, .f32⟩
  | 116 => ⟨S64x64, .f32⟩
  | 117 => ⟨S64x64x1, .f32⟩
  | 118 => ⟨S_, .f32⟩
  | 119 => ⟨S64x64x1, .f32⟩
  | 120 => ⟨S64x64x1, .f32⟩
  | 121 => ⟨S64x64x1024, .f32⟩
  | 122 => ⟨S64x64x1024, .f32⟩
  | 123 => ⟨S64x64x1024, .f32⟩
  | 124 => ⟨S_, .f32⟩
  | 125 => ⟨S_, .f32⟩
  | 126 => ⟨S_, .f32⟩
  | 127 => ⟨S_, .f32⟩
  | _ => ⟨S64x512x1024, .f32⟩

abbrev hbmTy0_12 (i : Nat) : BufTy := match i % 128 with
  | 0 => ⟨S64x64, .f32⟩
  | 1 => ⟨S64x64x1, .f32⟩
  | 2 => ⟨S64x64x1, .f32⟩
  | 3 => ⟨S64x64x1, .f32⟩
  | 4 => ⟨S_, .f32⟩
  | 5 => ⟨S_, .i1⟩
  | 6 => ⟨S_, .f32⟩
  | 7 => ⟨S_, .f32⟩
  | 8 => ⟨S64x64x1, .f32⟩
  | 9 => ⟨S64x64x1, .f32⟩
  | 10 => ⟨S64x64x1024, .f32⟩
  | 11 => ⟨S64x64x1024, .f32⟩
  | 12 => ⟨S_, .f32⟩
  | 13 => ⟨S64x64x1, .f32⟩
  | 14 => ⟨S64x64x1, .f32⟩
  | 15 => ⟨S64x64x1, .f32⟩
  | 16 => ⟨S64x64x1024, .f32⟩
  | 17 => ⟨S64x64x1024, .f32⟩
  | 18 => ⟨S1x1x1024, .f32⟩
  | 19 => ⟨S64x64x1024, .f32⟩
  | 20 => ⟨S64x64x1024, .f32⟩
  | 21 => ⟨S1x1x1024, .f32⟩
  | 22 => ⟨S64x64x1024, .f32⟩
  | 23 => ⟨S64x64x1024, .f32⟩
  | 24 => ⟨S1x3072x1024, .f32⟩
  | 25 => ⟨S3072x1024, .f32⟩
  | 26 => ⟨S1x3072, .f32⟩
  | 27 => ⟨S3072, .f32⟩
  | 28 => ⟨S1x1024x1024, .f32⟩
  | 29 => ⟨S1024x1024, .f32⟩
  | 30 => ⟨S1x1024, .f32⟩
  | 31 => ⟨S1024, .f32⟩
  | 32 => ⟨S1024x1024, .f32⟩
  | 33 => ⟨S1024x1024, .f32⟩
  | 34 => ⟨S1024x1024, .f32⟩
  | 35 => ⟨S1024, .f32⟩
  | 36 => ⟨S1024, .f32⟩
  | 37 => ⟨S1024, .f32⟩
  | 38 => ⟨S1024x1024, .f32⟩
  | 39 => ⟨S64x64x1024, .f32⟩
  | 40 => ⟨S1x1x1024, .f32⟩
  | 41 => ⟨S64x64x1024, .f32⟩
  | 42 => ⟨S64x64x1024, .f32⟩
  | 43 => ⟨S64x64x16x64, .f32⟩
  | 44 => ⟨S64x16x64x64, .f32⟩
  | 45 => ⟨S1024x1024, .f32⟩
  | 46 => ⟨S64x512x1024, .f32⟩
  | 47 => ⟨S1x1x1024, .f32⟩
  | 48 => ⟨S64x512x1024, .f32⟩
  | 49 => ⟨S64x512x1024, .f32⟩
  | 50 => ⟨S64x512x16x64, .f32⟩
  | 51 => ⟨S64x16x512x64, .f32⟩
  | 52 => ⟨S1024x1024, .f32⟩
  | 53 => ⟨S64x512x1024, .f32⟩
  | 54 => ⟨S1x1x1024, .f32⟩
  | 55 => ⟨S64x512x1024, .f32⟩
  | 56 => ⟨S64x512x1024, .f32⟩
  | 57 => ⟨S64x512x16x64, .f32⟩
  | 58 => ⟨S64x16x512x64, .f32⟩
  | 59 => ⟨S64x16x64x512, .f32⟩
  | 60 => ⟨S_, .f32⟩
  | 61 => ⟨S64x16x64x512, .f32⟩
  | 62 => ⟨S64x16x64x512, .f32⟩
  | 63 => ⟨S_, .f32⟩
  | 64 => ⟨S64x16x64, .f32⟩
  | 65 => ⟨S_, .f32⟩
  | 66 => ⟨S64x16x64, .f32⟩
  | 67 => ⟨S64x16x64, .f32⟩
  | 68 => ⟨S64x16x64x1, .f32⟩
  | 69 => ⟨S64x16x64x512, .f32⟩
  | 70 => ⟨S64x16x64x512, .f32⟩
  | 71 => ⟨S64x16x64x512, .f32⟩
  | 72 => ⟨S_, .f32⟩
  | 73 => ⟨S64x16x64, .f32⟩
  | 74 => ⟨S64x16x64x1, .f32⟩
  | 75 => ⟨S64x16x64x512, .f32⟩
  | 76 => ⟨S64x16x64x512, .f32⟩
  | 77 => ⟨S64x16x64x64, .f32⟩
  | 78 => ⟨S64x64x16x64, .f32⟩
  | 79 => ⟨S64x64x1024, .f32⟩
  | 80 => ⟨S1024x1024, .f32⟩
  | 81 => ⟨S64x64x1024, .f32⟩
  | 82 => ⟨S1x1x1024, .f32⟩
  | 83 => ⟨S64x64x1024, .f32⟩
  | 84 => ⟨S64x64x1024, .f32⟩
  | 85 => ⟨S64x64x1024, .f32⟩
  | 86 => ⟨S1x1024, .f32⟩
  | 87 => ⟨S1024, .f32⟩
  | 88 => ⟨S1x1024, .f32⟩
  | 89 => ⟨S1024, .f32⟩
  | 90 => ⟨S_, .f32⟩
  | 91 => ⟨S64x64, .f32⟩
  | 92 => ⟨S64x64x1, .f32⟩
  | 93 => ⟨S_, .f32⟩
  | 94 => ⟨S64x64x1, .f32⟩
  | 95 => ⟨S64x64x1, .f32⟩
  | 96 => ⟨S_, .i32⟩
  | 97 => ⟨S_, .f32⟩
  | 98 => ⟨S64x64, .f32⟩
  | 99 => ⟨S64x64x1, .f32⟩
  | 100 => ⟨S_, .f32⟩
  | 101 => ⟨S64x64x1, .f32⟩
  | 102 => ⟨S64x64x1, .f32⟩
  | 103 => ⟨S64x64x1024, .f32⟩
  | 104 => ⟨S64x64x1024, .f32⟩
  | 105 => ⟨S64x64x1024, .f32⟩
  | 106 => ⟨S_, .f32⟩
  | 107 => ⟨S_, .f32⟩
  | 108 => ⟨S_, .f32⟩
  | 109 => ⟨S_, .f32⟩
  | 110 => ⟨S64x64, .f32⟩
  | 111 => ⟨S64x64x1, .f32⟩
  | 112 => ⟨S64x64x1, .f32⟩
  | 113 => ⟨S64x64x1, .f32⟩
  | 114 => ⟨S_, .f32⟩
  | 115 => ⟨S_, .i1⟩
  | 116 => ⟨S_, .f32⟩
  | 117 => ⟨S_, .f32⟩
  | 118 => ⟨S64x64x1, .f32⟩
  | 119 => ⟨S64x64x1, .f32⟩
  | 120 => ⟨S64x64x1024, .f32⟩
  | 121 => ⟨S64x64x1024, .f32⟩
  | 122 => ⟨S_, .f32⟩
  | 123 => ⟨S64x64x1, .f32⟩
  | 124 => ⟨S64x64x1, .f32⟩
  | 125 => ⟨S64x64x1, .f32⟩
  | 126 => ⟨S64x64x1024, .f32⟩
  | 127 => ⟨S64x64x1024, .f32⟩
  | _ => ⟨S64x512x1024, .f32⟩

abbrev hbmTy0_13 (i : Nat) : BufTy := match i % 128 with
  | 0 => ⟨S1x1x1024, .f32⟩
  | 1 => ⟨S64x64x1024, .f32⟩
  | 2 => ⟨S64x64x1024, .f32⟩
  | 3 => ⟨S1x1x1024, .f32⟩
  | 4 => ⟨S64x64x1024, .f32⟩
  | 5 => ⟨S64x64x1024, .f32⟩
  | 6 => ⟨S1x3072x1024, .f32⟩
  | 7 => ⟨S3072x1024, .f32⟩
  | 8 => ⟨S1x3072, .f32⟩
  | 9 => ⟨S3072, .f32⟩
  | 10 => ⟨S1x1024x1024, .f32⟩
  | 11 => ⟨S1024x1024, .f32⟩
  | 12 => ⟨S1x1024, .f32⟩
  | 13 => ⟨S1024, .f32⟩
  | 14 => ⟨S1024x1024, .f32⟩
  | 15 => ⟨S1024x1024, .f32⟩
  | 16 => ⟨S1024x1024, .f32⟩
  | 17 => ⟨S1024, .f32⟩
  | 18 => ⟨S1024, .f32⟩
  | 19 => ⟨S1024, .f32⟩
  | 20 => ⟨S1024x1024, .f32⟩
  | 21 => ⟨S64x64x1024, .f32⟩
  | 22 => ⟨S1x1x1024, .f32⟩
  | 23 => ⟨S64x64x1024, .f32⟩
  | 24 => ⟨S64x64x1024, .f32⟩
  | 25 => ⟨S64x64x16x64, .f32⟩
  | 26 => ⟨S64x16x64x64, .f32⟩
  | 27 => ⟨S1024x1024, .f32⟩
  | 28 => ⟨S64x64x1024, .f32⟩
  | 29 => ⟨S1x1x1024, .f32⟩
  | 30 => ⟨S64x64x1024, .f32⟩
  | 31 => ⟨S64x64x1024, .f32⟩
  | 32 => ⟨S64x64x16x64, .f32⟩
  | 33 => ⟨S64x16x64x64, .f32⟩
  | 34 => ⟨S1024x1024, .f32⟩
  | 35 => ⟨S64x64x1024, .f32⟩
  | 36 => ⟨S1x1x1024, .f32⟩
  | 37 => ⟨S64x64x1024, .f32⟩
  | 38 => ⟨S64x64x1024, .f32⟩
  | 39 => ⟨S64x64x16x64, .f32⟩
  | 40 => ⟨S64x16x64x64, .f32⟩
  | 41 => ⟨S64x16x64x64, .f32⟩
  | 42 => ⟨S_, .f32⟩
  | 43 => ⟨S64x16x64x64, .f32⟩
  | 44 => ⟨S64x16x64x64, .f32⟩
  | 45 => ⟨S_, .f32⟩
  | 46 => ⟨S_, .f32⟩
  | 47 => ⟨S64x16x64x64, .i1⟩
  | 48 => ⟨S64x16x64x64, .f32⟩
  | 49 => ⟨S64x16x64x64, .f32⟩
  | 50 => ⟨S_, .f32⟩
  | 51 => ⟨S64x16x64, .f32⟩
  | 52 => ⟨S_, .f32⟩
  | 53 => ⟨S64x16x64, .f32⟩
  | 54 => ⟨S64x16x64, .f32⟩
  | 55 => ⟨S64x16x64x1, .f32⟩
  | 56 => ⟨S64x16x64x64, .f32⟩
  | 57 => ⟨S64x16x64x64, .f32⟩
  | 58 => ⟨S64x16x64x64, .f32⟩
  | 59 => ⟨S_, .f32⟩
  | 60 => ⟨S64x16x64, .f32⟩
  | 61 => ⟨S64x16x64x1, .f32⟩
  | 62 => ⟨S64x16x64x64, .f32⟩
  | 63 => ⟨S64x16x64x64, .f32⟩
  | 64 => ⟨S64x16x64x64, .f32⟩
  | 65 => ⟨S64x64x16x64, .f32⟩
  | 66 => ⟨S64x64x1024, .f32⟩
  | 67 => ⟨S1024x1024, .f32⟩
  | 68 => ⟨S64x64x1024, .f32⟩
  | 69 => ⟨S1x1x1024, .f32⟩
  | 70 => ⟨S64x64x1024, .f32⟩
  | 71 => ⟨S64x64x1024, .f32⟩
  | 72 => ⟨S64x64x1024, .f32⟩
  | 73 => ⟨S1x1024, .f32⟩
  | 74 => ⟨S1024, .f32⟩
  | 75 => ⟨S1x1024, .f32⟩
  | 76 => ⟨S1024, .f32⟩
  | 77 => ⟨S_, .f32⟩
  | 78 => ⟨S64x64, .f32⟩
  | 79 => ⟨S64x64x1, .f32⟩
  | 80 => ⟨S_, .f32⟩
  | 81 => ⟨S64x64x1, .f32⟩
  | 82 => ⟨S64x64x1, .f32⟩
  | 83 => ⟨S_, .i32⟩
  | 84 => ⟨S_, .f32⟩
  | 85 => ⟨S64x64, .f32⟩
  | 86 => ⟨S64x64x1, .f32⟩
  | 87 => ⟨S_, .f32⟩
  | 88 => ⟨S64x64x1, .f32⟩
  | 89 => ⟨S64x64x1, .f32⟩
  | 90 => ⟨S64x64x1024, .f32⟩
  | 91 => ⟨S64x64x1024, .f32⟩
  | 92 => ⟨S64x64x1024, .f32⟩
  | 93 => ⟨S_, .f32⟩
  | 94 => ⟨S_, .f32⟩
  | 95 => ⟨S_, .f32⟩
  | 96 => ⟨S_, .f32⟩
  | 97 => ⟨S64x64, .f32⟩
  | 98 => ⟨S64x64x1, .f32⟩
  | 99 => ⟨S64x64x1, .f32⟩
  | 100 => ⟨S64x64x1, .f32⟩
  | 101 => ⟨S_, .f32⟩
  | 102 => ⟨S_, .i1⟩
  | 103 => ⟨S_, .f32⟩
  | 104 => ⟨S_, .f32⟩
  | 105 => ⟨S64x64x1, .f32⟩
  | 106 => ⟨S64x64x1, .f32⟩
  | 107 => ⟨S64x64x1024, .f32⟩
  | 108 => ⟨S64x64x1024, .f32⟩
  | 109 => ⟨S_, .f32⟩
  | 110 => ⟨S64x64x1, .f32⟩
  | 111 => ⟨S64x64x1, .f32⟩
  | 112 => ⟨S64x64x1, .f32⟩
  | 113 => ⟨S64x64x1024, .f32⟩
  | 114 => ⟨S64x64x1024, .f32⟩
  | 115 => ⟨S1x1x1024, .f32⟩
  | 116 => ⟨S64x64x1024, .f32⟩
  | 117 => ⟨S64x64x1024, .f32⟩
  | 118 => ⟨S1x1x1024, .f32⟩
  | 119 => ⟨S64x64x1024, .f32⟩
  | 120 => ⟨S64x64x1024, .f32⟩
  | 121 => ⟨S1x4096x1024, .f32⟩
  | 122 => ⟨S4096x1024, .f32⟩
  | 123 => ⟨S1024x4096, .f32⟩
  | 124 => ⟨S64x64x4096, .f32⟩
  | 125 => ⟨S1x4096, .f32⟩
  | 126 => ⟨S4096, .f32⟩
  | 127 => ⟨S1x1x4096, .f32⟩
  | _ => ⟨S64x512x1024, .f32⟩

abbrev hbmTy0_14 (i : Nat) : BufTy := match i % 128 with
  | 0 => ⟨S64x64x4096, .f32⟩
  | 1 => ⟨S64x64x4096, .f32⟩
  | 2 => ⟨S_, .f32⟩
  | 3 => ⟨S64x64x4096, .f32⟩
  | 4 => ⟨S64x64x4096, .f32⟩
  | 5 => ⟨S1x1024x4096, .f32⟩
  | 6 => ⟨S1024x4096, .f32⟩
  | 7 => ⟨S4096x1024, .f32⟩
  | 8 => ⟨S64x64x1024, .f32⟩
  | 9 => ⟨S1x1024, .f32⟩
  | 10 => ⟨S1024, .f32⟩
  | 11 => ⟨S1x1x1024, .f32⟩
  | 12 => ⟨S64x64x1024, .f32⟩
  | 13 => ⟨S64x64x1024, .f32⟩
  | 14 => ⟨S64x64x1024, .f32⟩
  | 15 => ⟨S1x1024, .f32⟩
  | 16 => ⟨S1024, .f32⟩
  | 17 => ⟨S1x1024, .f32⟩
  | 18 => ⟨S1024, .f32⟩
  | 19 => ⟨S_, .f32⟩
  | 20 => ⟨S64x64, .f32⟩
  | 21 => ⟨S64x64x1, .f32⟩
  | 22 => ⟨S_, .f32⟩
  | 23 => ⟨S64x64x1, .f32⟩
  | 24 => ⟨S64x64x1, .f32⟩
  | 25 => ⟨S_, .i32⟩
  | 26 => ⟨S_, .f32⟩
  | 27 => ⟨S64x64, .f32⟩
  | 28 => ⟨S64x64x1, .f32⟩
  | 29 => ⟨S_, .f32⟩
  | 30 => ⟨S64x64x1, .f32⟩
  | 31 => ⟨S64x64x1, .f32⟩
  | 32 => ⟨S64x64x1024, .f32⟩
  | 33 => ⟨S64x64x1024, .f32⟩
  | 34 => ⟨S64x64x1024, .f32⟩
  | 35 => ⟨S_, .f32⟩
  | 36 => ⟨S_, .f32⟩
  | 37 => ⟨S_, .f32⟩
  | 38 => ⟨S_, .f32⟩
  | 39 => ⟨S64x64, .f32⟩
  | 40 => ⟨S64x64x1, .f32⟩
  | 41 => ⟨S64x64x1, .f32⟩
  | 42 => ⟨S64x64x1, .f32⟩
  | 43 => ⟨S_, .f32⟩
  | 44 => ⟨S_, .i1⟩
  | 45 => ⟨S_, .f32⟩
  | 46 => ⟨S_, .f32⟩
  | 47 => ⟨S64x64x1, .f32⟩
  | 48 => ⟨S64x64x1, .f32⟩
  | 49 => ⟨S64x64x1024, .f32⟩
  | 50 => ⟨S64x64x1024, .f32⟩
  | 51 => ⟨S_, .f32⟩
  | 52 => ⟨S64x64x1, .f32⟩
  | 53 => ⟨S64x64x1, .f32⟩
  | 54 => ⟨S64x64x1, .f32⟩
  | 55 => ⟨S64x64x1024, .f32⟩
  | 56 => ⟨S64x64x1024, .f32⟩
  | 57 => ⟨S1x1x1024, .f32⟩
  | 58 => ⟨S64x64x1024, .f32⟩
  | 59 => ⟨S64x64x1024, .f32⟩
  | 60 => ⟨S1x1x1024, .f32⟩
  | 61 => ⟨S64x64x1024, .f32⟩
  | 62 => ⟨S64x64x1024, .f32⟩
  | 63 => ⟨S1x3072x1024, .f32⟩
  | 64 => ⟨S3072x1024, .f32⟩
  | 65 => ⟨S1x3072, .f32⟩
  | 66 => ⟨S3072, .f32⟩
  | 67 => ⟨S1x1024x1024, .f32⟩
  | 68 => ⟨S1024x1024, .f32⟩
  | 69 => ⟨S1x1024, .f32⟩
  | 70 => ⟨S1024, .f32⟩
  | 71 => ⟨S1024x1024, .f32⟩
  | 72 => ⟨S1024x1024, .f32⟩
  | 73 => ⟨S1024x1024, .f32⟩
  | 74 => ⟨S1024, .f32⟩
  | 75 => ⟨S1024, .f32⟩
  | 76 => ⟨S1024, .f32⟩
  | 77 => ⟨S1024x1024, .f32⟩
  | 78 => ⟨S64x64x1024, .f32⟩
  | 79 => ⟨S1x1x1024, .f32⟩
  | 80 => ⟨S64x64x1024, .f32⟩
  | 81 => ⟨S64x64x1024, .f32⟩
  | 82 => ⟨S64x64x16x64, .f32⟩
  | 83 => ⟨S64x16x64x64, .f32⟩
  | 84 => ⟨S1024x1024, .f32⟩
  | 85 => ⟨S64x512x1024, .f32⟩
  | 86 => ⟨S1x1x1024, .f32⟩
  | 87 => ⟨S64x512x1024, .f32⟩
  | 88 => ⟨S64x512x1024, .f32⟩
  | 89 => ⟨S64x512x16x64, .f32⟩
  | 90 => ⟨S64x16x512x64, .f32⟩
  | 91 => ⟨S1024x1024, .f32⟩
  | 92 => ⟨S64x512x1024, .f32⟩
  | 93 => ⟨S1x1x1024, .f32⟩
  | 94 => ⟨S64x512x1024, .f32⟩
  | 95 => ⟨S64x512x1024, .f32⟩
  | 96 => ⟨S64x512x16x64, .f32⟩
  | 97 => ⟨S64x16x512x64, .f32⟩
  | 98 => ⟨S64x16x64x512, .f32⟩
  | 99 => ⟨S_, .f32⟩
  | 100 => ⟨S64x16x64x512, .f32⟩
  | 101 => ⟨S64x16x64x512, .f32⟩
  | 102 => ⟨S_, .f32⟩
  | 103 => ⟨S64x16x64, .f32⟩
  | 104 => ⟨S_, .f32⟩
  | 105 => ⟨S64x16x64, .f32⟩
  | 106 => ⟨S64x16x64, .f32⟩
  | 107 => ⟨S64x16x64x1, .f32⟩
  | 108 => ⟨S64x16x64x512, .f32⟩
  | 109 => ⟨S64x16x64x512, .f32⟩
  | 110 => ⟨S64x16x64x512, .f32⟩
  | 111 => ⟨S_, .f32⟩
  | 112 => ⟨S64x16x64, .f32⟩
  | 113 => ⟨S64x16x64x1, .f32⟩
  | 114 => ⟨S64x16x64x512, .f32⟩
  | 115 => ⟨S64x16x64x512, .f32⟩
  | 116 => ⟨S64x16x64x64, .f32⟩
  | 117 => ⟨S64x64x16x64, .f32⟩
  | 118 => ⟨S64x64x1024, .f32⟩
  | 119 => ⟨S1024x1024, .f32⟩
  | 120 => ⟨S64x64x1024, .f32⟩
  | 121 => ⟨S1x1x1024, .f32⟩
  | 122 => ⟨S64x64x1024, .f32⟩
  | 123 => ⟨S64x64x1024, .f32⟩
  | 124 => ⟨S64x64x1024, .f32⟩
  | 125 => ⟨S1x1024, .f32⟩
  | 126 => ⟨S1024, .f32⟩
  | 127 => ⟨S1x1024, .f32⟩
  | _ => ⟨S64x512x1024, .f32⟩

abbrev hbmTy0_15 (i : Nat) : BufTy := match i % 128 with
  | 0 => ⟨S1024, .f32⟩
  | 1 => ⟨S_, .f32⟩
  | 2 => ⟨S64x64, .f32⟩
  | 3 => ⟨S64x64x1, .f32⟩
  | 4 => ⟨S_, .f32⟩
  | 5 => ⟨S64x64x1, .f32⟩
  | 6 => ⟨S64x64x1, .f32⟩
  | 7 => ⟨S_, .i32⟩
  | 8 => ⟨S_, .f32⟩
  | 9 => ⟨S64x64, .f32⟩
  | 10 => ⟨S64x64x1, .f32⟩
  | 11 => ⟨S_, .f32⟩
  | 12 => ⟨S64x64x1, .f32⟩
  | 13 => ⟨S64x64x1, .f32⟩
  | 14 => ⟨S64x64x1024, .f32⟩
  | 15 => ⟨S64x64x1024, .f32⟩
  | 16 => ⟨S64x64x1024, .f32⟩
  | 17 => ⟨S_, .f32⟩
  | 18 => ⟨S_, .f32⟩
  | 19 => ⟨S_, .f32⟩
  | 20 => ⟨S_, .f32⟩
  | 21 => ⟨S64x64, .f32⟩
  | 22 => ⟨S64x64x1, .f32⟩
  | 23 => ⟨S64x64x1, .f32⟩
  | 24 => ⟨S64x64x1, .f32⟩
  | 25 => ⟨S_, .f32⟩
  | 26 => ⟨S_, .i1⟩
  | 27 => ⟨S_, .f32⟩
  | 28 => ⟨S_, .f32⟩
  | 29 => ⟨S64x64x1, .f32⟩
  | 30 => ⟨S64x64x1, .f32⟩
  | 31 => ⟨S64x64x1024, .f32⟩
  | 32 => ⟨S64x64x1024, .f32⟩
  | 33 => ⟨S_, .f32⟩
  | 34 => ⟨S64x64x1, .f32⟩
  | 35 => ⟨S64x64x1, .f32⟩
  | 36 => ⟨S64x64x1, .f32⟩
  | 37 => ⟨S64x64x1024, .f32⟩
  | 38 => ⟨S64x64x1024, .f32⟩
  | 39 => ⟨S1x1x1024, .f32⟩
  | 40 => ⟨S64x64x1024, .f32⟩
  | 41 => ⟨S64x64x1024, .f32⟩
  | 42 => ⟨S1x1x1024, .f32⟩
  | 43 => ⟨S64x64x1024, .f32⟩
  | 44 => ⟨S64x64x1024, .f32⟩
  | 45 => ⟨S1x3072x1024, .f32⟩
  | 46 => ⟨S3072x1024, .f32⟩
  | 47 => ⟨S1x3072, .f32⟩
  | 48 => ⟨S3072, .f32⟩
  | 49 => ⟨S1x1024x1024, .f32⟩
  | 50 => ⟨S1024x1024, .f32⟩
  | 51 => ⟨S1x1024, .f32⟩
  | 52 => ⟨S1024, .f32⟩
  | 53 => ⟨S1024x1024, .f32⟩
  | 54 => ⟨S1024x1024, .f32⟩
  | 55 => ⟨S1024x1024, .f32⟩
  | 56 => ⟨S1024, .f32⟩
  | 57 => ⟨S1024, .f32⟩
  | 58 => ⟨S1024, .f32⟩
  | 59 => ⟨S1024x1024, .f32⟩
  | 60 => ⟨S64x64x1024, .f32⟩
  | 61 => ⟨S1x1x1024, .f32⟩
  | 62 => ⟨S64x64x1024, .f32⟩
  | 63 => ⟨S64x64x1024, .f32⟩
  | 64 => ⟨S64x64x16x64, .f32⟩
  | 65 => ⟨S64x16x64x64, .f32⟩
  | 66 => ⟨S1024x1024, .f32⟩
  | 67 => ⟨S64x64x1024, .f32⟩
  | 68 => ⟨S1x1x1024, .f32⟩
  | 69 => ⟨S64x64x1024, .f32⟩
  | 70 => ⟨S64x64x1024, .f32⟩
  | 71 => ⟨S64x64x16x64, .f32⟩
  | 72 => ⟨S64x16x64x64, .f32⟩
  | 73 => ⟨S1024x1024, .f32⟩
  | 74 => ⟨S64x64x1024, .f32⟩
  | 75 => ⟨S1x1x1024, .f32⟩
  | 76 => ⟨S64x64x1024, .f32⟩
  | 77 => ⟨S64x64x1024, .f32⟩
  | 78 => ⟨S64x64x16x64, .f32⟩
  | 79 => ⟨S64x16x64x64, .f32⟩
  | 80 => ⟨S64x16x64x64, .f32⟩
  | 81 => ⟨S_, .f32⟩
  | 82 => ⟨S64x16x64x64, .f32⟩
  | 83 => ⟨S64x16x64x64, .f32⟩
  | 84 => ⟨S_, .f32⟩
  | 85 => ⟨S_, .f32⟩
  | 86 => ⟨S64x16x64x64, .i1⟩
  | 87 => ⟨S64x16x64x64, .f32⟩
  | 88 => ⟨S64x16x64x64, .f32⟩
  | 89 => ⟨S_, .f32⟩
  | 90 => ⟨S64x16x64, .f32⟩
  | 91 => ⟨S_, .f32⟩
  | 92 => ⟨S64x16x64, .f32⟩
  | 93 => ⟨S64x16x64, .f32⟩
  | 94 => ⟨S64x16x64x1, .f32⟩
  | 95 => ⟨S64x16x64x64, .f32⟩
  | 96 => ⟨S64x16x64x64, .f32⟩
  | 97 => ⟨S64x16x64x64, .f32⟩
  | 98 => ⟨S_, .f32⟩
  | 99 => ⟨S64x16x64, .f32⟩
  | 100 => ⟨S64x16x64x1, .f32⟩
  | 101 => ⟨S64x16x64x64, .f32⟩
  | 102 => ⟨S64x16x64x64, .f32⟩
  | 103 => ⟨S64x16x64x64, .f32⟩
  | 104 => ⟨S64x64x16x64, .f32⟩
  | 105 => ⟨S64x64x1024, .f32⟩
  | 106 => ⟨S1024x1024, .f32⟩
  | 107 => ⟨S64x64x1024, .f32⟩
  | 108 => ⟨S1x1x1024, .f32⟩
  | 109 => ⟨S64x64x1024, .f32⟩
  | 110 => ⟨S64x64x1024, .f32⟩
  | 111 => ⟨S64x64x1024, .f32⟩
  | 112 => ⟨S1x1024, .f32⟩
  | 113 => ⟨S1024, .f32⟩
  | 114 => ⟨S1x1024, .f32⟩
  | 115 => ⟨S1024, .f32⟩
  | 116 => ⟨S_, .f32⟩
  | 117 => ⟨S64x64, .f32⟩
  | 118 => ⟨S64x64x1, .f32⟩
  | 119 => ⟨S_, .f32⟩
  | 120 => ⟨S64x64x1, .f32⟩
  | 121 => ⟨S64x64x1, .f32⟩
  | 122 => ⟨S_, .i32⟩
  | 123 => ⟨S_, .f32⟩
  | 124 => ⟨S64x64, .f32⟩
  | 125 => ⟨S64x64x1, .f32⟩
  | 126 => ⟨S_, .f32⟩
  | 127 => ⟨S64x64x1, .f32⟩
  | _ => ⟨S64x512x1024, .f32⟩

abbrev hbmTy0_16 (i : Nat) : BufTy := match i % 128 with
  | 0 => ⟨S64x64x1, .f32⟩
  | 1 => ⟨S64x64x1024, .f32⟩
  | 2 => ⟨S64x64x1024, .f32⟩
  | 3 => ⟨S64x64x1024, .f32⟩
  | 4 => ⟨S_, .f32⟩
  | 5 => ⟨S_, .f32⟩
  | 6 => ⟨S_, .f32⟩
  | 7 => ⟨S_, .f32⟩
  | 8 => ⟨S64x64, .f32⟩
  | 9 => ⟨S64x64x1, .f32⟩
  | 10 => ⟨S64x64x1, .f32⟩
  | 11 => ⟨S64x64x1, .f32⟩
  | 12 => ⟨S_, .f32⟩
  | 13 => ⟨S_, .i1⟩
  | 14 => ⟨S_, .f32⟩
  | 15 => ⟨S_, .f32⟩
  | 16 => ⟨S64x64x1, .f32⟩
  | 17 => ⟨S64x64x1, .f32⟩
  | 18 => ⟨S64x64x1024, .f32⟩
  | 19 => ⟨S64x64x1024, .f32⟩
  | 20 => ⟨S_, .f32⟩
  | 21 => ⟨S64x64x1, .f32⟩
  | 22 => ⟨S64x64x1, .f32⟩
  | 23 => ⟨S64x64x1, .f32⟩
  | 24 => ⟨S64x64x1024, .f32⟩
  | 25 => ⟨S64x64x1024, .f32⟩
  | 26 => ⟨S1x1x1024, .f32⟩
  | 27 => ⟨S64x64x1024, .f32⟩
  | 28 => ⟨S64x64x1024, .f32⟩
  | 29 => ⟨S1x1x1024, .f32⟩
  | 30 => ⟨S64x64x1024, .f32⟩
  | 31 => ⟨S64x64x1024, .f32⟩
  | 32 => ⟨S1x4096x1024, .f32⟩
  | 33 => ⟨S4096x1024, .f32⟩
  | 34 => ⟨S1024x4096, .f32⟩
  | 35 => ⟨S64x64x4096, .f32⟩
  | 36 => ⟨S1x4096, .f32⟩
  | 37 => ⟨S4096, .f32⟩
  | 38 => ⟨S1x1x4096, .f32⟩
  | 39 => ⟨S64x64x4096, .f32⟩
  | 40 => ⟨S64x64x4096, .f32⟩
  | 41 => ⟨S_, .f32⟩
  | 42 => ⟨S64x64x4096, .f32⟩
  | 43 => ⟨S64x64x4096, .f32⟩
  | 44 => ⟨S1x1024x4096, .f32⟩
  | 45 => ⟨S1024x4096, .f32⟩
  | 46 => ⟨S4096x1024, .f32⟩
  | 47 => ⟨S64x64x1024, .f32⟩
  | 48 => ⟨S1x1024, .f32⟩
  | 49 => ⟨S1024, .f32⟩
  | 50 => ⟨S1x1x1024, .f32⟩
  | 51 => ⟨S64x64x1024, .f32⟩
  | 52 => ⟨S64x64x1024, .f32⟩
  | 53 => ⟨S64x64x1024, .f32⟩
  | 54 => ⟨S1x1024, .f32⟩
  | 55 => ⟨S1024, .f32⟩
  | 56 => ⟨S1x1024, .f32⟩
  | 57 => ⟨S1024, .f32⟩
  | 58 => ⟨S_, .f32⟩
  | 59 => ⟨S64x64, .f32⟩
  | 60 => ⟨S64x64x1, .f32⟩
  | 61 => ⟨S_, .f32⟩
  | 62 => ⟨S64x64x1, .f32⟩
  | 63 => ⟨S64x64x1, .f32⟩
  | 64 => ⟨S_, .i32⟩
  | 65 => ⟨S_, .f32⟩
  | 66 => ⟨S64x64, .f32⟩
  | 67 => ⟨S64x64x1, .f32⟩
  | 68 => ⟨S_, .f32⟩
  | 69 => ⟨S64x64x1, .f32⟩
  | 70 => ⟨S64x64x1, .f32⟩
  | 71 => ⟨S64x64x1024, .f32⟩
  | 72 => ⟨S64x64x1024, .f32⟩
  | 73 => ⟨S64x64x1024, .f32⟩
  | 74 => ⟨S_, .f32⟩
  | 75 => ⟨S_, .f32⟩
  | 76 => ⟨S_, .f32⟩
  | 77 => ⟨S_, .f32⟩
  | 78 => ⟨S64x64, .f32⟩
  | 79 => ⟨S64x64x1, .f32⟩
  | 80 => ⟨S64x64x1, .f32⟩
  | 81 => ⟨S64x64x1, .f32⟩
  | 82 => ⟨S_, .f32⟩
  | 83 => ⟨S_, .i1⟩
  | 84 => ⟨S_, .f32⟩
  | 85 => ⟨S_, .f32⟩
  | 86 => ⟨S64x64x1, .f32⟩
  | 87 => ⟨S64x64x1, .f32⟩
  | 88 => ⟨S64x64x1024, .f32⟩
  | 89 => ⟨S64x64x1024, .f32⟩
  | 90 => ⟨S_, .f32⟩
  | 91 => ⟨S64x64x1, .f32⟩
  | 92 => ⟨S64x64x1, .f32⟩
  | 93 => ⟨S64x64x1, .f32⟩
  | 94 => ⟨S64x64x1024, .f32⟩
  | 95 => ⟨S64x64x1024, .f32⟩
  | 96 => ⟨S1x1x1024, .f32⟩
  | 97 => ⟨S64x64x1024, .f32⟩
  | 98 => ⟨S64x64x1024, .f32⟩
  | 99 => ⟨S1x1x1024, .f32⟩
  | 100 => ⟨S64x64x1024, .f32⟩
  | 101 => ⟨S64x64x1024, .f32⟩
  | 102 => ⟨S1x3072x1024, .f32⟩
  | 103 => ⟨S3072x1024, .f32⟩
  | 104 => ⟨S1x3072, .f32⟩
  | 105 => ⟨S3072, .f32⟩
  | 106 => ⟨S1x1024x1024, .f32⟩
  | 107 => ⟨S1024x1024, .f32⟩
  | 108 => ⟨S1x1024, .f32⟩
  | 109 => ⟨S1024, .f32⟩
  | 110 => ⟨S1024x1024, .f32⟩
  | 111 => ⟨S1024x1024, .f32⟩
  | 112 => ⟨S1024x1024, .f32⟩
  | 113 => ⟨S1024, .f32⟩
  | 114 => ⟨S1024, .f32⟩
  | 115 => ⟨S1024, .f32⟩
  | 116 => ⟨S1024x1024, .f32⟩
  | 117 => ⟨S64x64x1024, .f32⟩
  | 118 => ⟨S1x1x1024, .f32⟩
  | 119 => ⟨S64x64x1024, .f32⟩
  | 120 => ⟨S64x64x1024, .f32⟩
  | 121 => ⟨S64x64x16x64, .f32⟩
  | 122 => ⟨S64x16x64x64, .f32⟩
  | 123 => ⟨S1024x1024, .f32⟩
  | 124 => ⟨S64x512x1024, .f32⟩
  | 125 => ⟨S1x1x1024, .f32⟩
  | 126 => ⟨S64x512x1024, .f32⟩
  | 127 => ⟨S64x512x1024, .f32⟩
  | _ => ⟨S64x512x1024, .f32⟩

abbrev hbmTy0_17 (i : Nat) : BufTy := match i % 128 with
  | 0 => ⟨S64x512x16x64, .f32⟩
  | 1 => ⟨S64x16x512x64, .f32⟩
  | 2 => ⟨S1024x1024, .f32⟩
  | 3 => ⟨S64x512x1024, .f32⟩
  | 4 => ⟨S1x1x1024, .f32⟩
  | 5 => ⟨S64x512x1024, .f32⟩
  | 6 => ⟨S64x512x1024, .f32⟩
  | 7 => ⟨S64x512x16x64, .f32⟩
  | 8 => ⟨S64x16x512x64, .f32⟩
  | 9 => ⟨S64x16x64x512, .f32⟩
  | 10 => ⟨S_, .f32⟩
  | 11 => ⟨S64x16x64x512, .f32⟩
  | 12 => ⟨S64x16x64x512, .f32⟩
  | 13 => ⟨S_, .f32⟩
  | 14 => ⟨S64x16x64, .f32⟩
  | 15 => ⟨S_, .f32⟩
  | 16 => ⟨S64x16x64, .f32⟩
  | 17 => ⟨S64x16x64, .f32⟩
  | 18 => ⟨S64x16x64x1, .f32⟩
  | 19 => ⟨S64x16x64x512, .f32⟩
  | 20 => ⟨S64x16x64x512, .f32⟩
  | 21 => ⟨S64x16x64x512, .f32⟩
  | 22 => ⟨S_, .f32⟩
  | 23 => ⟨S64x16x64, .f32⟩
  | 24 => ⟨S64x16x64x1, .f32⟩
  | 25 => ⟨S64x16x64x512, .f32⟩
  | 26 => ⟨S64x16x64x512, .f32⟩
  | 27 => ⟨S64x16x64x64, .f32⟩
  | 28 => ⟨S64x64x16x64, .f32⟩
  | 29 => ⟨S64x64x1024, .f32⟩
  | 30 => ⟨S1024x1024, .f32⟩
  | 31 => ⟨S64x64x1024, .f32⟩
  | 32 => ⟨S1x1x1024, .f32⟩
  | 33 => ⟨S64x64x1024, .f32⟩
  | 34 => ⟨S64x64x1024, .f32⟩
  | 35 => ⟨S64x64x1024, .f32⟩
  | 36 => ⟨S1x1024, .f32⟩
  | 37 => ⟨S1024, .f32⟩
  | 38 => ⟨S1x1024, .f32⟩
  | 39 => ⟨S1024, .f32⟩
  | 40 => ⟨S_, .f32⟩
  | 41 => ⟨S64x64, .f32⟩
  | 42 => ⟨S64x64x1, .f32⟩
  | 43 => ⟨S_, .f32⟩
  | 44 => ⟨S64x64x1, .f32⟩
  | 45 => ⟨S64x64x1, .f32⟩
  | 46 => ⟨S_, .i32⟩
  | 47 => ⟨S_, .f32⟩
  | 48 => ⟨S64x64, .f32⟩
  | 49 => ⟨S64x64x1, .f32⟩
  | 50 => ⟨S_, .f32⟩
  | 51 => ⟨S64x64x1, .f32⟩
  | 52 => ⟨S64x64x1, .f32⟩
  | 53 => ⟨S64x64x1024, .f32⟩
  | 54 => ⟨S64x64x1024, .f32⟩
  | 55 => ⟨S64x64x1024, .f32⟩
  | 56 => ⟨S_, .f32⟩
  | 57 => ⟨S_, .f32⟩
  | 58 => ⟨S_, .f32⟩
  | 59 => ⟨S_, .f32⟩
  | 60 => ⟨S64x64, .f32⟩
  | 61 => ⟨S64x64x1, .f32⟩
  | 62 => ⟨S64x64x1, .f32⟩
  | 63 => ⟨S64x64x1, .f32⟩
  | 64 => ⟨S_, .f32⟩
  | 65 => ⟨S_, .i1⟩
  | 66 => ⟨S_, .f32⟩
  | 67 => ⟨S_, .f32⟩
  | 68 => ⟨S64x64x1, .f32⟩
  | 69 => ⟨S64x64x1, .f32⟩
  | 70 => ⟨S64x64x1024, .f32⟩
  | 71 => ⟨S64x64x1024, .f32⟩
  | 72 => ⟨S_, .f32⟩
  | 73 => ⟨S64x64x1, .f32⟩
  | 74 => ⟨S64x64x1, .f32⟩
  | 75 => ⟨S64x64x1, .f32⟩
  | 76 => ⟨S64x64x1024, .f32⟩
  | 77 => ⟨S64x64x1024, .f32⟩
  | 78 => ⟨S1x1x1024, .f32⟩
  | 79 => ⟨S64x64x1024, .f32⟩
  | 80 => ⟨S64x64x1024, .f32⟩
  | 81 => ⟨S1x1x1024, .f32⟩
  | 82 => ⟨S64x64x1024, .f32⟩
  | 83 => ⟨S64x64x1024, .f32⟩
  | 84 => ⟨S1x3072x1024, .f32⟩
  | 85 => ⟨S3072x1024, .f32⟩
  | 86 => ⟨S1x3072, .f32⟩
  | 87 => ⟨S3072, .f32⟩
  | 88 => ⟨S1x1024x1024, .f32⟩
  | 89 => ⟨S1024x1024, .f32⟩
  | 90 => ⟨S1x1024, .f32⟩
  | 91 => ⟨S1024, .f32⟩
  | 92 => ⟨S1024x1024, .f32⟩
  | 93 => ⟨S1024x1024, .f32⟩
  | 94 => ⟨S1024x1024, .f32⟩
  | 95 => ⟨S1024, .f32⟩
  | 96 => ⟨S1024, .f32⟩
  | 97 => ⟨S1024, .f32⟩
  | 98 => ⟨S1024x1024, .f32⟩
  | 99 => ⟨S64x64x1024, .f32⟩
  | 100 => ⟨S1x1x1024, .f32⟩
  | 101 => ⟨S64x64x1024, .f32⟩
  | 102 => ⟨S64x64x1024, .f32⟩
  | 103 => ⟨S64x64x16x64, .f32⟩
  | 104 => ⟨S64x16x64x64, .f32⟩
  | 105 => ⟨S1024x1024, .f32⟩
  | 106 => ⟨S64x64x1024, .f32⟩
  | 107 => ⟨S1x1x1024, .f32⟩
  | 108 => ⟨S64x64x1024, .f32⟩
  | 109 => ⟨S64x64x1024, .f32⟩
  | 110 => ⟨S64x64x16x64, .f32⟩
  | 111 => ⟨S64x16x64x64, .f32⟩
  | 112 => ⟨S1024x1024, .f32⟩
  | 113 => ⟨S64x64x1024, .f32⟩
  | 114 => ⟨S1x1x1024, .f32⟩
  | 115 => ⟨S64x64x1024, .f32⟩
  | 116 => ⟨S64x64x1024, .f32⟩
  | 117 => ⟨S64x64x16x64, .f32⟩
  | 118 => ⟨S64x16x64x64, .f32⟩
  | 119 => ⟨S64x16x64x64, .f32⟩
  | 120 => ⟨S_, .f32⟩
  | 121 => ⟨S64x16x64x64, .f32⟩
  | 122 => ⟨S64x16x64x64, .f32⟩
  | 123 => ⟨S_, .f32⟩
  | 124 => ⟨S_, .f32⟩
  | 125 => ⟨S64x16x64x64, .i1⟩
  | 126 => ⟨S64x16x64x64, .f32⟩
  | 127 => ⟨S64x16x64x64, .f32⟩
  | _ => ⟨S64x512x1024, .f32⟩

abbrev hbmTy0_18 (i : Nat) : BufTy := match i % 128 with
  | 0 => ⟨S_, .f32⟩
  | 1 => ⟨S64x16x64, .f32⟩
  | 2 => ⟨S_, .f32⟩
  | 3 => ⟨S64x16x64, .f32⟩
  | 4 => ⟨S64x16x64, .f32⟩
  | 5 => ⟨S64x16x64x1, .f32⟩
  | 6 => ⟨S64x16x64x64, .f32⟩
  | 7 => ⟨S64x16x64x64, .f32⟩
  | 8 => ⟨S64x16x64x64, .f32⟩
  | 9 => ⟨S_, .f32⟩
  | 10 => ⟨S64x16x64, .f32⟩
  | 11 => ⟨S64x16x64x1, .f32⟩
  | 12 => ⟨S64x16x64x64, .f32⟩
  | 13 => ⟨S64x16x64x64, .f32⟩
  | 14 => ⟨S64x16x64x64, .f32⟩
  | 15 => ⟨S64x64x16x64, .f32⟩
  | 16 => ⟨S64x64x1024, .f32⟩
  | 17 => ⟨S1024x1024, .f32⟩
  | 18 => ⟨S64x64x1024, .f32⟩
  | 19 => ⟨S1x1x1024, .f32⟩
  | 20 => ⟨S64x64x1024, .f32⟩
  | 21 => ⟨S64x64x1024, .f32⟩
  | 22 => ⟨S64x64x1024, .f32⟩
  | 23 => ⟨S1x1024, .f32⟩
  | 24 => ⟨S1024, .f32⟩
  | 25 => ⟨S1x1024, .f32⟩
  | 26 => ⟨S1024, .f32⟩
  | 27 => ⟨S_, .f32⟩
  | 28 => ⟨S64x64, .f32⟩
  | 29 => ⟨S64x64x1, .f32⟩
  | 30 => ⟨S_, .f32⟩
  | 31 => ⟨S64x64x1, .f32⟩
  | 32 => ⟨S64x64x1, .f32⟩
  | 33 => ⟨S_, .i32⟩
  | 34 => ⟨S_, .f32⟩
  | 35 => ⟨S64x64, .f32⟩
  | 36 => ⟨S64x64x1, .f32⟩
  | 37 => ⟨S_, .f32⟩
  | 38 => ⟨S64x64x1, .f32⟩
  | 39 => ⟨S64x64x1, .f32⟩
  | 40 => ⟨S64x64x1024, .f32⟩
  | 41 => ⟨S64x64x1024, .f32⟩
  | 42 => ⟨S64x64x1024, .f32⟩
  | 43 => ⟨S_, .f32⟩
  | 44 => ⟨S_, .f32⟩
  | 45 => ⟨S_, .f32⟩
  | 46 => ⟨S_, .f32⟩
  | 47 => ⟨S64x64, .f32⟩
  | 48 => ⟨S64x64x1, .f32⟩
  | 49 => ⟨S64x64x1, .f32⟩
  | 50 => ⟨S64x64x1, .f32⟩
  | 51 => ⟨S_, .f32⟩
  | 52 => ⟨S_, .i1⟩
  | 53 => ⟨S_, .f32⟩
  | 54 => ⟨S_, .f32⟩
  | 55 => ⟨S64x64x1, .f32⟩
  | 56 => ⟨S64x64x1, .f32⟩
  | 57 => ⟨S64x64x1024, .f32⟩
  | 58 => ⟨S64x64x1024, .f32⟩
  | 59 => ⟨S_, .f32⟩
  | 60 => ⟨S64x64x1, .f32⟩
  | 61 => ⟨S64x64x1, .f32⟩
  | 62 => ⟨S64x64x1, .f32⟩
  | 63 => ⟨S64x64x1024, .f32⟩
  | 64 => ⟨S64x64x1024, .f32⟩
  | 65 => ⟨S1x1x1024, .f32⟩
  | 66 => ⟨S64x64x1024, .f32⟩
  | 67 => ⟨S64x64x1024, .f32⟩
  | 68 => ⟨S1x1x1024, .f32⟩
  | 69 => ⟨S64x64x1024, .f32⟩
  | 70 => ⟨S64x64x1024, .f32⟩
  | 71 => ⟨S1x4096x1024, .f32⟩
  | 72 => ⟨S4096x1024, .f32⟩
  | 73 => ⟨S1024x4096, .f32⟩
  | 74 => ⟨S64x64x4096, .f32⟩
  | 75 => ⟨S1x4096, .f32⟩
  | 76 => ⟨S4096, .f32⟩
  | 77 => ⟨S1x1x4096, .f32⟩
  | 78 => ⟨S64x64x4096, .f32⟩
  | 79 => ⟨S64x64x4096, .f32⟩
  | 80 => ⟨S_, .f32⟩
  | 81 => ⟨S64x64x4096, .f32⟩
  | 82 => ⟨S64x64x4096, .f32⟩
  | 83 => ⟨S1x1024x4096, .f32⟩
  | 84 => ⟨S1024x4096, .f32⟩
  | 85 => ⟨S4096x1024, .f32⟩
  | 86 => ⟨S64x64x1024, .f32⟩
  | 87 => ⟨S1x1024, .f32⟩
  | 88 => ⟨S1024, .f32⟩
  | 89 => ⟨S1x1x1024, .f32⟩
  | 90 => ⟨S64x64x1024, .f32⟩
  | 91 => ⟨S64x64x1024, .f32⟩
  | 92 => ⟨S64x64x1024, .f32⟩
  | _ => ⟨S64x512x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | _ => ⟨S64x512x1024, .f32⟩

abbrev bufTy : (tb : Table) → Fin (tcTables nBuf tb) → BufTy
  | .hbm, ⟨i, _⟩ => hbmTy i
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst_0 : Ref sig .tc := ⟨.hbm, 41, rfl⟩
abbrev main_v10 : Ref sig .tc := ⟨.hbm, 42, rfl⟩
abbrev main_v11 : Ref sig .tc := ⟨.hbm, 43, rfl⟩
abbrev main_cst_1 : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_call1_cst : Ref sig .tc := ⟨.hbm, 48, rfl⟩
abbrev main_call1_v0 : Ref sig .tc := ⟨.hbm, 49, rfl⟩
abbrev main_call1_v1 : Ref sig .tc := ⟨.hbm, 50, rfl⟩
abbrev main_call1_cst_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_cst_1 : Ref sig .tc := ⟨.hbm, 58, rfl⟩
abbrev main_call1_v8 : Ref sig .tc := ⟨.hbm, 59, rfl⟩
abbrev main_call1_cst_2 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_cst_3 : Ref sig .tc := ⟨.hbm, 65, rfl⟩
abbrev main_call1_v13 : Ref sig .tc := ⟨.hbm, 66, rfl⟩
abbrev main_call1_cst_4 : Ref sig .tc := ⟨.hbm, 67, rfl⟩
abbrev main_call1_call0_v0 : Ref sig .tc := ⟨.hbm, 68, rfl⟩
abbrev main_call1_call0_v1 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_cst_3 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_4 : Ref sig .tc := ⟨.hbm, 121, rfl⟩
abbrev main_v64 : Ref sig .tc := ⟨.hbm, 122, rfl⟩
abbrev main_v65 : Ref sig .tc := ⟨.hbm, 123, rfl⟩
abbrev main_cst_5 : Ref sig .tc := ⟨.hbm, 124, rfl⟩
abbrev main_v66 : Ref sig .tc := ⟨.hbm, 125, rfl⟩
abbrev main_cst_6 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_7 : Ref sig .tc := ⟨.hbm, 133, rfl⟩
abbrev main_v73 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_cst_8 : Ref sig .tc := ⟨.hbm, 151, rfl⟩
abbrev main_v90 : Ref sig .tc := ⟨.hbm, 152, rfl⟩
abbrev main_v91 : Ref sig .tc := ⟨.hbm, 153, rfl⟩
abbrev main_cst_9 : Ref sig .tc := ⟨.hbm, 154, rfl⟩
abbrev main_v92 : Ref sig .tc := ⟨.hbm, 155, rfl⟩
abbrev main_v93 : Ref sig .tc := ⟨.hbm, 156, rfl⟩
abbrev main_c_10 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_cst_0 : Ref sig .tc := ⟨.hbm, 161, rfl⟩
abbrev main_call2_v2 : Ref sig .tc := ⟨.hbm, 162, rfl⟩
abbrev main_call2_v3 : Ref sig .tc := ⟨.hbm, 163, rfl⟩
abbrev main_call2_v4 : Ref sig .tc := ⟨.hbm, 164, rfl⟩
abbrev main_call2_v5 : Ref sig .tc := ⟨.hbm, 165, rfl⟩
abbrev main_call2_v6 : Ref sig .tc := ⟨.hbm, 166, rfl⟩
abbrev main_call2_v7 : Ref sig .tc := ⟨.hbm, 167, rfl⟩
abbrev main_call2_cst_1 : Ref sig .tc := ⟨.hbm, 168, rfl⟩
abbrev main_call2_v8 : Ref sig .tc := ⟨.hbm, 169, rfl⟩
abbrev main_call2_cst_2 : Ref sig .tc := ⟨.hbm, 170, rfl⟩
abbrev main_call2_v9 : Ref sig .tc := ⟨.hbm, 171, rfl⟩
abbrev main_call2_v10 : Ref sig .tc := ⟨.hbm, 172, rfl⟩
abbrev main_call2_v11 : Ref sig .tc := ⟨.hbm, 173, rfl⟩
abbrev main_call2_v12 : Ref sig .tc := ⟨.hbm, 174, rfl⟩
abbrev main_call2_cst_3 : Ref sig .tc := ⟨.hbm, 175, rfl⟩
abbrev main_call2_v13 : Ref sig .tc := ⟨.hbm, 176, rfl⟩
abbrev main_call2_cst_4 : Ref sig .tc := ⟨.hbm, 177, rfl⟩
abbrev main_call2_call0_v0 : Ref sig .tc := ⟨.hbm, 178, rfl⟩
abbrev main_call2_call0_v1 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_cst_11 : Ref sig .tc := ⟨.hbm, 183, rfl⟩
abbrev main_v97 : Ref sig .tc := ⟨.hbm, 184, rfl⟩
abbrev main_v98 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_v142 : Ref sig .tc := ⟨.hbm, 229, rfl⟩
abbrev main_v143 : Ref sig .tc := ⟨.hbm, 230, rfl⟩
abbrev main_cst_12 : Ref sig .tc := ⟨.hbm, 231, rfl⟩
abbrev main_v144 : Ref sig .tc := ⟨.hbm, 232, rfl⟩
abbrev main_v145 : Ref sig .tc := ⟨.hbm, 233, rfl⟩
abbrev main_cst_13 : Ref sig .tc := ⟨.hbm, 234, rfl⟩
abbrev main_call3_v0 : Ref sig .tc := ⟨.hbm, 235, rfl⟩
abbrev main_call3_v1 : Ref sig .tc := ⟨.hbm, 236, rfl⟩
abbrev main_call3_v2 : Ref sig .tc := ⟨.hbm, 237, rfl⟩
abbrev main_v146 : Ref sig .tc := ⟨.hbm, 238, rfl⟩
abbrev main_cst_14 : Ref sig .tc := ⟨.hbm, 239, rfl⟩
abbrev main_v147 : Ref sig .tc := ⟨.hbm, 240, rfl⟩
abbrev main_cst_15 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_cst_16 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_cst_17 : Ref sig .tc := ⟨.hbm, 266, rfl⟩
abbrev main_v171 : Ref sig .tc := ⟨.hbm, 267, rfl⟩
abbrev main_v172 : Ref sig .tc := ⟨.hbm, 268, rfl⟩
abbrev main_cst_18 : Ref sig .tc := ⟨.hbm, 269, rfl⟩
abbrev main_v173 : Ref sig .tc := ⟨.hbm, 270, rfl⟩
abbrev main_v174 : Ref sig .tc := ⟨.hbm, 271, rfl⟩
abbrev main_c_19 : Ref sig .tc := ⟨.hbm, 272, rfl⟩
abbrev main_call4_cst : Ref sig .tc := ⟨.hbm, 273, rfl⟩
abbrev main_call4_v0 : Ref sig .tc := ⟨.hbm, 274, rfl⟩
abbrev main_call4_v1 : Ref sig .tc := ⟨.hbm, 275, rfl⟩
abbrev main_call4_cst_0 : Ref sig .tc := ⟨.hbm, 276, rfl⟩
abbrev main_call4_v2 : Ref sig .tc := ⟨.hbm, 277, rfl⟩
abbrev main_call4_v3 : Ref sig .tc := ⟨.hbm, 278, rfl⟩
abbrev main_call4_v4 : Ref sig .tc := ⟨.hbm, 279, rfl⟩
abbrev main_call4_v5 : Ref sig .tc := ⟨.hbm, 280, rfl⟩
abbrev main_call4_v6 : Ref sig .tc := ⟨.hbm, 281, rfl⟩
abbrev main_call4_v7 : Ref sig .tc := ⟨.hbm, 282, rfl⟩
abbrev main_call4_cst_1 : Ref sig .tc := ⟨.hbm, 283, rfl⟩
abbrev main_call4_v8 : Ref sig .tc := ⟨.hbm, 284, rfl⟩
abbrev main_call4_cst_2 : Ref sig .tc := ⟨.hbm, 285, rfl⟩
abbrev main_call4_v9 : Ref sig .tc := ⟨.hbm, 286, rfl⟩
abbrev main_call4_v10 : Ref sig .tc := ⟨.hbm, 287, rfl⟩
abbrev main_call4_v11 : Ref sig .tc := ⟨.hbm, 288, rfl⟩
abbrev main_call4_v12 : Ref sig .tc := ⟨.hbm, 289, rfl⟩
abbrev main_call4_cst_3 : Ref sig .tc := ⟨.hbm, 290, rfl⟩
abbrev main_call4_v13 : Ref sig .tc := ⟨.hbm, 291, rfl⟩
abbrev main_call4_cst_4 : Ref sig .tc := ⟨.hbm, 292, rfl⟩
abbrev main_call4_call0_v0 : Ref sig .tc := ⟨.hbm, 293, rfl⟩
abbrev main_call4_call0_v1 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_cst_20 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_v195 : Ref sig .tc := ⟨.hbm, 316, rfl⟩
abbrev main_v196 : Ref sig .tc := ⟨.hbm, 317, rfl⟩
abbrev main_v197 : Ref sig .tc := ⟨.hbm, 318, rfl⟩
abbrev main_call5_cst : Ref sig .tc := ⟨.hbm, 319, rfl⟩
abbrev main_call5_v0 : Ref sig .tc := ⟨.hbm, 320, rfl⟩
abbrev main_v198 : Ref sig .tc := ⟨.hbm, 321, rfl⟩
abbrev main_v199 : Ref sig .tc := ⟨.hbm, 322, rfl⟩
abbrev main_v200 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_cst_21 : Ref sig .tc := ⟨.hbm, 336, rfl⟩
abbrev main_v213 : Ref sig .tc := ⟨.hbm, 337, rfl⟩
abbrev main_v214 : Ref sig .tc := ⟨.hbm, 338, rfl⟩
abbrev main_cst_22 : Ref sig .tc := ⟨.hbm, 339, rfl⟩
abbrev main_v215 : Ref sig .tc := ⟨.hbm, 340, rfl⟩
abbrev main_v216 : Ref sig .tc := ⟨.hbm, 341, rfl⟩
abbrev main_c_23 : Ref sig .tc := ⟨.hbm, 342, rfl⟩
abbrev main_call6_cst : Ref sig .tc := ⟨.hbm, 343, rfl⟩
abbrev main_call6_v0 : Ref sig .tc := ⟨.hbm, 344, rfl⟩
abbrev main_call6_v1 : Ref sig .tc := ⟨.hbm, 345, rfl⟩
abbrev main_call6_cst_0 : Ref sig .tc := ⟨.hbm, 346, rfl⟩
abbrev main_call6_v2 : Ref sig .tc := ⟨.hbm, 347, rfl⟩
abbrev main_call6_v3 : Ref sig .tc := ⟨.hbm, 348, rfl⟩
abbrev main_call6_v4 : Ref sig .tc := ⟨.hbm, 349, rfl⟩
abbrev main_call6_v5 : Ref sig .tc := ⟨.hbm, 350, rfl⟩
abbrev main_call6_v6 : Ref sig .tc := ⟨.hbm, 351, rfl⟩
abbrev main_call6_v7 : Ref sig .tc := ⟨.hbm, 352, rfl⟩
abbrev main_call6_cst_1 : Ref sig .tc := ⟨.hbm, 353, rfl⟩
abbrev main_call6_v8 : Ref sig .tc := ⟨.hbm, 354, rfl⟩
abbrev main_call6_cst_2 : Ref sig .tc := ⟨.hbm, 355, rfl⟩
abbrev main_call6_v9 : Ref sig .tc := ⟨.hbm, 356, rfl⟩
abbrev main_call6_v10 : Ref sig .tc := ⟨.hbm, 357, rfl⟩
abbrev main_call6_v11 : Ref sig .tc := ⟨.hbm, 358, rfl⟩
abbrev main_call6_v12 : Ref sig .tc := ⟨.hbm, 359, rfl⟩
abbrev main_call6_cst_3 : Ref sig .tc := ⟨.hbm, 360, rfl⟩
abbrev main_call6_v13 : Ref sig .tc := ⟨.hbm, 361, rfl⟩
abbrev main_call6_cst_4 : Ref sig .tc := ⟨.hbm, 362, rfl⟩
abbrev main_call6_call0_v0 : Ref sig .tc := ⟨.hbm, 363, rfl⟩
abbrev main_call6_call0_v1 : Ref sig .tc := ⟨.hbm, 364, rfl⟩
abbrev main_v217 : Ref sig .tc := ⟨.hbm, 365, rfl⟩
abbrev main_v218 : Ref sig .tc := ⟨.hbm, 366, rfl⟩
abbrev main_v219 : Ref sig .tc := ⟨.hbm, 367, rfl⟩
abbrev main_cst_24 : Ref sig .tc := ⟨.hbm, 368, rfl⟩
abbrev main_v220 : Ref sig .tc := ⟨.hbm, 369, rfl⟩
abbrev main_v221 : Ref sig .tc := ⟨.hbm, 370, rfl⟩
abbrev main_v222 : Ref sig .tc := ⟨.hbm, 371, rfl⟩
abbrev main_v223 : Ref sig .tc := ⟨.hbm, 372, rfl⟩
abbrev main_v224 : Ref sig .tc := ⟨.hbm, 373, rfl⟩
abbrev main_v225 : Ref sig .tc := ⟨.hbm, 374, rfl⟩
abbrev main_v226 : Ref sig .tc := ⟨.hbm, 375, rfl⟩
abbrev main_v227 : Ref sig .tc := ⟨.hbm, 376, rfl⟩
abbrev main_v228 : Ref sig .tc := ⟨.hbm, 377, rfl⟩
abbrev main_v229 : Ref sig .tc := ⟨.hbm, 378, rfl⟩
abbrev main_v230 : Ref sig .tc := ⟨.hbm, 379, rfl⟩
abbrev main_v231 : Ref sig .tc := ⟨.hbm, 380, rfl⟩
abbrev main_v232 : Ref sig .tc := ⟨.hbm, 381, rfl⟩
abbrev main_v233 : Ref sig .tc := ⟨.hbm, 382, rfl⟩
abbrev main_v234 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_v238 : Ref sig .tc := ⟨.hbm, 387, rfl⟩
abbrev main_v239 : Ref sig .tc := ⟨.hbm, 388, rfl⟩
abbrev main_v240 : Ref sig .tc := ⟨.hbm, 389, rfl⟩
abbrev main_v241 : Ref sig .tc := ⟨.hbm, 390, rfl⟩
abbrev main_v242 : Ref sig .tc := ⟨.hbm, 391, rfl⟩
abbrev main_v243 : Ref sig .tc := ⟨.hbm, 392, rfl⟩
abbrev main_v244 : Ref sig .tc := ⟨.hbm, 393, rfl⟩
abbrev main_v245 : Ref sig .tc := ⟨.hbm, 394, rfl⟩
abbrev main_v246 : Ref sig .tc := ⟨.hbm, 395, rfl⟩
abbrev main_v247 : Ref sig .tc := ⟨.hbm, 396, rfl⟩
abbrev main_v248 : Ref sig .tc := ⟨.hbm, 397, rfl⟩
abbrev main_v249 : Ref sig .tc := ⟨.hbm, 398, rfl⟩
abbrev main_v250 : Ref sig .tc := ⟨.hbm, 399, rfl⟩
abbrev main_v251 : Ref sig .tc := ⟨.hbm, 400, rfl⟩
abbrev main_v252 : Ref sig .tc := ⟨.hbm, 401, rfl⟩
abbrev main_v253 : Ref sig .tc := ⟨.hbm, 402, rfl⟩
abbrev main_v254 : Ref sig .tc := ⟨.hbm, 403, rfl⟩
abbrev main_v255 : Ref sig .tc := ⟨.hbm, 404, rfl⟩
abbrev main_v256 : Ref sig .tc := ⟨.hbm, 405, rfl⟩
abbrev main_v257 : Ref sig .tc := ⟨.hbm, 406, rfl⟩
abbrev main_v258 : Ref sig .tc := ⟨.hbm, 407, rfl⟩
abbrev main_v259 : Ref sig .tc := ⟨.hbm, 408, rfl⟩
abbrev main_v260 : Ref sig .tc := ⟨.hbm, 409, rfl⟩
abbrev main_v261 : Ref sig .tc := ⟨.hbm, 410, rfl⟩
abbrev main_v262 : Ref sig .tc := ⟨.hbm, 411, rfl⟩
abbrev main_v263 : Ref sig .tc := ⟨.hbm, 412, rfl⟩
abbrev main_v264 : Ref sig .tc := ⟨.hbm, 413, rfl⟩
abbrev main_v265 : Ref sig .tc := ⟨.hbm, 414, rfl⟩
abbrev main_v266 : Ref sig .tc := ⟨.hbm, 415, rfl⟩
abbrev main_cst_25 : Ref sig .tc := ⟨.hbm, 416, rfl⟩
abbrev main_v267 : Ref sig .tc := ⟨.hbm, 417, rfl⟩
abbrev main_v268 : Ref sig .tc := ⟨.hbm, 418, rfl⟩
abbrev main_cst_26 : Ref sig .tc := ⟨.hbm, 419, rfl⟩
abbrev main_v269 : Ref sig .tc := ⟨.hbm, 420, rfl⟩
abbrev main_cst_27 : Ref sig .tc := ⟨.hbm, 421, rfl⟩
abbrev main_v270 : Ref sig .tc := ⟨.hbm, 422, rfl⟩
abbrev main_v271 : Ref sig .tc := ⟨.hbm, 423, rfl⟩
abbrev main_v272 : Ref sig .tc := ⟨.hbm, 424, rfl⟩
abbrev main_v273 : Ref sig .tc := ⟨.hbm, 425, rfl⟩
abbrev main_v274 : Ref sig .tc := ⟨.hbm, 426, rfl⟩
abbrev main_v275 : Ref sig .tc := ⟨.hbm, 427, rfl⟩
abbrev main_cst_28 : Ref sig .tc := ⟨.hbm, 428, rfl⟩
abbrev main_v276 : Ref sig .tc := ⟨.hbm, 429, rfl⟩
abbrev main_v277 : Ref sig .tc := ⟨.hbm, 430, rfl⟩
abbrev main_v278 : Ref sig .tc := ⟨.hbm, 431, rfl⟩
abbrev main_v279 : Ref sig .tc := ⟨.hbm, 432, rfl⟩
abbrev main_v280 : Ref sig .tc := ⟨.hbm, 433, rfl⟩
abbrev main_v281 : Ref sig .tc := ⟨.hbm, 434, rfl⟩
abbrev main_v282 : Ref sig .tc := ⟨.hbm, 435, rfl⟩
abbrev main_v283 : Ref sig .tc := ⟨.hbm, 436, rfl⟩
abbrev main_v284 : Ref sig .tc := ⟨.hbm, 437, rfl⟩
abbrev main_v285 : Ref sig .tc := ⟨.hbm, 438, rfl⟩
abbrev main_v286 : Ref sig .tc := ⟨.hbm, 439, rfl⟩
abbrev main_v287 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_v291 : Ref sig .tc := ⟨.hbm, 444, rfl⟩
abbrev main_v292 : Ref sig .tc := ⟨.hbm, 445, rfl⟩
abbrev main_cst_29 : Ref sig .tc := ⟨.hbm, 446, rfl⟩
abbrev main_v293 : Ref sig .tc := ⟨.hbm, 447, rfl⟩
abbrev main_v294 : Ref sig .tc := ⟨.hbm, 448, rfl⟩
abbrev main_cst_30 : Ref sig .tc := ⟨.hbm, 449, rfl⟩
abbrev main_v295 : Ref sig .tc := ⟨.hbm, 450, rfl⟩
abbrev main_v296 : Ref sig .tc := ⟨.hbm, 451, rfl⟩
abbrev main_c_31 : Ref sig .tc := ⟨.hbm, 452, rfl⟩
abbrev main_call7_cst : Ref sig .tc := ⟨.hbm, 453, rfl⟩
abbrev main_call7_v0 : Ref sig .tc := ⟨.hbm, 454, rfl⟩
abbrev main_call7_v1 : Ref sig .tc := ⟨.hbm, 455, rfl⟩
abbrev main_call7_cst_0 : Ref sig .tc := ⟨.hbm, 456, rfl⟩
abbrev main_call7_v2 : Ref sig .tc := ⟨.hbm, 457, rfl⟩
abbrev main_call7_v3 : Ref sig .tc := ⟨.hbm, 458, rfl⟩
abbrev main_call7_v4 : Ref sig .tc := ⟨.hbm, 459, rfl⟩
abbrev main_call7_v5 : Ref sig .tc := ⟨.hbm, 460, rfl⟩
abbrev main_call7_v6 : Ref sig .tc := ⟨.hbm, 461, rfl⟩
abbrev main_call7_v7 : Ref sig .tc := ⟨.hbm, 462, rfl⟩
abbrev main_call7_cst_1 : Ref sig .tc := ⟨.hbm, 463, rfl⟩
abbrev main_call7_v8 : Ref sig .tc := ⟨.hbm, 464, rfl⟩
abbrev main_call7_cst_2 : Ref sig .tc := ⟨.hbm, 465, rfl⟩
abbrev main_call7_v9 : Ref sig .tc := ⟨.hbm, 466, rfl⟩
abbrev main_call7_v10 : Ref sig .tc := ⟨.hbm, 467, rfl⟩
abbrev main_call7_v11 : Ref sig .tc := ⟨.hbm, 468, rfl⟩
abbrev main_call7_v12 : Ref sig .tc := ⟨.hbm, 469, rfl⟩
abbrev main_call7_cst_3 : Ref sig .tc := ⟨.hbm, 470, rfl⟩
abbrev main_call7_v13 : Ref sig .tc := ⟨.hbm, 471, rfl⟩
abbrev main_call7_cst_4 : Ref sig .tc := ⟨.hbm, 472, rfl⟩
abbrev main_call7_call0_v0 : Ref sig .tc := ⟨.hbm, 473, rfl⟩
abbrev main_call7_call0_v1 : Ref sig .tc := ⟨.hbm, 474, rfl⟩
abbrev main_v297 : Ref sig .tc := ⟨.hbm, 475, rfl⟩
abbrev main_v298 : Ref sig .tc := ⟨.hbm, 476, rfl⟩
abbrev main_v299 : Ref sig .tc := ⟨.hbm, 477, rfl⟩
abbrev main_cst_32 : Ref sig .tc := ⟨.hbm, 478, rfl⟩
abbrev main_v300 : Ref sig .tc := ⟨.hbm, 479, rfl⟩
abbrev main_v301 : Ref sig .tc := ⟨.hbm, 480, rfl⟩
abbrev main_v302 : Ref sig .tc := ⟨.hbm, 481, rfl⟩
abbrev main_v303 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_v307 : Ref sig .tc := ⟨.hbm, 486, rfl⟩
abbrev main_v308 : Ref sig .tc := ⟨.hbm, 487, rfl⟩
abbrev main_v309 : Ref sig .tc := ⟨.hbm, 488, rfl⟩
abbrev main_v310 : Ref sig .tc := ⟨.hbm, 489, rfl⟩
abbrev main_v311 : Ref sig .tc := ⟨.hbm, 490, rfl⟩
abbrev main_v312 : Ref sig .tc := ⟨.hbm, 491, rfl⟩
abbrev main_v313 : Ref sig .tc := ⟨.hbm, 492, rfl⟩
abbrev main_v314 : Ref sig .tc := ⟨.hbm, 493, rfl⟩
abbrev main_v315 : Ref sig .tc := ⟨.hbm, 494, rfl⟩
abbrev main_v316 : Ref sig .tc := ⟨.hbm, 495, rfl⟩
abbrev main_v317 : Ref sig .tc := ⟨.hbm, 496, rfl⟩
abbrev main_v318 : Ref sig .tc := ⟨.hbm, 497, rfl⟩
abbrev main_v319 : Ref sig .tc := ⟨.hbm, 498, rfl⟩
abbrev main_v320 : Ref sig .tc := ⟨.hbm, 499, rfl⟩
abbrev main_v321 : Ref sig .tc := ⟨.hbm, 500, rfl⟩
abbrev main_v322 : Ref sig .tc := ⟨.hbm, 501, rfl⟩
abbrev main_v323 : Ref sig .tc := ⟨.hbm, 502, rfl⟩
abbrev main_v324 : Ref sig .tc := ⟨.hbm, 503, rfl⟩
abbrev main_v325 : Ref sig .tc := ⟨.hbm, 504, rfl⟩
abbrev main_v326 : Ref sig .tc := ⟨.hbm, 505, rfl⟩
abbrev main_v327 : Ref sig .tc := ⟨.hbm, 506, rfl⟩
abbrev main_v328 : Ref sig .tc := ⟨.hbm, 507, rfl⟩
abbrev main_v329 : Ref sig .tc := ⟨.hbm, 508, rfl⟩
abbrev main_v330 : Ref sig .tc := ⟨.hbm, 509, rfl⟩
abbrev main_v331 : Ref sig .tc := ⟨.hbm, 510, rfl⟩
abbrev main_v332 : Ref sig .tc := ⟨.hbm, 511, rfl⟩
abbrev main_v333 : Ref sig .tc := ⟨.hbm, 512, rfl⟩
abbrev main_v334 : Ref sig .tc := ⟨.hbm, 513, rfl⟩
abbrev main_v335 : Ref sig .tc := ⟨.hbm, 514, rfl⟩
abbrev main_v336 : Ref sig .tc := ⟨.hbm, 515, rfl⟩
abbrev main_v337 : Ref sig .tc := ⟨.hbm, 516, rfl⟩
abbrev main_v338 : Ref sig .tc := ⟨.hbm, 517, rfl⟩
abbrev main_v339 : Ref sig .tc := ⟨.hbm, 518, rfl⟩
abbrev main_v340 : Ref sig .tc := ⟨.hbm, 519, rfl⟩
abbrev main_v341 : Ref sig .tc := ⟨.hbm, 520, rfl⟩
abbrev main_v342 : Ref sig .tc := ⟨.hbm, 521, rfl⟩
abbrev main_v343 : Ref sig .tc := ⟨.hbm, 522, rfl⟩
abbrev main_v344 : Ref sig .tc := ⟨.hbm, 523, rfl⟩
abbrev main_v345 : Ref sig .tc := ⟨.hbm, 524, rfl⟩
abbrev main_v346 : Ref sig .tc := ⟨.hbm, 525, rfl⟩
abbrev main_cst_33 : Ref sig .tc := ⟨.hbm, 526, rfl⟩
abbrev main_v347 : Ref sig .tc := ⟨.hbm, 527, rfl⟩
abbrev main_v348 : Ref sig .tc := ⟨.hbm, 528, rfl⟩
abbrev main_cst_34 : Ref sig .tc := ⟨.hbm, 529, rfl⟩
abbrev main_call8_v0 : Ref sig .tc := ⟨.hbm, 530, rfl⟩
abbrev main_call8_v1 : Ref sig .tc := ⟨.hbm, 531, rfl⟩
abbrev main_call8_v2 : Ref sig .tc := ⟨.hbm, 532, rfl⟩
abbrev main_v349 : Ref sig .tc := ⟨.hbm, 533, rfl⟩
abbrev main_cst_35 : Ref sig .tc := ⟨.hbm, 534, rfl⟩
abbrev main_v350 : Ref sig .tc := ⟨.hbm, 535, rfl⟩
abbrev main_cst_36 : Ref sig .tc := ⟨.hbm, 536, rfl⟩
abbrev main_v351 : Ref sig .tc := ⟨.hbm, 537, rfl⟩
abbrev main_v352 : Ref sig .tc := ⟨.hbm, 538, rfl⟩
abbrev main_v353 : Ref sig .tc := ⟨.hbm, 539, rfl⟩
abbrev main_v354 : Ref sig .tc := ⟨.hbm, 540, rfl⟩
abbrev main_v355 : Ref sig .tc := ⟨.hbm, 541, rfl⟩
abbrev main_v356 : Ref sig .tc := ⟨.hbm, 542, rfl⟩
abbrev main_cst_37 : Ref sig .tc := ⟨.hbm, 543, rfl⟩
abbrev main_v357 : Ref sig .tc := ⟨.hbm, 544, rfl⟩
abbrev main_v358 : Ref sig .tc := ⟨.hbm, 545, rfl⟩
abbrev main_v359 : Ref sig .tc := ⟨.hbm, 546, rfl⟩
abbrev main_v360 : Ref sig .tc := ⟨.hbm, 547, rfl⟩
abbrev main_v361 : Ref sig .tc := ⟨.hbm, 548, rfl⟩
abbrev main_v362 : Ref sig .tc := ⟨.hbm, 549, rfl⟩
abbrev main_v363 : Ref sig .tc := ⟨.hbm, 550, rfl⟩
abbrev main_v364 : Ref sig .tc := ⟨.hbm, 551, rfl⟩
abbrev main_v365 : Ref sig .tc := ⟨.hbm, 552, rfl⟩
abbrev main_v366 : Ref sig .tc := ⟨.hbm, 553, rfl⟩
abbrev main_v367 : Ref sig .tc := ⟨.hbm, 554, rfl⟩
abbrev main_v368 : Ref sig .tc := ⟨.hbm, 555, rfl⟩
abbrev main_v369 : Ref sig .tc := ⟨.hbm, 556, rfl⟩
abbrev main_v370 : Ref sig .tc := ⟨.hbm, 557, rfl⟩
abbrev main_v371 : Ref sig .tc := ⟨.hbm, 558, rfl⟩
abbrev main_v372 : Ref sig .tc := ⟨.hbm, 559, rfl⟩
abbrev main_v373 : Ref sig .tc := ⟨.hbm, 560, rfl⟩
abbrev main_cst_38 : Ref sig .tc := ⟨.hbm, 561, rfl⟩
abbrev main_v374 : Ref sig .tc := ⟨.hbm, 562, rfl⟩
abbrev main_v375 : Ref sig .tc := ⟨.hbm, 563, rfl⟩
abbrev main_cst_39 : Ref sig .tc := ⟨.hbm, 564, rfl⟩
abbrev main_v376 : Ref sig .tc := ⟨.hbm, 565, rfl⟩
abbrev main_v377 : Ref sig .tc := ⟨.hbm, 566, rfl⟩
abbrev main_c_40 : Ref sig .tc := ⟨.hbm, 567, rfl⟩
abbrev main_call9_cst : Ref sig .tc := ⟨.hbm, 568, rfl⟩
abbrev main_call9_v0 : Ref sig .tc := ⟨.hbm, 569, rfl⟩
abbrev main_call9_v1 : Ref sig .tc := ⟨.hbm, 570, rfl⟩
abbrev main_call9_cst_0 : Ref sig .tc := ⟨.hbm, 571, rfl⟩
abbrev main_call9_v2 : Ref sig .tc := ⟨.hbm, 572, rfl⟩
abbrev main_call9_v3 : Ref sig .tc := ⟨.hbm, 573, rfl⟩
abbrev main_call9_v4 : Ref sig .tc := ⟨.hbm, 574, rfl⟩
abbrev main_call9_v5 : Ref sig .tc := ⟨.hbm, 575, rfl⟩
abbrev main_call9_v6 : Ref sig .tc := ⟨.hbm, 576, rfl⟩
abbrev main_call9_v7 : Ref sig .tc := ⟨.hbm, 577, rfl⟩
abbrev main_call9_cst_1 : Ref sig .tc := ⟨.hbm, 578, rfl⟩
abbrev main_call9_v8 : Ref sig .tc := ⟨.hbm, 579, rfl⟩
abbrev main_call9_cst_2 : Ref sig .tc := ⟨.hbm, 580, rfl⟩
abbrev main_call9_v9 : Ref sig .tc := ⟨.hbm, 581, rfl⟩
abbrev main_call9_v10 : Ref sig .tc := ⟨.hbm, 582, rfl⟩
abbrev main_call9_v11 : Ref sig .tc := ⟨.hbm, 583, rfl⟩
abbrev main_call9_v12 : Ref sig .tc := ⟨.hbm, 584, rfl⟩
abbrev main_call9_cst_3 : Ref sig .tc := ⟨.hbm, 585, rfl⟩
abbrev main_call9_v13 : Ref sig .tc := ⟨.hbm, 586, rfl⟩
abbrev main_call9_cst_4 : Ref sig .tc := ⟨.hbm, 587, rfl⟩
abbrev main_call9_call0_v0 : Ref sig .tc := ⟨.hbm, 588, rfl⟩
abbrev main_call9_call0_v1 : Ref sig .tc := ⟨.hbm, 589, rfl⟩
abbrev main_v378 : Ref sig .tc := ⟨.hbm, 590, rfl⟩
abbrev main_v379 : Ref sig .tc := ⟨.hbm, 591, rfl⟩
abbrev main_v380 : Ref sig .tc := ⟨.hbm, 592, rfl⟩
abbrev main_cst_41 : Ref sig .tc := ⟨.hbm, 593, rfl⟩
abbrev main_v381 : Ref sig .tc := ⟨.hbm, 594, rfl⟩
abbrev main_v382 : Ref sig .tc := ⟨.hbm, 595, rfl⟩
abbrev main_v383 : Ref sig .tc := ⟨.hbm, 596, rfl⟩
abbrev main_v384 : Ref sig .tc := ⟨.hbm, 597, rfl⟩
abbrev main_v385 : Ref sig .tc := ⟨.hbm, 598, rfl⟩
abbrev main_v386 : Ref sig .tc := ⟨.hbm, 599, rfl⟩
abbrev main_v387 : Ref sig .tc := ⟨.hbm, 600, rfl⟩
abbrev main_v388 : Ref sig .tc := ⟨.hbm, 601, rfl⟩
abbrev main_v389 : Ref sig .tc := ⟨.hbm, 602, rfl⟩
abbrev main_v390 : Ref sig .tc := ⟨.hbm, 603, rfl⟩
abbrev main_v391 : Ref sig .tc := ⟨.hbm, 604, rfl⟩
abbrev main_v392 : Ref sig .tc := ⟨.hbm, 605, rfl⟩
abbrev main_v393 : Ref sig .tc := ⟨.hbm, 606, rfl⟩
abbrev main_v394 : Ref sig .tc := ⟨.hbm, 607, rfl⟩
abbrev main_v395 : Ref sig .tc := ⟨.hbm, 608, rfl⟩
abbrev main_v396 : Ref sig .tc := ⟨.hbm, 609, rfl⟩
abbrev main_v397 : Ref sig .tc := ⟨.hbm, 610, rfl⟩
abbrev main_v398 : Ref sig .tc := ⟨.hbm, 611, rfl⟩
abbrev main_v399 : Ref sig .tc := ⟨.hbm, 612, rfl⟩
abbrev main_v400 : Ref sig .tc := ⟨.hbm, 613, rfl⟩
abbrev main_call10_cst : Ref sig .tc := ⟨.hbm, 614, rfl⟩
abbrev main_call10_v0 : Ref sig .tc := ⟨.hbm, 615, rfl⟩
abbrev main_v401 : Ref sig .tc := ⟨.hbm, 616, rfl⟩
abbrev main_v402 : Ref sig .tc := ⟨.hbm, 617, rfl⟩
abbrev main_v403 : Ref sig .tc := ⟨.hbm, 618, rfl⟩
abbrev main_v404 : Ref sig .tc := ⟨.hbm, 619, rfl⟩
abbrev main_v405 : Ref sig .tc := ⟨.hbm, 620, rfl⟩
abbrev main_v406 : Ref sig .tc := ⟨.hbm, 621, rfl⟩
abbrev main_v407 : Ref sig .tc := ⟨.hbm, 622, rfl⟩
abbrev main_v408 : Ref sig .tc := ⟨.hbm, 623, rfl⟩
abbrev main_v409 : Ref sig .tc := ⟨.hbm, 624, rfl⟩
abbrev main_v410 : Ref sig .tc := ⟨.hbm, 625, rfl⟩
abbrev main_v411 : Ref sig .tc := ⟨.hbm, 626, rfl⟩
abbrev main_v412 : Ref sig .tc := ⟨.hbm, 627, rfl⟩
abbrev main_v413 : Ref sig .tc := ⟨.hbm, 628, rfl⟩
abbrev main_v414 : Ref sig .tc := ⟨.hbm, 629, rfl⟩
abbrev main_v415 : Ref sig .tc := ⟨.hbm, 630, rfl⟩
abbrev main_cst_42 : Ref sig .tc := ⟨.hbm, 631, rfl⟩
abbrev main_v416 : Ref sig .tc := ⟨.hbm, 632, rfl⟩
abbrev main_v417 : Ref sig .tc := ⟨.hbm, 633, rfl⟩
abbrev main_cst_43 : Ref sig .tc := ⟨.hbm, 634, rfl⟩
abbrev main_v418 : Ref sig .tc := ⟨.hbm, 635, rfl⟩
abbrev main_v419 : Ref sig .tc := ⟨.hbm, 636, rfl⟩
abbrev main_c_44 : Ref sig .tc := ⟨.hbm, 637, rfl⟩
abbrev main_call11_cst : Ref sig .tc := ⟨.hbm, 638, rfl⟩
abbrev main_call11_v0 : Ref sig .tc := ⟨.hbm, 639, rfl⟩
abbrev main_call11_v1 : Ref sig .tc := ⟨.hbm, 640, rfl⟩
abbrev main_call11_cst_0 : Ref sig .tc := ⟨.hbm, 641, rfl⟩
abbrev main_call11_v2 : Ref sig .tc := ⟨.hbm, 642, rfl⟩
abbrev main_call11_v3 : Ref sig .tc := ⟨.hbm, 643, rfl⟩
abbrev main_call11_v4 : Ref sig .tc := ⟨.hbm, 644, rfl⟩
abbrev main_call11_v5 : Ref sig .tc := ⟨.hbm, 645, rfl⟩
abbrev main_call11_v6 : Ref sig .tc := ⟨.hbm, 646, rfl⟩
abbrev main_call11_v7 : Ref sig .tc := ⟨.hbm, 647, rfl⟩
abbrev main_call11_cst_1 : Ref sig .tc := ⟨.hbm, 648, rfl⟩
abbrev main_call11_v8 : Ref sig .tc := ⟨.hbm, 649, rfl⟩
abbrev main_call11_cst_2 : Ref sig .tc := ⟨.hbm, 650, rfl⟩
abbrev main_call11_v9 : Ref sig .tc := ⟨.hbm, 651, rfl⟩
abbrev main_call11_v10 : Ref sig .tc := ⟨.hbm, 652, rfl⟩
abbrev main_call11_v11 : Ref sig .tc := ⟨.hbm, 653, rfl⟩
abbrev main_call11_v12 : Ref sig .tc := ⟨.hbm, 654, rfl⟩
abbrev main_call11_cst_3 : Ref sig .tc := ⟨.hbm, 655, rfl⟩
abbrev main_call11_v13 : Ref sig .tc := ⟨.hbm, 656, rfl⟩
abbrev main_call11_cst_4 : Ref sig .tc := ⟨.hbm, 657, rfl⟩
abbrev main_call11_call0_v0 : Ref sig .tc := ⟨.hbm, 658, rfl⟩
abbrev main_call11_call0_v1 : Ref sig .tc := ⟨.hbm, 659, rfl⟩
abbrev main_v420 : Ref sig .tc := ⟨.hbm, 660, rfl⟩
abbrev main_v421 : Ref sig .tc := ⟨.hbm, 661, rfl⟩
abbrev main_v422 : Ref sig .tc := ⟨.hbm, 662, rfl⟩
abbrev main_cst_45 : Ref sig .tc := ⟨.hbm, 663, rfl⟩
abbrev main_v423 : Ref sig .tc := ⟨.hbm, 664, rfl⟩
abbrev main_v424 : Ref sig .tc := ⟨.hbm, 665, rfl⟩
abbrev main_v425 : Ref sig .tc := ⟨.hbm, 666, rfl⟩
abbrev main_v426 : Ref sig .tc := ⟨.hbm, 667, rfl⟩
abbrev main_v427 : Ref sig .tc := ⟨.hbm, 668, rfl⟩
abbrev main_v428 : Ref sig .tc := ⟨.hbm, 669, rfl⟩
abbrev main_v429 : Ref sig .tc := ⟨.hbm, 670, rfl⟩
abbrev main_v430 : Ref sig .tc := ⟨.hbm, 671, rfl⟩
abbrev main_v431 : Ref sig .tc := ⟨.hbm, 672, rfl⟩
abbrev main_v432 : Ref sig .tc := ⟨.hbm, 673, rfl⟩
abbrev main_v433 : Ref sig .tc := ⟨.hbm, 674, rfl⟩
abbrev main_v434 : Ref sig .tc := ⟨.hbm, 675, rfl⟩
abbrev main_v435 : Ref sig .tc := ⟨.hbm, 676, rfl⟩
abbrev main_v436 : Ref sig .tc := ⟨.hbm, 677, rfl⟩
abbrev main_v437 : Ref sig .tc := ⟨.hbm, 678, rfl⟩
abbrev main_v438 : Ref sig .tc := ⟨.hbm, 679, rfl⟩
abbrev main_v439 : Ref sig .tc := ⟨.hbm, 680, rfl⟩
abbrev main_v440 : Ref sig .tc := ⟨.hbm, 681, rfl⟩
abbrev main_v441 : Ref sig .tc := ⟨.hbm, 682, rfl⟩
abbrev main_v442 : Ref sig .tc := ⟨.hbm, 683, rfl⟩
abbrev main_v443 : Ref sig .tc := ⟨.hbm, 684, rfl⟩
abbrev main_v444 : Ref sig .tc := ⟨.hbm, 685, rfl⟩
abbrev main_v445 : Ref sig .tc := ⟨.hbm, 686, rfl⟩
abbrev main_v446 : Ref sig .tc := ⟨.hbm, 687, rfl⟩
abbrev main_v447 : Ref sig .tc := ⟨.hbm, 688, rfl⟩
abbrev main_v448 : Ref sig .tc := ⟨.hbm, 689, rfl⟩
abbrev main_v449 : Ref sig .tc := ⟨.hbm, 690, rfl⟩
abbrev main_v450 : Ref sig .tc := ⟨.hbm, 691, rfl⟩
abbrev main_v451 : Ref sig .tc := ⟨.hbm, 692, rfl⟩
abbrev main_v452 : Ref sig .tc := ⟨.hbm, 693, rfl⟩
abbrev main_v453 : Ref sig .tc := ⟨.hbm, 694, rfl⟩
abbrev main_v454 : Ref sig .tc := ⟨.hbm, 695, rfl⟩
abbrev main_v455 : Ref sig .tc := ⟨.hbm, 696, rfl⟩
abbrev main_v456 : Ref sig .tc := ⟨.hbm, 697, rfl⟩
abbrev main_v457 : Ref sig .tc := ⟨.hbm, 698, rfl⟩
abbrev main_v458 : Ref sig .tc := ⟨.hbm, 699, rfl⟩
abbrev main_v459 : Ref sig .tc := ⟨.hbm, 700, rfl⟩
abbrev main_v460 : Ref sig .tc := ⟨.hbm, 701, rfl⟩
abbrev main_v461 : Ref sig .tc := ⟨.hbm, 702, rfl⟩
abbrev main_v462 : Ref sig .tc := ⟨.hbm, 703, rfl⟩
abbrev main_v463 : Ref sig .tc := ⟨.hbm, 704, rfl⟩
abbrev main_v464 : Ref sig .tc := ⟨.hbm, 705, rfl⟩
abbrev main_v465 : Ref sig .tc := ⟨.hbm, 706, rfl⟩
abbrev main_v466 : Ref sig .tc := ⟨.hbm, 707, rfl⟩
abbrev main_v467 : Ref sig .tc := ⟨.hbm, 708, rfl⟩
abbrev main_v468 : Ref sig .tc := ⟨.hbm, 709, rfl⟩
abbrev main_v469 : Ref sig .tc := ⟨.hbm, 710, rfl⟩
abbrev main_cst_46 : Ref sig .tc := ⟨.hbm, 711, rfl⟩
abbrev main_v470 : Ref sig .tc := ⟨.hbm, 712, rfl⟩
abbrev main_v471 : Ref sig .tc := ⟨.hbm, 713, rfl⟩
abbrev main_cst_47 : Ref sig .tc := ⟨.hbm, 714, rfl⟩
abbrev main_v472 : Ref sig .tc := ⟨.hbm, 715, rfl⟩
abbrev main_cst_48 : Ref sig .tc := ⟨.hbm, 716, rfl⟩
abbrev main_v473 : Ref sig .tc := ⟨.hbm, 717, rfl⟩
abbrev main_v474 : Ref sig .tc := ⟨.hbm, 718, rfl⟩
abbrev main_v475 : Ref sig .tc := ⟨.hbm, 719, rfl⟩
abbrev main_v476 : Ref sig .tc := ⟨.hbm, 720, rfl⟩
abbrev main_v477 : Ref sig .tc := ⟨.hbm, 721, rfl⟩
abbrev main_v478 : Ref sig .tc := ⟨.hbm, 722, rfl⟩
abbrev main_cst_49 : Ref sig .tc := ⟨.hbm, 723, rfl⟩
abbrev main_v479 : Ref sig .tc := ⟨.hbm, 724, rfl⟩
abbrev main_v480 : Ref sig .tc := ⟨.hbm, 725, rfl⟩
abbrev main_v481 : Ref sig .tc := ⟨.hbm, 726, rfl⟩
abbrev main_v482 : Ref sig .tc := ⟨.hbm, 727, rfl⟩
abbrev main_v483 : Ref sig .tc := ⟨.hbm, 728, rfl⟩
abbrev main_v484 : Ref sig .tc := ⟨.hbm, 729, rfl⟩
abbrev main_v485 : Ref sig .tc := ⟨.hbm, 730, rfl⟩
abbrev main_v486 : Ref sig .tc := ⟨.hbm, 731, rfl⟩
abbrev main_v487 : Ref sig .tc := ⟨.hbm, 732, rfl⟩
abbrev main_v488 : Ref sig .tc := ⟨.hbm, 733, rfl⟩
abbrev main_v489 : Ref sig .tc := ⟨.hbm, 734, rfl⟩
abbrev main_v490 : Ref sig .tc := ⟨.hbm, 735, rfl⟩
abbrev main_v491 : Ref sig .tc := ⟨.hbm, 736, rfl⟩
abbrev main_v492 : Ref sig .tc := ⟨.hbm, 737, rfl⟩
abbrev main_v493 : Ref sig .tc := ⟨.hbm, 738, rfl⟩
abbrev main_v494 : Ref sig .tc := ⟨.hbm, 739, rfl⟩
abbrev main_v495 : Ref sig .tc := ⟨.hbm, 740, rfl⟩
abbrev main_cst_50 : Ref sig .tc := ⟨.hbm, 741, rfl⟩
abbrev main_v496 : Ref sig .tc := ⟨.hbm, 742, rfl⟩
abbrev main_v497 : Ref sig .tc := ⟨.hbm, 743, rfl⟩
abbrev main_cst_51 : Ref sig .tc := ⟨.hbm, 744, rfl⟩
abbrev main_v498 : Ref sig .tc := ⟨.hbm, 745, rfl⟩
abbrev main_v499 : Ref sig .tc := ⟨.hbm, 746, rfl⟩
abbrev main_c_52 : Ref sig .tc := ⟨.hbm, 747, rfl⟩
abbrev main_call12_cst : Ref sig .tc := ⟨.hbm, 748, rfl⟩
abbrev main_call12_v0 : Ref sig .tc := ⟨.hbm, 749, rfl⟩
abbrev main_call12_v1 : Ref sig .tc := ⟨.hbm, 750, rfl⟩
abbrev main_call12_cst_0 : Ref sig .tc := ⟨.hbm, 751, rfl⟩
abbrev main_call12_v2 : Ref sig .tc := ⟨.hbm, 752, rfl⟩
abbrev main_call12_v3 : Ref sig .tc := ⟨.hbm, 753, rfl⟩
abbrev main_call12_v4 : Ref sig .tc := ⟨.hbm, 754, rfl⟩
abbrev main_call12_v5 : Ref sig .tc := ⟨.hbm, 755, rfl⟩
abbrev main_call12_v6 : Ref sig .tc := ⟨.hbm, 756, rfl⟩
abbrev main_call12_v7 : Ref sig .tc := ⟨.hbm, 757, rfl⟩
abbrev main_call12_cst_1 : Ref sig .tc := ⟨.hbm, 758, rfl⟩
abbrev main_call12_v8 : Ref sig .tc := ⟨.hbm, 759, rfl⟩
abbrev main_call12_cst_2 : Ref sig .tc := ⟨.hbm, 760, rfl⟩
abbrev main_call12_v9 : Ref sig .tc := ⟨.hbm, 761, rfl⟩
abbrev main_call12_v10 : Ref sig .tc := ⟨.hbm, 762, rfl⟩
abbrev main_call12_v11 : Ref sig .tc := ⟨.hbm, 763, rfl⟩
abbrev main_call12_v12 : Ref sig .tc := ⟨.hbm, 764, rfl⟩
abbrev main_call12_cst_3 : Ref sig .tc := ⟨.hbm, 765, rfl⟩
abbrev main_call12_v13 : Ref sig .tc := ⟨.hbm, 766, rfl⟩
abbrev main_call12_cst_4 : Ref sig .tc := ⟨.hbm, 767, rfl⟩
abbrev main_call12_call0_v0 : Ref sig .tc := ⟨.hbm, 768, rfl⟩
abbrev main_call12_call0_v1 : Ref sig .tc := ⟨.hbm, 769, rfl⟩
abbrev main_v500 : Ref sig .tc := ⟨.hbm, 770, rfl⟩
abbrev main_v501 : Ref sig .tc := ⟨.hbm, 771, rfl⟩
abbrev main_v502 : Ref sig .tc := ⟨.hbm, 772, rfl⟩
abbrev main_cst_53 : Ref sig .tc := ⟨.hbm, 773, rfl⟩
abbrev main_v503 : Ref sig .tc := ⟨.hbm, 774, rfl⟩
abbrev main_v504 : Ref sig .tc := ⟨.hbm, 775, rfl⟩
abbrev main_v505 : Ref sig .tc := ⟨.hbm, 776, rfl⟩
abbrev main_v506 : Ref sig .tc := ⟨.hbm, 777, rfl⟩
abbrev main_v507 : Ref sig .tc := ⟨.hbm, 778, rfl⟩
abbrev main_v508 : Ref sig .tc := ⟨.hbm, 779, rfl⟩
abbrev main_v509 : Ref sig .tc := ⟨.hbm, 780, rfl⟩
abbrev main_v510 : Ref sig .tc := ⟨.hbm, 781, rfl⟩
abbrev main_v511 : Ref sig .tc := ⟨.hbm, 782, rfl⟩
abbrev main_v512 : Ref sig .tc := ⟨.hbm, 783, rfl⟩
abbrev main_v513 : Ref sig .tc := ⟨.hbm, 784, rfl⟩
abbrev main_v514 : Ref sig .tc := ⟨.hbm, 785, rfl⟩
abbrev main_v515 : Ref sig .tc := ⟨.hbm, 786, rfl⟩
abbrev main_v516 : Ref sig .tc := ⟨.hbm, 787, rfl⟩
abbrev main_v517 : Ref sig .tc := ⟨.hbm, 788, rfl⟩
abbrev main_v518 : Ref sig .tc := ⟨.hbm, 789, rfl⟩
abbrev main_v519 : Ref sig .tc := ⟨.hbm, 790, rfl⟩
abbrev main_v520 : Ref sig .tc := ⟨.hbm, 791, rfl⟩
abbrev main_v521 : Ref sig .tc := ⟨.hbm, 792, rfl⟩
abbrev main_v522 : Ref sig .tc := ⟨.hbm, 793, rfl⟩
abbrev main_v523 : Ref sig .tc := ⟨.hbm, 794, rfl⟩
abbrev main_v524 : Ref sig .tc := ⟨.hbm, 795, rfl⟩
abbrev main_v525 : Ref sig .tc := ⟨.hbm, 796, rfl⟩
abbrev main_v526 : Ref sig .tc := ⟨.hbm, 797, rfl⟩
abbrev main_v527 : Ref sig .tc := ⟨.hbm, 798, rfl⟩
abbrev main_v528 : Ref sig .tc := ⟨.hbm, 799, rfl⟩
abbrev main_v529 : Ref sig .tc := ⟨.hbm, 800, rfl⟩
abbrev main_v530 : Ref sig .tc := ⟨.hbm, 801, rfl⟩
abbrev main_v531 : Ref sig .tc := ⟨.hbm, 802, rfl⟩
abbrev main_v532 : Ref sig .tc := ⟨.hbm, 803, rfl⟩
abbrev main_v533 : Ref sig .tc := ⟨.hbm, 804, rfl⟩
abbrev main_v534 : Ref sig .tc := ⟨.hbm, 805, rfl⟩
abbrev main_v535 : Ref sig .tc := ⟨.hbm, 806, rfl⟩
abbrev main_v536 : Ref sig .tc := ⟨.hbm, 807, rfl⟩
abbrev main_v537 : Ref sig .tc := ⟨.hbm, 808, rfl⟩
abbrev main_v538 : Ref sig .tc := ⟨.hbm, 809, rfl⟩
abbrev main_v539 : Ref sig .tc := ⟨.hbm, 810, rfl⟩
abbrev main_v540 : Ref sig .tc := ⟨.hbm, 811, rfl⟩
abbrev main_v541 : Ref sig .tc := ⟨.hbm, 812, rfl⟩
abbrev main_v542 : Ref sig .tc := ⟨.hbm, 813, rfl⟩
abbrev main_v543 : Ref sig .tc := ⟨.hbm, 814, rfl⟩
abbrev main_v544 : Ref sig .tc := ⟨.hbm, 815, rfl⟩
abbrev main_v545 : Ref sig .tc := ⟨.hbm, 816, rfl⟩
abbrev main_v546 : Ref sig .tc := ⟨.hbm, 817, rfl⟩
abbrev main_v547 : Ref sig .tc := ⟨.hbm, 818, rfl⟩
abbrev main_v548 : Ref sig .tc := ⟨.hbm, 819, rfl⟩
abbrev main_v549 : Ref sig .tc := ⟨.hbm, 820, rfl⟩
abbrev main_cst_54 : Ref sig .tc := ⟨.hbm, 821, rfl⟩
abbrev main_v550 : Ref sig .tc := ⟨.hbm, 822, rfl⟩
abbrev main_v551 : Ref sig .tc := ⟨.hbm, 823, rfl⟩
abbrev main_cst_55 : Ref sig .tc := ⟨.hbm, 824, rfl⟩
abbrev main_call13_v0 : Ref sig .tc := ⟨.hbm, 825, rfl⟩
abbrev main_call13_v1 : Ref sig .tc := ⟨.hbm, 826, rfl⟩
abbrev main_call13_v2 : Ref sig .tc := ⟨.hbm, 827, rfl⟩
abbrev main_v552 : Ref sig .tc := ⟨.hbm, 828, rfl⟩
abbrev main_cst_56 : Ref sig .tc := ⟨.hbm, 829, rfl⟩
abbrev main_v553 : Ref sig .tc := ⟨.hbm, 830, rfl⟩
abbrev main_cst_57 : Ref sig .tc := ⟨.hbm, 831, rfl⟩
abbrev main_v554 : Ref sig .tc := ⟨.hbm, 832, rfl⟩
abbrev main_v555 : Ref sig .tc := ⟨.hbm, 833, rfl⟩
abbrev main_v556 : Ref sig .tc := ⟨.hbm, 834, rfl⟩
abbrev main_v557 : Ref sig .tc := ⟨.hbm, 835, rfl⟩
abbrev main_v558 : Ref sig .tc := ⟨.hbm, 836, rfl⟩
abbrev main_v559 : Ref sig .tc := ⟨.hbm, 837, rfl⟩
abbrev main_cst_58 : Ref sig .tc := ⟨.hbm, 838, rfl⟩
abbrev main_v560 : Ref sig .tc := ⟨.hbm, 839, rfl⟩
abbrev main_v561 : Ref sig .tc := ⟨.hbm, 840, rfl⟩
abbrev main_v562 : Ref sig .tc := ⟨.hbm, 841, rfl⟩
abbrev main_v563 : Ref sig .tc := ⟨.hbm, 842, rfl⟩
abbrev main_v564 : Ref sig .tc := ⟨.hbm, 843, rfl⟩
abbrev main_v565 : Ref sig .tc := ⟨.hbm, 844, rfl⟩
abbrev main_v566 : Ref sig .tc := ⟨.hbm, 845, rfl⟩
abbrev main_v567 : Ref sig .tc := ⟨.hbm, 846, rfl⟩
abbrev main_v568 : Ref sig .tc := ⟨.hbm, 847, rfl⟩
abbrev main_v569 : Ref sig .tc := ⟨.hbm, 848, rfl⟩
abbrev main_v570 : Ref sig .tc := ⟨.hbm, 849, rfl⟩
abbrev main_v571 : Ref sig .tc := ⟨.hbm, 850, rfl⟩
abbrev main_v572 : Ref sig .tc := ⟨.hbm, 851, rfl⟩
abbrev main_v573 : Ref sig .tc := ⟨.hbm, 852, rfl⟩
abbrev main_v574 : Ref sig .tc := ⟨.hbm, 853, rfl⟩
abbrev main_v575 : Ref sig .tc := ⟨.hbm, 854, rfl⟩
abbrev main_v576 : Ref sig .tc := ⟨.hbm, 855, rfl⟩
abbrev main_cst_59 : Ref sig .tc := ⟨.hbm, 856, rfl⟩
abbrev main_v577 : Ref sig .tc := ⟨.hbm, 857, rfl⟩
abbrev main_v578 : Ref sig .tc := ⟨.hbm, 858, rfl⟩
abbrev main_cst_60 : Ref sig .tc := ⟨.hbm, 859, rfl⟩
abbrev main_v579 : Ref sig .tc := ⟨.hbm, 860, rfl⟩
abbrev main_v580 : Ref sig .tc := ⟨.hbm, 861, rfl⟩
abbrev main_c_61 : Ref sig .tc := ⟨.hbm, 862, rfl⟩
abbrev main_call14_cst : Ref sig .tc := ⟨.hbm, 863, rfl⟩
abbrev main_call14_v0 : Ref sig .tc := ⟨.hbm, 864, rfl⟩
abbrev main_call14_v1 : Ref sig .tc := ⟨.hbm, 865, rfl⟩
abbrev main_call14_cst_0 : Ref sig .tc := ⟨.hbm, 866, rfl⟩
abbrev main_call14_v2 : Ref sig .tc := ⟨.hbm, 867, rfl⟩
abbrev main_call14_v3 : Ref sig .tc := ⟨.hbm, 868, rfl⟩
abbrev main_call14_v4 : Ref sig .tc := ⟨.hbm, 869, rfl⟩
abbrev main_call14_v5 : Ref sig .tc := ⟨.hbm, 870, rfl⟩
abbrev main_call14_v6 : Ref sig .tc := ⟨.hbm, 871, rfl⟩
abbrev main_call14_v7 : Ref sig .tc := ⟨.hbm, 872, rfl⟩
abbrev main_call14_cst_1 : Ref sig .tc := ⟨.hbm, 873, rfl⟩
abbrev main_call14_v8 : Ref sig .tc := ⟨.hbm, 874, rfl⟩
abbrev main_call14_cst_2 : Ref sig .tc := ⟨.hbm, 875, rfl⟩
abbrev main_call14_v9 : Ref sig .tc := ⟨.hbm, 876, rfl⟩
abbrev main_call14_v10 : Ref sig .tc := ⟨.hbm, 877, rfl⟩
abbrev main_call14_v11 : Ref sig .tc := ⟨.hbm, 878, rfl⟩
abbrev main_call14_v12 : Ref sig .tc := ⟨.hbm, 879, rfl⟩
abbrev main_call14_cst_3 : Ref sig .tc := ⟨.hbm, 880, rfl⟩
abbrev main_call14_v13 : Ref sig .tc := ⟨.hbm, 881, rfl⟩
abbrev main_call14_cst_4 : Ref sig .tc := ⟨.hbm, 882, rfl⟩
abbrev main_call14_call0_v0 : Ref sig .tc := ⟨.hbm, 883, rfl⟩
abbrev main_call14_call0_v1 : Ref sig .tc := ⟨.hbm, 884, rfl⟩
abbrev main_v581 : Ref sig .tc := ⟨.hbm, 885, rfl⟩
abbrev main_v582 : Ref sig .tc := ⟨.hbm, 886, rfl⟩
abbrev main_v583 : Ref sig .tc := ⟨.hbm, 887, rfl⟩
abbrev main_cst_62 : Ref sig .tc := ⟨.hbm, 888, rfl⟩
abbrev main_v584 : Ref sig .tc := ⟨.hbm, 889, rfl⟩
abbrev main_v585 : Ref sig .tc := ⟨.hbm, 890, rfl⟩
abbrev main_v586 : Ref sig .tc := ⟨.hbm, 891, rfl⟩
abbrev main_v587 : Ref sig .tc := ⟨.hbm, 892, rfl⟩
abbrev main_v588 : Ref sig .tc := ⟨.hbm, 893, rfl⟩
abbrev main_v589 : Ref sig .tc := ⟨.hbm, 894, rfl⟩
abbrev main_v590 : Ref sig .tc := ⟨.hbm, 895, rfl⟩
abbrev main_v591 : Ref sig .tc := ⟨.hbm, 896, rfl⟩
abbrev main_v592 : Ref sig .tc := ⟨.hbm, 897, rfl⟩
abbrev main_v593 : Ref sig .tc := ⟨.hbm, 898, rfl⟩
abbrev main_v594 : Ref sig .tc := ⟨.hbm, 899, rfl⟩
abbrev main_v595 : Ref sig .tc := ⟨.hbm, 900, rfl⟩
abbrev main_v596 : Ref sig .tc := ⟨.hbm, 901, rfl⟩
abbrev main_v597 : Ref sig .tc := ⟨.hbm, 902, rfl⟩
abbrev main_v598 : Ref sig .tc := ⟨.hbm, 903, rfl⟩
abbrev main_v599 : Ref sig .tc := ⟨.hbm, 904, rfl⟩
abbrev main_v600 : Ref sig .tc := ⟨.hbm, 905, rfl⟩
abbrev main_v601 : Ref sig .tc := ⟨.hbm, 906, rfl⟩
abbrev main_v602 : Ref sig .tc := ⟨.hbm, 907, rfl⟩
abbrev main_v603 : Ref sig .tc := ⟨.hbm, 908, rfl⟩
abbrev main_call15_cst : Ref sig .tc := ⟨.hbm, 909, rfl⟩
abbrev main_call15_v0 : Ref sig .tc := ⟨.hbm, 910, rfl⟩
abbrev main_v604 : Ref sig .tc := ⟨.hbm, 911, rfl⟩
abbrev main_v605 : Ref sig .tc := ⟨.hbm, 912, rfl⟩
abbrev main_v606 : Ref sig .tc := ⟨.hbm, 913, rfl⟩
abbrev main_v607 : Ref sig .tc := ⟨.hbm, 914, rfl⟩
abbrev main_v608 : Ref sig .tc := ⟨.hbm, 915, rfl⟩
abbrev main_v609 : Ref sig .tc := ⟨.hbm, 916, rfl⟩
abbrev main_v610 : Ref sig .tc := ⟨.hbm, 917, rfl⟩
abbrev main_v611 : Ref sig .tc := ⟨.hbm, 918, rfl⟩
abbrev main_v612 : Ref sig .tc := ⟨.hbm, 919, rfl⟩
abbrev main_v613 : Ref sig .tc := ⟨.hbm, 920, rfl⟩
abbrev main_v614 : Ref sig .tc := ⟨.hbm, 921, rfl⟩
abbrev main_v615 : Ref sig .tc := ⟨.hbm, 922, rfl⟩
abbrev main_v616 : Ref sig .tc := ⟨.hbm, 923, rfl⟩
abbrev main_v617 : Ref sig .tc := ⟨.hbm, 924, rfl⟩
abbrev main_v618 : Ref sig .tc := ⟨.hbm, 925, rfl⟩
abbrev main_cst_63 : Ref sig .tc := ⟨.hbm, 926, rfl⟩
abbrev main_v619 : Ref sig .tc := ⟨.hbm, 927, rfl⟩
abbrev main_v620 : Ref sig .tc := ⟨.hbm, 928, rfl⟩
abbrev main_cst_64 : Ref sig .tc := ⟨.hbm, 929, rfl⟩
abbrev main_v621 : Ref sig .tc := ⟨.hbm, 930, rfl⟩
abbrev main_v622 : Ref sig .tc := ⟨.hbm, 931, rfl⟩
abbrev main_c_65 : Ref sig .tc := ⟨.hbm, 932, rfl⟩
abbrev main_call16_cst : Ref sig .tc := ⟨.hbm, 933, rfl⟩
abbrev main_call16_v0 : Ref sig .tc := ⟨.hbm, 934, rfl⟩
abbrev main_call16_v1 : Ref sig .tc := ⟨.hbm, 935, rfl⟩
abbrev main_call16_cst_0 : Ref sig .tc := ⟨.hbm, 936, rfl⟩
abbrev main_call16_v2 : Ref sig .tc := ⟨.hbm, 937, rfl⟩
abbrev main_call16_v3 : Ref sig .tc := ⟨.hbm, 938, rfl⟩
abbrev main_call16_v4 : Ref sig .tc := ⟨.hbm, 939, rfl⟩
abbrev main_call16_v5 : Ref sig .tc := ⟨.hbm, 940, rfl⟩
abbrev main_call16_v6 : Ref sig .tc := ⟨.hbm, 941, rfl⟩
abbrev main_call16_v7 : Ref sig .tc := ⟨.hbm, 942, rfl⟩
abbrev main_call16_cst_1 : Ref sig .tc := ⟨.hbm, 943, rfl⟩
abbrev main_call16_v8 : Ref sig .tc := ⟨.hbm, 944, rfl⟩
abbrev main_call16_cst_2 : Ref sig .tc := ⟨.hbm, 945, rfl⟩
abbrev main_call16_v9 : Ref sig .tc := ⟨.hbm, 946, rfl⟩
abbrev main_call16_v10 : Ref sig .tc := ⟨.hbm, 947, rfl⟩
abbrev main_call16_v11 : Ref sig .tc := ⟨.hbm, 948, rfl⟩
abbrev main_call16_v12 : Ref sig .tc := ⟨.hbm, 949, rfl⟩
abbrev main_call16_cst_3 : Ref sig .tc := ⟨.hbm, 950, rfl⟩
abbrev main_call16_v13 : Ref sig .tc := ⟨.hbm, 951, rfl⟩
abbrev main_call16_cst_4 : Ref sig .tc := ⟨.hbm, 952, rfl⟩
abbrev main_call16_call0_v0 : Ref sig .tc := ⟨.hbm, 953, rfl⟩
abbrev main_call16_call0_v1 : Ref sig .tc := ⟨.hbm, 954, rfl⟩
abbrev main_v623 : Ref sig .tc := ⟨.hbm, 955, rfl⟩
abbrev main_v624 : Ref sig .tc := ⟨.hbm, 956, rfl⟩
abbrev main_v625 : Ref sig .tc := ⟨.hbm, 957, rfl⟩
abbrev main_cst_66 : Ref sig .tc := ⟨.hbm, 958, rfl⟩
abbrev main_v626 : Ref sig .tc := ⟨.hbm, 959, rfl⟩
abbrev main_v627 : Ref sig .tc := ⟨.hbm, 960, rfl⟩
abbrev main_v628 : Ref sig .tc := ⟨.hbm, 961, rfl⟩
abbrev main_v629 : Ref sig .tc := ⟨.hbm, 962, rfl⟩
abbrev main_v630 : Ref sig .tc := ⟨.hbm, 963, rfl⟩
abbrev main_v631 : Ref sig .tc := ⟨.hbm, 964, rfl⟩
abbrev main_v632 : Ref sig .tc := ⟨.hbm, 965, rfl⟩
abbrev main_v633 : Ref sig .tc := ⟨.hbm, 966, rfl⟩
abbrev main_v634 : Ref sig .tc := ⟨.hbm, 967, rfl⟩
abbrev main_v635 : Ref sig .tc := ⟨.hbm, 968, rfl⟩
abbrev main_v636 : Ref sig .tc := ⟨.hbm, 969, rfl⟩
abbrev main_v637 : Ref sig .tc := ⟨.hbm, 970, rfl⟩
abbrev main_v638 : Ref sig .tc := ⟨.hbm, 971, rfl⟩
abbrev main_v639 : Ref sig .tc := ⟨.hbm, 972, rfl⟩
abbrev main_v640 : Ref sig .tc := ⟨.hbm, 973, rfl⟩
abbrev main_v641 : Ref sig .tc := ⟨.hbm, 974, rfl⟩
abbrev main_v642 : Ref sig .tc := ⟨.hbm, 975, rfl⟩
abbrev main_v643 : Ref sig .tc := ⟨.hbm, 976, rfl⟩
abbrev main_v644 : Ref sig .tc := ⟨.hbm, 977, rfl⟩
abbrev main_v645 : Ref sig .tc := ⟨.hbm, 978, rfl⟩
abbrev main_v646 : Ref sig .tc := ⟨.hbm, 979, rfl⟩
abbrev main_v647 : Ref sig .tc := ⟨.hbm, 980, rfl⟩
abbrev main_v648 : Ref sig .tc := ⟨.hbm, 981, rfl⟩
abbrev main_v649 : Ref sig .tc := ⟨.hbm, 982, rfl⟩
abbrev main_v650 : Ref sig .tc := ⟨.hbm, 983, rfl⟩
abbrev main_v651 : Ref sig .tc := ⟨.hbm, 984, rfl⟩
abbrev main_v652 : Ref sig .tc := ⟨.hbm, 985, rfl⟩
abbrev main_v653 : Ref sig .tc := ⟨.hbm, 986, rfl⟩
abbrev main_v654 : Ref sig .tc := ⟨.hbm, 987, rfl⟩
abbrev main_v655 : Ref sig .tc := ⟨.hbm, 988, rfl⟩
abbrev main_v656 : Ref sig .tc := ⟨.hbm, 989, rfl⟩
abbrev main_v657 : Ref sig .tc := ⟨.hbm, 990, rfl⟩
abbrev main_v658 : Ref sig .tc := ⟨.hbm, 991, rfl⟩
abbrev main_v659 : Ref sig .tc := ⟨.hbm, 992, rfl⟩
abbrev main_v660 : Ref sig .tc := ⟨.hbm, 993, rfl⟩
abbrev main_v661 : Ref sig .tc := ⟨.hbm, 994, rfl⟩
abbrev main_v662 : Ref sig .tc := ⟨.hbm, 995, rfl⟩
abbrev main_v663 : Ref sig .tc := ⟨.hbm, 996, rfl⟩
abbrev main_v664 : Ref sig .tc := ⟨.hbm, 997, rfl⟩
abbrev main_v665 : Ref sig .tc := ⟨.hbm, 998, rfl⟩
abbrev main_v666 : Ref sig .tc := ⟨.hbm, 999, rfl⟩
abbrev main_v667 : Ref sig .tc := ⟨.hbm, 1000, rfl⟩
abbrev main_v668 : Ref sig .tc := ⟨.hbm, 1001, rfl⟩
abbrev main_v669 : Ref sig .tc := ⟨.hbm, 1002, rfl⟩
abbrev main_v670 : Ref sig .tc := ⟨.hbm, 1003, rfl⟩
abbrev main_v671 : Ref sig .tc := ⟨.hbm, 1004, rfl⟩
abbrev main_v672 : Ref sig .tc := ⟨.hbm, 1005, rfl⟩
abbrev main_cst_67 : Ref sig .tc := ⟨.hbm, 1006, rfl⟩
abbrev main_v673 : Ref sig .tc := ⟨.hbm, 1007, rfl⟩
abbrev main_v674 : Ref sig .tc := ⟨.hbm, 1008, rfl⟩
abbrev main_cst_68 : Ref sig .tc := ⟨.hbm, 1009, rfl⟩
abbrev main_v675 : Ref sig .tc := ⟨.hbm, 1010, rfl⟩
abbrev main_cst_69 : Ref sig .tc := ⟨.hbm, 1011, rfl⟩
abbrev main_v676 : Ref sig .tc := ⟨.hbm, 1012, rfl⟩
abbrev main_v677 : Ref sig .tc := ⟨.hbm, 1013, rfl⟩
abbrev main_v678 : Ref sig .tc := ⟨.hbm, 1014, rfl⟩
abbrev main_v679 : Ref sig .tc := ⟨.hbm, 1015, rfl⟩
abbrev main_v680 : Ref sig .tc := ⟨.hbm, 1016, rfl⟩
abbrev main_v681 : Ref sig .tc := ⟨.hbm, 1017, rfl⟩
abbrev main_cst_70 : Ref sig .tc := ⟨.hbm, 1018, rfl⟩
abbrev main_v682 : Ref sig .tc := ⟨.hbm, 1019, rfl⟩
abbrev main_v683 : Ref sig .tc := ⟨.hbm, 1020, rfl⟩
abbrev main_v684 : Ref sig .tc := ⟨.hbm, 1021, rfl⟩
abbrev main_v685 : Ref sig .tc := ⟨.hbm, 1022, rfl⟩
abbrev main_v686 : Ref sig .tc := ⟨.hbm, 1023, rfl⟩
abbrev main_v687 : Ref sig .tc := ⟨.hbm, 1024, rfl⟩
abbrev main_v688 : Ref sig .tc := ⟨.hbm, 1025, rfl⟩
abbrev main_v689 : Ref sig .tc := ⟨.hbm, 1026, rfl⟩
abbrev main_v690 : Ref sig .tc := ⟨.hbm, 1027, rfl⟩
abbrev main_v691 : Ref sig .tc := ⟨.hbm, 1028, rfl⟩
abbrev main_v692 : Ref sig .tc := ⟨.hbm, 1029, rfl⟩
abbrev main_v693 : Ref sig .tc := ⟨.hbm, 1030, rfl⟩
abbrev main_v694 : Ref sig .tc := ⟨.hbm, 1031, rfl⟩
abbrev main_v695 : Ref sig .tc := ⟨.hbm, 1032, rfl⟩
abbrev main_v696 : Ref sig .tc := ⟨.hbm, 1033, rfl⟩
abbrev main_v697 : Ref sig .tc := ⟨.hbm, 1034, rfl⟩
abbrev main_v698 : Ref sig .tc := ⟨.hbm, 1035, rfl⟩
abbrev main_cst_71 : Ref sig .tc := ⟨.hbm, 1036, rfl⟩
abbrev main_v699 : Ref sig .tc := ⟨.hbm, 1037, rfl⟩
abbrev main_v700 : Ref sig .tc := ⟨.hbm, 1038, rfl⟩
abbrev main_cst_72 : Ref sig .tc := ⟨.hbm, 1039, rfl⟩
abbrev main_v701 : Ref sig .tc := ⟨.hbm, 1040, rfl⟩
abbrev main_v702 : Ref sig .tc := ⟨.hbm, 1041, rfl⟩
abbrev main_c_73 : Ref sig .tc := ⟨.hbm, 1042, rfl⟩
abbrev main_call17_cst : Ref sig .tc := ⟨.hbm, 1043, rfl⟩
abbrev main_call17_v0 : Ref sig .tc := ⟨.hbm, 1044, rfl⟩
abbrev main_call17_v1 : Ref sig .tc := ⟨.hbm, 1045, rfl⟩
abbrev main_call17_cst_0 : Ref sig .tc := ⟨.hbm, 1046, rfl⟩
abbrev main_call17_v2 : Ref sig .tc := ⟨.hbm, 1047, rfl⟩
abbrev main_call17_v3 : Ref sig .tc := ⟨.hbm, 1048, rfl⟩
abbrev main_call17_v4 : Ref sig .tc := ⟨.hbm, 1049, rfl⟩
abbrev main_call17_v5 : Ref sig .tc := ⟨.hbm, 1050, rfl⟩
abbrev main_call17_v6 : Ref sig .tc := ⟨.hbm, 1051, rfl⟩
abbrev main_call17_v7 : Ref sig .tc := ⟨.hbm, 1052, rfl⟩
abbrev main_call17_cst_1 : Ref sig .tc := ⟨.hbm, 1053, rfl⟩
abbrev main_call17_v8 : Ref sig .tc := ⟨.hbm, 1054, rfl⟩
abbrev main_call17_cst_2 : Ref sig .tc := ⟨.hbm, 1055, rfl⟩
abbrev main_call17_v9 : Ref sig .tc := ⟨.hbm, 1056, rfl⟩
abbrev main_call17_v10 : Ref sig .tc := ⟨.hbm, 1057, rfl⟩
abbrev main_call17_v11 : Ref sig .tc := ⟨.hbm, 1058, rfl⟩
abbrev main_call17_v12 : Ref sig .tc := ⟨.hbm, 1059, rfl⟩
abbrev main_call17_cst_3 : Ref sig .tc := ⟨.hbm, 1060, rfl⟩
abbrev main_call17_v13 : Ref sig .tc := ⟨.hbm, 1061, rfl⟩
abbrev main_call17_cst_4 : Ref sig .tc := ⟨.hbm, 1062, rfl⟩
abbrev main_call17_call0_v0 : Ref sig .tc := ⟨.hbm, 1063, rfl⟩
abbrev main_call17_call0_v1 : Ref sig .tc := ⟨.hbm, 1064, rfl⟩
abbrev main_v703 : Ref sig .tc := ⟨.hbm, 1065, rfl⟩
abbrev main_v704 : Ref sig .tc := ⟨.hbm, 1066, rfl⟩
abbrev main_v705 : Ref sig .tc := ⟨.hbm, 1067, rfl⟩
abbrev main_cst_74 : Ref sig .tc := ⟨.hbm, 1068, rfl⟩
abbrev main_v706 : Ref sig .tc := ⟨.hbm, 1069, rfl⟩
abbrev main_v707 : Ref sig .tc := ⟨.hbm, 1070, rfl⟩
abbrev main_v708 : Ref sig .tc := ⟨.hbm, 1071, rfl⟩
abbrev main_v709 : Ref sig .tc := ⟨.hbm, 1072, rfl⟩
abbrev main_v710 : Ref sig .tc := ⟨.hbm, 1073, rfl⟩
abbrev main_v711 : Ref sig .tc := ⟨.hbm, 1074, rfl⟩
abbrev main_v712 : Ref sig .tc := ⟨.hbm, 1075, rfl⟩
abbrev main_v713 : Ref sig .tc := ⟨.hbm, 1076, rfl⟩
abbrev main_v714 : Ref sig .tc := ⟨.hbm, 1077, rfl⟩
abbrev main_v715 : Ref sig .tc := ⟨.hbm, 1078, rfl⟩
abbrev main_v716 : Ref sig .tc := ⟨.hbm, 1079, rfl⟩
abbrev main_v717 : Ref sig .tc := ⟨.hbm, 1080, rfl⟩
abbrev main_v718 : Ref sig .tc := ⟨.hbm, 1081, rfl⟩
abbrev main_v719 : Ref sig .tc := ⟨.hbm, 1082, rfl⟩
abbrev main_v720 : Ref sig .tc := ⟨.hbm, 1083, rfl⟩
abbrev main_v721 : Ref sig .tc := ⟨.hbm, 1084, rfl⟩
abbrev main_v722 : Ref sig .tc := ⟨.hbm, 1085, rfl⟩
abbrev main_v723 : Ref sig .tc := ⟨.hbm, 1086, rfl⟩
abbrev main_v724 : Ref sig .tc := ⟨.hbm, 1087, rfl⟩
abbrev main_v725 : Ref sig .tc := ⟨.hbm, 1088, rfl⟩
abbrev main_v726 : Ref sig .tc := ⟨.hbm, 1089, rfl⟩
abbrev main_v727 : Ref sig .tc := ⟨.hbm, 1090, rfl⟩
abbrev main_v728 : Ref sig .tc := ⟨.hbm, 1091, rfl⟩
abbrev main_v729 : Ref sig .tc := ⟨.hbm, 1092, rfl⟩
abbrev main_v730 : Ref sig .tc := ⟨.hbm, 1093, rfl⟩
abbrev main_v731 : Ref sig .tc := ⟨.hbm, 1094, rfl⟩
abbrev main_v732 : Ref sig .tc := ⟨.hbm, 1095, rfl⟩
abbrev main_v733 : Ref sig .tc := ⟨.hbm, 1096, rfl⟩
abbrev main_v734 : Ref sig .tc := ⟨.hbm, 1097, rfl⟩
abbrev main_v735 : Ref sig .tc := ⟨.hbm, 1098, rfl⟩
abbrev main_v736 : Ref sig .tc := ⟨.hbm, 1099, rfl⟩
abbrev main_v737 : Ref sig .tc := ⟨.hbm, 1100, rfl⟩
abbrev main_v738 : Ref sig .tc := ⟨.hbm, 1101, rfl⟩
abbrev main_v739 : Ref sig .tc := ⟨.hbm, 1102, rfl⟩
abbrev main_v740 : Ref sig .tc := ⟨.hbm, 1103, rfl⟩
abbrev main_v741 : Ref sig .tc := ⟨.hbm, 1104, rfl⟩
abbrev main_v742 : Ref sig .tc := ⟨.hbm, 1105, rfl⟩
abbrev main_v743 : Ref sig .tc := ⟨.hbm, 1106, rfl⟩
abbrev main_v744 : Ref sig .tc := ⟨.hbm, 1107, rfl⟩
abbrev main_v745 : Ref sig .tc := ⟨.hbm, 1108, rfl⟩
abbrev main_v746 : Ref sig .tc := ⟨.hbm, 1109, rfl⟩
abbrev main_v747 : Ref sig .tc := ⟨.hbm, 1110, rfl⟩
abbrev main_v748 : Ref sig .tc := ⟨.hbm, 1111, rfl⟩
abbrev main_v749 : Ref sig .tc := ⟨.hbm, 1112, rfl⟩
abbrev main_v750 : Ref sig .tc := ⟨.hbm, 1113, rfl⟩
abbrev main_v751 : Ref sig .tc := ⟨.hbm, 1114, rfl⟩
abbrev main_v752 : Ref sig .tc := ⟨.hbm, 1115, rfl⟩
abbrev main_cst_75 : Ref sig .tc := ⟨.hbm, 1116, rfl⟩
abbrev main_v753 : Ref sig .tc := ⟨.hbm, 1117, rfl⟩
abbrev main_v754 : Ref sig .tc := ⟨.hbm, 1118, rfl⟩
abbrev main_cst_76 : Ref sig .tc := ⟨.hbm, 1119, rfl⟩
abbrev main_call18_v0 : Ref sig .tc := ⟨.hbm, 1120, rfl⟩
abbrev main_call18_v1 : Ref sig .tc := ⟨.hbm, 1121, rfl⟩
abbrev main_call18_v2 : Ref sig .tc := ⟨.hbm, 1122, rfl⟩
abbrev main_v755 : Ref sig .tc := ⟨.hbm, 1123, rfl⟩
abbrev main_cst_77 : Ref sig .tc := ⟨.hbm, 1124, rfl⟩
abbrev main_v756 : Ref sig .tc := ⟨.hbm, 1125, rfl⟩
abbrev main_cst_78 : Ref sig .tc := ⟨.hbm, 1126, rfl⟩
abbrev main_v757 : Ref sig .tc := ⟨.hbm, 1127, rfl⟩
abbrev main_v758 : Ref sig .tc := ⟨.hbm, 1128, rfl⟩
abbrev main_v759 : Ref sig .tc := ⟨.hbm, 1129, rfl⟩
abbrev main_v760 : Ref sig .tc := ⟨.hbm, 1130, rfl⟩
abbrev main_v761 : Ref sig .tc := ⟨.hbm, 1131, rfl⟩
abbrev main_v762 : Ref sig .tc := ⟨.hbm, 1132, rfl⟩
abbrev main_cst_79 : Ref sig .tc := ⟨.hbm, 1133, rfl⟩
abbrev main_v763 : Ref sig .tc := ⟨.hbm, 1134, rfl⟩
abbrev main_v764 : Ref sig .tc := ⟨.hbm, 1135, rfl⟩
abbrev main_v765 : Ref sig .tc := ⟨.hbm, 1136, rfl⟩
abbrev main_v766 : Ref sig .tc := ⟨.hbm, 1137, rfl⟩
abbrev main_v767 : Ref sig .tc := ⟨.hbm, 1138, rfl⟩
abbrev main_v768 : Ref sig .tc := ⟨.hbm, 1139, rfl⟩
abbrev main_v769 : Ref sig .tc := ⟨.hbm, 1140, rfl⟩
abbrev main_v770 : Ref sig .tc := ⟨.hbm, 1141, rfl⟩
abbrev main_v771 : Ref sig .tc := ⟨.hbm, 1142, rfl⟩
abbrev main_v772 : Ref sig .tc := ⟨.hbm, 1143, rfl⟩
abbrev main_v773 : Ref sig .tc := ⟨.hbm, 1144, rfl⟩
abbrev main_v774 : Ref sig .tc := ⟨.hbm, 1145, rfl⟩
abbrev main_v775 : Ref sig .tc := ⟨.hbm, 1146, rfl⟩
abbrev main_v776 : Ref sig .tc := ⟨.hbm, 1147, rfl⟩
abbrev main_v777 : Ref sig .tc := ⟨.hbm, 1148, rfl⟩
abbrev main_v778 : Ref sig .tc := ⟨.hbm, 1149, rfl⟩
abbrev main_v779 : Ref sig .tc := ⟨.hbm, 1150, rfl⟩
abbrev main_cst_80 : Ref sig .tc := ⟨.hbm, 1151, rfl⟩
abbrev main_v780 : Ref sig .tc := ⟨.hbm, 1152, rfl⟩
abbrev main_v781 : Ref sig .tc := ⟨.hbm, 1153, rfl⟩
abbrev main_cst_81 : Ref sig .tc := ⟨.hbm, 1154, rfl⟩
abbrev main_v782 : Ref sig .tc := ⟨.hbm, 1155, rfl⟩
abbrev main_v783 : Ref sig .tc := ⟨.hbm, 1156, rfl⟩
abbrev main_c_82 : Ref sig .tc := ⟨.hbm, 1157, rfl⟩
abbrev main_call19_cst : Ref sig .tc := ⟨.hbm, 1158, rfl⟩
abbrev main_call19_v0 : Ref sig .tc := ⟨.hbm, 1159, rfl⟩
abbrev main_call19_v1 : Ref sig .tc := ⟨.hbm, 1160, rfl⟩
abbrev main_call19_cst_0 : Ref sig .tc := ⟨.hbm, 1161, rfl⟩
abbrev main_call19_v2 : Ref sig .tc := ⟨.hbm, 1162, rfl⟩
abbrev main_call19_v3 : Ref sig .tc := ⟨.hbm, 1163, rfl⟩
abbrev main_call19_v4 : Ref sig .tc := ⟨.hbm, 1164, rfl⟩
abbrev main_call19_v5 : Ref sig .tc := ⟨.hbm, 1165, rfl⟩
abbrev main_call19_v6 : Ref sig .tc := ⟨.hbm, 1166, rfl⟩
abbrev main_call19_v7 : Ref sig .tc := ⟨.hbm, 1167, rfl⟩
abbrev main_call19_cst_1 : Ref sig .tc := ⟨.hbm, 1168, rfl⟩
abbrev main_call19_v8 : Ref sig .tc := ⟨.hbm, 1169, rfl⟩
abbrev main_call19_cst_2 : Ref sig .tc := ⟨.hbm, 1170, rfl⟩
abbrev main_call19_v9 : Ref sig .tc := ⟨.hbm, 1171, rfl⟩
abbrev main_call19_v10 : Ref sig .tc := ⟨.hbm, 1172, rfl⟩
abbrev main_call19_v11 : Ref sig .tc := ⟨.hbm, 1173, rfl⟩
abbrev main_call19_v12 : Ref sig .tc := ⟨.hbm, 1174, rfl⟩
abbrev main_call19_cst_3 : Ref sig .tc := ⟨.hbm, 1175, rfl⟩
abbrev main_call19_v13 : Ref sig .tc := ⟨.hbm, 1176, rfl⟩
abbrev main_call19_cst_4 : Ref sig .tc := ⟨.hbm, 1177, rfl⟩
abbrev main_call19_call0_v0 : Ref sig .tc := ⟨.hbm, 1178, rfl⟩
abbrev main_call19_call0_v1 : Ref sig .tc := ⟨.hbm, 1179, rfl⟩
abbrev main_v784 : Ref sig .tc := ⟨.hbm, 1180, rfl⟩
abbrev main_v785 : Ref sig .tc := ⟨.hbm, 1181, rfl⟩
abbrev main_v786 : Ref sig .tc := ⟨.hbm, 1182, rfl⟩
abbrev main_cst_83 : Ref sig .tc := ⟨.hbm, 1183, rfl⟩
abbrev main_v787 : Ref sig .tc := ⟨.hbm, 1184, rfl⟩
abbrev main_v788 : Ref sig .tc := ⟨.hbm, 1185, rfl⟩
abbrev main_v789 : Ref sig .tc := ⟨.hbm, 1186, rfl⟩
abbrev main_v790 : Ref sig .tc := ⟨.hbm, 1187, rfl⟩
abbrev main_v791 : Ref sig .tc := ⟨.hbm, 1188, rfl⟩
abbrev main_v792 : Ref sig .tc := ⟨.hbm, 1189, rfl⟩
abbrev main_v793 : Ref sig .tc := ⟨.hbm, 1190, rfl⟩
abbrev main_v794 : Ref sig .tc := ⟨.hbm, 1191, rfl⟩
abbrev main_v795 : Ref sig .tc := ⟨.hbm, 1192, rfl⟩
abbrev main_v796 : Ref sig .tc := ⟨.hbm, 1193, rfl⟩
abbrev main_v797 : Ref sig .tc := ⟨.hbm, 1194, rfl⟩
abbrev main_v798 : Ref sig .tc := ⟨.hbm, 1195, rfl⟩
abbrev main_v799 : Ref sig .tc := ⟨.hbm, 1196, rfl⟩
abbrev main_v800 : Ref sig .tc := ⟨.hbm, 1197, rfl⟩
abbrev main_v801 : Ref sig .tc := ⟨.hbm, 1198, rfl⟩
abbrev main_v802 : Ref sig .tc := ⟨.hbm, 1199, rfl⟩
abbrev main_v803 : Ref sig .tc := ⟨.hbm, 1200, rfl⟩
abbrev main_v804 : Ref sig .tc := ⟨.hbm, 1201, rfl⟩
abbrev main_v805 : Ref sig .tc := ⟨.hbm, 1202, rfl⟩
abbrev main_v806 : Ref sig .tc := ⟨.hbm, 1203, rfl⟩
abbrev main_call20_cst : Ref sig .tc := ⟨.hbm, 1204, rfl⟩
abbrev main_call20_v0 : Ref sig .tc := ⟨.hbm, 1205, rfl⟩
abbrev main_v807 : Ref sig .tc := ⟨.hbm, 1206, rfl⟩
abbrev main_v808 : Ref sig .tc := ⟨.hbm, 1207, rfl⟩
abbrev main_v809 : Ref sig .tc := ⟨.hbm, 1208, rfl⟩
abbrev main_v810 : Ref sig .tc := ⟨.hbm, 1209, rfl⟩
abbrev main_v811 : Ref sig .tc := ⟨.hbm, 1210, rfl⟩
abbrev main_v812 : Ref sig .tc := ⟨.hbm, 1211, rfl⟩
abbrev main_v813 : Ref sig .tc := ⟨.hbm, 1212, rfl⟩
abbrev main_v814 : Ref sig .tc := ⟨.hbm, 1213, rfl⟩
abbrev main_v815 : Ref sig .tc := ⟨.hbm, 1214, rfl⟩
abbrev main_v816 : Ref sig .tc := ⟨.hbm, 1215, rfl⟩
abbrev main_v817 : Ref sig .tc := ⟨.hbm, 1216, rfl⟩
abbrev main_v818 : Ref sig .tc := ⟨.hbm, 1217, rfl⟩
abbrev main_v819 : Ref sig .tc := ⟨.hbm, 1218, rfl⟩
abbrev main_v820 : Ref sig .tc := ⟨.hbm, 1219, rfl⟩
abbrev main_v821 : Ref sig .tc := ⟨.hbm, 1220, rfl⟩
abbrev main_cst_84 : Ref sig .tc := ⟨.hbm, 1221, rfl⟩
abbrev main_v822 : Ref sig .tc := ⟨.hbm, 1222, rfl⟩
abbrev main_v823 : Ref sig .tc := ⟨.hbm, 1223, rfl⟩
abbrev main_cst_85 : Ref sig .tc := ⟨.hbm, 1224, rfl⟩
abbrev main_v824 : Ref sig .tc := ⟨.hbm, 1225, rfl⟩
abbrev main_v825 : Ref sig .tc := ⟨.hbm, 1226, rfl⟩
abbrev main_c_86 : Ref sig .tc := ⟨.hbm, 1227, rfl⟩
abbrev main_call21_cst : Ref sig .tc := ⟨.hbm, 1228, rfl⟩
abbrev main_call21_v0 : Ref sig .tc := ⟨.hbm, 1229, rfl⟩
abbrev main_call21_v1 : Ref sig .tc := ⟨.hbm, 1230, rfl⟩
abbrev main_call21_cst_0 : Ref sig .tc := ⟨.hbm, 1231, rfl⟩
abbrev main_call21_v2 : Ref sig .tc := ⟨.hbm, 1232, rfl⟩
abbrev main_call21_v3 : Ref sig .tc := ⟨.hbm, 1233, rfl⟩
abbrev main_call21_v4 : Ref sig .tc := ⟨.hbm, 1234, rfl⟩
abbrev main_call21_v5 : Ref sig .tc := ⟨.hbm, 1235, rfl⟩
abbrev main_call21_v6 : Ref sig .tc := ⟨.hbm, 1236, rfl⟩
abbrev main_call21_v7 : Ref sig .tc := ⟨.hbm, 1237, rfl⟩
abbrev main_call21_cst_1 : Ref sig .tc := ⟨.hbm, 1238, rfl⟩
abbrev main_call21_v8 : Ref sig .tc := ⟨.hbm, 1239, rfl⟩
abbrev main_call21_cst_2 : Ref sig .tc := ⟨.hbm, 1240, rfl⟩
abbrev main_call21_v9 : Ref sig .tc := ⟨.hbm, 1241, rfl⟩
abbrev main_call21_v10 : Ref sig .tc := ⟨.hbm, 1242, rfl⟩
abbrev main_call21_v11 : Ref sig .tc := ⟨.hbm, 1243, rfl⟩
abbrev main_call21_v12 : Ref sig .tc := ⟨.hbm, 1244, rfl⟩
abbrev main_call21_cst_3 : Ref sig .tc := ⟨.hbm, 1245, rfl⟩
abbrev main_call21_v13 : Ref sig .tc := ⟨.hbm, 1246, rfl⟩
abbrev main_call21_cst_4 : Ref sig .tc := ⟨.hbm, 1247, rfl⟩
abbrev main_call21_call0_v0 : Ref sig .tc := ⟨.hbm, 1248, rfl⟩
abbrev main_call21_call0_v1 : Ref sig .tc := ⟨.hbm, 1249, rfl⟩
abbrev main_v826 : Ref sig .tc := ⟨.hbm, 1250, rfl⟩
abbrev main_v827 : Ref sig .tc := ⟨.hbm, 1251, rfl⟩
abbrev main_v828 : Ref sig .tc := ⟨.hbm, 1252, rfl⟩
abbrev main_cst_87 : Ref sig .tc := ⟨.hbm, 1253, rfl⟩
abbrev main_v829 : Ref sig .tc := ⟨.hbm, 1254, rfl⟩
abbrev main_v830 : Ref sig .tc := ⟨.hbm, 1255, rfl⟩
abbrev main_v831 : Ref sig .tc := ⟨.hbm, 1256, rfl⟩
abbrev main_v832 : Ref sig .tc := ⟨.hbm, 1257, rfl⟩
abbrev main_v833 : Ref sig .tc := ⟨.hbm, 1258, rfl⟩
abbrev main_v834 : Ref sig .tc := ⟨.hbm, 1259, rfl⟩
abbrev main_v835 : Ref sig .tc := ⟨.hbm, 1260, rfl⟩
abbrev main_v836 : Ref sig .tc := ⟨.hbm, 1261, rfl⟩
abbrev main_v837 : Ref sig .tc := ⟨.hbm, 1262, rfl⟩
abbrev main_v838 : Ref sig .tc := ⟨.hbm, 1263, rfl⟩
abbrev main_v839 : Ref sig .tc := ⟨.hbm, 1264, rfl⟩
abbrev main_v840 : Ref sig .tc := ⟨.hbm, 1265, rfl⟩
abbrev main_v841 : Ref sig .tc := ⟨.hbm, 1266, rfl⟩
abbrev main_v842 : Ref sig .tc := ⟨.hbm, 1267, rfl⟩
abbrev main_v843 : Ref sig .tc := ⟨.hbm, 1268, rfl⟩
abbrev main_v844 : Ref sig .tc := ⟨.hbm, 1269, rfl⟩
abbrev main_v845 : Ref sig .tc := ⟨.hbm, 1270, rfl⟩
abbrev main_v846 : Ref sig .tc := ⟨.hbm, 1271, rfl⟩
abbrev main_v847 : Ref sig .tc := ⟨.hbm, 1272, rfl⟩
abbrev main_v848 : Ref sig .tc := ⟨.hbm, 1273, rfl⟩
abbrev main_v849 : Ref sig .tc := ⟨.hbm, 1274, rfl⟩
abbrev main_v850 : Ref sig .tc := ⟨.hbm, 1275, rfl⟩
abbrev main_v851 : Ref sig .tc := ⟨.hbm, 1276, rfl⟩
abbrev main_v852 : Ref sig .tc := ⟨.hbm, 1277, rfl⟩
abbrev main_v853 : Ref sig .tc := ⟨.hbm, 1278, rfl⟩
abbrev main_v854 : Ref sig .tc := ⟨.hbm, 1279, rfl⟩
abbrev main_v855 : Ref sig .tc := ⟨.hbm, 1280, rfl⟩
abbrev main_v856 : Ref sig .tc := ⟨.hbm, 1281, rfl⟩
abbrev main_v857 : Ref sig .tc := ⟨.hbm, 1282, rfl⟩
abbrev main_v858 : Ref sig .tc := ⟨.hbm, 1283, rfl⟩
abbrev main_v859 : Ref sig .tc := ⟨.hbm, 1284, rfl⟩
abbrev main_v860 : Ref sig .tc := ⟨.hbm, 1285, rfl⟩
abbrev main_v861 : Ref sig .tc := ⟨.hbm, 1286, rfl⟩
abbrev main_v862 : Ref sig .tc := ⟨.hbm, 1287, rfl⟩
abbrev main_v863 : Ref sig .tc := ⟨.hbm, 1288, rfl⟩
abbrev main_v864 : Ref sig .tc := ⟨.hbm, 1289, rfl⟩
abbrev main_v865 : Ref sig .tc := ⟨.hbm, 1290, rfl⟩
abbrev main_v866 : Ref sig .tc := ⟨.hbm, 1291, rfl⟩
abbrev main_v867 : Ref sig .tc := ⟨.hbm, 1292, rfl⟩
abbrev main_v868 : Ref sig .tc := ⟨.hbm, 1293, rfl⟩
abbrev main_v869 : Ref sig .tc := ⟨.hbm, 1294, rfl⟩
abbrev main_v870 : Ref sig .tc := ⟨.hbm, 1295, rfl⟩
abbrev main_v871 : Ref sig .tc := ⟨.hbm, 1296, rfl⟩
abbrev main_v872 : Ref sig .tc := ⟨.hbm, 1297, rfl⟩
abbrev main_v873 : Ref sig .tc := ⟨.hbm, 1298, rfl⟩
abbrev main_v874 : Ref sig .tc := ⟨.hbm, 1299, rfl⟩
abbrev main_v875 : Ref sig .tc := ⟨.hbm, 1300, rfl⟩
abbrev main_cst_88 : Ref sig .tc := ⟨.hbm, 1301, rfl⟩
abbrev main_v876 : Ref sig .tc := ⟨.hbm, 1302, rfl⟩
abbrev main_v877 : Ref sig .tc := ⟨.hbm, 1303, rfl⟩
abbrev main_cst_89 : Ref sig .tc := ⟨.hbm, 1304, rfl⟩
abbrev main_v878 : Ref sig .tc := ⟨.hbm, 1305, rfl⟩
abbrev main_cst_90 : Ref sig .tc := ⟨.hbm, 1306, rfl⟩
abbrev main_v879 : Ref sig .tc := ⟨.hbm, 1307, rfl⟩
abbrev main_v880 : Ref sig .tc := ⟨.hbm, 1308, rfl⟩
abbrev main_v881 : Ref sig .tc := ⟨.hbm, 1309, rfl⟩
abbrev main_v882 : Ref sig .tc := ⟨.hbm, 1310, rfl⟩
abbrev main_v883 : Ref sig .tc := ⟨.hbm, 1311, rfl⟩
abbrev main_v884 : Ref sig .tc := ⟨.hbm, 1312, rfl⟩
abbrev main_cst_91 : Ref sig .tc := ⟨.hbm, 1313, rfl⟩
abbrev main_v885 : Ref sig .tc := ⟨.hbm, 1314, rfl⟩
abbrev main_v886 : Ref sig .tc := ⟨.hbm, 1315, rfl⟩
abbrev main_v887 : Ref sig .tc := ⟨.hbm, 1316, rfl⟩
abbrev main_v888 : Ref sig .tc := ⟨.hbm, 1317, rfl⟩
abbrev main_v889 : Ref sig .tc := ⟨.hbm, 1318, rfl⟩
abbrev main_v890 : Ref sig .tc := ⟨.hbm, 1319, rfl⟩
abbrev main_v891 : Ref sig .tc := ⟨.hbm, 1320, rfl⟩
abbrev main_v892 : Ref sig .tc := ⟨.hbm, 1321, rfl⟩
abbrev main_v893 : Ref sig .tc := ⟨.hbm, 1322, rfl⟩
abbrev main_v894 : Ref sig .tc := ⟨.hbm, 1323, rfl⟩
abbrev main_v895 : Ref sig .tc := ⟨.hbm, 1324, rfl⟩
abbrev main_v896 : Ref sig .tc := ⟨.hbm, 1325, rfl⟩
abbrev main_v897 : Ref sig .tc := ⟨.hbm, 1326, rfl⟩
abbrev main_v898 : Ref sig .tc := ⟨.hbm, 1327, rfl⟩
abbrev main_v899 : Ref sig .tc := ⟨.hbm, 1328, rfl⟩
abbrev main_v900 : Ref sig .tc := ⟨.hbm, 1329, rfl⟩
abbrev main_v901 : Ref sig .tc := ⟨.hbm, 1330, rfl⟩
abbrev main_cst_92 : Ref sig .tc := ⟨.hbm, 1331, rfl⟩
abbrev main_v902 : Ref sig .tc := ⟨.hbm, 1332, rfl⟩
abbrev main_v903 : Ref sig .tc := ⟨.hbm, 1333, rfl⟩
abbrev main_cst_93 : Ref sig .tc := ⟨.hbm, 1334, rfl⟩
abbrev main_v904 : Ref sig .tc := ⟨.hbm, 1335, rfl⟩
abbrev main_v905 : Ref sig .tc := ⟨.hbm, 1336, rfl⟩
abbrev main_c_94 : Ref sig .tc := ⟨.hbm, 1337, rfl⟩
abbrev main_call22_cst : Ref sig .tc := ⟨.hbm, 1338, rfl⟩
abbrev main_call22_v0 : Ref sig .tc := ⟨.hbm, 1339, rfl⟩
abbrev main_call22_v1 : Ref sig .tc := ⟨.hbm, 1340, rfl⟩
abbrev main_call22_cst_0 : Ref sig .tc := ⟨.hbm, 1341, rfl⟩
abbrev main_call22_v2 : Ref sig .tc := ⟨.hbm, 1342, rfl⟩
abbrev main_call22_v3 : Ref sig .tc := ⟨.hbm, 1343, rfl⟩
abbrev main_call22_v4 : Ref sig .tc := ⟨.hbm, 1344, rfl⟩
abbrev main_call22_v5 : Ref sig .tc := ⟨.hbm, 1345, rfl⟩
abbrev main_call22_v6 : Ref sig .tc := ⟨.hbm, 1346, rfl⟩
abbrev main_call22_v7 : Ref sig .tc := ⟨.hbm, 1347, rfl⟩
abbrev main_call22_cst_1 : Ref sig .tc := ⟨.hbm, 1348, rfl⟩
abbrev main_call22_v8 : Ref sig .tc := ⟨.hbm, 1349, rfl⟩
abbrev main_call22_cst_2 : Ref sig .tc := ⟨.hbm, 1350, rfl⟩
abbrev main_call22_v9 : Ref sig .tc := ⟨.hbm, 1351, rfl⟩
abbrev main_call22_v10 : Ref sig .tc := ⟨.hbm, 1352, rfl⟩
abbrev main_call22_v11 : Ref sig .tc := ⟨.hbm, 1353, rfl⟩
abbrev main_call22_v12 : Ref sig .tc := ⟨.hbm, 1354, rfl⟩
abbrev main_call22_cst_3 : Ref sig .tc := ⟨.hbm, 1355, rfl⟩
abbrev main_call22_v13 : Ref sig .tc := ⟨.hbm, 1356, rfl⟩
abbrev main_call22_cst_4 : Ref sig .tc := ⟨.hbm, 1357, rfl⟩
abbrev main_call22_call0_v0 : Ref sig .tc := ⟨.hbm, 1358, rfl⟩
abbrev main_call22_call0_v1 : Ref sig .tc := ⟨.hbm, 1359, rfl⟩
abbrev main_v906 : Ref sig .tc := ⟨.hbm, 1360, rfl⟩
abbrev main_v907 : Ref sig .tc := ⟨.hbm, 1361, rfl⟩
abbrev main_v908 : Ref sig .tc := ⟨.hbm, 1362, rfl⟩
abbrev main_cst_95 : Ref sig .tc := ⟨.hbm, 1363, rfl⟩
abbrev main_v909 : Ref sig .tc := ⟨.hbm, 1364, rfl⟩
abbrev main_v910 : Ref sig .tc := ⟨.hbm, 1365, rfl⟩
abbrev main_v911 : Ref sig .tc := ⟨.hbm, 1366, rfl⟩
abbrev main_v912 : Ref sig .tc := ⟨.hbm, 1367, rfl⟩
abbrev main_v913 : Ref sig .tc := ⟨.hbm, 1368, rfl⟩
abbrev main_v914 : Ref sig .tc := ⟨.hbm, 1369, rfl⟩
abbrev main_v915 : Ref sig .tc := ⟨.hbm, 1370, rfl⟩
abbrev main_v916 : Ref sig .tc := ⟨.hbm, 1371, rfl⟩
abbrev main_v917 : Ref sig .tc := ⟨.hbm, 1372, rfl⟩
abbrev main_v918 : Ref sig .tc := ⟨.hbm, 1373, rfl⟩
abbrev main_v919 : Ref sig .tc := ⟨.hbm, 1374, rfl⟩
abbrev main_v920 : Ref sig .tc := ⟨.hbm, 1375, rfl⟩
abbrev main_v921 : Ref sig .tc := ⟨.hbm, 1376, rfl⟩
abbrev main_v922 : Ref sig .tc := ⟨.hbm, 1377, rfl⟩
abbrev main_v923 : Ref sig .tc := ⟨.hbm, 1378, rfl⟩
abbrev main_v924 : Ref sig .tc := ⟨.hbm, 1379, rfl⟩
abbrev main_v925 : Ref sig .tc := ⟨.hbm, 1380, rfl⟩
abbrev main_v926 : Ref sig .tc := ⟨.hbm, 1381, rfl⟩
abbrev main_v927 : Ref sig .tc := ⟨.hbm, 1382, rfl⟩
abbrev main_v928 : Ref sig .tc := ⟨.hbm, 1383, rfl⟩
abbrev main_v929 : Ref sig .tc := ⟨.hbm, 1384, rfl⟩
abbrev main_v930 : Ref sig .tc := ⟨.hbm, 1385, rfl⟩
abbrev main_v931 : Ref sig .tc := ⟨.hbm, 1386, rfl⟩
abbrev main_v932 : Ref sig .tc := ⟨.hbm, 1387, rfl⟩
abbrev main_v933 : Ref sig .tc := ⟨.hbm, 1388, rfl⟩
abbrev main_v934 : Ref sig .tc := ⟨.hbm, 1389, rfl⟩
abbrev main_v935 : Ref sig .tc := ⟨.hbm, 1390, rfl⟩
abbrev main_v936 : Ref sig .tc := ⟨.hbm, 1391, rfl⟩
abbrev main_v937 : Ref sig .tc := ⟨.hbm, 1392, rfl⟩
abbrev main_v938 : Ref sig .tc := ⟨.hbm, 1393, rfl⟩
abbrev main_v939 : Ref sig .tc := ⟨.hbm, 1394, rfl⟩
abbrev main_v940 : Ref sig .tc := ⟨.hbm, 1395, rfl⟩
abbrev main_v941 : Ref sig .tc := ⟨.hbm, 1396, rfl⟩
abbrev main_v942 : Ref sig .tc := ⟨.hbm, 1397, rfl⟩
abbrev main_v943 : Ref sig .tc := ⟨.hbm, 1398, rfl⟩
abbrev main_v944 : Ref sig .tc := ⟨.hbm, 1399, rfl⟩
abbrev main_v945 : Ref sig .tc := ⟨.hbm, 1400, rfl⟩
abbrev main_v946 : Ref sig .tc := ⟨.hbm, 1401, rfl⟩
abbrev main_v947 : Ref sig .tc := ⟨.hbm, 1402, rfl⟩
abbrev main_v948 : Ref sig .tc := ⟨.hbm, 1403, rfl⟩
abbrev main_v949 : Ref sig .tc := ⟨.hbm, 1404, rfl⟩
abbrev main_v950 : Ref sig .tc := ⟨.hbm, 1405, rfl⟩
abbrev main_v951 : Ref sig .tc := ⟨.hbm, 1406, rfl⟩
abbrev main_v952 : Ref sig .tc := ⟨.hbm, 1407, rfl⟩
abbrev main_v953 : Ref sig .tc := ⟨.hbm, 1408, rfl⟩
abbrev main_v954 : Ref sig .tc := ⟨.hbm, 1409, rfl⟩
abbrev main_v955 : Ref sig .tc := ⟨.hbm, 1410, rfl⟩
abbrev main_cst_96 : Ref sig .tc := ⟨.hbm, 1411, rfl⟩
abbrev main_v956 : Ref sig .tc := ⟨.hbm, 1412, rfl⟩
abbrev main_v957 : Ref sig .tc := ⟨.hbm, 1413, rfl⟩
abbrev main_cst_97 : Ref sig .tc := ⟨.hbm, 1414, rfl⟩
abbrev main_call23_v0 : Ref sig .tc := ⟨.hbm, 1415, rfl⟩
abbrev main_call23_v1 : Ref sig .tc := ⟨.hbm, 1416, rfl⟩
abbrev main_call23_v2 : Ref sig .tc := ⟨.hbm, 1417, rfl⟩
abbrev main_v958 : Ref sig .tc := ⟨.hbm, 1418, rfl⟩
abbrev main_cst_98 : Ref sig .tc := ⟨.hbm, 1419, rfl⟩
abbrev main_v959 : Ref sig .tc := ⟨.hbm, 1420, rfl⟩
abbrev main_cst_99 : Ref sig .tc := ⟨.hbm, 1421, rfl⟩
abbrev main_v960 : Ref sig .tc := ⟨.hbm, 1422, rfl⟩
abbrev main_v961 : Ref sig .tc := ⟨.hbm, 1423, rfl⟩
abbrev main_v962 : Ref sig .tc := ⟨.hbm, 1424, rfl⟩
abbrev main_v963 : Ref sig .tc := ⟨.hbm, 1425, rfl⟩
abbrev main_v964 : Ref sig .tc := ⟨.hbm, 1426, rfl⟩
abbrev main_v965 : Ref sig .tc := ⟨.hbm, 1427, rfl⟩
abbrev main_cst_100 : Ref sig .tc := ⟨.hbm, 1428, rfl⟩
abbrev main_v966 : Ref sig .tc := ⟨.hbm, 1429, rfl⟩
abbrev main_v967 : Ref sig .tc := ⟨.hbm, 1430, rfl⟩
abbrev main_v968 : Ref sig .tc := ⟨.hbm, 1431, rfl⟩
abbrev main_v969 : Ref sig .tc := ⟨.hbm, 1432, rfl⟩
abbrev main_v970 : Ref sig .tc := ⟨.hbm, 1433, rfl⟩
abbrev main_v971 : Ref sig .tc := ⟨.hbm, 1434, rfl⟩
abbrev main_v972 : Ref sig .tc := ⟨.hbm, 1435, rfl⟩
abbrev main_v973 : Ref sig .tc := ⟨.hbm, 1436, rfl⟩
abbrev main_v974 : Ref sig .tc := ⟨.hbm, 1437, rfl⟩
abbrev main_v975 : Ref sig .tc := ⟨.hbm, 1438, rfl⟩
abbrev main_v976 : Ref sig .tc := ⟨.hbm, 1439, rfl⟩
abbrev main_v977 : Ref sig .tc := ⟨.hbm, 1440, rfl⟩
abbrev main_v978 : Ref sig .tc := ⟨.hbm, 1441, rfl⟩
abbrev main_v979 : Ref sig .tc := ⟨.hbm, 1442, rfl⟩
abbrev main_v980 : Ref sig .tc := ⟨.hbm, 1443, rfl⟩
abbrev main_v981 : Ref sig .tc := ⟨.hbm, 1444, rfl⟩
abbrev main_v982 : Ref sig .tc := ⟨.hbm, 1445, rfl⟩
abbrev main_cst_101 : Ref sig .tc := ⟨.hbm, 1446, rfl⟩
abbrev main_v983 : Ref sig .tc := ⟨.hbm, 1447, rfl⟩
abbrev main_v984 : Ref sig .tc := ⟨.hbm, 1448, rfl⟩
abbrev main_cst_102 : Ref sig .tc := ⟨.hbm, 1449, rfl⟩
abbrev main_v985 : Ref sig .tc := ⟨.hbm, 1450, rfl⟩
abbrev main_v986 : Ref sig .tc := ⟨.hbm, 1451, rfl⟩
abbrev main_c_103 : Ref sig .tc := ⟨.hbm, 1452, rfl⟩
abbrev main_call24_cst : Ref sig .tc := ⟨.hbm, 1453, rfl⟩
abbrev main_call24_v0 : Ref sig .tc := ⟨.hbm, 1454, rfl⟩
abbrev main_call24_v1 : Ref sig .tc := ⟨.hbm, 1455, rfl⟩
abbrev main_call24_cst_0 : Ref sig .tc := ⟨.hbm, 1456, rfl⟩
abbrev main_call24_v2 : Ref sig .tc := ⟨.hbm, 1457, rfl⟩
abbrev main_call24_v3 : Ref sig .tc := ⟨.hbm, 1458, rfl⟩
abbrev main_call24_v4 : Ref sig .tc := ⟨.hbm, 1459, rfl⟩
abbrev main_call24_v5 : Ref sig .tc := ⟨.hbm, 1460, rfl⟩
abbrev main_call24_v6 : Ref sig .tc := ⟨.hbm, 1461, rfl⟩
abbrev main_call24_v7 : Ref sig .tc := ⟨.hbm, 1462, rfl⟩
abbrev main_call24_cst_1 : Ref sig .tc := ⟨.hbm, 1463, rfl⟩
abbrev main_call24_v8 : Ref sig .tc := ⟨.hbm, 1464, rfl⟩
abbrev main_call24_cst_2 : Ref sig .tc := ⟨.hbm, 1465, rfl⟩
abbrev main_call24_v9 : Ref sig .tc := ⟨.hbm, 1466, rfl⟩
abbrev main_call24_v10 : Ref sig .tc := ⟨.hbm, 1467, rfl⟩
abbrev main_call24_v11 : Ref sig .tc := ⟨.hbm, 1468, rfl⟩
abbrev main_call24_v12 : Ref sig .tc := ⟨.hbm, 1469, rfl⟩
abbrev main_call24_cst_3 : Ref sig .tc := ⟨.hbm, 1470, rfl⟩
abbrev main_call24_v13 : Ref sig .tc := ⟨.hbm, 1471, rfl⟩
abbrev main_call24_cst_4 : Ref sig .tc := ⟨.hbm, 1472, rfl⟩
abbrev main_call24_call0_v0 : Ref sig .tc := ⟨.hbm, 1473, rfl⟩
abbrev main_call24_call0_v1 : Ref sig .tc := ⟨.hbm, 1474, rfl⟩
abbrev main_v987 : Ref sig .tc := ⟨.hbm, 1475, rfl⟩
abbrev main_v988 : Ref sig .tc := ⟨.hbm, 1476, rfl⟩
abbrev main_v989 : Ref sig .tc := ⟨.hbm, 1477, rfl⟩
abbrev main_cst_104 : Ref sig .tc := ⟨.hbm, 1478, rfl⟩
abbrev main_v990 : Ref sig .tc := ⟨.hbm, 1479, rfl⟩
abbrev main_v991 : Ref sig .tc := ⟨.hbm, 1480, rfl⟩
abbrev main_v992 : Ref sig .tc := ⟨.hbm, 1481, rfl⟩
abbrev main_v993 : Ref sig .tc := ⟨.hbm, 1482, rfl⟩
abbrev main_v994 : Ref sig .tc := ⟨.hbm, 1483, rfl⟩
abbrev main_v995 : Ref sig .tc := ⟨.hbm, 1484, rfl⟩
abbrev main_v996 : Ref sig .tc := ⟨.hbm, 1485, rfl⟩
abbrev main_v997 : Ref sig .tc := ⟨.hbm, 1486, rfl⟩
abbrev main_v998 : Ref sig .tc := ⟨.hbm, 1487, rfl⟩
abbrev main_v999 : Ref sig .tc := ⟨.hbm, 1488, rfl⟩
abbrev main_v1000 : Ref sig .tc := ⟨.hbm, 1489, rfl⟩
abbrev main_v1001 : Ref sig .tc := ⟨.hbm, 1490, rfl⟩
abbrev main_v1002 : Ref sig .tc := ⟨.hbm, 1491, rfl⟩
abbrev main_v1003 : Ref sig .tc := ⟨.hbm, 1492, rfl⟩
abbrev main_v1004 : Ref sig .tc := ⟨.hbm, 1493, rfl⟩
abbrev main_v1005 : Ref sig .tc := ⟨.hbm, 1494, rfl⟩
abbrev main_v1006 : Ref sig .tc := ⟨.hbm, 1495, rfl⟩
abbrev main_v1007 : Ref sig .tc := ⟨.hbm, 1496, rfl⟩
abbrev main_v1008 : Ref sig .tc := ⟨.hbm, 1497, rfl⟩
abbrev main_v1009 : Ref sig .tc := ⟨.hbm, 1498, rfl⟩
abbrev main_call25_cst : Ref sig .tc := ⟨.hbm, 1499, rfl⟩
abbrev main_call25_v0 : Ref sig .tc := ⟨.hbm, 1500, rfl⟩
abbrev main_v1010 : Ref sig .tc := ⟨.hbm, 1501, rfl⟩
abbrev main_v1011 : Ref sig .tc := ⟨.hbm, 1502, rfl⟩
abbrev main_v1012 : Ref sig .tc := ⟨.hbm, 1503, rfl⟩
abbrev main_v1013 : Ref sig .tc := ⟨.hbm, 1504, rfl⟩
abbrev main_v1014 : Ref sig .tc := ⟨.hbm, 1505, rfl⟩
abbrev main_v1015 : Ref sig .tc := ⟨.hbm, 1506, rfl⟩
abbrev main_v1016 : Ref sig .tc := ⟨.hbm, 1507, rfl⟩
abbrev main_v1017 : Ref sig .tc := ⟨.hbm, 1508, rfl⟩
abbrev main_v1018 : Ref sig .tc := ⟨.hbm, 1509, rfl⟩
abbrev main_v1019 : Ref sig .tc := ⟨.hbm, 1510, rfl⟩
abbrev main_v1020 : Ref sig .tc := ⟨.hbm, 1511, rfl⟩
abbrev main_v1021 : Ref sig .tc := ⟨.hbm, 1512, rfl⟩
abbrev main_v1022 : Ref sig .tc := ⟨.hbm, 1513, rfl⟩
abbrev main_v1023 : Ref sig .tc := ⟨.hbm, 1514, rfl⟩
abbrev main_v1024 : Ref sig .tc := ⟨.hbm, 1515, rfl⟩
abbrev main_cst_105 : Ref sig .tc := ⟨.hbm, 1516, rfl⟩
abbrev main_v1025 : Ref sig .tc := ⟨.hbm, 1517, rfl⟩
abbrev main_v1026 : Ref sig .tc := ⟨.hbm, 1518, rfl⟩
abbrev main_cst_106 : Ref sig .tc := ⟨.hbm, 1519, rfl⟩
abbrev main_v1027 : Ref sig .tc := ⟨.hbm, 1520, rfl⟩
abbrev main_v1028 : Ref sig .tc := ⟨.hbm, 1521, rfl⟩
abbrev main_c_107 : Ref sig .tc := ⟨.hbm, 1522, rfl⟩
abbrev main_call26_cst : Ref sig .tc := ⟨.hbm, 1523, rfl⟩
abbrev main_call26_v0 : Ref sig .tc := ⟨.hbm, 1524, rfl⟩
abbrev main_call26_v1 : Ref sig .tc := ⟨.hbm, 1525, rfl⟩
abbrev main_call26_cst_0 : Ref sig .tc := ⟨.hbm, 1526, rfl⟩
abbrev main_call26_v2 : Ref sig .tc := ⟨.hbm, 1527, rfl⟩
abbrev main_call26_v3 : Ref sig .tc := ⟨.hbm, 1528, rfl⟩
abbrev main_call26_v4 : Ref sig .tc := ⟨.hbm, 1529, rfl⟩
abbrev main_call26_v5 : Ref sig .tc := ⟨.hbm, 1530, rfl⟩
abbrev main_call26_v6 : Ref sig .tc := ⟨.hbm, 1531, rfl⟩
abbrev main_call26_v7 : Ref sig .tc := ⟨.hbm, 1532, rfl⟩
abbrev main_call26_cst_1 : Ref sig .tc := ⟨.hbm, 1533, rfl⟩
abbrev main_call26_v8 : Ref sig .tc := ⟨.hbm, 1534, rfl⟩
abbrev main_call26_cst_2 : Ref sig .tc := ⟨.hbm, 1535, rfl⟩
abbrev main_call26_v9 : Ref sig .tc := ⟨.hbm, 1536, rfl⟩
abbrev main_call26_v10 : Ref sig .tc := ⟨.hbm, 1537, rfl⟩
abbrev main_call26_v11 : Ref sig .tc := ⟨.hbm, 1538, rfl⟩
abbrev main_call26_v12 : Ref sig .tc := ⟨.hbm, 1539, rfl⟩
abbrev main_call26_cst_3 : Ref sig .tc := ⟨.hbm, 1540, rfl⟩
abbrev main_call26_v13 : Ref sig .tc := ⟨.hbm, 1541, rfl⟩
abbrev main_call26_cst_4 : Ref sig .tc := ⟨.hbm, 1542, rfl⟩
abbrev main_call26_call0_v0 : Ref sig .tc := ⟨.hbm, 1543, rfl⟩
abbrev main_call26_call0_v1 : Ref sig .tc := ⟨.hbm, 1544, rfl⟩
abbrev main_v1029 : Ref sig .tc := ⟨.hbm, 1545, rfl⟩
abbrev main_v1030 : Ref sig .tc := ⟨.hbm, 1546, rfl⟩
abbrev main_v1031 : Ref sig .tc := ⟨.hbm, 1547, rfl⟩
abbrev main_cst_108 : Ref sig .tc := ⟨.hbm, 1548, rfl⟩
abbrev main_v1032 : Ref sig .tc := ⟨.hbm, 1549, rfl⟩
abbrev main_v1033 : Ref sig .tc := ⟨.hbm, 1550, rfl⟩
abbrev main_v1034 : Ref sig .tc := ⟨.hbm, 1551, rfl⟩
abbrev main_v1035 : Ref sig .tc := ⟨.hbm, 1552, rfl⟩
abbrev main_v1036 : Ref sig .tc := ⟨.hbm, 1553, rfl⟩
abbrev main_v1037 : Ref sig .tc := ⟨.hbm, 1554, rfl⟩
abbrev main_v1038 : Ref sig .tc := ⟨.hbm, 1555, rfl⟩
abbrev main_v1039 : Ref sig .tc := ⟨.hbm, 1556, rfl⟩
abbrev main_v1040 : Ref sig .tc := ⟨.hbm, 1557, rfl⟩
abbrev main_v1041 : Ref sig .tc := ⟨.hbm, 1558, rfl⟩
abbrev main_v1042 : Ref sig .tc := ⟨.hbm, 1559, rfl⟩
abbrev main_v1043 : Ref sig .tc := ⟨.hbm, 1560, rfl⟩
abbrev main_v1044 : Ref sig .tc := ⟨.hbm, 1561, rfl⟩
abbrev main_v1045 : Ref sig .tc := ⟨.hbm, 1562, rfl⟩
abbrev main_v1046 : Ref sig .tc := ⟨.hbm, 1563, rfl⟩
abbrev main_v1047 : Ref sig .tc := ⟨.hbm, 1564, rfl⟩
abbrev main_v1048 : Ref sig .tc := ⟨.hbm, 1565, rfl⟩
abbrev main_v1049 : Ref sig .tc := ⟨.hbm, 1566, rfl⟩
abbrev main_v1050 : Ref sig .tc := ⟨.hbm, 1567, rfl⟩
abbrev main_v1051 : Ref sig .tc := ⟨.hbm, 1568, rfl⟩
abbrev main_v1052 : Ref sig .tc := ⟨.hbm, 1569, rfl⟩
abbrev main_v1053 : Ref sig .tc := ⟨.hbm, 1570, rfl⟩
abbrev main_v1054 : Ref sig .tc := ⟨.hbm, 1571, rfl⟩
abbrev main_v1055 : Ref sig .tc := ⟨.hbm, 1572, rfl⟩
abbrev main_v1056 : Ref sig .tc := ⟨.hbm, 1573, rfl⟩
abbrev main_v1057 : Ref sig .tc := ⟨.hbm, 1574, rfl⟩
abbrev main_v1058 : Ref sig .tc := ⟨.hbm, 1575, rfl⟩
abbrev main_v1059 : Ref sig .tc := ⟨.hbm, 1576, rfl⟩
abbrev main_v1060 : Ref sig .tc := ⟨.hbm, 1577, rfl⟩
abbrev main_v1061 : Ref sig .tc := ⟨.hbm, 1578, rfl⟩
abbrev main_v1062 : Ref sig .tc := ⟨.hbm, 1579, rfl⟩
abbrev main_v1063 : Ref sig .tc := ⟨.hbm, 1580, rfl⟩
abbrev main_v1064 : Ref sig .tc := ⟨.hbm, 1581, rfl⟩
abbrev main_v1065 : Ref sig .tc := ⟨.hbm, 1582, rfl⟩
abbrev main_v1066 : Ref sig .tc := ⟨.hbm, 1583, rfl⟩
abbrev main_v1067 : Ref sig .tc := ⟨.hbm, 1584, rfl⟩
abbrev main_v1068 : Ref sig .tc := ⟨.hbm, 1585, rfl⟩
abbrev main_v1069 : Ref sig .tc := ⟨.hbm, 1586, rfl⟩
abbrev main_v1070 : Ref sig .tc := ⟨.hbm, 1587, rfl⟩
abbrev main_v1071 : Ref sig .tc := ⟨.hbm, 1588, rfl⟩
abbrev main_v1072 : Ref sig .tc := ⟨.hbm, 1589, rfl⟩
abbrev main_v1073 : Ref sig .tc := ⟨.hbm, 1590, rfl⟩
abbrev main_v1074 : Ref sig .tc := ⟨.hbm, 1591, rfl⟩
abbrev main_v1075 : Ref sig .tc := ⟨.hbm, 1592, rfl⟩
abbrev main_v1076 : Ref sig .tc := ⟨.hbm, 1593, rfl⟩
abbrev main_v1077 : Ref sig .tc := ⟨.hbm, 1594, rfl⟩
abbrev main_v1078 : Ref sig .tc := ⟨.hbm, 1595, rfl⟩
abbrev main_cst_109 : Ref sig .tc := ⟨.hbm, 1596, rfl⟩
abbrev main_v1079 : Ref sig .tc := ⟨.hbm, 1597, rfl⟩
abbrev main_v1080 : Ref sig .tc := ⟨.hbm, 1598, rfl⟩
abbrev main_cst_110 : Ref sig .tc := ⟨.hbm, 1599, rfl⟩
abbrev main_v1081 : Ref sig .tc := ⟨.hbm, 1600, rfl⟩
abbrev main_cst_111 : Ref sig .tc := ⟨.hbm, 1601, rfl⟩
abbrev main_v1082 : Ref sig .tc := ⟨.hbm, 1602, rfl⟩
abbrev main_v1083 : Ref sig .tc := ⟨.hbm, 1603, rfl⟩
abbrev main_v1084 : Ref sig .tc := ⟨.hbm, 1604, rfl⟩
abbrev main_v1085 : Ref sig .tc := ⟨.hbm, 1605, rfl⟩
abbrev main_v1086 : Ref sig .tc := ⟨.hbm, 1606, rfl⟩
abbrev main_v1087 : Ref sig .tc := ⟨.hbm, 1607, rfl⟩
abbrev main_cst_112 : Ref sig .tc := ⟨.hbm, 1608, rfl⟩
abbrev main_v1088 : Ref sig .tc := ⟨.hbm, 1609, rfl⟩
abbrev main_v1089 : Ref sig .tc := ⟨.hbm, 1610, rfl⟩
abbrev main_v1090 : Ref sig .tc := ⟨.hbm, 1611, rfl⟩
abbrev main_v1091 : Ref sig .tc := ⟨.hbm, 1612, rfl⟩
abbrev main_v1092 : Ref sig .tc := ⟨.hbm, 1613, rfl⟩
abbrev main_v1093 : Ref sig .tc := ⟨.hbm, 1614, rfl⟩
abbrev main_v1094 : Ref sig .tc := ⟨.hbm, 1615, rfl⟩
abbrev main_v1095 : Ref sig .tc := ⟨.hbm, 1616, rfl⟩
abbrev main_v1096 : Ref sig .tc := ⟨.hbm, 1617, rfl⟩
abbrev main_v1097 : Ref sig .tc := ⟨.hbm, 1618, rfl⟩
abbrev main_v1098 : Ref sig .tc := ⟨.hbm, 1619, rfl⟩
abbrev main_v1099 : Ref sig .tc := ⟨.hbm, 1620, rfl⟩
abbrev main_v1100 : Ref sig .tc := ⟨.hbm, 1621, rfl⟩
abbrev main_v1101 : Ref sig .tc := ⟨.hbm, 1622, rfl⟩
abbrev main_v1102 : Ref sig .tc := ⟨.hbm, 1623, rfl⟩
abbrev main_v1103 : Ref sig .tc := ⟨.hbm, 1624, rfl⟩
abbrev main_v1104 : Ref sig .tc := ⟨.hbm, 1625, rfl⟩
abbrev main_cst_113 : Ref sig .tc := ⟨.hbm, 1626, rfl⟩
abbrev main_v1105 : Ref sig .tc := ⟨.hbm, 1627, rfl⟩
abbrev main_v1106 : Ref sig .tc := ⟨.hbm, 1628, rfl⟩
abbrev main_cst_114 : Ref sig .tc := ⟨.hbm, 1629, rfl⟩
abbrev main_v1107 : Ref sig .tc := ⟨.hbm, 1630, rfl⟩
abbrev main_v1108 : Ref sig .tc := ⟨.hbm, 1631, rfl⟩
abbrev main_c_115 : Ref sig .tc := ⟨.hbm, 1632, rfl⟩
abbrev main_call27_cst : Ref sig .tc := ⟨.hbm, 1633, rfl⟩
abbrev main_call27_v0 : Ref sig .tc := ⟨.hbm, 1634, rfl⟩
abbrev main_call27_v1 : Ref sig .tc := ⟨.hbm, 1635, rfl⟩
abbrev main_call27_cst_0 : Ref sig .tc := ⟨.hbm, 1636, rfl⟩
abbrev main_call27_v2 : Ref sig .tc := ⟨.hbm, 1637, rfl⟩
abbrev main_call27_v3 : Ref sig .tc := ⟨.hbm, 1638, rfl⟩
abbrev main_call27_v4 : Ref sig .tc := ⟨.hbm, 1639, rfl⟩
abbrev main_call27_v5 : Ref sig .tc := ⟨.hbm, 1640, rfl⟩
abbrev main_call27_v6 : Ref sig .tc := ⟨.hbm, 1641, rfl⟩
abbrev main_call27_v7 : Ref sig .tc := ⟨.hbm, 1642, rfl⟩
abbrev main_call27_cst_1 : Ref sig .tc := ⟨.hbm, 1643, rfl⟩
abbrev main_call27_v8 : Ref sig .tc := ⟨.hbm, 1644, rfl⟩
abbrev main_call27_cst_2 : Ref sig .tc := ⟨.hbm, 1645, rfl⟩
abbrev main_call27_v9 : Ref sig .tc := ⟨.hbm, 1646, rfl⟩
abbrev main_call27_v10 : Ref sig .tc := ⟨.hbm, 1647, rfl⟩
abbrev main_call27_v11 : Ref sig .tc := ⟨.hbm, 1648, rfl⟩
abbrev main_call27_v12 : Ref sig .tc := ⟨.hbm, 1649, rfl⟩
abbrev main_call27_cst_3 : Ref sig .tc := ⟨.hbm, 1650, rfl⟩
abbrev main_call27_v13 : Ref sig .tc := ⟨.hbm, 1651, rfl⟩
abbrev main_call27_cst_4 : Ref sig .tc := ⟨.hbm, 1652, rfl⟩
abbrev main_call27_call0_v0 : Ref sig .tc := ⟨.hbm, 1653, rfl⟩
abbrev main_call27_call0_v1 : Ref sig .tc := ⟨.hbm, 1654, rfl⟩
abbrev main_v1109 : Ref sig .tc := ⟨.hbm, 1655, rfl⟩
abbrev main_v1110 : Ref sig .tc := ⟨.hbm, 1656, rfl⟩
abbrev main_v1111 : Ref sig .tc := ⟨.hbm, 1657, rfl⟩
abbrev main_cst_116 : Ref sig .tc := ⟨.hbm, 1658, rfl⟩
abbrev main_v1112 : Ref sig .tc := ⟨.hbm, 1659, rfl⟩
abbrev main_v1113 : Ref sig .tc := ⟨.hbm, 1660, rfl⟩
abbrev main_v1114 : Ref sig .tc := ⟨.hbm, 1661, rfl⟩
abbrev main_v1115 : Ref sig .tc := ⟨.hbm, 1662, rfl⟩
abbrev main_v1116 : Ref sig .tc := ⟨.hbm, 1663, rfl⟩
abbrev main_v1117 : Ref sig .tc := ⟨.hbm, 1664, rfl⟩
abbrev main_v1118 : Ref sig .tc := ⟨.hbm, 1665, rfl⟩
abbrev main_v1119 : Ref sig .tc := ⟨.hbm, 1666, rfl⟩
abbrev main_v1120 : Ref sig .tc := ⟨.hbm, 1667, rfl⟩
abbrev main_v1121 : Ref sig .tc := ⟨.hbm, 1668, rfl⟩
abbrev main_v1122 : Ref sig .tc := ⟨.hbm, 1669, rfl⟩
abbrev main_v1123 : Ref sig .tc := ⟨.hbm, 1670, rfl⟩
abbrev main_v1124 : Ref sig .tc := ⟨.hbm, 1671, rfl⟩
abbrev main_v1125 : Ref sig .tc := ⟨.hbm, 1672, rfl⟩
abbrev main_v1126 : Ref sig .tc := ⟨.hbm, 1673, rfl⟩
abbrev main_v1127 : Ref sig .tc := ⟨.hbm, 1674, rfl⟩
abbrev main_v1128 : Ref sig .tc := ⟨.hbm, 1675, rfl⟩
abbrev main_v1129 : Ref sig .tc := ⟨.hbm, 1676, rfl⟩
abbrev main_v1130 : Ref sig .tc := ⟨.hbm, 1677, rfl⟩
abbrev main_v1131 : Ref sig .tc := ⟨.hbm, 1678, rfl⟩
abbrev main_v1132 : Ref sig .tc := ⟨.hbm, 1679, rfl⟩
abbrev main_v1133 : Ref sig .tc := ⟨.hbm, 1680, rfl⟩
abbrev main_v1134 : Ref sig .tc := ⟨.hbm, 1681, rfl⟩
abbrev main_v1135 : Ref sig .tc := ⟨.hbm, 1682, rfl⟩
abbrev main_v1136 : Ref sig .tc := ⟨.hbm, 1683, rfl⟩
abbrev main_v1137 : Ref sig .tc := ⟨.hbm, 1684, rfl⟩
abbrev main_v1138 : Ref sig .tc := ⟨.hbm, 1685, rfl⟩
abbrev main_v1139 : Ref sig .tc := ⟨.hbm, 1686, rfl⟩
abbrev main_v1140 : Ref sig .tc := ⟨.hbm, 1687, rfl⟩
abbrev main_v1141 : Ref sig .tc := ⟨.hbm, 1688, rfl⟩
abbrev main_v1142 : Ref sig .tc := ⟨.hbm, 1689, rfl⟩
abbrev main_v1143 : Ref sig .tc := ⟨.hbm, 1690, rfl⟩
abbrev main_v1144 : Ref sig .tc := ⟨.hbm, 1691, rfl⟩
abbrev main_v1145 : Ref sig .tc := ⟨.hbm, 1692, rfl⟩
abbrev main_v1146 : Ref sig .tc := ⟨.hbm, 1693, rfl⟩
abbrev main_v1147 : Ref sig .tc := ⟨.hbm, 1694, rfl⟩
abbrev main_v1148 : Ref sig .tc := ⟨.hbm, 1695, rfl⟩
abbrev main_v1149 : Ref sig .tc := ⟨.hbm, 1696, rfl⟩
abbrev main_v1150 : Ref sig .tc := ⟨.hbm, 1697, rfl⟩
abbrev main_v1151 : Ref sig .tc := ⟨.hbm, 1698, rfl⟩
abbrev main_v1152 : Ref sig .tc := ⟨.hbm, 1699, rfl⟩
abbrev main_v1153 : Ref sig .tc := ⟨.hbm, 1700, rfl⟩
abbrev main_v1154 : Ref sig .tc := ⟨.hbm, 1701, rfl⟩
abbrev main_v1155 : Ref sig .tc := ⟨.hbm, 1702, rfl⟩
abbrev main_v1156 : Ref sig .tc := ⟨.hbm, 1703, rfl⟩
abbrev main_v1157 : Ref sig .tc := ⟨.hbm, 1704, rfl⟩
abbrev main_v1158 : Ref sig .tc := ⟨.hbm, 1705, rfl⟩
abbrev main_cst_117 : Ref sig .tc := ⟨.hbm, 1706, rfl⟩
abbrev main_v1159 : Ref sig .tc := ⟨.hbm, 1707, rfl⟩
abbrev main_v1160 : Ref sig .tc := ⟨.hbm, 1708, rfl⟩
abbrev main_cst_118 : Ref sig .tc := ⟨.hbm, 1709, rfl⟩
abbrev main_call28_v0 : Ref sig .tc := ⟨.hbm, 1710, rfl⟩
abbrev main_call28_v1 : Ref sig .tc := ⟨.hbm, 1711, rfl⟩
abbrev main_call28_v2 : Ref sig .tc := ⟨.hbm, 1712, rfl⟩
abbrev main_v1161 : Ref sig .tc := ⟨.hbm, 1713, rfl⟩
abbrev main_cst_119 : Ref sig .tc := ⟨.hbm, 1714, rfl⟩
abbrev main_v1162 : Ref sig .tc := ⟨.hbm, 1715, rfl⟩
abbrev main_cst_120 : Ref sig .tc := ⟨.hbm, 1716, rfl⟩
abbrev main_v1163 : Ref sig .tc := ⟨.hbm, 1717, rfl⟩
abbrev main_v1164 : Ref sig .tc := ⟨.hbm, 1718, rfl⟩
abbrev main_v1165 : Ref sig .tc := ⟨.hbm, 1719, rfl⟩
abbrev main_v1166 : Ref sig .tc := ⟨.hbm, 1720, rfl⟩
abbrev main_v1167 : Ref sig .tc := ⟨.hbm, 1721, rfl⟩
abbrev main_v1168 : Ref sig .tc := ⟨.hbm, 1722, rfl⟩
abbrev main_cst_121 : Ref sig .tc := ⟨.hbm, 1723, rfl⟩
abbrev main_v1169 : Ref sig .tc := ⟨.hbm, 1724, rfl⟩
abbrev main_v1170 : Ref sig .tc := ⟨.hbm, 1725, rfl⟩
abbrev main_v1171 : Ref sig .tc := ⟨.hbm, 1726, rfl⟩
abbrev main_v1172 : Ref sig .tc := ⟨.hbm, 1727, rfl⟩
abbrev main_v1173 : Ref sig .tc := ⟨.hbm, 1728, rfl⟩
abbrev main_v1174 : Ref sig .tc := ⟨.hbm, 1729, rfl⟩
abbrev main_v1175 : Ref sig .tc := ⟨.hbm, 1730, rfl⟩
abbrev main_v1176 : Ref sig .tc := ⟨.hbm, 1731, rfl⟩
abbrev main_v1177 : Ref sig .tc := ⟨.hbm, 1732, rfl⟩
abbrev main_v1178 : Ref sig .tc := ⟨.hbm, 1733, rfl⟩
abbrev main_v1179 : Ref sig .tc := ⟨.hbm, 1734, rfl⟩
abbrev main_v1180 : Ref sig .tc := ⟨.hbm, 1735, rfl⟩
abbrev main_v1181 : Ref sig .tc := ⟨.hbm, 1736, rfl⟩
abbrev main_v1182 : Ref sig .tc := ⟨.hbm, 1737, rfl⟩
abbrev main_v1183 : Ref sig .tc := ⟨.hbm, 1738, rfl⟩
abbrev main_v1184 : Ref sig .tc := ⟨.hbm, 1739, rfl⟩
abbrev main_v1185 : Ref sig .tc := ⟨.hbm, 1740, rfl⟩
abbrev main_cst_122 : Ref sig .tc := ⟨.hbm, 1741, rfl⟩
abbrev main_v1186 : Ref sig .tc := ⟨.hbm, 1742, rfl⟩
abbrev main_v1187 : Ref sig .tc := ⟨.hbm, 1743, rfl⟩
abbrev main_cst_123 : Ref sig .tc := ⟨.hbm, 1744, rfl⟩
abbrev main_v1188 : Ref sig .tc := ⟨.hbm, 1745, rfl⟩
abbrev main_v1189 : Ref sig .tc := ⟨.hbm, 1746, rfl⟩
abbrev main_c_124 : Ref sig .tc := ⟨.hbm, 1747, rfl⟩
abbrev main_call29_cst : Ref sig .tc := ⟨.hbm, 1748, rfl⟩
abbrev main_call29_v0 : Ref sig .tc := ⟨.hbm, 1749, rfl⟩
abbrev main_call29_v1 : Ref sig .tc := ⟨.hbm, 1750, rfl⟩
abbrev main_call29_cst_0 : Ref sig .tc := ⟨.hbm, 1751, rfl⟩
abbrev main_call29_v2 : Ref sig .tc := ⟨.hbm, 1752, rfl⟩
abbrev main_call29_v3 : Ref sig .tc := ⟨.hbm, 1753, rfl⟩
abbrev main_call29_v4 : Ref sig .tc := ⟨.hbm, 1754, rfl⟩
abbrev main_call29_v5 : Ref sig .tc := ⟨.hbm, 1755, rfl⟩
abbrev main_call29_v6 : Ref sig .tc := ⟨.hbm, 1756, rfl⟩
abbrev main_call29_v7 : Ref sig .tc := ⟨.hbm, 1757, rfl⟩
abbrev main_call29_cst_1 : Ref sig .tc := ⟨.hbm, 1758, rfl⟩
abbrev main_call29_v8 : Ref sig .tc := ⟨.hbm, 1759, rfl⟩
abbrev main_call29_cst_2 : Ref sig .tc := ⟨.hbm, 1760, rfl⟩
abbrev main_call29_v9 : Ref sig .tc := ⟨.hbm, 1761, rfl⟩
abbrev main_call29_v10 : Ref sig .tc := ⟨.hbm, 1762, rfl⟩
abbrev main_call29_v11 : Ref sig .tc := ⟨.hbm, 1763, rfl⟩
abbrev main_call29_v12 : Ref sig .tc := ⟨.hbm, 1764, rfl⟩
abbrev main_call29_cst_3 : Ref sig .tc := ⟨.hbm, 1765, rfl⟩
abbrev main_call29_v13 : Ref sig .tc := ⟨.hbm, 1766, rfl⟩
abbrev main_call29_cst_4 : Ref sig .tc := ⟨.hbm, 1767, rfl⟩
abbrev main_call29_call0_v0 : Ref sig .tc := ⟨.hbm, 1768, rfl⟩
abbrev main_call29_call0_v1 : Ref sig .tc := ⟨.hbm, 1769, rfl⟩
abbrev main_v1190 : Ref sig .tc := ⟨.hbm, 1770, rfl⟩
abbrev main_v1191 : Ref sig .tc := ⟨.hbm, 1771, rfl⟩
abbrev main_v1192 : Ref sig .tc := ⟨.hbm, 1772, rfl⟩
abbrev main_cst_125 : Ref sig .tc := ⟨.hbm, 1773, rfl⟩
abbrev main_v1193 : Ref sig .tc := ⟨.hbm, 1774, rfl⟩
abbrev main_v1194 : Ref sig .tc := ⟨.hbm, 1775, rfl⟩
abbrev main_v1195 : Ref sig .tc := ⟨.hbm, 1776, rfl⟩
abbrev main_v1196 : Ref sig .tc := ⟨.hbm, 1777, rfl⟩
abbrev main_v1197 : Ref sig .tc := ⟨.hbm, 1778, rfl⟩
abbrev main_v1198 : Ref sig .tc := ⟨.hbm, 1779, rfl⟩
abbrev main_v1199 : Ref sig .tc := ⟨.hbm, 1780, rfl⟩
abbrev main_v1200 : Ref sig .tc := ⟨.hbm, 1781, rfl⟩
abbrev main_v1201 : Ref sig .tc := ⟨.hbm, 1782, rfl⟩
abbrev main_v1202 : Ref sig .tc := ⟨.hbm, 1783, rfl⟩
abbrev main_v1203 : Ref sig .tc := ⟨.hbm, 1784, rfl⟩
abbrev main_v1204 : Ref sig .tc := ⟨.hbm, 1785, rfl⟩
abbrev main_v1205 : Ref sig .tc := ⟨.hbm, 1786, rfl⟩
abbrev main_v1206 : Ref sig .tc := ⟨.hbm, 1787, rfl⟩
abbrev main_v1207 : Ref sig .tc := ⟨.hbm, 1788, rfl⟩
abbrev main_v1208 : Ref sig .tc := ⟨.hbm, 1789, rfl⟩
abbrev main_v1209 : Ref sig .tc := ⟨.hbm, 1790, rfl⟩
abbrev main_v1210 : Ref sig .tc := ⟨.hbm, 1791, rfl⟩
abbrev main_v1211 : Ref sig .tc := ⟨.hbm, 1792, rfl⟩
abbrev main_v1212 : Ref sig .tc := ⟨.hbm, 1793, rfl⟩
abbrev main_call30_cst : Ref sig .tc := ⟨.hbm, 1794, rfl⟩
abbrev main_call30_v0 : Ref sig .tc := ⟨.hbm, 1795, rfl⟩
abbrev main_v1213 : Ref sig .tc := ⟨.hbm, 1796, rfl⟩
abbrev main_v1214 : Ref sig .tc := ⟨.hbm, 1797, rfl⟩
abbrev main_v1215 : Ref sig .tc := ⟨.hbm, 1798, rfl⟩
abbrev main_v1216 : Ref sig .tc := ⟨.hbm, 1799, rfl⟩
abbrev main_v1217 : Ref sig .tc := ⟨.hbm, 1800, rfl⟩
abbrev main_v1218 : Ref sig .tc := ⟨.hbm, 1801, rfl⟩
abbrev main_v1219 : Ref sig .tc := ⟨.hbm, 1802, rfl⟩
abbrev main_v1220 : Ref sig .tc := ⟨.hbm, 1803, rfl⟩
abbrev main_v1221 : Ref sig .tc := ⟨.hbm, 1804, rfl⟩
abbrev main_v1222 : Ref sig .tc := ⟨.hbm, 1805, rfl⟩
abbrev main_v1223 : Ref sig .tc := ⟨.hbm, 1806, rfl⟩
abbrev main_v1224 : Ref sig .tc := ⟨.hbm, 1807, rfl⟩
abbrev main_v1225 : Ref sig .tc := ⟨.hbm, 1808, rfl⟩
abbrev main_v1226 : Ref sig .tc := ⟨.hbm, 1809, rfl⟩
abbrev main_v1227 : Ref sig .tc := ⟨.hbm, 1810, rfl⟩
abbrev main_cst_126 : Ref sig .tc := ⟨.hbm, 1811, rfl⟩
abbrev main_v1228 : Ref sig .tc := ⟨.hbm, 1812, rfl⟩
abbrev main_v1229 : Ref sig .tc := ⟨.hbm, 1813, rfl⟩
abbrev main_cst_127 : Ref sig .tc := ⟨.hbm, 1814, rfl⟩
abbrev main_v1230 : Ref sig .tc := ⟨.hbm, 1815, rfl⟩
abbrev main_v1231 : Ref sig .tc := ⟨.hbm, 1816, rfl⟩
abbrev main_c_128 : Ref sig .tc := ⟨.hbm, 1817, rfl⟩
abbrev main_call31_cst : Ref sig .tc := ⟨.hbm, 1818, rfl⟩
abbrev main_call31_v0 : Ref sig .tc := ⟨.hbm, 1819, rfl⟩
abbrev main_call31_v1 : Ref sig .tc := ⟨.hbm, 1820, rfl⟩
abbrev main_call31_cst_0 : Ref sig .tc := ⟨.hbm, 1821, rfl⟩
abbrev main_call31_v2 : Ref sig .tc := ⟨.hbm, 1822, rfl⟩
abbrev main_call31_v3 : Ref sig .tc := ⟨.hbm, 1823, rfl⟩
abbrev main_call31_v4 : Ref sig .tc := ⟨.hbm, 1824, rfl⟩
abbrev main_call31_v5 : Ref sig .tc := ⟨.hbm, 1825, rfl⟩
abbrev main_call31_v6 : Ref sig .tc := ⟨.hbm, 1826, rfl⟩
abbrev main_call31_v7 : Ref sig .tc := ⟨.hbm, 1827, rfl⟩
abbrev main_call31_cst_1 : Ref sig .tc := ⟨.hbm, 1828, rfl⟩
abbrev main_call31_v8 : Ref sig .tc := ⟨.hbm, 1829, rfl⟩
abbrev main_call31_cst_2 : Ref sig .tc := ⟨.hbm, 1830, rfl⟩
abbrev main_call31_v9 : Ref sig .tc := ⟨.hbm, 1831, rfl⟩
abbrev main_call31_v10 : Ref sig .tc := ⟨.hbm, 1832, rfl⟩
abbrev main_call31_v11 : Ref sig .tc := ⟨.hbm, 1833, rfl⟩
abbrev main_call31_v12 : Ref sig .tc := ⟨.hbm, 1834, rfl⟩
abbrev main_call31_cst_3 : Ref sig .tc := ⟨.hbm, 1835, rfl⟩
abbrev main_call31_v13 : Ref sig .tc := ⟨.hbm, 1836, rfl⟩
abbrev main_call31_cst_4 : Ref sig .tc := ⟨.hbm, 1837, rfl⟩
abbrev main_call31_call0_v0 : Ref sig .tc := ⟨.hbm, 1838, rfl⟩
abbrev main_call31_call0_v1 : Ref sig .tc := ⟨.hbm, 1839, rfl⟩
abbrev main_v1232 : Ref sig .tc := ⟨.hbm, 1840, rfl⟩
abbrev main_v1233 : Ref sig .tc := ⟨.hbm, 1841, rfl⟩
abbrev main_v1234 : Ref sig .tc := ⟨.hbm, 1842, rfl⟩
abbrev main_cst_129 : Ref sig .tc := ⟨.hbm, 1843, rfl⟩
abbrev main_v1235 : Ref sig .tc := ⟨.hbm, 1844, rfl⟩
abbrev main_v1236 : Ref sig .tc := ⟨.hbm, 1845, rfl⟩
abbrev main_v1237 : Ref sig .tc := ⟨.hbm, 1846, rfl⟩
abbrev main_v1238 : Ref sig .tc := ⟨.hbm, 1847, rfl⟩
abbrev main_v1239 : Ref sig .tc := ⟨.hbm, 1848, rfl⟩
abbrev main_v1240 : Ref sig .tc := ⟨.hbm, 1849, rfl⟩
abbrev main_v1241 : Ref sig .tc := ⟨.hbm, 1850, rfl⟩
abbrev main_v1242 : Ref sig .tc := ⟨.hbm, 1851, rfl⟩
abbrev main_v1243 : Ref sig .tc := ⟨.hbm, 1852, rfl⟩
abbrev main_v1244 : Ref sig .tc := ⟨.hbm, 1853, rfl⟩
abbrev main_v1245 : Ref sig .tc := ⟨.hbm, 1854, rfl⟩
abbrev main_v1246 : Ref sig .tc := ⟨.hbm, 1855, rfl⟩
abbrev main_v1247 : Ref sig .tc := ⟨.hbm, 1856, rfl⟩
abbrev main_v1248 : Ref sig .tc := ⟨.hbm, 1857, rfl⟩
abbrev main_v1249 : Ref sig .tc := ⟨.hbm, 1858, rfl⟩
abbrev main_v1250 : Ref sig .tc := ⟨.hbm, 1859, rfl⟩
abbrev main_v1251 : Ref sig .tc := ⟨.hbm, 1860, rfl⟩
abbrev main_v1252 : Ref sig .tc := ⟨.hbm, 1861, rfl⟩
abbrev main_v1253 : Ref sig .tc := ⟨.hbm, 1862, rfl⟩
abbrev main_v1254 : Ref sig .tc := ⟨.hbm, 1863, rfl⟩
abbrev main_v1255 : Ref sig .tc := ⟨.hbm, 1864, rfl⟩
abbrev main_v1256 : Ref sig .tc := ⟨.hbm, 1865, rfl⟩
abbrev main_v1257 : Ref sig .tc := ⟨.hbm, 1866, rfl⟩
abbrev main_v1258 : Ref sig .tc := ⟨.hbm, 1867, rfl⟩
abbrev main_v1259 : Ref sig .tc := ⟨.hbm, 1868, rfl⟩
abbrev main_v1260 : Ref sig .tc := ⟨.hbm, 1869, rfl⟩
abbrev main_v1261 : Ref sig .tc := ⟨.hbm, 1870, rfl⟩
abbrev main_v1262 : Ref sig .tc := ⟨.hbm, 1871, rfl⟩
abbrev main_v1263 : Ref sig .tc := ⟨.hbm, 1872, rfl⟩
abbrev main_v1264 : Ref sig .tc := ⟨.hbm, 1873, rfl⟩
abbrev main_v1265 : Ref sig .tc := ⟨.hbm, 1874, rfl⟩
abbrev main_v1266 : Ref sig .tc := ⟨.hbm, 1875, rfl⟩
abbrev main_v1267 : Ref sig .tc := ⟨.hbm, 1876, rfl⟩
abbrev main_v1268 : Ref sig .tc := ⟨.hbm, 1877, rfl⟩
abbrev main_v1269 : Ref sig .tc := ⟨.hbm, 1878, rfl⟩
abbrev main_v1270 : Ref sig .tc := ⟨.hbm, 1879, rfl⟩
abbrev main_v1271 : Ref sig .tc := ⟨.hbm, 1880, rfl⟩
abbrev main_v1272 : Ref sig .tc := ⟨.hbm, 1881, rfl⟩
abbrev main_v1273 : Ref sig .tc := ⟨.hbm, 1882, rfl⟩
abbrev main_v1274 : Ref sig .tc := ⟨.hbm, 1883, rfl⟩
abbrev main_v1275 : Ref sig .tc := ⟨.hbm, 1884, rfl⟩
abbrev main_v1276 : Ref sig .tc := ⟨.hbm, 1885, rfl⟩
abbrev main_v1277 : Ref sig .tc := ⟨.hbm, 1886, rfl⟩
abbrev main_v1278 : Ref sig .tc := ⟨.hbm, 1887, rfl⟩
abbrev main_v1279 : Ref sig .tc := ⟨.hbm, 1888, rfl⟩
abbrev main_v1280 : Ref sig .tc := ⟨.hbm, 1889, rfl⟩
abbrev main_v1281 : Ref sig .tc := ⟨.hbm, 1890, rfl⟩
abbrev main_cst_130 : Ref sig .tc := ⟨.hbm, 1891, rfl⟩
abbrev main_v1282 : Ref sig .tc := ⟨.hbm, 1892, rfl⟩
abbrev main_v1283 : Ref sig .tc := ⟨.hbm, 1893, rfl⟩
abbrev main_cst_131 : Ref sig .tc := ⟨.hbm, 1894, rfl⟩
abbrev main_v1284 : Ref sig .tc := ⟨.hbm, 1895, rfl⟩
abbrev main_cst_132 : Ref sig .tc := ⟨.hbm, 1896, rfl⟩
abbrev main_v1285 : Ref sig .tc := ⟨.hbm, 1897, rfl⟩
abbrev main_v1286 : Ref sig .tc := ⟨.hbm, 1898, rfl⟩
abbrev main_v1287 : Ref sig .tc := ⟨.hbm, 1899, rfl⟩
abbrev main_v1288 : Ref sig .tc := ⟨.hbm, 1900, rfl⟩
abbrev main_v1289 : Ref sig .tc := ⟨.hbm, 1901, rfl⟩
abbrev main_v1290 : Ref sig .tc := ⟨.hbm, 1902, rfl⟩
abbrev main_cst_133 : Ref sig .tc := ⟨.hbm, 1903, rfl⟩
abbrev main_v1291 : Ref sig .tc := ⟨.hbm, 1904, rfl⟩
abbrev main_v1292 : Ref sig .tc := ⟨.hbm, 1905, rfl⟩
abbrev main_v1293 : Ref sig .tc := ⟨.hbm, 1906, rfl⟩
abbrev main_v1294 : Ref sig .tc := ⟨.hbm, 1907, rfl⟩
abbrev main_v1295 : Ref sig .tc := ⟨.hbm, 1908, rfl⟩
abbrev main_v1296 : Ref sig .tc := ⟨.hbm, 1909, rfl⟩
abbrev main_v1297 : Ref sig .tc := ⟨.hbm, 1910, rfl⟩
abbrev main_v1298 : Ref sig .tc := ⟨.hbm, 1911, rfl⟩
abbrev main_v1299 : Ref sig .tc := ⟨.hbm, 1912, rfl⟩
abbrev main_v1300 : Ref sig .tc := ⟨.hbm, 1913, rfl⟩
abbrev main_v1301 : Ref sig .tc := ⟨.hbm, 1914, rfl⟩
abbrev main_v1302 : Ref sig .tc := ⟨.hbm, 1915, rfl⟩
abbrev main_v1303 : Ref sig .tc := ⟨.hbm, 1916, rfl⟩
abbrev main_v1304 : Ref sig .tc := ⟨.hbm, 1917, rfl⟩
abbrev main_v1305 : Ref sig .tc := ⟨.hbm, 1918, rfl⟩
abbrev main_v1306 : Ref sig .tc := ⟨.hbm, 1919, rfl⟩
abbrev main_v1307 : Ref sig .tc := ⟨.hbm, 1920, rfl⟩
abbrev main_cst_134 : Ref sig .tc := ⟨.hbm, 1921, rfl⟩
abbrev main_v1308 : Ref sig .tc := ⟨.hbm, 1922, rfl⟩
abbrev main_v1309 : Ref sig .tc := ⟨.hbm, 1923, rfl⟩
abbrev main_cst_135 : Ref sig .tc := ⟨.hbm, 1924, rfl⟩
abbrev main_v1310 : Ref sig .tc := ⟨.hbm, 1925, rfl⟩
abbrev main_v1311 : Ref sig .tc := ⟨.hbm, 1926, rfl⟩
abbrev main_c_136 : Ref sig .tc := ⟨.hbm, 1927, rfl⟩
abbrev main_call32_cst : Ref sig .tc := ⟨.hbm, 1928, rfl⟩
abbrev main_call32_v0 : Ref sig .tc := ⟨.hbm, 1929, rfl⟩
abbrev main_call32_v1 : Ref sig .tc := ⟨.hbm, 1930, rfl⟩
abbrev main_call32_cst_0 : Ref sig .tc := ⟨.hbm, 1931, rfl⟩
abbrev main_call32_v2 : Ref sig .tc := ⟨.hbm, 1932, rfl⟩
abbrev main_call32_v3 : Ref sig .tc := ⟨.hbm, 1933, rfl⟩
abbrev main_call32_v4 : Ref sig .tc := ⟨.hbm, 1934, rfl⟩
abbrev main_call32_v5 : Ref sig .tc := ⟨.hbm, 1935, rfl⟩
abbrev main_call32_v6 : Ref sig .tc := ⟨.hbm, 1936, rfl⟩
abbrev main_call32_v7 : Ref sig .tc := ⟨.hbm, 1937, rfl⟩
abbrev main_call32_cst_1 : Ref sig .tc := ⟨.hbm, 1938, rfl⟩
abbrev main_call32_v8 : Ref sig .tc := ⟨.hbm, 1939, rfl⟩
abbrev main_call32_cst_2 : Ref sig .tc := ⟨.hbm, 1940, rfl⟩
abbrev main_call32_v9 : Ref sig .tc := ⟨.hbm, 1941, rfl⟩
abbrev main_call32_v10 : Ref sig .tc := ⟨.hbm, 1942, rfl⟩
abbrev main_call32_v11 : Ref sig .tc := ⟨.hbm, 1943, rfl⟩
abbrev main_call32_v12 : Ref sig .tc := ⟨.hbm, 1944, rfl⟩
abbrev main_call32_cst_3 : Ref sig .tc := ⟨.hbm, 1945, rfl⟩
abbrev main_call32_v13 : Ref sig .tc := ⟨.hbm, 1946, rfl⟩
abbrev main_call32_cst_4 : Ref sig .tc := ⟨.hbm, 1947, rfl⟩
abbrev main_call32_call0_v0 : Ref sig .tc := ⟨.hbm, 1948, rfl⟩
abbrev main_call32_call0_v1 : Ref sig .tc := ⟨.hbm, 1949, rfl⟩
abbrev main_v1312 : Ref sig .tc := ⟨.hbm, 1950, rfl⟩
abbrev main_v1313 : Ref sig .tc := ⟨.hbm, 1951, rfl⟩
abbrev main_v1314 : Ref sig .tc := ⟨.hbm, 1952, rfl⟩
abbrev main_cst_137 : Ref sig .tc := ⟨.hbm, 1953, rfl⟩
abbrev main_v1315 : Ref sig .tc := ⟨.hbm, 1954, rfl⟩
abbrev main_v1316 : Ref sig .tc := ⟨.hbm, 1955, rfl⟩
abbrev main_v1317 : Ref sig .tc := ⟨.hbm, 1956, rfl⟩
abbrev main_v1318 : Ref sig .tc := ⟨.hbm, 1957, rfl⟩
abbrev main_v1319 : Ref sig .tc := ⟨.hbm, 1958, rfl⟩
abbrev main_v1320 : Ref sig .tc := ⟨.hbm, 1959, rfl⟩
abbrev main_v1321 : Ref sig .tc := ⟨.hbm, 1960, rfl⟩
abbrev main_v1322 : Ref sig .tc := ⟨.hbm, 1961, rfl⟩
abbrev main_v1323 : Ref sig .tc := ⟨.hbm, 1962, rfl⟩
abbrev main_v1324 : Ref sig .tc := ⟨.hbm, 1963, rfl⟩
abbrev main_v1325 : Ref sig .tc := ⟨.hbm, 1964, rfl⟩
abbrev main_v1326 : Ref sig .tc := ⟨.hbm, 1965, rfl⟩
abbrev main_v1327 : Ref sig .tc := ⟨.hbm, 1966, rfl⟩
abbrev main_v1328 : Ref sig .tc := ⟨.hbm, 1967, rfl⟩
abbrev main_v1329 : Ref sig .tc := ⟨.hbm, 1968, rfl⟩
abbrev main_v1330 : Ref sig .tc := ⟨.hbm, 1969, rfl⟩
abbrev main_v1331 : Ref sig .tc := ⟨.hbm, 1970, rfl⟩
abbrev main_v1332 : Ref sig .tc := ⟨.hbm, 1971, rfl⟩
abbrev main_v1333 : Ref sig .tc := ⟨.hbm, 1972, rfl⟩
abbrev main_v1334 : Ref sig .tc := ⟨.hbm, 1973, rfl⟩
abbrev main_v1335 : Ref sig .tc := ⟨.hbm, 1974, rfl⟩
abbrev main_v1336 : Ref sig .tc := ⟨.hbm, 1975, rfl⟩
abbrev main_v1337 : Ref sig .tc := ⟨.hbm, 1976, rfl⟩
abbrev main_v1338 : Ref sig .tc := ⟨.hbm, 1977, rfl⟩
abbrev main_v1339 : Ref sig .tc := ⟨.hbm, 1978, rfl⟩
abbrev main_v1340 : Ref sig .tc := ⟨.hbm, 1979, rfl⟩
abbrev main_v1341 : Ref sig .tc := ⟨.hbm, 1980, rfl⟩
abbrev main_v1342 : Ref sig .tc := ⟨.hbm, 1981, rfl⟩
abbrev main_v1343 : Ref sig .tc := ⟨.hbm, 1982, rfl⟩
abbrev main_v1344 : Ref sig .tc := ⟨.hbm, 1983, rfl⟩
abbrev main_v1345 : Ref sig .tc := ⟨.hbm, 1984, rfl⟩
abbrev main_v1346 : Ref sig .tc := ⟨.hbm, 1985, rfl⟩
abbrev main_v1347 : Ref sig .tc := ⟨.hbm, 1986, rfl⟩
abbrev main_v1348 : Ref sig .tc := ⟨.hbm, 1987, rfl⟩
abbrev main_v1349 : Ref sig .tc := ⟨.hbm, 1988, rfl⟩
abbrev main_v1350 : Ref sig .tc := ⟨.hbm, 1989, rfl⟩
abbrev main_v1351 : Ref sig .tc := ⟨.hbm, 1990, rfl⟩
abbrev main_v1352 : Ref sig .tc := ⟨.hbm, 1991, rfl⟩
abbrev main_v1353 : Ref sig .tc := ⟨.hbm, 1992, rfl⟩
abbrev main_v1354 : Ref sig .tc := ⟨.hbm, 1993, rfl⟩
abbrev main_v1355 : Ref sig .tc := ⟨.hbm, 1994, rfl⟩
abbrev main_v1356 : Ref sig .tc := ⟨.hbm, 1995, rfl⟩
abbrev main_v1357 : Ref sig .tc := ⟨.hbm, 1996, rfl⟩
abbrev main_v1358 : Ref sig .tc := ⟨.hbm, 1997, rfl⟩
abbrev main_v1359 : Ref sig .tc := ⟨.hbm, 1998, rfl⟩
abbrev main_v1360 : Ref sig .tc := ⟨.hbm, 1999, rfl⟩
abbrev main_v1361 : Ref sig .tc := ⟨.hbm, 2000, rfl⟩
abbrev main_cst_138 : Ref sig .tc := ⟨.hbm, 2001, rfl⟩
abbrev main_v1362 : Ref sig .tc := ⟨.hbm, 2002, rfl⟩
abbrev main_v1363 : Ref sig .tc := ⟨.hbm, 2003, rfl⟩
abbrev main_cst_139 : Ref sig .tc := ⟨.hbm, 2004, rfl⟩
abbrev main_call33_v0 : Ref sig .tc := ⟨.hbm, 2005, rfl⟩
abbrev main_call33_v1 : Ref sig .tc := ⟨.hbm, 2006, rfl⟩
abbrev main_call33_v2 : Ref sig .tc := ⟨.hbm, 2007, rfl⟩
abbrev main_v1364 : Ref sig .tc := ⟨.hbm, 2008, rfl⟩
abbrev main_cst_140 : Ref sig .tc := ⟨.hbm, 2009, rfl⟩
abbrev main_v1365 : Ref sig .tc := ⟨.hbm, 2010, rfl⟩
abbrev main_cst_141 : Ref sig .tc := ⟨.hbm, 2011, rfl⟩
abbrev main_v1366 : Ref sig .tc := ⟨.hbm, 2012, rfl⟩
abbrev main_v1367 : Ref sig .tc := ⟨.hbm, 2013, rfl⟩
abbrev main_v1368 : Ref sig .tc := ⟨.hbm, 2014, rfl⟩
abbrev main_v1369 : Ref sig .tc := ⟨.hbm, 2015, rfl⟩
abbrev main_v1370 : Ref sig .tc := ⟨.hbm, 2016, rfl⟩
abbrev main_v1371 : Ref sig .tc := ⟨.hbm, 2017, rfl⟩
abbrev main_cst_142 : Ref sig .tc := ⟨.hbm, 2018, rfl⟩
abbrev main_v1372 : Ref sig .tc := ⟨.hbm, 2019, rfl⟩
abbrev main_v1373 : Ref sig .tc := ⟨.hbm, 2020, rfl⟩
abbrev main_v1374 : Ref sig .tc := ⟨.hbm, 2021, rfl⟩
abbrev main_v1375 : Ref sig .tc := ⟨.hbm, 2022, rfl⟩
abbrev main_v1376 : Ref sig .tc := ⟨.hbm, 2023, rfl⟩
abbrev main_v1377 : Ref sig .tc := ⟨.hbm, 2024, rfl⟩
abbrev main_v1378 : Ref sig .tc := ⟨.hbm, 2025, rfl⟩
abbrev main_v1379 : Ref sig .tc := ⟨.hbm, 2026, rfl⟩
abbrev main_v1380 : Ref sig .tc := ⟨.hbm, 2027, rfl⟩
abbrev main_v1381 : Ref sig .tc := ⟨.hbm, 2028, rfl⟩
abbrev main_v1382 : Ref sig .tc := ⟨.hbm, 2029, rfl⟩
abbrev main_v1383 : Ref sig .tc := ⟨.hbm, 2030, rfl⟩
abbrev main_v1384 : Ref sig .tc := ⟨.hbm, 2031, rfl⟩
abbrev main_v1385 : Ref sig .tc := ⟨.hbm, 2032, rfl⟩
abbrev main_v1386 : Ref sig .tc := ⟨.hbm, 2033, rfl⟩
abbrev main_v1387 : Ref sig .tc := ⟨.hbm, 2034, rfl⟩
abbrev main_v1388 : Ref sig .tc := ⟨.hbm, 2035, rfl⟩
abbrev main_cst_143 : Ref sig .tc := ⟨.hbm, 2036, rfl⟩
abbrev main_v1389 : Ref sig .tc := ⟨.hbm, 2037, rfl⟩
abbrev main_v1390 : Ref sig .tc := ⟨.hbm, 2038, rfl⟩
abbrev main_cst_144 : Ref sig .tc := ⟨.hbm, 2039, rfl⟩
abbrev main_v1391 : Ref sig .tc := ⟨.hbm, 2040, rfl⟩
abbrev main_v1392 : Ref sig .tc := ⟨.hbm, 2041, rfl⟩
abbrev main_c_145 : Ref sig .tc := ⟨.hbm, 2042, rfl⟩
abbrev main_call34_cst : Ref sig .tc := ⟨.hbm, 2043, rfl⟩
abbrev main_call34_v0 : Ref sig .tc := ⟨.hbm, 2044, rfl⟩
abbrev main_call34_v1 : Ref sig .tc := ⟨.hbm, 2045, rfl⟩
abbrev main_call34_cst_0 : Ref sig .tc := ⟨.hbm, 2046, rfl⟩
abbrev main_call34_v2 : Ref sig .tc := ⟨.hbm, 2047, rfl⟩
abbrev main_call34_v3 : Ref sig .tc := ⟨.hbm, 2048, rfl⟩
abbrev main_call34_v4 : Ref sig .tc := ⟨.hbm, 2049, rfl⟩
abbrev main_call34_v5 : Ref sig .tc := ⟨.hbm, 2050, rfl⟩
abbrev main_call34_v6 : Ref sig .tc := ⟨.hbm, 2051, rfl⟩
abbrev main_call34_v7 : Ref sig .tc := ⟨.hbm, 2052, rfl⟩
abbrev main_call34_cst_1 : Ref sig .tc := ⟨.hbm, 2053, rfl⟩
abbrev main_call34_v8 : Ref sig .tc := ⟨.hbm, 2054, rfl⟩
abbrev main_call34_cst_2 : Ref sig .tc := ⟨.hbm, 2055, rfl⟩
abbrev main_call34_v9 : Ref sig .tc := ⟨.hbm, 2056, rfl⟩
abbrev main_call34_v10 : Ref sig .tc := ⟨.hbm, 2057, rfl⟩
abbrev main_call34_v11 : Ref sig .tc := ⟨.hbm, 2058, rfl⟩
abbrev main_call34_v12 : Ref sig .tc := ⟨.hbm, 2059, rfl⟩
abbrev main_call34_cst_3 : Ref sig .tc := ⟨.hbm, 2060, rfl⟩
abbrev main_call34_v13 : Ref sig .tc := ⟨.hbm, 2061, rfl⟩
abbrev main_call34_cst_4 : Ref sig .tc := ⟨.hbm, 2062, rfl⟩
abbrev main_call34_call0_v0 : Ref sig .tc := ⟨.hbm, 2063, rfl⟩
abbrev main_call34_call0_v1 : Ref sig .tc := ⟨.hbm, 2064, rfl⟩
abbrev main_v1393 : Ref sig .tc := ⟨.hbm, 2065, rfl⟩
abbrev main_v1394 : Ref sig .tc := ⟨.hbm, 2066, rfl⟩
abbrev main_v1395 : Ref sig .tc := ⟨.hbm, 2067, rfl⟩
abbrev main_cst_146 : Ref sig .tc := ⟨.hbm, 2068, rfl⟩
abbrev main_v1396 : Ref sig .tc := ⟨.hbm, 2069, rfl⟩
abbrev main_v1397 : Ref sig .tc := ⟨.hbm, 2070, rfl⟩
abbrev main_v1398 : Ref sig .tc := ⟨.hbm, 2071, rfl⟩
abbrev main_v1399 : Ref sig .tc := ⟨.hbm, 2072, rfl⟩
abbrev main_v1400 : Ref sig .tc := ⟨.hbm, 2073, rfl⟩
abbrev main_v1401 : Ref sig .tc := ⟨.hbm, 2074, rfl⟩
abbrev main_v1402 : Ref sig .tc := ⟨.hbm, 2075, rfl⟩
abbrev main_v1403 : Ref sig .tc := ⟨.hbm, 2076, rfl⟩
abbrev main_v1404 : Ref sig .tc := ⟨.hbm, 2077, rfl⟩
abbrev main_v1405 : Ref sig .tc := ⟨.hbm, 2078, rfl⟩
abbrev main_v1406 : Ref sig .tc := ⟨.hbm, 2079, rfl⟩
abbrev main_v1407 : Ref sig .tc := ⟨.hbm, 2080, rfl⟩
abbrev main_v1408 : Ref sig .tc := ⟨.hbm, 2081, rfl⟩
abbrev main_v1409 : Ref sig .tc := ⟨.hbm, 2082, rfl⟩
abbrev main_v1410 : Ref sig .tc := ⟨.hbm, 2083, rfl⟩
abbrev main_v1411 : Ref sig .tc := ⟨.hbm, 2084, rfl⟩
abbrev main_v1412 : Ref sig .tc := ⟨.hbm, 2085, rfl⟩
abbrev main_v1413 : Ref sig .tc := ⟨.hbm, 2086, rfl⟩
abbrev main_v1414 : Ref sig .tc := ⟨.hbm, 2087, rfl⟩
abbrev main_v1415 : Ref sig .tc := ⟨.hbm, 2088, rfl⟩
abbrev main_call35_cst : Ref sig .tc := ⟨.hbm, 2089, rfl⟩
abbrev main_call35_v0 : Ref sig .tc := ⟨.hbm, 2090, rfl⟩
abbrev main_v1416 : Ref sig .tc := ⟨.hbm, 2091, rfl⟩
abbrev main_v1417 : Ref sig .tc := ⟨.hbm, 2092, rfl⟩
abbrev main_v1418 : Ref sig .tc := ⟨.hbm, 2093, rfl⟩
abbrev main_v1419 : Ref sig .tc := ⟨.hbm, 2094, rfl⟩
abbrev main_v1420 : Ref sig .tc := ⟨.hbm, 2095, rfl⟩
abbrev main_v1421 : Ref sig .tc := ⟨.hbm, 2096, rfl⟩
abbrev main_v1422 : Ref sig .tc := ⟨.hbm, 2097, rfl⟩
abbrev main_v1423 : Ref sig .tc := ⟨.hbm, 2098, rfl⟩
abbrev main_v1424 : Ref sig .tc := ⟨.hbm, 2099, rfl⟩
abbrev main_v1425 : Ref sig .tc := ⟨.hbm, 2100, rfl⟩
abbrev main_v1426 : Ref sig .tc := ⟨.hbm, 2101, rfl⟩
abbrev main_v1427 : Ref sig .tc := ⟨.hbm, 2102, rfl⟩
abbrev main_v1428 : Ref sig .tc := ⟨.hbm, 2103, rfl⟩
abbrev main_v1429 : Ref sig .tc := ⟨.hbm, 2104, rfl⟩
abbrev main_v1430 : Ref sig .tc := ⟨.hbm, 2105, rfl⟩
abbrev main_cst_147 : Ref sig .tc := ⟨.hbm, 2106, rfl⟩
abbrev main_v1431 : Ref sig .tc := ⟨.hbm, 2107, rfl⟩
abbrev main_v1432 : Ref sig .tc := ⟨.hbm, 2108, rfl⟩
abbrev main_cst_148 : Ref sig .tc := ⟨.hbm, 2109, rfl⟩
abbrev main_v1433 : Ref sig .tc := ⟨.hbm, 2110, rfl⟩
abbrev main_v1434 : Ref sig .tc := ⟨.hbm, 2111, rfl⟩
abbrev main_c_149 : Ref sig .tc := ⟨.hbm, 2112, rfl⟩
abbrev main_call36_cst : Ref sig .tc := ⟨.hbm, 2113, rfl⟩
abbrev main_call36_v0 : Ref sig .tc := ⟨.hbm, 2114, rfl⟩
abbrev main_call36_v1 : Ref sig .tc := ⟨.hbm, 2115, rfl⟩
abbrev main_call36_cst_0 : Ref sig .tc := ⟨.hbm, 2116, rfl⟩
abbrev main_call36_v2 : Ref sig .tc := ⟨.hbm, 2117, rfl⟩
abbrev main_call36_v3 : Ref sig .tc := ⟨.hbm, 2118, rfl⟩
abbrev main_call36_v4 : Ref sig .tc := ⟨.hbm, 2119, rfl⟩
abbrev main_call36_v5 : Ref sig .tc := ⟨.hbm, 2120, rfl⟩
abbrev main_call36_v6 : Ref sig .tc := ⟨.hbm, 2121, rfl⟩
abbrev main_call36_v7 : Ref sig .tc := ⟨.hbm, 2122, rfl⟩
abbrev main_call36_cst_1 : Ref sig .tc := ⟨.hbm, 2123, rfl⟩
abbrev main_call36_v8 : Ref sig .tc := ⟨.hbm, 2124, rfl⟩
abbrev main_call36_cst_2 : Ref sig .tc := ⟨.hbm, 2125, rfl⟩
abbrev main_call36_v9 : Ref sig .tc := ⟨.hbm, 2126, rfl⟩
abbrev main_call36_v10 : Ref sig .tc := ⟨.hbm, 2127, rfl⟩
abbrev main_call36_v11 : Ref sig .tc := ⟨.hbm, 2128, rfl⟩
abbrev main_call36_v12 : Ref sig .tc := ⟨.hbm, 2129, rfl⟩
abbrev main_call36_cst_3 : Ref sig .tc := ⟨.hbm, 2130, rfl⟩
abbrev main_call36_v13 : Ref sig .tc := ⟨.hbm, 2131, rfl⟩
abbrev main_call36_cst_4 : Ref sig .tc := ⟨.hbm, 2132, rfl⟩
abbrev main_call36_call0_v0 : Ref sig .tc := ⟨.hbm, 2133, rfl⟩
abbrev main_call36_call0_v1 : Ref sig .tc := ⟨.hbm, 2134, rfl⟩
abbrev main_v1435 : Ref sig .tc := ⟨.hbm, 2135, rfl⟩
abbrev main_v1436 : Ref sig .tc := ⟨.hbm, 2136, rfl⟩
abbrev main_v1437 : Ref sig .tc := ⟨.hbm, 2137, rfl⟩
abbrev main_cst_150 : Ref sig .tc := ⟨.hbm, 2138, rfl⟩
abbrev main_v1438 : Ref sig .tc := ⟨.hbm, 2139, rfl⟩
abbrev main_v1439 : Ref sig .tc := ⟨.hbm, 2140, rfl⟩
abbrev main_v1440 : Ref sig .tc := ⟨.hbm, 2141, rfl⟩
abbrev main_v1441 : Ref sig .tc := ⟨.hbm, 2142, rfl⟩
abbrev main_v1442 : Ref sig .tc := ⟨.hbm, 2143, rfl⟩
abbrev main_v1443 : Ref sig .tc := ⟨.hbm, 2144, rfl⟩
abbrev main_v1444 : Ref sig .tc := ⟨.hbm, 2145, rfl⟩
abbrev main_v1445 : Ref sig .tc := ⟨.hbm, 2146, rfl⟩
abbrev main_v1446 : Ref sig .tc := ⟨.hbm, 2147, rfl⟩
abbrev main_v1447 : Ref sig .tc := ⟨.hbm, 2148, rfl⟩
abbrev main_v1448 : Ref sig .tc := ⟨.hbm, 2149, rfl⟩
abbrev main_v1449 : Ref sig .tc := ⟨.hbm, 2150, rfl⟩
abbrev main_v1450 : Ref sig .tc := ⟨.hbm, 2151, rfl⟩
abbrev main_v1451 : Ref sig .tc := ⟨.hbm, 2152, rfl⟩
abbrev main_v1452 : Ref sig .tc := ⟨.hbm, 2153, rfl⟩
abbrev main_v1453 : Ref sig .tc := ⟨.hbm, 2154, rfl⟩
abbrev main_v1454 : Ref sig .tc := ⟨.hbm, 2155, rfl⟩
abbrev main_v1455 : Ref sig .tc := ⟨.hbm, 2156, rfl⟩
abbrev main_v1456 : Ref sig .tc := ⟨.hbm, 2157, rfl⟩
abbrev main_v1457 : Ref sig .tc := ⟨.hbm, 2158, rfl⟩
abbrev main_v1458 : Ref sig .tc := ⟨.hbm, 2159, rfl⟩
abbrev main_v1459 : Ref sig .tc := ⟨.hbm, 2160, rfl⟩
abbrev main_v1460 : Ref sig .tc := ⟨.hbm, 2161, rfl⟩
abbrev main_v1461 : Ref sig .tc := ⟨.hbm, 2162, rfl⟩
abbrev main_v1462 : Ref sig .tc := ⟨.hbm, 2163, rfl⟩
abbrev main_v1463 : Ref sig .tc := ⟨.hbm, 2164, rfl⟩
abbrev main_v1464 : Ref sig .tc := ⟨.hbm, 2165, rfl⟩
abbrev main_v1465 : Ref sig .tc := ⟨.hbm, 2166, rfl⟩
abbrev main_v1466 : Ref sig .tc := ⟨.hbm, 2167, rfl⟩
abbrev main_v1467 : Ref sig .tc := ⟨.hbm, 2168, rfl⟩
abbrev main_v1468 : Ref sig .tc := ⟨.hbm, 2169, rfl⟩
abbrev main_v1469 : Ref sig .tc := ⟨.hbm, 2170, rfl⟩
abbrev main_v1470 : Ref sig .tc := ⟨.hbm, 2171, rfl⟩
abbrev main_v1471 : Ref sig .tc := ⟨.hbm, 2172, rfl⟩
abbrev main_v1472 : Ref sig .tc := ⟨.hbm, 2173, rfl⟩
abbrev main_v1473 : Ref sig .tc := ⟨.hbm, 2174, rfl⟩
abbrev main_v1474 : Ref sig .tc := ⟨.hbm, 2175, rfl⟩
abbrev main_v1475 : Ref sig .tc := ⟨.hbm, 2176, rfl⟩
abbrev main_v1476 : Ref sig .tc := ⟨.hbm, 2177, rfl⟩
abbrev main_v1477 : Ref sig .tc := ⟨.hbm, 2178, rfl⟩
abbrev main_v1478 : Ref sig .tc := ⟨.hbm, 2179, rfl⟩
abbrev main_v1479 : Ref sig .tc := ⟨.hbm, 2180, rfl⟩
abbrev main_v1480 : Ref sig .tc := ⟨.hbm, 2181, rfl⟩
abbrev main_v1481 : Ref sig .tc := ⟨.hbm, 2182, rfl⟩
abbrev main_v1482 : Ref sig .tc := ⟨.hbm, 2183, rfl⟩
abbrev main_v1483 : Ref sig .tc := ⟨.hbm, 2184, rfl⟩
abbrev main_v1484 : Ref sig .tc := ⟨.hbm, 2185, rfl⟩
abbrev main_cst_151 : Ref sig .tc := ⟨.hbm, 2186, rfl⟩
abbrev main_v1485 : Ref sig .tc := ⟨.hbm, 2187, rfl⟩
abbrev main_v1486 : Ref sig .tc := ⟨.hbm, 2188, rfl⟩
abbrev main_cst_152 : Ref sig .tc := ⟨.hbm, 2189, rfl⟩
abbrev main_v1487 : Ref sig .tc := ⟨.hbm, 2190, rfl⟩
abbrev main_cst_153 : Ref sig .tc := ⟨.hbm, 2191, rfl⟩
abbrev main_v1488 : Ref sig .tc := ⟨.hbm, 2192, rfl⟩
abbrev main_v1489 : Ref sig .tc := ⟨.hbm, 2193, rfl⟩
abbrev main_v1490 : Ref sig .tc := ⟨.hbm, 2194, rfl⟩
abbrev main_v1491 : Ref sig .tc := ⟨.hbm, 2195, rfl⟩
abbrev main_v1492 : Ref sig .tc := ⟨.hbm, 2196, rfl⟩
abbrev main_v1493 : Ref sig .tc := ⟨.hbm, 2197, rfl⟩
abbrev main_cst_154 : Ref sig .tc := ⟨.hbm, 2198, rfl⟩
abbrev main_v1494 : Ref sig .tc := ⟨.hbm, 2199, rfl⟩
abbrev main_v1495 : Ref sig .tc := ⟨.hbm, 2200, rfl⟩
abbrev main_v1496 : Ref sig .tc := ⟨.hbm, 2201, rfl⟩
abbrev main_v1497 : Ref sig .tc := ⟨.hbm, 2202, rfl⟩
abbrev main_v1498 : Ref sig .tc := ⟨.hbm, 2203, rfl⟩
abbrev main_v1499 : Ref sig .tc := ⟨.hbm, 2204, rfl⟩
abbrev main_v1500 : Ref sig .tc := ⟨.hbm, 2205, rfl⟩
abbrev main_v1501 : Ref sig .tc := ⟨.hbm, 2206, rfl⟩
abbrev main_v1502 : Ref sig .tc := ⟨.hbm, 2207, rfl⟩
abbrev main_v1503 : Ref sig .tc := ⟨.hbm, 2208, rfl⟩
abbrev main_v1504 : Ref sig .tc := ⟨.hbm, 2209, rfl⟩
abbrev main_v1505 : Ref sig .tc := ⟨.hbm, 2210, rfl⟩
abbrev main_v1506 : Ref sig .tc := ⟨.hbm, 2211, rfl⟩
abbrev main_v1507 : Ref sig .tc := ⟨.hbm, 2212, rfl⟩
abbrev main_v1508 : Ref sig .tc := ⟨.hbm, 2213, rfl⟩
abbrev main_v1509 : Ref sig .tc := ⟨.hbm, 2214, rfl⟩
abbrev main_v1510 : Ref sig .tc := ⟨.hbm, 2215, rfl⟩
abbrev main_cst_155 : Ref sig .tc := ⟨.hbm, 2216, rfl⟩
abbrev main_v1511 : Ref sig .tc := ⟨.hbm, 2217, rfl⟩
abbrev main_v1512 : Ref sig .tc := ⟨.hbm, 2218, rfl⟩
abbrev main_cst_156 : Ref sig .tc := ⟨.hbm, 2219, rfl⟩
abbrev main_v1513 : Ref sig .tc := ⟨.hbm, 2220, rfl⟩
abbrev main_v1514 : Ref sig .tc := ⟨.hbm, 2221, rfl⟩
abbrev main_c_157 : Ref sig .tc := ⟨.hbm, 2222, rfl⟩
abbrev main_call37_cst : Ref sig .tc := ⟨.hbm, 2223, rfl⟩
abbrev main_call37_v0 : Ref sig .tc := ⟨.hbm, 2224, rfl⟩
abbrev main_call37_v1 : Ref sig .tc := ⟨.hbm, 2225, rfl⟩
abbrev main_call37_cst_0 : Ref sig .tc := ⟨.hbm, 2226, rfl⟩
abbrev main_call37_v2 : Ref sig .tc := ⟨.hbm, 2227, rfl⟩
abbrev main_call37_v3 : Ref sig .tc := ⟨.hbm, 2228, rfl⟩
abbrev main_call37_v4 : Ref sig .tc := ⟨.hbm, 2229, rfl⟩
abbrev main_call37_v5 : Ref sig .tc := ⟨.hbm, 2230, rfl⟩
abbrev main_call37_v6 : Ref sig .tc := ⟨.hbm, 2231, rfl⟩
abbrev main_call37_v7 : Ref sig .tc := ⟨.hbm, 2232, rfl⟩
abbrev main_call37_cst_1 : Ref sig .tc := ⟨.hbm, 2233, rfl⟩
abbrev main_call37_v8 : Ref sig .tc := ⟨.hbm, 2234, rfl⟩
abbrev main_call37_cst_2 : Ref sig .tc := ⟨.hbm, 2235, rfl⟩
abbrev main_call37_v9 : Ref sig .tc := ⟨.hbm, 2236, rfl⟩
abbrev main_call37_v10 : Ref sig .tc := ⟨.hbm, 2237, rfl⟩
abbrev main_call37_v11 : Ref sig .tc := ⟨.hbm, 2238, rfl⟩
abbrev main_call37_v12 : Ref sig .tc := ⟨.hbm, 2239, rfl⟩
abbrev main_call37_cst_3 : Ref sig .tc := ⟨.hbm, 2240, rfl⟩
abbrev main_call37_v13 : Ref sig .tc := ⟨.hbm, 2241, rfl⟩
abbrev main_call37_cst_4 : Ref sig .tc := ⟨.hbm, 2242, rfl⟩
abbrev main_call37_call0_v0 : Ref sig .tc := ⟨.hbm, 2243, rfl⟩
abbrev main_call37_call0_v1 : Ref sig .tc := ⟨.hbm, 2244, rfl⟩
abbrev main_v1515 : Ref sig .tc := ⟨.hbm, 2245, rfl⟩
abbrev main_v1516 : Ref sig .tc := ⟨.hbm, 2246, rfl⟩
abbrev main_v1517 : Ref sig .tc := ⟨.hbm, 2247, rfl⟩
abbrev main_cst_158 : Ref sig .tc := ⟨.hbm, 2248, rfl⟩
abbrev main_v1518 : Ref sig .tc := ⟨.hbm, 2249, rfl⟩
abbrev main_v1519 : Ref sig .tc := ⟨.hbm, 2250, rfl⟩
abbrev main_v1520 : Ref sig .tc := ⟨.hbm, 2251, rfl⟩
abbrev main_v1521 : Ref sig .tc := ⟨.hbm, 2252, rfl⟩
abbrev main_v1522 : Ref sig .tc := ⟨.hbm, 2253, rfl⟩
abbrev main_v1523 : Ref sig .tc := ⟨.hbm, 2254, rfl⟩
abbrev main_v1524 : Ref sig .tc := ⟨.hbm, 2255, rfl⟩
abbrev main_v1525 : Ref sig .tc := ⟨.hbm, 2256, rfl⟩
abbrev main_v1526 : Ref sig .tc := ⟨.hbm, 2257, rfl⟩
abbrev main_v1527 : Ref sig .tc := ⟨.hbm, 2258, rfl⟩
abbrev main_v1528 : Ref sig .tc := ⟨.hbm, 2259, rfl⟩
abbrev main_v1529 : Ref sig .tc := ⟨.hbm, 2260, rfl⟩
abbrev main_v1530 : Ref sig .tc := ⟨.hbm, 2261, rfl⟩
abbrev main_v1531 : Ref sig .tc := ⟨.hbm, 2262, rfl⟩
abbrev main_v1532 : Ref sig .tc := ⟨.hbm, 2263, rfl⟩
abbrev main_v1533 : Ref sig .tc := ⟨.hbm, 2264, rfl⟩
abbrev main_v1534 : Ref sig .tc := ⟨.hbm, 2265, rfl⟩
abbrev main_v1535 : Ref sig .tc := ⟨.hbm, 2266, rfl⟩
abbrev main_v1536 : Ref sig .tc := ⟨.hbm, 2267, rfl⟩
abbrev main_v1537 : Ref sig .tc := ⟨.hbm, 2268, rfl⟩
abbrev main_v1538 : Ref sig .tc := ⟨.hbm, 2269, rfl⟩
abbrev main_v1539 : Ref sig .tc := ⟨.hbm, 2270, rfl⟩
abbrev main_v1540 : Ref sig .tc := ⟨.hbm, 2271, rfl⟩
abbrev main_v1541 : Ref sig .tc := ⟨.hbm, 2272, rfl⟩
abbrev main_v1542 : Ref sig .tc := ⟨.hbm, 2273, rfl⟩
abbrev main_v1543 : Ref sig .tc := ⟨.hbm, 2274, rfl⟩
abbrev main_v1544 : Ref sig .tc := ⟨.hbm, 2275, rfl⟩
abbrev main_v1545 : Ref sig .tc := ⟨.hbm, 2276, rfl⟩
abbrev main_v1546 : Ref sig .tc := ⟨.hbm, 2277, rfl⟩
abbrev main_v1547 : Ref sig .tc := ⟨.hbm, 2278, rfl⟩
abbrev main_v1548 : Ref sig .tc := ⟨.hbm, 2279, rfl⟩
abbrev main_v1549 : Ref sig .tc := ⟨.hbm, 2280, rfl⟩
abbrev main_v1550 : Ref sig .tc := ⟨.hbm, 2281, rfl⟩
abbrev main_v1551 : Ref sig .tc := ⟨.hbm, 2282, rfl⟩
abbrev main_v1552 : Ref sig .tc := ⟨.hbm, 2283, rfl⟩
abbrev main_v1553 : Ref sig .tc := ⟨.hbm, 2284, rfl⟩
abbrev main_v1554 : Ref sig .tc := ⟨.hbm, 2285, rfl⟩
abbrev main_v1555 : Ref sig .tc := ⟨.hbm, 2286, rfl⟩
abbrev main_v1556 : Ref sig .tc := ⟨.hbm, 2287, rfl⟩
abbrev main_v1557 : Ref sig .tc := ⟨.hbm, 2288, rfl⟩
abbrev main_v1558 : Ref sig .tc := ⟨.hbm, 2289, rfl⟩
abbrev main_v1559 : Ref sig .tc := ⟨.hbm, 2290, rfl⟩
abbrev main_v1560 : Ref sig .tc := ⟨.hbm, 2291, rfl⟩
abbrev main_v1561 : Ref sig .tc := ⟨.hbm, 2292, rfl⟩
abbrev main_v1562 : Ref sig .tc := ⟨.hbm, 2293, rfl⟩
abbrev main_v1563 : Ref sig .tc := ⟨.hbm, 2294, rfl⟩
abbrev main_v1564 : Ref sig .tc := ⟨.hbm, 2295, rfl⟩
abbrev main_cst_159 : Ref sig .tc := ⟨.hbm, 2296, rfl⟩
abbrev main_v1565 : Ref sig .tc := ⟨.hbm, 2297, rfl⟩
abbrev main_v1566 : Ref sig .tc := ⟨.hbm, 2298, rfl⟩
abbrev main_cst_160 : Ref sig .tc := ⟨.hbm, 2299, rfl⟩
abbrev main_call38_v0 : Ref sig .tc := ⟨.hbm, 2300, rfl⟩
abbrev main_call38_v1 : Ref sig .tc := ⟨.hbm, 2301, rfl⟩
abbrev main_call38_v2 : Ref sig .tc := ⟨.hbm, 2302, rfl⟩
abbrev main_v1567 : Ref sig .tc := ⟨.hbm, 2303, rfl⟩
abbrev main_cst_161 : Ref sig .tc := ⟨.hbm, 2304, rfl⟩
abbrev main_v1568 : Ref sig .tc := ⟨.hbm, 2305, rfl⟩
abbrev main_cst_162 : Ref sig .tc := ⟨.hbm, 2306, rfl⟩
abbrev main_v1569 : Ref sig .tc := ⟨.hbm, 2307, rfl⟩
abbrev main_v1570 : Ref sig .tc := ⟨.hbm, 2308, rfl⟩
abbrev main_v1571 : Ref sig .tc := ⟨.hbm, 2309, rfl⟩
abbrev main_v1572 : Ref sig .tc := ⟨.hbm, 2310, rfl⟩
abbrev main_v1573 : Ref sig .tc := ⟨.hbm, 2311, rfl⟩
abbrev main_v1574 : Ref sig .tc := ⟨.hbm, 2312, rfl⟩
abbrev main_cst_163 : Ref sig .tc := ⟨.hbm, 2313, rfl⟩
abbrev main_v1575 : Ref sig .tc := ⟨.hbm, 2314, rfl⟩
abbrev main_v1576 : Ref sig .tc := ⟨.hbm, 2315, rfl⟩
abbrev main_v1577 : Ref sig .tc := ⟨.hbm, 2316, rfl⟩
abbrev main_v1578 : Ref sig .tc := ⟨.hbm, 2317, rfl⟩
abbrev main_v1579 : Ref sig .tc := ⟨.hbm, 2318, rfl⟩
abbrev main_v1580 : Ref sig .tc := ⟨.hbm, 2319, rfl⟩
abbrev main_v1581 : Ref sig .tc := ⟨.hbm, 2320, rfl⟩
abbrev main_v1582 : Ref sig .tc := ⟨.hbm, 2321, rfl⟩
abbrev main_v1583 : Ref sig .tc := ⟨.hbm, 2322, rfl⟩
abbrev main_v1584 : Ref sig .tc := ⟨.hbm, 2323, rfl⟩
abbrev main_v1585 : Ref sig .tc := ⟨.hbm, 2324, rfl⟩
abbrev main_v1586 : Ref sig .tc := ⟨.hbm, 2325, rfl⟩
abbrev main_v1587 : Ref sig .tc := ⟨.hbm, 2326, rfl⟩
abbrev main_v1588 : Ref sig .tc := ⟨.hbm, 2327, rfl⟩
abbrev main_v1589 : Ref sig .tc := ⟨.hbm, 2328, rfl⟩
abbrev main_v1590 : Ref sig .tc := ⟨.hbm, 2329, rfl⟩
abbrev main_v1591 : Ref sig .tc := ⟨.hbm, 2330, rfl⟩
abbrev main_cst_164 : Ref sig .tc := ⟨.hbm, 2331, rfl⟩
abbrev main_v1592 : Ref sig .tc := ⟨.hbm, 2332, rfl⟩
abbrev main_v1593 : Ref sig .tc := ⟨.hbm, 2333, rfl⟩
abbrev main_cst_165 : Ref sig .tc := ⟨.hbm, 2334, rfl⟩
abbrev main_v1594 : Ref sig .tc := ⟨.hbm, 2335, rfl⟩
abbrev main_v1595 : Ref sig .tc := ⟨.hbm, 2336, rfl⟩
abbrev main_c_166 : Ref sig .tc := ⟨.hbm, 2337, rfl⟩
abbrev main_call39_cst : Ref sig .tc := ⟨.hbm, 2338, rfl⟩
abbrev main_call39_v0 : Ref sig .tc := ⟨.hbm, 2339, rfl⟩
abbrev main_call39_v1 : Ref sig .tc := ⟨.hbm, 2340, rfl⟩
abbrev main_call39_cst_0 : Ref sig .tc := ⟨.hbm, 2341, rfl⟩
abbrev main_call39_v2 : Ref sig .tc := ⟨.hbm, 2342, rfl⟩
abbrev main_call39_v3 : Ref sig .tc := ⟨.hbm, 2343, rfl⟩
abbrev main_call39_v4 : Ref sig .tc := ⟨.hbm, 2344, rfl⟩
abbrev main_call39_v5 : Ref sig .tc := ⟨.hbm, 2345, rfl⟩
abbrev main_call39_v6 : Ref sig .tc := ⟨.hbm, 2346, rfl⟩
abbrev main_call39_v7 : Ref sig .tc := ⟨.hbm, 2347, rfl⟩
abbrev main_call39_cst_1 : Ref sig .tc := ⟨.hbm, 2348, rfl⟩
abbrev main_call39_v8 : Ref sig .tc := ⟨.hbm, 2349, rfl⟩
abbrev main_call39_cst_2 : Ref sig .tc := ⟨.hbm, 2350, rfl⟩
abbrev main_call39_v9 : Ref sig .tc := ⟨.hbm, 2351, rfl⟩
abbrev main_call39_v10 : Ref sig .tc := ⟨.hbm, 2352, rfl⟩
abbrev main_call39_v11 : Ref sig .tc := ⟨.hbm, 2353, rfl⟩
abbrev main_call39_v12 : Ref sig .tc := ⟨.hbm, 2354, rfl⟩
abbrev main_call39_cst_3 : Ref sig .tc := ⟨.hbm, 2355, rfl⟩
abbrev main_call39_v13 : Ref sig .tc := ⟨.hbm, 2356, rfl⟩
abbrev main_call39_cst_4 : Ref sig .tc := ⟨.hbm, 2357, rfl⟩
abbrev main_call39_call0_v0 : Ref sig .tc := ⟨.hbm, 2358, rfl⟩
abbrev main_call39_call0_v1 : Ref sig .tc := ⟨.hbm, 2359, rfl⟩
abbrev main_v1596 : Ref sig .tc := ⟨.hbm, 2360, rfl⟩
abbrev main_v1597 : Ref sig .tc := ⟨.hbm, 2361, rfl⟩
abbrev main_v1598 : Ref sig .tc := ⟨.hbm, 2362, rfl⟩
abbrev main_cst_167 : Ref sig .tc := ⟨.hbm, 2363, rfl⟩
abbrev main_v1599 : Ref sig .tc := ⟨.hbm, 2364, rfl⟩
abbrev main_v1600 : Ref sig .tc := ⟨.hbm, 2365, rfl⟩
abbrev main_v1601 : Ref sig .tc := ⟨.hbm, 2366, rfl⟩
abbrev main_v1602 : Ref sig .tc := ⟨.hbm, 2367, rfl⟩
abbrev main_v1603 : Ref sig .tc := ⟨.hbm, 2368, rfl⟩
abbrev main_v1604 : Ref sig .tc := ⟨.hbm, 2369, rfl⟩
abbrev main_v1605 : Ref sig .tc := ⟨.hbm, 2370, rfl⟩
abbrev main_v1606 : Ref sig .tc := ⟨.hbm, 2371, rfl⟩
abbrev main_v1607 : Ref sig .tc := ⟨.hbm, 2372, rfl⟩
abbrev main_v1608 : Ref sig .tc := ⟨.hbm, 2373, rfl⟩
abbrev main_v1609 : Ref sig .tc := ⟨.hbm, 2374, rfl⟩
abbrev main_v1610 : Ref sig .tc := ⟨.hbm, 2375, rfl⟩
abbrev main_v1611 : Ref sig .tc := ⟨.hbm, 2376, rfl⟩
abbrev main_v1612 : Ref sig .tc := ⟨.hbm, 2377, rfl⟩
abbrev main_v1613 : Ref sig .tc := ⟨.hbm, 2378, rfl⟩
abbrev main_v1614 : Ref sig .tc := ⟨.hbm, 2379, rfl⟩
abbrev main_v1615 : Ref sig .tc := ⟨.hbm, 2380, rfl⟩
abbrev main_v1616 : Ref sig .tc := ⟨.hbm, 2381, rfl⟩
abbrev main_v1617 : Ref sig .tc := ⟨.hbm, 2382, rfl⟩
abbrev main_v1618 : Ref sig .tc := ⟨.hbm, 2383, rfl⟩
abbrev main_call40_cst : Ref sig .tc := ⟨.hbm, 2384, rfl⟩
abbrev main_call40_v0 : Ref sig .tc := ⟨.hbm, 2385, rfl⟩
abbrev main_v1619 : Ref sig .tc := ⟨.hbm, 2386, rfl⟩
abbrev main_v1620 : Ref sig .tc := ⟨.hbm, 2387, rfl⟩
abbrev main_v1621 : Ref sig .tc := ⟨.hbm, 2388, rfl⟩
abbrev main_v1622 : Ref sig .tc := ⟨.hbm, 2389, rfl⟩
abbrev main_v1623 : Ref sig .tc := ⟨.hbm, 2390, rfl⟩
abbrev main_v1624 : Ref sig .tc := ⟨.hbm, 2391, rfl⟩
abbrev main_v1625 : Ref sig .tc := ⟨.hbm, 2392, rfl⟩
abbrev main_v1626 : Ref sig .tc := ⟨.hbm, 2393, rfl⟩
abbrev main_v1627 : Ref sig .tc := ⟨.hbm, 2394, rfl⟩
abbrev main_v1628 : Ref sig .tc := ⟨.hbm, 2395, rfl⟩
abbrev main_v1629 : Ref sig .tc := ⟨.hbm, 2396, rfl⟩

abbrev nD : Nat := 1
abbrev τ : Topo := Topo.v7x

variable {F : FTy → Type} [FloatOps F]
-- ==== Proof.Blocks.lean ====
module

public import proofs.«01_k».proof.Proof.Gen.KernelIdeal.Skeleton

@[expose] public section

set_option maxRecDepth 16384

noncomputable section

namespace Cert.KernelIdeal.Gen

open Idealize.ShloMosaic

/-- One head of the cross attention, as the kernel computes it from its columns `o … o + 63` of the scaled queries, keys
    and values. -/
def caHead {F : FTy → Type} [FloatOps F] [Named F] (o : ℕ) (hq : S64x1024.Slices ![0, o] S64x64) (hk : S512x1024.Slices ![0, o] S512x64)
    (q : FVec F S64x1024 .bf16) (k v : FVec F S512x1024 .bf16) : FVec F S64x64 .f32 :=
  have s : FVec F S64x512 .f32 := matmul dot_S64x64_S512x64_S64x512_1_1_0_0_n_n none (extractStridedSlice S64x64 ![0, o] q hq)
    (extractStridedSlice S512x64 ![0, o] k hk) (constant S64x512 .f32 0x00000000#32)
  have mx : FVec F S64 .f32 := multiReduction .maximumf [1] S64 s 0xFF800000#32 reduces_S64x512_S64 (.inl rfl) rfl
  have e : FVec F S64x512 .f32 := exp (subf s (broadcastTo S64x512 (shapeCast S64x1 mx shapeCasts_S64_S64x1) broadcasts_S64x1_S64x512))
  have z : FVec F S64 .f32 := multiReduction .add [1] S64 e 0x00000000#32 reduces_S64x512_S64 (.inl rfl) rfl
  have p : FVec F S64x512 .f32 := divf e (broadcastTo S64x512 (shapeCast S64x1 z shapeCasts_S64_S64x1) broadcasts_S64x1_S64x512)
  matmul dot_S64x512_S512x64_S64x64_1_0_0_1_n_n none (truncf .bf16 p bitsLt_bf16_f32) (extractStridedSlice S512x64 ![0, o] v hk)
    (constant S64x64 .f32 0x00000000#32)

/-- The sixteen heads side by side. -/
def caCat {F : FTy → Type} [FloatOps F] [Named F] (q : FVec F S64x1024 .bf16) (k v : FVec F S512x1024 .bf16) : FVec F S64x1024 .f32 :=
  concatenate S64x1024 1 [⟨S64x64, caHead 0 slices_S64x1024_o0_0_S64x64 slices_S512x1024_o0_0_S512x64 q k v⟩,
    ⟨S64x64, caHead 64 slices_S64x1024_o0_64_S64x64 slices_S512x1024_o0_64_S512x64 q k v⟩,
    ⟨S64x64, caHead 128 slices_S64x1024_o0_128_S64x64 slices_S512x1024_o0_128_S512x64 q k v⟩,
    ⟨S64x64, caHead 192 slices_S64x1024_o0_192_S64x64 slices_S512x1024_o0_192_S512x64 q k v⟩,
    ⟨S64x64, caHead 256 slices_S64x1024_o0_256_S64x64 slices_S512x1024_o0_256_S512x64 q k v⟩,
    ⟨S64x64, caHead 320 slices_S64x1024_o0_320_S64x64 slices_S512x1024_o0_320_S512x64 q k v⟩,
    ⟨S64x64, caHead 384 slices_S64x1024_o0_384_S64x64 slices_S512x1024_o0_384_S512x64 q k v⟩,
    ⟨S64x64, caHead 448 slices_S64x1024_o0_448_S64x64 slices_S512x1024_o0_448_S512x64 q k v⟩,
    ⟨S64x64, caHead 512 slices_S64x1024_o0_512_S64x64 slices_S512x1024_o0_512_S512x64 q k v⟩,
    ⟨S64x64, caHead 576 slices_S64x1024_o0_576_S64x64 slices_S512x1024_o0_576_S512x64 q k v⟩,
    ⟨S64x64, caHead 640 slices_S64x1024_o0_640_S64x64 slices_S512x1024_o0_640_S512x64 q k v⟩,
    ⟨S64x64, caHead 704 slices_S64x1024_o0_704_S64x64 slices_S512x1024_o0_704_S512x64 q k v⟩,
    ⟨S64x64, caHead 768 slices_S64x1024_o0_768_S64x64 slices_S512x1024_o0_768_S512x64 q k v⟩,
    ⟨S64x64, caHead 832 slices_S64x1024_o0_832_S64x64 slices_S512x1024_o0_832_S512x64 q k v⟩,
    ⟨S64x64, caHead 896 slices_S64x1024_o0_896_S64x64 slices_S512x1024_o0_896_S512x64 q k v⟩,
    ⟨S64x64, caHead 960 slices_S64x1024_o0_960_S64x64 slices_S512x1024_o0_960_S512x64 q k v⟩]
    concatenates_S64x64_S64x64_S64x64_S64x64_S64x64_S64x64_S64x64_S64x64_S64x64_S64x64_S64x64_S64x64_S64x64_S64x64_S64x64_S64x64_S64x1024_d1

/-- The block that one point of the cross attention writes. -/
def caBlock {F : FTy → Type} [FloatOps F] [Named F] (x0 : Vec F S1x64x1024 .f32) (x1 : Vec F S1x512x1024 .bf16) (x2 : Vec F S1x3072x1024 .bf16)
    (x3 : Vec F S1x1x3072 .f32) (x4 : Vec F S1x1024x1024 .bf16) (x5 : Vec F S1x1x1024 .f32) (x6 : Vec F S1x1x1024 .f32)
    (x7 : Vec F S1x1x1024 .f32) : Vec F S1x64x1024 .f32 :=
  k0_pay3 (k0_pay4 x0) (caCat (k0_pay9 (k0_pay7 x0 x6 x7 x2 x3)) (k0_pay10 (k0_pay5 x2) (k0_pay6 x3) x1) (k0_pay11 (k0_pay5 x2) (k0_pay6 x3) x1)) x4 x5

/-- One head of the self attention from its columns `o … o + 63`: the scores above the diagonal are the mask's value. -/
def saHead {F : FTy → Type} [FloatOps F] [Named F] (o : ℕ) (hq : S64x1024.Slices ![0, o] S64x64)
    (q k v : FVec F S64x1024 .bf16) : FVec F S64x64 .f32 :=
  have s : FVec F S64x64 .f32 := matmul dot_S64x64_S64x64_S64x64_1_1_0_0_n_n none (extractStridedSlice S64x64 ![0, o] q hq)
    (extractStridedSlice S64x64 ![0, o] k hq) (constant S64x64 .f32 0x00000000#32)
  have s : FVec F S64x64 .f32 := select (cmpi .sgt (iota .tc S64x64 32 [1] iota_S64x64_d1_w32) (iota .tc S64x64 32 [0] iota_S64x64_d0_w32))
    (broadcast S64x64 (Named.named κ "mask" 0xF149F2CA#32)) s
  have mx : FVec F S64 .f32 := multiReduction .maximumf [1] S64 s 0xFF800000#32 reduces_S64x64_S64 (.inl rfl) rfl
  have e : FVec F S64x64 .f32 := exp (subf s (broadcastTo S64x64 (shapeCast S64x1 mx shapeCasts_S64_S64x1) broadcasts_S64x1_S64x64))
  have z : FVec F S64 .f32 := multiReduction .add [1] S64 e 0x00000000#32 reduces_S64x64_S64 (.inl rfl) rfl
  have p : FVec F S64x64 .f32 := divf e (broadcastTo S64x64 (shapeCast S64x1 z shapeCasts_S64_S64x1) broadcasts_S64x1_S64x64)
  matmul dot_S64x64_S64x64_S64x64_1_0_0_1_n_n none (truncf .bf16 p bitsLt_bf16_f32) (extractStridedSlice S64x64 ![0, o] v hq)
    (constant S64x64 .f32 0x00000000#32)

/-- The sixteen heads side by side. -/
def saCat {F : FTy → Type} [FloatOps F] [Named F] (q k v : FVec F S64x1024 .bf16) : FVec F S64x1024 .f32 :=
  concatenate S64x1024 1 [⟨S64x64, saHead 0 slices_S64x1024_o0_0_S64x64 q k v⟩,
    ⟨S64x64, saHead 64 slices_S64x1024_o0_64_S64x64 q k v⟩,
    ⟨S64x64, saHead 128 slices_S64x1024_o0_128_S64x64 q k v⟩,
    ⟨S64x64, saHead 192 slices_S64x1024_o0_192_S64x64 q k v⟩,
    ⟨S64x64, saHead 256 slices_S64x1024_o0_256_S64x64 q k v⟩,
    ⟨S64x64, saHead 320 slices_S64x1024_o0_320_S64x64 q k v⟩,
    ⟨S64x64, saHead 384 slices_S64x1024_o0_384_S64x64 q k v⟩,
    ⟨S64x64, saHead 448 slices_S64x1024_o0_448_S64x64 q k v⟩,
    ⟨S64x64, saHead 512 slices_S64x1024_o0_512_S64x64 q k v⟩,
    ⟨S64x64, saHead 576 slices_S64x1024_o0_576_S64x64 q k v⟩,
    ⟨S64x64, saHead 640 slices_S64x1024_o0_640_S64x64 q k v⟩,
    ⟨S64x64, saHead 704 slices_S64x1024_o0_704_S64x64 q k v⟩,
    ⟨S64x64, saHead 768 slices_S64x1024_o0_768_S64x64 q k v⟩,
    ⟨S64x64, saHead 832 slices_S64x1024_o0_832_S64x64 q k v⟩,
    ⟨S64x64, saHead 896 slices_S64x1024_o0_896_S64x64 q k v⟩,
    ⟨S64x64, saHead 960 slices_S64x1024_o0_960_S64x64 q k v⟩]
    concatenates_S64x64_S64x64_S64x64_S64x64_S64x64_S64x64_S64x64_S64x64_S64x64_S64x64_S64x64_S64x64_S64x64_S64x64_S64x64_S64x64_S64x1024_d1

/-- The block that one point of the self attention writes. -/
def saBlock {F : FTy → Type} [FloatOps F] [Named F] (x0 : Vec F S1x64x1024 .f32) (x1 : Vec F S1x3072x1024 .bf16)
    (x2 : Vec F S1x1x3072 .f32) (x3 : Vec F S1x1024x1024 .bf16) (x4 : Vec F S1x1x1024 .f32) (x5 : Vec F S1x1x1024 .f32)
    (x6 : Vec F S1x1x1024 .f32) : Vec F S1x64x1024 .f32 :=
  k1_pay1 (addf (k1_pay2 x0) (matmul dot_S64x1024_S1024x1024_S64x1024_1_1_0_0_n_n none
    (truncf .bf16 (saCat (k1_pay5 (k1_pay4 x0 x5 x6 x1 x2)) (k1_pay6 (k1_pay3 x0 x5 x6 x1 x2)) (k1_pay7 (k1_pay3 x0 x5 x6 x1 x2))) bitsLt_bf16_f32)
    (shapeCast S1024x1024 x3 shapeCasts_S1x1024x1024_S1024x1024) (constant S64x1024 .f32 0x00000000#32))) (k1_pay29 x4)

end Cert.KernelIdeal.Gen

end
-- ==== Proof.Win.lean ====
module

public import proofs.«01_k».proof.Proof.Blocks
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

/-- What one window of a call is made of: its array, its index map and its staging buffers, for an array of shape `s` cut
    into blocks of the given size. -/
structure WD (G : Pipeline.Grid) (s : Shape) (size : Fin s.rank → ℕ) (e : EltTy) where
  arr : Memref sig .tc .hbm s e
  ix : G.Coords → Fin s.rank → ℕ
  reads : Fin G.rank → Bool
  nbuf : ℕ
  stage : Fin nbuf → Memref sig .tc .vmem ⟨s.rank, size⟩ e
  sem : Fin nbuf → DmaSem sig
  hrank : 0 < G.rank
  hreads : ∀ i i', (∀ a, reads a = true → i a = i' a) → ix i = ix i'
  hinb : ∀ i a, (ix i a + 1) * size a ≤ s.size a
  hnbuf : G.bufCount reads false = nbuf
  harr : arr.IsWhole
  hwx : ∀ i, e.bits = 32 ∨ (Rect.block size (ix i) (hinb i)).WholeWords e.packing
  hstage : ∀ j, (stage j).IsWhole

/-- The window itself; `out` says whether the call writes it. -/
@[reducible] def WD.win {G : Pipeline.Grid} {s : Shape} {size : Fin s.rank → ℕ} {e : EltTy} (d : WD G s size e) (out : Bool) :
    Window sig G :=
  Window.ofSpec d.arr size d.ix d.reads out false d.nbuf d.stage d.sem d.hrank d.hreads d.hinb d.hnbuf d.harr d.hwx d.hstage

section

variable {F : FTy → Type} [FloatOps F] [Named F]

/-- The block a window shows at a point, out of the array as the call finds it. -/
def WD.blkAt {G : Pipeline.Grid} {s : Shape} {size : Fin s.rank → ℕ} {e : EltTy} (d : WD G s size e)
    (V : (c : Dev nD) → (b : Ref sig .tc) → Buf (Elt F) ((c : Thread nD τ).loc b)) (c : Dev nD) (t : Fin G.N) :
    Vec F ⟨s.rank, size⟩ e :=
  ((d.win false).blk t).view.read (Elt F) (V c d.arr.view.ref)

end

/-- The windows of one cross attention call. -/
structure CAD where
  w0 : WD grid0 S64x64x1024 S1x64x1024.size .f32
  w1 : WD grid0 S64x512x1024 S1x512x1024.size .bf16
  w2 : WD grid0 S8x3072x1024 S1x3072x1024.size .bf16
  w3 : WD grid0 S8x1x3072 S1x1x3072.size .f32
  w4 : WD grid0 S8x1024x1024 S1x1024x1024.size .bf16
  w5 : WD grid0 S8x1x1024 S1x1x1024.size .f32
  w6 : WD grid0 S8x1x1024 S1x1x1024.size .f32
  w7 : WD grid0 S8x1x1024 S1x1x1024.size .f32
  w8 : WD grid0 S64x64x1024 S1x64x1024.size .f32

/-- The windows of one self attention call. -/
structure SAD where
  w0 : WD grid1 S64x64x1024 S1x64x1024.size .f32
  w1 : WD grid1 S8x3072x1024 S1x3072x1024.size .bf16
  w2 : WD grid1 S8x1x3072 S1x1x3072.size .f32
  w3 : WD grid1 S8x1024x1024 S1x1024x1024.size .bf16
  w4 : WD grid1 S8x1x1024 S1x1x1024.size .f32
  w5 : WD grid1 S8x1x1024 S1x1x1024.size .f32
  w6 : WD grid1 S8x1x1024 S1x1x1024.size .f32
  w7 : WD grid1 S64x64x1024 S1x64x1024.size .f32

/-- The windows of one feed forward call. -/
structure MLD where
  w0 : WD grid2 S4096x1024 S512x1024.size .f32
  w1 : WD grid2 S8x4096x1024 S1x1024x1024.size .bf16
  w2 : WD grid2 S8x1x4096 S1x1x1024.size .f32
  w3 : WD grid2 S8x1024x4096 S1x1024x1024.size .bf16
  w4 : WD grid2 S8x1x1024 S1x1x1024.size .f32
  w5 : WD grid2 S8x1x1024 S1x1x1024.size .f32
  w6 : WD grid2 S8x1x1024 S1x1x1024.size .f32
  w7 : WD grid2 S4096x1024 S512x1024.size .f32
  scr : Memref sig .tc .vmem S512x1024 .bf16
  hscr : scr.IsWhole

@[reducible] def CAD.win (d : CAD) : Fin 9 → Window sig grid0 :=
  fun | 0 => d.w0.win false | 1 => d.w1.win false | 2 => d.w2.win false | 3 => d.w3.win false | 4 => d.w4.win false
      | 5 => d.w5.win false | 6 => d.w6.win false | 7 => d.w7.win false | 8 => d.w8.win true
      | ⟨_ + 9, h⟩ => absurd h (Nat.not_lt.2 (Nat.le_add_left _ _))

@[reducible] def SAD.win (d : SAD) : Fin 8 → Window sig grid1 :=
  fun | 0 => d.w0.win false | 1 => d.w1.win false | 2 => d.w2.win false | 3 => d.w3.win false | 4 => d.w4.win false
      | 5 => d.w5.win false | 6 => d.w6.win false | 7 => d.w7.win true
      | ⟨_ + 8, h⟩ => absurd h (Nat.not_lt.2 (Nat.le_add_left _ _))

@[reducible] def MLD.win (d : MLD) : Fin 8 → Window sig grid2 :=
  fun | 0 => d.w0.win false | 1 => d.w1.win false | 2 => d.w2.win false | 3 => d.w3.win false | 4 => d.w4.win false
      | 5 => d.w5.win false | 6 => d.w6.win false | 7 => d.w7.win true
      | ⟨_ + 8, h⟩ => absurd h (Nat.not_lt.2 (Nat.le_add_left _ _))

/-- A call as a pipeline: its windows, and the label its body runs under. -/
@[reducible] def CAD.cfg (d : CAD) (b : Λ₀.Label) (args : Fin grid0.N → ((w : Fin 9) → Fin (d.win w).nbuf) → Λ₀.Args b) : Cfg sig Λ₀ where
  grid := grid0
  W := 9
  win := d.win
  body := b
  bodyArgs := args

@[reducible] def SAD.cfg (d : SAD) (b : Λ₀.Label) (args : Fin grid1.N → ((w : Fin 8) → Fin (d.win w).nbuf) → Λ₀.Args b) : Cfg sig Λ₀ where
  grid := grid1
  W := 8
  win := d.win
  body := b
  bodyArgs := args

@[reducible] def MLD.cfg (d : MLD) (b : Λ₀.Label) (args : Fin grid2.N → ((w : Fin 8) → Fin (d.win w).nbuf) → Λ₀.Args b) : Cfg sig Λ₀ where
  grid := grid2
  W := 8
  win := d.win
  body := b
  bodyArgs := args

end Cert.KernelIdeal.Gen

end

end
-- ==== Proof.Calls.lean ====
module

public import proofs.«01_k».proof.Proof.Win

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

/-! The 24 calls of the kernel, layer by layer: cross attention `ca`, self attention `sa`, feed forward `ml`. -/

abbrev ca0 : CAD where
  w0 := ⟨Memref.whole main_v3, cc0_transform_0, reads0_0, 2, stage0_0, sem0_0, hrank0, hreads0_0, hinb0_0, nbuf0_0, (Memref.isWhole_whole _), hwx0_0, hstage0_0⟩
  w1 := ⟨Memref.whole main_v4, cc0_transform_1, reads0_1, 2, stage0_1, sem0_1, hrank0, hreads0_1, hinb0_1, nbuf0_1, (Memref.isWhole_whole _), hwx0_1, hstage0_1⟩
  w2 := ⟨Memref.whole main_v5, cc0_transform_2, reads0_2, 1, stage0_2, sem0_2, hrank0, hreads0_2, hinb0_2, nbuf0_2, (Memref.isWhole_whole _), hwx0_2, hstage0_2⟩
  w3 := ⟨Memref.whole main_v11, cc0_transform_3, reads0_3, 1, stage0_3, sem0_3, hrank0, hreads0_3, hinb0_3, nbuf0_3, (Memref.isWhole_whole _), hwx0_3, hstage0_3⟩
  w4 := ⟨Memref.whole main_v6, cc0_transform_4, reads0_4, 1, stage0_4, sem0_4, hrank0, hreads0_4, hinb0_4, nbuf0_4, (Memref.isWhole_whole _), hwx0_4, hstage0_4⟩
  w5 := ⟨Memref.whole main_v12, cc0_transform_5, reads0_5, 1, stage0_5, sem0_5, hrank0, hreads0_5, hinb0_5, nbuf0_5, (Memref.isWhole_whole _), hwx0_5, hstage0_5⟩
  w6 := ⟨Memref.whole main_v17, cc0_transform_6, reads0_6, 1, stage0_6, sem0_6, hrank0, hreads0_6, hinb0_6, nbuf0_6, (Memref.isWhole_whole _), hwx0_6, hstage0_6⟩
  w7 := ⟨Memref.whole main_v18, cc0_transform_7, reads0_7, 1, stage0_7, sem0_7, hrank0, hreads0_7, hinb0_7, nbuf0_7, (Memref.isWhole_whole _), hwx0_7, hstage0_7⟩
  w8 := ⟨Memref.whole main_v23, cc0_transform_8, reads0_8, 2, stage0_8, sem0_8, hrank0, hreads0_8, hinb0_8, nbuf0_8, (Memref.isWhole_whole _), hwx0_8, hstage0_8⟩

abbrev sa0 : SAD where
  w0 := ⟨Memref.whole main_v23, cc1_transform_0, reads1_0, 2, stage1_0, sem1_0, hrank1, hreads1_0, hinb1_0, nbuf1_0, (Memref.isWhole_whole _), hwx1_0, hstage1_0⟩
  w1 := ⟨Memref.whole main_v7, cc1_transform_1, reads1_1, 1, stage1_1, sem1_1, hrank1, hreads1_1, hinb1_1, nbuf1_1, (Memref.isWhole_whole _), hwx1_1, hstage1_1⟩
  w2 := ⟨Memref.whole main_v13, cc1_transform_2, reads1_2, 1, stage1_2, sem1_2, hrank1, hreads1_2, hinb1_2, nbuf1_2, (Memref.isWhole_whole _), hwx1_2, hstage1_2⟩
  w3 := ⟨Memref.whole main_v8, cc1_transform_3, reads1_3, 1, stage1_3, sem1_3, hrank1, hreads1_3, hinb1_3, nbuf1_3, (Memref.isWhole_whole _), hwx1_3, hstage1_3⟩
  w4 := ⟨Memref.whole main_v14, cc1_transform_4, reads1_4, 1, stage1_4, sem1_4, hrank1, hreads1_4, hinb1_4, nbuf1_4, (Memref.isWhole_whole _), hwx1_4, hstage1_4⟩
  w5 := ⟨Memref.whole main_v19, cc1_transform_5, reads1_5, 1, stage1_5, sem1_5, hrank1, hreads1_5, hinb1_5, nbuf1_5, (Memref.isWhole_whole _), hwx1_5, hstage1_5⟩
  w6 := ⟨Memref.whole main_v20, cc1_transform_6, reads1_6, 1, stage1_6, sem1_6, hrank1, hreads1_6, hinb1_6, nbuf1_6, (Memref.isWhole_whole _), hwx1_6, hstage1_6⟩
  w7 := ⟨Memref.whole main_v24, cc1_transform_7, reads1_7, 2, stage1_7, sem1_7, hrank1, hreads1_7, hinb1_7, nbuf1_7, (Memref.isWhole_whole _), hwx1_7, hstage1_7⟩

abbrev ml0 : MLD where
  w0 := ⟨Memref.whole main_v25, cc2_transform_0, reads2_0, 2, stage2_0, sem2_0, hrank2, hreads2_0, hinb2_0, nbuf2_0, (Memref.isWhole_whole _), hwx2_0, hstage2_0⟩
  w1 := ⟨Memref.whole main_v9, cc2_transform_1, reads2_1, 2, stage2_1, sem2_1, hrank2, hreads2_1, hinb2_1, nbuf2_1, (Memref.isWhole_whole _), hwx2_1, hstage2_1⟩
  w2 := ⟨Memref.whole main_v15, cc2_transform_2, reads2_2, 2, stage2_2, sem2_2, hrank2, hreads2_2, hinb2_2, nbuf2_2, (Memref.isWhole_whole _), hwx2_2, hstage2_2⟩
  w3 := ⟨Memref.whole main_v10, cc2_transform_3, reads2_3, 2, stage2_3, sem2_3, hrank2, hreads2_3, hinb2_3, nbuf2_3, (Memref.isWhole_whole _), hwx2_3, hstage2_3⟩
  w4 := ⟨Memref.whole main_v16, cc2_transform_4, reads2_4, 2, stage2_4, sem2_4, hrank2, hreads2_4, hinb2_4, nbuf2_4, (Memref.isWhole_whole _), hwx2_4, hstage2_4⟩
  w5 := ⟨Memref.whole main_v21, cc2_transform_5, reads2_5, 2, stage2_5, sem2_5, hrank2, hreads2_5, hinb2_5, nbuf2_5, (Memref.isWhole_whole _), hwx2_5, hstage2_5⟩
  w6 := ⟨Memref.whole main_v22, cc2_transform_6, reads2_6, 2, stage2_6, sem2_6, hrank2, hreads2_6, hinb2_6, nbuf2_6, (Memref.isWhole_whole _), hwx2_6, hstage2_6⟩
  w7 := ⟨Memref.whole main_v26, cc2_transform_7, reads2_7, 2, stage2_7, sem2_7, hrank2, hreads2_7, hinb2_7, nbuf2_7, (Memref.isWhole_whole _), hwx2_7, hstage2_7⟩
  scr := Memref.whole cc2_scratch0
  hscr := Memref.isWhole_whole _

abbrev ca1 : CAD where
  w0 := ⟨Memref.whole main_v27, cc3_transform_0, reads3_0, 2, stage3_0, sem3_0, hrank3, hreads3_0, hinb3_0, nbuf3_0, (Memref.isWhole_whole _), hwx3_0, hstage3_0⟩
  w1 := ⟨Memref.whole main_v4, cc3_transform_1, reads3_1, 2, stage3_1, sem3_1, hrank3, hreads3_1, hinb3_1, nbuf3_1, (Memref.isWhole_whole _), hwx3_1, hstage3_1⟩
  w2 := ⟨Memref.whole main_v5, cc3_transform_2, reads3_2, 1, stage3_2, sem3_2, hrank3, hreads3_2, hinb3_2, nbuf3_2, (Memref.isWhole_whole _), hwx3_2, hstage3_2⟩
  w3 := ⟨Memref.whole main_v11, cc3_transform_3, reads3_3, 1, stage3_3, sem3_3, hrank3, hreads3_3, hinb3_3, nbuf3_3, (Memref.isWhole_whole _), hwx3_3, hstage3_3⟩
  w4 := ⟨Memref.whole main_v6, cc3_transform_4, reads3_4, 1, stage3_4, sem3_4, hrank3, hreads3_4, hinb3_4, nbuf3_4, (Memref.isWhole_whole _), hwx3_4, hstage3_4⟩
  w5 := ⟨Memref.whole main_v12, cc3_transform_5, reads3_5, 1, stage3_5, sem3_5, hrank3, hreads3_5, hinb3_5, nbuf3_5, (Memref.isWhole_whole _), hwx3_5, hstage3_5⟩
  w6 := ⟨Memref.whole main_v17, cc3_transform_6, reads3_6, 1, stage3_6, sem3_6, hrank3, hreads3_6, hinb3_6, nbuf3_6, (Memref.isWhole_whole _), hwx3_6, hstage3_6⟩
  w7 := ⟨Memref.whole main_v18, cc3_transform_7, reads3_7, 1, stage3_7, sem3_7, hrank3, hreads3_7, hinb3_7, nbuf3_7, (Memref.isWhole_whole _), hwx3_7, hstage3_7⟩
  w8 := ⟨Memref.whole main_v28, cc3_transform_8, reads3_8, 2, stage3_8, sem3_8, hrank3, hreads3_8, hinb3_8, nbuf3_8, (Memref.isWhole_whole _), hwx3_8, hstage3_8⟩

abbrev sa1 : SAD where
  w0 := ⟨Memref.whole main_v28, cc4_transform_0, reads4_0, 2, stage4_0, sem4_0, hrank4, hreads4_0, hinb4_0, nbuf4_0, (Memref.isWhole_whole _), hwx4_0, hstage4_0⟩
  w1 := ⟨Memref.whole main_v7, cc4_transform_1, reads4_1, 1, stage4_1, sem4_1, hrank4, hreads4_1, hinb4_1, nbuf4_1, (Memref.isWhole_whole _), hwx4_1, hstage4_1⟩
  w2 := ⟨Memref.whole main_v13, cc4_transform_2, reads4_2, 1, stage4_2, sem4_2, hrank4, hreads4_2, hinb4_2, nbuf4_2, (Memref.isWhole_whole _), hwx4_2, hstage4_2⟩
  w3 := ⟨Memref.whole main_v8, cc4_transform_3, reads4_3, 1, stage4_3, sem4_3, hrank4, hreads4_3, hinb4_3, nbuf4_3, (Memref.isWhole_whole _), hwx4_3, hstage4_3⟩
  w4 := ⟨Memref.whole main_v14, cc4_transform_4, reads4_4, 1, stage4_4, sem4_4, hrank4, hreads4_4, hinb4_4, nbuf4_4, (Memref.isWhole_whole _), hwx4_4, hstage4_4⟩
  w5 := ⟨Memref.whole main_v19, cc4_transform_5, reads4_5, 1, stage4_5, sem4_5, hrank4, hreads4_5, hinb4_5, nbuf4_5, (Memref.isWhole_whole _), hwx4_5, hstage4_5⟩
  w6 := ⟨Memref.whole main_v20, cc4_transform_6, reads4_6, 1, stage4_6, sem4_6, hrank4, hreads4_6, hinb4_6, nbuf4_6, (Memref.isWhole_whole _), hwx4_6, hstage4_6⟩
  w7 := ⟨Memref.whole main_v29, cc4_transform_7, reads4_7, 2, stage4_7, sem4_7, hrank4, hreads4_7, hinb4_7, nbuf4_7, (Memref.isWhole_whole _), hwx4_7, hstage4_7⟩

abbrev ml1 : MLD where
  w0 := ⟨Memref.whole main_v30, cc5_transform_0, reads5_0, 2, stage5_0, sem5_0, hrank5, hreads5_0, hinb5_0, nbuf5_0, (Memref.isWhole_whole _), hwx5_0, hstage5_0⟩
  w1 := ⟨Memref.whole main_v9, cc5_transform_1, reads5_1, 2, stage5_1, sem5_1, hrank5, hreads5_1, hinb5_1, nbuf5_1, (Memref.isWhole_whole _), hwx5_1, hstage5_1⟩
  w2 := ⟨Memref.whole main_v15, cc5_transform_2, reads5_2, 2, stage5_2, sem5_2, hrank5, hreads5_2, hinb5_2, nbuf5_2, (Memref.isWhole_whole _), hwx5_2, hstage5_2⟩
  w3 := ⟨Memref.whole main_v10, cc5_transform_3, reads5_3, 2, stage5_3, sem5_3, hrank5, hreads5_3, hinb5_3, nbuf5_3, (Memref.isWhole_whole _), hwx5_3, hstage5_3⟩
  w4 := ⟨Memref.whole main_v16, cc5_transform_4, reads5_4, 2, stage5_4, sem5_4, hrank5, hreads5_4, hinb5_4, nbuf5_4, (Memref.isWhole_whole _), hwx5_4, hstage5_4⟩
  w5 := ⟨Memref.whole main_v21, cc5_transform_5, reads5_5, 2, stage5_5, sem5_5, hrank5, hreads5_5, hinb5_5, nbuf5_5, (Memref.isWhole_whole _), hwx5_5, hstage5_5⟩
  w6 := ⟨Memref.whole main_v22, cc5_transform_6, reads5_6, 2, stage5_6, sem5_6, hrank5, hreads5_6, hinb5_6, nbuf5_6, (Memref.isWhole_whole _), hwx5_6, hstage5_6⟩
  w7 := ⟨Memref.whole main_v31, cc5_transform_7, reads5_7, 2, stage5_7, sem5_7, hrank5, hreads5_7, hinb5_7, nbuf5_7, (Memref.isWhole_whole _), hwx5_7, hstage5_7⟩
  scr := Memref.whole cc5_scratch0
  hscr := Memref.isWhole_whole _

abbrev ca2 : CAD where
  w0 := ⟨Memref.whole main_v32, cc6_transform_0, reads6_0, 2, stage6_0, sem6_0, hrank6, hreads6_0, hinb6_0, nbuf6_0, (Memref.isWhole_whole _), hwx6_0, hstage6_0⟩
  w1 := ⟨Memref.whole main_v4, cc6_transform_1, reads6_1, 2, stage6_1, sem6_1, hrank6, hreads6_1, hinb6_1, nbuf6_1, (Memref.isWhole_whole _), hwx6_1, hstage6_1⟩
  w2 := ⟨Memref.whole main_v5, cc6_transform_2, reads6_2, 1, stage6_2, sem6_2, hrank6, hreads6_2, hinb6_2, nbuf6_2, (Memref.isWhole_whole _), hwx6_2, hstage6_2⟩
  w3 := ⟨Memref.whole main_v11, cc6_transform_3, reads6_3, 1, stage6_3, sem6_3, hrank6, hreads6_3, hinb6_3, nbuf6_3, (Memref.isWhole_whole _), hwx6_3, hstage6_3⟩
  w4 := ⟨Memref.whole main_v6, cc6_transform_4, reads6_4, 1, stage6_4, sem6_4, hrank6, hreads6_4, hinb6_4, nbuf6_4, (Memref.isWhole_whole _), hwx6_4, hstage6_4⟩
  w5 := ⟨Memref.whole main_v12, cc6_transform_5, reads6_5, 1, stage6_5, sem6_5, hrank6, hreads6_5, hinb6_5, nbuf6_5, (Memref.isWhole_whole _), hwx6_5, hstage6_5⟩
  w6 := ⟨Memref.whole main_v17, cc6_transform_6, reads6_6, 1, stage6_6, sem6_6, hrank6, hreads6_6, hinb6_6, nbuf6_6, (Memref.isWhole_whole _), hwx6_6, hstage6_6⟩
  w7 := ⟨Memref.whole main_v18, cc6_transform_7, reads6_7, 1, stage6_7, sem6_7, hrank6, hreads6_7, hinb6_7, nbuf6_7, (Memref.isWhole_whole _), hwx6_7, hstage6_7⟩
  w8 := ⟨Memref.whole main_v33, cc6_transform_8, reads6_8, 2, stage6_8, sem6_8, hrank6, hreads6_8, hinb6_8, nbuf6_8, (Memref.isWhole_whole _), hwx6_8, hstage6_8⟩

abbrev sa2 : SAD where
  w0 := ⟨Memref.whole main_v33, cc7_transform_0, reads7_0, 2, stage7_0, sem7_0, hrank7, hreads7_0, hinb7_0, nbuf7_0, (Memref.isWhole_whole _), hwx7_0, hstage7_0⟩
  w1 := ⟨Memref.whole main_v7, cc7_transform_1, reads7_1, 1, stage7_1, sem7_1, hrank7, hreads7_1, hinb7_1, nbuf7_1, (Memref.isWhole_whole _), hwx7_1, hstage7_1⟩
  w2 := ⟨Memref.whole main_v13, cc7_transform_2, reads7_2, 1, stage7_2, sem7_2, hrank7, hreads7_2, hinb7_2, nbuf7_2, (Memref.isWhole_whole _), hwx7_2, hstage7_2⟩
  w3 := ⟨Memref.whole main_v8, cc7_transform_3, reads7_3, 1, stage7_3, sem7_3, hrank7, hreads7_3, hinb7_3, nbuf7_3, (Memref.isWhole_whole _), hwx7_3, hstage7_3⟩
  w4 := ⟨Memref.whole main_v14, cc7_transform_4, reads7_4, 1, stage7_4, sem7_4, hrank7, hreads7_4, hinb7_4, nbuf7_4, (Memref.isWhole_whole _), hwx7_4, hstage7_4⟩
  w5 := ⟨Memref.whole main_v19, cc7_transform_5, reads7_5, 1, stage7_5, sem7_5, hrank7, hreads7_5, hinb7_5, nbuf7_5, (Memref.isWhole_whole _), hwx7_5, hstage7_5⟩
  w6 := ⟨Memref.whole main_v20, cc7_transform_6, reads7_6, 1, stage7_6, sem7_6, hrank7, hreads7_6, hinb7_6, nbuf7_6, (Memref.isWhole_whole _), hwx7_6, hstage7_6⟩
  w7 := ⟨Memref.whole main_v34, cc7_transform_7, reads7_7, 2, stage7_7, sem7_7, hrank7, hreads7_7, hinb7_7, nbuf7_7, (Memref.isWhole_whole _), hwx7_7, hstage7_7⟩

abbrev ml2 : MLD where
  w0 := ⟨Memref.whole main_v35, cc8_transform_0, reads8_0, 2, stage8_0, sem8_0, hrank8, hreads8_0, hinb8_0, nbuf8_0, (Memref.isWhole_whole _), hwx8_0, hstage8_0⟩
  w1 := ⟨Memref.whole main_v9, cc8_transform_1, reads8_1, 2, stage8_1, sem8_1, hrank8, hreads8_1, hinb8_1, nbuf8_1, (Memref.isWhole_whole _), hwx8_1, hstage8_1⟩
  w2 := ⟨Memref.whole main_v15, cc8_transform_2, reads8_2, 2, stage8_2, sem8_2, hrank8, hreads8_2, hinb8_2, nbuf8_2, (Memref.isWhole_whole _), hwx8_2, hstage8_2⟩
  w3 := ⟨Memref.whole main_v10, cc8_transform_3, reads8_3, 2, stage8_3, sem8_3, hrank8, hreads8_3, hinb8_3, nbuf8_3, (Memref.isWhole_whole _), hwx8_3, hstage8_3⟩
  w4 := ⟨Memref.whole main_v16, cc8_transform_4, reads8_4, 2, stage8_4, sem8_4, hrank8, hreads8_4, hinb8_4, nbuf8_4, (Memref.isWhole_whole _), hwx8_4, hstage8_4⟩
  w5 := ⟨Memref.whole main_v21, cc8_transform_5, reads8_5, 2, stage8_5, sem8_5, hrank8, hreads8_5, hinb8_5, nbuf8_5, (Memref.isWhole_whole _), hwx8_5, hstage8_5⟩
  w6 := ⟨Memref.whole main_v22, cc8_transform_6, reads8_6, 2, stage8_6, sem8_6, hrank8, hreads8_6, hinb8_6, nbuf8_6, (Memref.isWhole_whole _), hwx8_6, hstage8_6⟩
  w7 := ⟨Memref.whole main_v36, cc8_transform_7, reads8_7, 2, stage8_7, sem8_7, hrank8, hreads8_7, hinb8_7, nbuf8_7, (Memref.isWhole_whole _), hwx8_7, hstage8_7⟩
  scr := Memref.whole cc8_scratch0
  hscr := Memref.isWhole_whole _

abbrev ca3 : CAD where
  w0 := ⟨Memref.whole main_v37, cc9_transform_0, reads9_0, 2, stage9_0, sem9_0, hrank9, hreads9_0, hinb9_0, nbuf9_0, (Memref.isWhole_whole _), hwx9_0, hstage9_0⟩
  w1 := ⟨Memref.whole main_v4, cc9_transform_1, reads9_1, 2, stage9_1, sem9_1, hrank9, hreads9_1, hinb9_1, nbuf9_1, (Memref.isWhole_whole _), hwx9_1, hstage9_1⟩
  w2 := ⟨Memref.whole main_v5, cc9_transform_2, reads9_2, 1, stage9_2, sem9_2, hrank9, hreads9_2, hinb9_2, nbuf9_2, (Memref.isWhole_whole _), hwx9_2, hstage9_2⟩
  w3 := ⟨Memref.whole main_v11, cc9_transform_3, reads9_3, 1, stage9_3, sem9_3, hrank9, hreads9_3, hinb9_3, nbuf9_3, (Memref.isWhole_whole _), hwx9_3, hstage9_3⟩
  w4 := ⟨Memref.whole main_v6, cc9_transform_4, reads9_4, 1, stage9_4, sem9_4, hrank9, hreads9_4, hinb9_4, nbuf9_4, (Memref.isWhole_whole _), hwx9_4, hstage9_4⟩
  w5 := ⟨Memref.whole main_v12, cc9_transform_5, reads9_5, 1, stage9_5, sem9_5, hrank9, hreads9_5, hinb9_5, nbuf9_5, (Memref.isWhole_whole _), hwx9_5, hstage9_5⟩
  w6 := ⟨Memref.whole main_v17, cc9_transform_6, reads9_6, 1, stage9_6, sem9_6, hrank9, hreads9_6, hinb9_6, nbuf9_6, (Memref.isWhole_whole _), hwx9_6, hstage9_6⟩
  w7 := ⟨Memref.whole main_v18, cc9_transform_7, reads9_7, 1, stage9_7, sem9_7, hrank9, hreads9_7, hinb9_7, nbuf9_7, (Memref.isWhole_whole _), hwx9_7, hstage9_7⟩
  w8 := ⟨Memref.whole main_v38, cc9_transform_8, reads9_8, 2, stage9_8, sem9_8, hrank9, hreads9_8, hinb9_8, nbuf9_8, (Memref.isWhole_whole _), hwx9_8, hstage9_8⟩

abbrev sa3 : SAD where
  w0 := ⟨Memref.whole main_v38, cc10_transform_0, reads10_0, 2, stage10_0, sem10_0, hrank10, hreads10_0, hinb10_0, nbuf10_0, (Memref.isWhole_whole _), hwx10_0, hstage10_0⟩
  w1 := ⟨Memref.whole main_v7, cc10_transform_1, reads10_1, 1, stage10_1, sem10_1, hrank10, hreads10_1, hinb10_1, nbuf10_1, (Memref.isWhole_whole _), hwx10_1, hstage10_1⟩
  w2 := ⟨Memref.whole main_v13, cc10_transform_2, reads10_2, 1, stage10_2, sem10_2, hrank10, hreads10_2, hinb10_2, nbuf10_2, (Memref.isWhole_whole _), hwx10_2, hstage10_2⟩
  w3 := ⟨Memref.whole main_v8, cc10_transform_3, reads10_3, 1, stage10_3, sem10_3, hrank10, hreads10_3, hinb10_3, nbuf10_3, (Memref.isWhole_whole _), hwx10_3, hstage10_3⟩
  w4 := ⟨Memref.whole main_v14, cc10_transform_4, reads10_4, 1, stage10_4, sem10_4, hrank10, hreads10_4, hinb10_4, nbuf10_4, (Memref.isWhole_whole _), hwx10_4, hstage10_4⟩
  w5 := ⟨Memref.whole main_v19, cc10_transform_5, reads10_5, 1, stage10_5, sem10_5, hrank10, hreads10_5, hinb10_5, nbuf10_5, (Memref.isWhole_whole _), hwx10_5, hstage10_5⟩
  w6 := ⟨Memref.whole main_v20, cc10_transform_6, reads10_6, 1, stage10_6, sem10_6, hrank10, hreads10_6, hinb10_6, nbuf10_6, (Memref.isWhole_whole _), hwx10_6, hstage10_6⟩
  w7 := ⟨Memref.whole main_v39, cc10_transform_7, reads10_7, 2, stage10_7, sem10_7, hrank10, hreads10_7, hinb10_7, nbuf10_7, (Memref.isWhole_whole _), hwx10_7, hstage10_7⟩

abbrev ml3 : MLD where
  w0 := ⟨Memref.whole main_v40, cc11_transform_0, reads11_0, 2, stage11_0, sem11_0, hrank11, hreads11_0, hinb11_0, nbuf11_0, (Memref.isWhole_whole _), hwx11_0, hstage11_0⟩
  w1 := ⟨Memref.whole main_v9, cc11_transform_1, reads11_1, 2, stage11_1, sem11_1, hrank11, hreads11_1, hinb11_1, nbuf11_1, (Memref.isWhole_whole _), hwx11_1, hstage11_1⟩
  w2 := ⟨Memref.whole main_v15, cc11_transform_2, reads11_2, 2, stage11_2, sem11_2, hrank11, hreads11_2, hinb11_2, nbuf11_2, (Memref.isWhole_whole _), hwx11_2, hstage11_2⟩
  w3 := ⟨Memref.whole main_v10, cc11_transform_3, reads11_3, 2, stage11_3, sem11_3, hrank11, hreads11_3, hinb11_3, nbuf11_3, (Memref.isWhole_whole _), hwx11_3, hstage11_3⟩
  w4 := ⟨Memref.whole main_v16, cc11_transform_4, reads11_4, 2, stage11_4, sem11_4, hrank11, hreads11_4, hinb11_4, nbuf11_4, (Memref.isWhole_whole _), hwx11_4, hstage11_4⟩
  w5 := ⟨Memref.whole main_v21, cc11_transform_5, reads11_5, 2, stage11_5, sem11_5, hrank11, hreads11_5, hinb11_5, nbuf11_5, (Memref.isWhole_whole _), hwx11_5, hstage11_5⟩
  w6 := ⟨Memref.whole main_v22, cc11_transform_6, reads11_6, 2, stage11_6, sem11_6, hrank11, hreads11_6, hinb11_6, nbuf11_6, (Memref.isWhole_whole _), hwx11_6, hstage11_6⟩
  w7 := ⟨Memref.whole main_v41, cc11_transform_7, reads11_7, 2, stage11_7, sem11_7, hrank11, hreads11_7, hinb11_7, nbuf11_7, (Memref.isWhole_whole _), hwx11_7, hstage11_7⟩
  scr := Memref.whole cc11_scratch0
  hscr := Memref.isWhole_whole _

abbrev ca4 : CAD where
  w0 := ⟨Memref.whole main_v42, cc12_transform_0, reads12_0, 2, stage12_0, sem12_0, hrank12, hreads12_0, hinb12_0, nbuf12_0, (Memref.isWhole_whole _), hwx12_0, hstage12_0⟩
  w1 := ⟨Memref.whole main_v4, cc12_transform_1, reads12_1, 2, stage12_1, sem12_1, hrank12, hreads12_1, hinb12_1, nbuf12_1, (Memref.isWhole_whole _), hwx12_1, hstage12_1⟩
  w2 := ⟨Memref.whole main_v5, cc12_transform_2, reads12_2, 1, stage12_2, sem12_2, hrank12, hreads12_2, hinb12_2, nbuf12_2, (Memref.isWhole_whole _), hwx12_2, hstage12_2⟩
  w3 := ⟨Memref.whole main_v11, cc12_transform_3, reads12_3, 1, stage12_3, sem12_3, hrank12, hreads12_3, hinb12_3, nbuf12_3, (Memref.isWhole_whole _), hwx12_3, hstage12_3⟩
  w4 := ⟨Memref.whole main_v6, cc12_transform_4, reads12_4, 1, stage12_4, sem12_4, hrank12, hreads12_4, hinb12_4, nbuf12_4, (Memref.isWhole_whole _), hwx12_4, hstage12_4⟩
  w5 := ⟨Memref.whole main_v12, cc12_transform_5, reads12_5, 1, stage12_5, sem12_5, hrank12, hreads12_5, hinb12_5, nbuf12_5, (Memref.isWhole_whole _), hwx12_5, hstage12_5⟩
  w6 := ⟨Memref.whole main_v17, cc12_transform_6, reads12_6, 1, stage12_6, sem12_6, hrank12, hreads12_6, hinb12_6, nbuf12_6, (Memref.isWhole_whole _), hwx12_6, hstage12_6⟩
  w7 := ⟨Memref.whole main_v18, cc12_transform_7, reads12_7, 1, stage12_7, sem12_7, hrank12, hreads12_7, hinb12_7, nbuf12_7, (Memref.isWhole_whole _), hwx12_7, hstage12_7⟩
  w8 := ⟨Memref.whole main_v43, cc12_transform_8, reads12_8, 2, stage12_8, sem12_8, hrank12, hreads12_8, hinb12_8, nbuf12_8, (Memref.isWhole_whole _), hwx12_8, hstage12_8⟩

abbrev sa4 : SAD where
  w0 := ⟨Memref.whole main_v43, cc13_transform_0, reads13_0, 2, stage13_0, sem13_0, hrank13, hreads13_0, hinb13_0, nbuf13_0, (Memref.isWhole_whole _), hwx13_0, hstage13_0⟩
  w1 := ⟨Memref.whole main_v7, cc13_transform_1, reads13_1, 1, stage13_1, sem13_1, hrank13, hreads13_1, hinb13_1, nbuf13_1, (Memref.isWhole_whole _), hwx13_1, hstage13_1⟩
  w2 := ⟨Memref.whole main_v13, cc13_transform_2, reads13_2, 1, stage13_2, sem13_2, hrank13, hreads13_2, hinb13_2, nbuf13_2, (Memref.isWhole_whole _), hwx13_2, hstage13_2⟩
  w3 := ⟨Memref.whole main_v8, cc13_transform_3, reads13_3, 1, stage13_3, sem13_3, hrank13, hreads13_3, hinb13_3, nbuf13_3, (Memref.isWhole_whole _), hwx13_3, hstage13_3⟩
  w4 := ⟨Memref.whole main_v14, cc13_transform_4, reads13_4, 1, stage13_4, sem13_4, hrank13, hreads13_4, hinb13_4, nbuf13_4, (Memref.isWhole_whole _), hwx13_4, hstage13_4⟩
  w5 := ⟨Memref.whole main_v19, cc13_transform_5, reads13_5, 1, stage13_5, sem13_5, hrank13, hreads13_5, hinb13_5, nbuf13_5, (Memref.isWhole_whole _), hwx13_5, hstage13_5⟩
  w6 := ⟨Memref.whole main_v20, cc13_transform_6, reads13_6, 1, stage13_6, sem13_6, hrank13, hreads13_6, hinb13_6, nbuf13_6, (Memref.isWhole_whole _), hwx13_6, hstage13_6⟩
  w7 := ⟨Memref.whole main_v44, cc13_transform_7, reads13_7, 2, stage13_7, sem13_7, hrank13, hreads13_7, hinb13_7, nbuf13_7, (Memref.isWhole_whole _), hwx13_7, hstage13_7⟩

abbrev ml4 : MLD where
  w0 := ⟨Memref.whole main_v45, cc14_transform_0, reads14_0, 2, stage14_0, sem14_0, hrank14, hreads14_0, hinb14_0, nbuf14_0, (Memref.isWhole_whole _), hwx14_0, hstage14_0⟩
  w1 := ⟨Memref.whole main_v9, cc14_transform_1, reads14_1, 2, stage14_1, sem14_1, hrank14, hreads14_1, hinb14_1, nbuf14_1, (Memref.isWhole_whole _), hwx14_1, hstage14_1⟩
  w2 := ⟨Memref.whole main_v15, cc14_transform_2, reads14_2, 2, stage14_2, sem14_2, hrank14, hreads14_2, hinb14_2, nbuf14_2, (Memref.isWhole_whole _), hwx14_2, hstage14_2⟩
  w3 := ⟨Memref.whole main_v10, cc14_transform_3, reads14_3, 2, stage14_3, sem14_3, hrank14, hreads14_3, hinb14_3, nbuf14_3, (Memref.isWhole_whole _), hwx14_3, hstage14_3⟩
  w4 := ⟨Memref.whole main_v16, cc14_transform_4, reads14_4, 2, stage14_4, sem14_4, hrank14, hreads14_4, hinb14_4, nbuf14_4, (Memref.isWhole_whole _), hwx14_4, hstage14_4⟩
  w5 := ⟨Memref.whole main_v21, cc14_transform_5, reads14_5, 2, stage14_5, sem14_5, hrank14, hreads14_5, hinb14_5, nbuf14_5, (Memref.isWhole_whole _), hwx14_5, hstage14_5⟩
  w6 := ⟨Memref.whole main_v22, cc14_transform_6, reads14_6, 2, stage14_6, sem14_6, hrank14, hreads14_6, hinb14_6, nbuf14_6, (Memref.isWhole_whole _), hwx14_6, hstage14_6⟩
  w7 := ⟨Memref.whole main_v46, cc14_transform_7, reads14_7, 2, stage14_7, sem14_7, hrank14, hreads14_7, hinb14_7, nbuf14_7, (Memref.isWhole_whole _), hwx14_7, hstage14_7⟩
  scr := Memref.whole cc14_scratch0
  hscr := Memref.isWhole_whole _

abbrev ca5 : CAD where
  w0 := ⟨Memref.whole main_v47, cc15_transform_0, reads15_0, 2, stage15_0, sem15_0, hrank15, hreads15_0, hinb15_0, nbuf15_0, (Memref.isWhole_whole _), hwx15_0, hstage15_0⟩
  w1 := ⟨Memref.whole main_v4, cc15_transform_1, reads15_1, 2, stage15_1, sem15_1, hrank15, hreads15_1, hinb15_1, nbuf15_1, (Memref.isWhole_whole _), hwx15_1, hstage15_1⟩
  w2 := ⟨Memref.whole main_v5, cc15_transform_2, reads15_2, 1, stage15_2, sem15_2, hrank15, hreads15_2, hinb15_2, nbuf15_2, (Memref.isWhole_whole _), hwx15_2, hstage15_2⟩
  w3 := ⟨Memref.whole main_v11, cc15_transform_3, reads15_3, 1, stage15_3, sem15_3, hrank15, hreads15_3, hinb15_3, nbuf15_3, (Memref.isWhole_whole _), hwx15_3, hstage15_3⟩
  w4 := ⟨Memref.whole main_v6, cc15_transform_4, reads15_4, 1, stage15_4, sem15_4, hrank15, hreads15_4, hinb15_4, nbuf15_4, (Memref.isWhole_whole _), hwx15_4, hstage15_4⟩
  w5 := ⟨Memref.whole main_v12, cc15_transform_5, reads15_5, 1, stage15_5, sem15_5, hrank15, hreads15_5, hinb15_5, nbuf15_5, (Memref.isWhole_whole _), hwx15_5, hstage15_5⟩
  w6 := ⟨Memref.whole main_v17, cc15_transform_6, reads15_6, 1, stage15_6, sem15_6, hrank15, hreads15_6, hinb15_6, nbuf15_6, (Memref.isWhole_whole _), hwx15_6, hstage15_6⟩
  w7 := ⟨Memref.whole main_v18, cc15_transform_7, reads15_7, 1, stage15_7, sem15_7, hrank15, hreads15_7, hinb15_7, nbuf15_7, (Memref.isWhole_whole _), hwx15_7, hstage15_7⟩
  w8 := ⟨Memref.whole main_v48, cc15_transform_8, reads15_8, 2, stage15_8, sem15_8, hrank15, hreads15_8, hinb15_8, nbuf15_8, (Memref.isWhole_whole _), hwx15_8, hstage15_8⟩

abbrev sa5 : SAD where
  w0 := ⟨Memref.whole main_v48, cc16_transform_0, reads16_0, 2, stage16_0, sem16_0, hrank16, hreads16_0, hinb16_0, nbuf16_0, (Memref.isWhole_whole _), hwx16_0, hstage16_0⟩
  w1 := ⟨Memref.whole main_v7, cc16_transform_1, reads16_1, 1, stage16_1, sem16_1, hrank16, hreads16_1, hinb16_1, nbuf16_1, (Memref.isWhole_whole _), hwx16_1, hstage16_1⟩
  w2 := ⟨Memref.whole main_v13, cc16_transform_2, reads16_2, 1, stage16_2, sem16_2, hrank16, hreads16_2, hinb16_2, nbuf16_2, (Memref.isWhole_whole _), hwx16_2, hstage16_2⟩
  w3 := ⟨Memref.whole main_v8, cc16_transform_3, reads16_3, 1, stage16_3, sem16_3, hrank16, hreads16_3, hinb16_3, nbuf16_3, (Memref.isWhole_whole _), hwx16_3, hstage16_3⟩
  w4 := ⟨Memref.whole main_v14, cc16_transform_4, reads16_4, 1, stage16_4, sem16_4, hrank16, hreads16_4, hinb16_4, nbuf16_4, (Memref.isWhole_whole _), hwx16_4, hstage16_4⟩
  w5 := ⟨Memref.whole main_v19, cc16_transform_5, reads16_5, 1, stage16_5, sem16_5, hrank16, hreads16_5, hinb16_5, nbuf16_5, (Memref.isWhole_whole _), hwx16_5, hstage16_5⟩
  w6 := ⟨Memref.whole main_v20, cc16_transform_6, reads16_6, 1, stage16_6, sem16_6, hrank16, hreads16_6, hinb16_6, nbuf16_6, (Memref.isWhole_whole _), hwx16_6, hstage16_6⟩
  w7 := ⟨Memref.whole main_v49, cc16_transform_7, reads16_7, 2, stage16_7, sem16_7, hrank16, hreads16_7, hinb16_7, nbuf16_7, (Memref.isWhole_whole _), hwx16_7, hstage16_7⟩

abbrev ml5 : MLD where
  w0 := ⟨Memref.whole main_v50, cc17_transform_0, reads17_0, 2, stage17_0, sem17_0, hrank17, hreads17_0, hinb17_0, nbuf17_0, (Memref.isWhole_whole _), hwx17_0, hstage17_0⟩
  w1 := ⟨Memref.whole main_v9, cc17_transform_1, reads17_1, 2, stage17_1, sem17_1, hrank17, hreads17_1, hinb17_1, nbuf17_1, (Memref.isWhole_whole _), hwx17_1, hstage17_1⟩
  w2 := ⟨Memref.whole main_v15, cc17_transform_2, reads17_2, 2, stage17_2, sem17_2, hrank17, hreads17_2, hinb17_2, nbuf17_2, (Memref.isWhole_whole _), hwx17_2, hstage17_2⟩
  w3 := ⟨Memref.whole main_v10, cc17_transform_3, reads17_3, 2, stage17_3, sem17_3, hrank17, hreads17_3, hinb17_3, nbuf17_3, (Memref.isWhole_whole _), hwx17_3, hstage17_3⟩
  w4 := ⟨Memref.whole main_v16, cc17_transform_4, reads17_4, 2, stage17_4, sem17_4, hrank17, hreads17_4, hinb17_4, nbuf17_4, (Memref.isWhole_whole _), hwx17_4, hstage17_4⟩
  w5 := ⟨Memref.whole main_v21, cc17_transform_5, reads17_5, 2, stage17_5, sem17_5, hrank17, hreads17_5, hinb17_5, nbuf17_5, (Memref.isWhole_whole _), hwx17_5, hstage17_5⟩
  w6 := ⟨Memref.whole main_v22, cc17_transform_6, reads17_6, 2, stage17_6, sem17_6, hrank17, hreads17_6, hinb17_6, nbuf17_6, (Memref.isWhole_whole _), hwx17_6, hstage17_6⟩
  w7 := ⟨Memref.whole main_v51, cc17_transform_7, reads17_7, 2, stage17_7, sem17_7, hrank17, hreads17_7, hinb17_7, nbuf17_7, (Memref.isWhole_whole _), hwx17_7, hstage17_7⟩
  scr := Memref.whole cc17_scratch0
  hscr := Memref.isWhole_whole _

abbrev ca6 : CAD where
  w0 := ⟨Memref.whole main_v52, cc18_transform_0, reads18_0, 2, stage18_0, sem18_0, hrank18, hreads18_0, hinb18_0, nbuf18_0, (Memref.isWhole_whole _), hwx18_0, hstage18_0⟩
  w1 := ⟨Memref.whole main_v4, cc18_transform_1, reads18_1, 2, stage18_1, sem18_1, hrank18, hreads18_1, hinb18_1, nbuf18_1, (Memref.isWhole_whole _), hwx18_1, hstage18_1⟩
  w2 := ⟨Memref.whole main_v5, cc18_transform_2, reads18_2, 1, stage18_2, sem18_2, hrank18, hreads18_2, hinb18_2, nbuf18_2, (Memref.isWhole_whole _), hwx18_2, hstage18_2⟩
  w3 := ⟨Memref.whole main_v11, cc18_transform_3, reads18_3, 1, stage18_3, sem18_3, hrank18, hreads18_3, hinb18_3, nbuf18_3, (Memref.isWhole_whole _), hwx18_3, hstage18_3⟩
  w4 := ⟨Memref.whole main_v6, cc18_transform_4, reads18_4, 1, stage18_4, sem18_4, hrank18, hreads18_4, hinb18_4, nbuf18_4, (Memref.isWhole_whole _), hwx18_4, hstage18_4⟩
  w5 := ⟨Memref.whole main_v12, cc18_transform_5, reads18_5, 1, stage18_5, sem18_5, hrank18, hreads18_5, hinb18_5, nbuf18_5, (Memref.isWhole_whole _), hwx18_5, hstage18_5⟩
  w6 := ⟨Memref.whole main_v17, cc18_transform_6, reads18_6, 1, stage18_6, sem18_6, hrank18, hreads18_6, hinb18_6, nbuf18_6, (Memref.isWhole_whole _), hwx18_6, hstage18_6⟩
  w7 := ⟨Memref.whole main_v18, cc18_transform_7, reads18_7, 1, stage18_7, sem18_7, hrank18, hreads18_7, hinb18_7, nbuf18_7, (Memref.isWhole_whole _), hwx18_7, hstage18_7⟩
  w8 := ⟨Memref.whole main_v53, cc18_transform_8, reads18_8, 2, stage18_8, sem18_8, hrank18, hreads18_8, hinb18_8, nbuf18_8, (Memref.isWhole_whole _), hwx18_8, hstage18_8⟩

abbrev sa6 : SAD where
  w0 := ⟨Memref.whole main_v53, cc19_transform_0, reads19_0, 2, stage19_0, sem19_0, hrank19, hreads19_0, hinb19_0, nbuf19_0, (Memref.isWhole_whole _), hwx19_0, hstage19_0⟩
  w1 := ⟨Memref.whole main_v7, cc19_transform_1, reads19_1, 1, stage19_1, sem19_1, hrank19, hreads19_1, hinb19_1, nbuf19_1, (Memref.isWhole_whole _), hwx19_1, hstage19_1⟩
  w2 := ⟨Memref.whole main_v13, cc19_transform_2, reads19_2, 1, stage19_2, sem19_2, hrank19, hreads19_2, hinb19_2, nbuf19_2, (Memref.isWhole_whole _), hwx19_2, hstage19_2⟩
  w3 := ⟨Memref.whole main_v8, cc19_transform_3, reads19_3, 1, stage19_3, sem19_3, hrank19, hreads19_3, hinb19_3, nbuf19_3, (Memref.isWhole_whole _), hwx19_3, hstage19_3⟩
  w4 := ⟨Memref.whole main_v14, cc19_transform_4, reads19_4, 1, stage19_4, sem19_4, hrank19, hreads19_4, hinb19_4, nbuf19_4, (Memref.isWhole_whole _), hwx19_4, hstage19_4⟩
  w5 := ⟨Memref.whole main_v19, cc19_transform_5, reads19_5, 1, stage19_5, sem19_5, hrank19, hreads19_5, hinb19_5, nbuf19_5, (Memref.isWhole_whole _), hwx19_5, hstage19_5⟩
  w6 := ⟨Memref.whole main_v20, cc19_transform_6, reads19_6, 1, stage19_6, sem19_6, hrank19, hreads19_6, hinb19_6, nbuf19_6, (Memref.isWhole_whole _), hwx19_6, hstage19_6⟩
  w7 := ⟨Memref.whole main_v54, cc19_transform_7, reads19_7, 2, stage19_7, sem19_7, hrank19, hreads19_7, hinb19_7, nbuf19_7, (Memref.isWhole_whole _), hwx19_7, hstage19_7⟩

abbrev ml6 : MLD where
  w0 := ⟨Memref.whole main_v55, cc20_transform_0, reads20_0, 2, stage20_0, sem20_0, hrank20, hreads20_0, hinb20_0, nbuf20_0, (Memref.isWhole_whole _), hwx20_0, hstage20_0⟩
  w1 := ⟨Memref.whole main_v9, cc20_transform_1, reads20_1, 2, stage20_1, sem20_1, hrank20, hreads20_1, hinb20_1, nbuf20_1, (Memref.isWhole_whole _), hwx20_1, hstage20_1⟩
  w2 := ⟨Memref.whole main_v15, cc20_transform_2, reads20_2, 2, stage20_2, sem20_2, hrank20, hreads20_2, hinb20_2, nbuf20_2, (Memref.isWhole_whole _), hwx20_2, hstage20_2⟩
  w3 := ⟨Memref.whole main_v10, cc20_transform_3, reads20_3, 2, stage20_3, sem20_3, hrank20, hreads20_3, hinb20_3, nbuf20_3, (Memref.isWhole_whole _), hwx20_3, hstage20_3⟩
  w4 := ⟨Memref.whole main_v16, cc20_transform_4, reads20_4, 2, stage20_4, sem20_4, hrank20, hreads20_4, hinb20_4, nbuf20_4, (Memref.isWhole_whole _), hwx20_4, hstage20_4⟩
  w5 := ⟨Memref.whole main_v21, cc20_transform_5, reads20_5, 2, stage20_5, sem20_5, hrank20, hreads20_5, hinb20_5, nbuf20_5, (Memref.isWhole_whole _), hwx20_5, hstage20_5⟩
  w6 := ⟨Memref.whole main_v22, cc20_transform_6, reads20_6, 2, stage20_6, sem20_6, hrank20, hreads20_6, hinb20_6, nbuf20_6, (Memref.isWhole_whole _), hwx20_6, hstage20_6⟩
  w7 := ⟨Memref.whole main_v56, cc20_transform_7, reads20_7, 2, stage20_7, sem20_7, hrank20, hreads20_7, hinb20_7, nbuf20_7, (Memref.isWhole_whole _), hwx20_7, hstage20_7⟩
  scr := Memref.whole cc20_scratch0
  hscr := Memref.isWhole_whole _

abbrev ca7 : CAD where
  w0 := ⟨Memref.whole main_v57, cc21_transform_0, reads21_0, 2, stage21_0, sem21_0, hrank21, hreads21_0, hinb21_0, nbuf21_0, (Memref.isWhole_whole _), hwx21_0, hstage21_0⟩
  w1 := ⟨Memref.whole main_v4, cc21_transform_1, reads21_1, 2, stage21_1, sem21_1, hrank21, hreads21_1, hinb21_1, nbuf21_1, (Memref.isWhole_whole _), hwx21_1, hstage21_1⟩
  w2 := ⟨Memref.whole main_v5, cc21_transform_2, reads21_2, 1, stage21_2, sem21_2, hrank21, hreads21_2, hinb21_2, nbuf21_2, (Memref.isWhole_whole _), hwx21_2, hstage21_2⟩
  w3 := ⟨Memref.whole main_v11, cc21_transform_3, reads21_3, 1, stage21_3, sem21_3, hrank21, hreads21_3, hinb21_3, nbuf21_3, (Memref.isWhole_whole _), hwx21_3, hstage21_3⟩
  w4 := ⟨Memref.whole main_v6, cc21_transform_4, reads21_4, 1, stage21_4, sem21_4, hrank21, hreads21_4, hinb21_4, nbuf21_4, (Memref.isWhole_whole _), hwx21_4, hstage21_4⟩
  w5 := ⟨Memref.whole main_v12, cc21_transform_5, reads21_5, 1, stage21_5, sem21_5, hrank21, hreads21_5, hinb21_5, nbuf21_5, (Memref.isWhole_whole _), hwx21_5, hstage21_5⟩
  w6 := ⟨Memref.whole main_v17, cc21_transform_6, reads21_6, 1, stage21_6, sem21_6, hrank21, hreads21_6, hinb21_6, nbuf21_6, (Memref.isWhole_whole _), hwx21_6, hstage21_6⟩
  w7 := ⟨Memref.whole main_v18, cc21_transform_7, reads21_7, 1, stage21_7, sem21_7, hrank21, hreads21_7, hinb21_7, nbuf21_7, (Memref.isWhole_whole _), hwx21_7, hstage21_7⟩
  w8 := ⟨Memref.whole main_v58, cc21_transform_8, reads21_8, 2, stage21_8, sem21_8, hrank21, hreads21_8, hinb21_8, nbuf21_8, (Memref.isWhole_whole _), hwx21_8, hstage21_8⟩

abbrev sa7 : SAD where
  w0 := ⟨Memref.whole main_v58, cc22_transform_0, reads22_0, 2, stage22_0, sem22_0, hrank22, hreads22_0, hinb22_0, nbuf22_0, (Memref.isWhole_whole _), hwx22_0, hstage22_0⟩
  w1 := ⟨Memref.whole main_v7, cc22_transform_1, reads22_1, 1, stage22_1, sem22_1, hrank22, hreads22_1, hinb22_1, nbuf22_1, (Memref.isWhole_whole _), hwx22_1, hstage22_1⟩
  w2 := ⟨Memref.whole main_v13, cc22_transform_2, reads22_2, 1, stage22_2, sem22_2, hrank22, hreads22_2, hinb22_2, nbuf22_2, (Memref.isWhole_whole _), hwx22_2, hstage22_2⟩
  w3 := ⟨Memref.whole main_v8, cc22_transform_3, reads22_3, 1, stage22_3, sem22_3, hrank22, hreads22_3, hinb22_3, nbuf22_3, (Memref.isWhole_whole _), hwx22_3, hstage22_3⟩
  w4 := ⟨Memref.whole main_v14, cc22_transform_4, reads22_4, 1, stage22_4, sem22_4, hrank22, hreads22_4, hinb22_4, nbuf22_4, (Memref.isWhole_whole _), hwx22_4, hstage22_4⟩
  w5 := ⟨Memref.whole main_v19, cc22_transform_5, reads22_5, 1, stage22_5, sem22_5, hrank22, hreads22_5, hinb22_5, nbuf22_5, (Memref.isWhole_whole _), hwx22_5, hstage22_5⟩
  w6 := ⟨Memref.whole main_v20, cc22_transform_6, reads22_6, 1, stage22_6, sem22_6, hrank22, hreads22_6, hinb22_6, nbuf22_6, (Memref.isWhole_whole _), hwx22_6, hstage22_6⟩
  w7 := ⟨Memref.whole main_v59, cc22_transform_7, reads22_7, 2, stage22_7, sem22_7, hrank22, hreads22_7, hinb22_7, nbuf22_7, (Memref.isWhole_whole _), hwx22_7, hstage22_7⟩

abbrev ml7 : MLD where
  w0 := ⟨Memref.whole main_v60, cc23_transform_0, reads23_0, 2, stage23_0, sem23_0, hrank23, hreads23_0, hinb23_0, nbuf23_0, (Memref.isWhole_whole _), hwx23_0, hstage23_0⟩
  w1 := ⟨Memref.whole main_v9, cc23_transform_1, reads23_1, 2, stage23_1, sem23_1, hrank23, hreads23_1, hinb23_1, nbuf23_1, (Memref.isWhole_whole _), hwx23_1, hstage23_1⟩
  w2 := ⟨Memref.whole main_v15, cc23_transform_2, reads23_2, 2, stage23_2, sem23_2, hrank23, hreads23_2, hinb23_2, nbuf23_2, (Memref.isWhole_whole _), hwx23_2, hstage23_2⟩
  w3 := ⟨Memref.whole main_v10, cc23_transform_3, reads23_3, 2, stage23_3, sem23_3, hrank23, hreads23_3, hinb23_3, nbuf23_3, (Memref.isWhole_whole _), hwx23_3, hstage23_3⟩
  w4 := ⟨Memref.whole main_v16, cc23_transform_4, reads23_4, 2, stage23_4, sem23_4, hrank23, hreads23_4, hinb23_4, nbuf23_4, (Memref.isWhole_whole _), hwx23_4, hstage23_4⟩
  w5 := ⟨Memref.whole main_v21, cc23_transform_5, reads23_5, 2, stage23_5, sem23_5, hrank23, hreads23_5, hinb23_5, nbuf23_5, (Memref.isWhole_whole _), hwx23_5, hstage23_5⟩
  w6 := ⟨Memref.whole main_v22, cc23_transform_6, reads23_6, 2, stage23_6, sem23_6, hrank23, hreads23_6, hinb23_6, nbuf23_6, (Memref.isWhole_whole _), hwx23_6, hstage23_6⟩
  w7 := ⟨Memref.whole main_v61, cc23_transform_7, reads23_7, 2, stage23_7, sem23_7, hrank23, hreads23_7, hinb23_7, nbuf23_7, (Memref.isWhole_whole _), hwx23_7, hstage23_7⟩
  scr := Memref.whole cc23_scratch0
  hscr := Memref.isWhole_whole _

end Cert.KernelIdeal.Gen

end

end
-- ==== Proof.Ca.lean ====
module

public import proofs.«01_k».proof.Proof.Win
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

abbrev rA : Rect S1x64x1024 := Rect.unit (s := S1x64x1024) ![0, 0, 0] S1x64x1024.size inb_S1x64x1024_S1x64x1024_0_0_0

theorem cover_rA (p0 : Vec F S1x64x1024 .f32) (y : S1x64x1024.Idx) :
    ∃ pc ∈ ([⟨rA, p0⟩] : List (View.Piece (Elt F) S1x64x1024 .f32)), y ∈ pc.1.set :=
  View.cover_of_tiled [⟨rA, p0⟩] S1x64x1024.size (by rfl) y

theorem zero3 : (![0, 0, 0] : Fin 3 → ℕ) = fun _ => 0 := by decide

set_option maxHeartbeats 1000000 in
/-- One point of the cross attention: the inputs stay, the output block becomes `caBlock`. -/
theorem ca_triple (c : Dev nD) (E : Set ℕ) (i : grid0.Coords)
    (arg1 : Memref sig .tc .vmem S1x64x1024 .f32) (harg1 : arg1.IsWhole)
    (arg2 : Memref sig .tc .vmem S1x512x1024 .bf16) (harg2 : arg2.IsWhole)
    (arg3 : Memref sig .tc .vmem S1x3072x1024 .bf16) (harg3 : arg3.IsWhole)
    (arg4 : Memref sig .tc .vmem S1x1x3072 .f32) (harg4 : arg4.IsWhole)
    (arg5 : Memref sig .tc .vmem S1x1024x1024 .bf16) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x64x1024 .f32) (harg9 : arg9.IsWhole)
    (x0 : Vec F S1x64x1024 .f32) (x1 : Vec F S1x512x1024 .bf16) (x2 : Vec F S1x3072x1024 .bf16) (x3 : Vec F S1x1x3072 .f32) (x4 : Vec F S1x1024x1024 .bf16) (x5 : Vec F S1x1x1024 .f32) (x6 : Vec F S1x1x1024 .f32) (x7 : Vec F S1x1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (caBlock x0 x1 x2 x3 x4 x5 x6 x7)) -∗ K ⟨⟩))
      ⊢ wp frame (wpE (defs₀ (F := F)) Variants.none c none) E (cc0__ca_body i arg1 harg1 arg2 harg2 arg3 harg3 arg4 harg4 arg5 harg5 arg6 harg6 arg7 harg7 arg8 harg8 arg9 harg9) K := by
  simp only [cc0__ca_body_eq_skeleton]; unfold cc0__ca_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (cover_rA _)).trans ((View.canon_unit_zero zero3 _ _).trans ?_)
  refine (show _ = caBlock (View.ld (arg1.view.read (Elt F) f0) (Rect.unit (s := S1x64x1024) ![0, 0, 0] S1x64x1024.size inb_S1x64x1024_S1x64x1024_0_0_0))
    (View.ld (arg2.view.read (Elt F) f1) (Rect.unit (s := S1x512x1024) ![0, 0, 0] S1x512x1024.size inb_S1x512x1024_S1x512x1024_0_0_0))
    (View.ld (arg3.view.read (Elt F) f2) (Rect.unit (s := S1x3072x1024) ![0, 0, 0] S1x3072x1024.size inb_S1x3072x1024_S1x3072x1024_0_0_0))
    (View.ld (arg4.view.read (Elt F) f3) (Rect.unit (s := S1x1x3072) ![0, 0, 0] S1x1x3072.size inb_S1x1x3072_S1x1x3072_0_0_0))
    (View.ld (arg5.view.read (Elt F) f4) (Rect.unit (s := S1x1024x1024) ![0, 0, 0] S1x1024x1024.size inb_S1x1024x1024_S1x1024x1024_0_0_0))
    (View.ld (arg6.view.read (Elt F) f5) (Rect.unit (s := S1x1x1024) ![0, 0, 0] S1x1x1024.size inb_S1x1x1024_S1x1x1024_0_0_0))
    (View.ld (arg7.view.read (Elt F) f6) (Rect.unit (s := S1x1x1024) ![0, 0, 0] S1x1x1024.size inb_S1x1x1024_S1x1x1024_0_0_0))
    (View.ld (arg8.view.read (Elt F) f7) (Rect.unit (s := S1x1x1024) ![0, 0, 0] S1x1x1024.size inb_S1x1x1024_S1x1x1024_0_0_0)) from rfl).trans ?_
  exact congr (congr (congr (congr (congr (congr (congr (congrArg caBlock (View.ld_unit_zero zero3 _ _)) (View.ld_unit_zero zero3 _ _)) (View.ld_unit_zero zero3 _ _)) (View.ld_unit_zero zero3 _ _)) (View.ld_unit_zero zero3 _ _)) (View.ld_unit_zero zero3 _ _)) (View.ld_unit_zero zero3 _ _)) (View.ld_unit_zero zero3 _ _)

section

variable (d : CAD) (b : Λ₀.Label) (args : Fin grid0.N → ((w : Fin 9) → Fin (d.win w).nbuf) → Λ₀.Args b)
variable (V : (c : Dev nD) → (b : Ref sig .tc) → Buf (Elt F) ((c : Thread nD τ).loc b))

/-- What the pipeline of the call keeps at each point: every input at its block, the output at the computed block. -/
def CAD.dat (c : Dev nD) : Dat τ (Elt F) Unit ℕ (UR sig nD τ) ℕ (d.cfg b args) c where
  A w := V c (Pipeline.arrRef (d.cfg b args).spec w)
  after w t := match w with
    | ⟨0, _⟩ => d.w0.blkAt V c t
    | ⟨1, _⟩ => d.w1.blkAt V c t
    | ⟨2, _⟩ => d.w2.blkAt V c t
    | ⟨3, _⟩ => d.w3.blkAt V c t
    | ⟨4, _⟩ => d.w4.blkAt V c t
    | ⟨5, _⟩ => d.w5.blkAt V c t
    | ⟨6, _⟩ => d.w6.blkAt V c t
    | ⟨7, _⟩ => d.w7.blkAt V c t
    | ⟨8, _⟩ => caBlock (d.w0.blkAt V c t) (d.w1.blkAt V c t) (d.w2.blkAt V c t) (d.w3.blkAt V c t) (d.w4.blkAt V c t) (d.w5.blkAt V c t) (d.w6.blkAt V c t) (d.w7.blkAt V c t)
  Φ _ := Pipeline.ΦA (d.cfg b args).spec c
  q _ := fullShare
  owed _ := 0

theorem CAD.dat_A (c : Dev nD) (w : Fin 9) : (d.dat b args V c).A w = V c (Pipeline.arrRef (d.cfg b args).spec w) := by
  dsimp only [CAD.dat]
theorem CAD.after0 (c : Dev nD) (t : Fin grid0.N) : (d.dat b args V c).after (0 : Fin 9) t = d.w0.blkAt V c t := by dsimp only [CAD.dat]
theorem CAD.after1 (c : Dev nD) (t : Fin grid0.N) : (d.dat b args V c).after (1 : Fin 9) t = d.w1.blkAt V c t := by dsimp only [CAD.dat]
theorem CAD.after2 (c : Dev nD) (t : Fin grid0.N) : (d.dat b args V c).after (2 : Fin 9) t = d.w2.blkAt V c t := by dsimp only [CAD.dat]
theorem CAD.after3 (c : Dev nD) (t : Fin grid0.N) : (d.dat b args V c).after (3 : Fin 9) t = d.w3.blkAt V c t := by dsimp only [CAD.dat]
theorem CAD.after4 (c : Dev nD) (t : Fin grid0.N) : (d.dat b args V c).after (4 : Fin 9) t = d.w4.blkAt V c t := by dsimp only [CAD.dat]
theorem CAD.after5 (c : Dev nD) (t : Fin grid0.N) : (d.dat b args V c).after (5 : Fin 9) t = d.w5.blkAt V c t := by dsimp only [CAD.dat]
theorem CAD.after6 (c : Dev nD) (t : Fin grid0.N) : (d.dat b args V c).after (6 : Fin 9) t = d.w6.blkAt V c t := by dsimp only [CAD.dat]
theorem CAD.after7 (c : Dev nD) (t : Fin grid0.N) : (d.dat b args V c).after (7 : Fin 9) t = d.w7.blkAt V c t := by dsimp only [CAD.dat]
theorem CAD.after8 (c : Dev nD) (t : Fin grid0.N) :
    (d.dat b args V c).after (8 : Fin 9) t = caBlock (d.w0.blkAt V c t) (d.w1.blkAt V c t) (d.w2.blkAt V c t) (d.w3.blkAt V c t) (d.w4.blkAt V c t) (d.w5.blkAt V c t) (d.w6.blkAt V c t) (d.w7.blkAt V c t) := by dsimp only [CAD.dat]

theorem CAD.before0 (c : Dev nD) (t : Fin grid0.N) (x) : (d.dat b args V c).before (0 : Fin 9) t x = d.w0.blkAt V c t :=
  ((d.dat b args V c).before_in_eq_fetched (0 : Fin 9) rfl (fun _ => rfl) (fun _ _ _ => rfl)
    (fun t => by rw [CAD.after0]; unfold Dat.blockOf WD.blkAt; rw [CAD.dat_A]; try rfl) t x).trans
    (by unfold Dat.fetched Dat.blockOf WD.blkAt; rw [CAD.dat_A]; try rfl)
theorem CAD.before1 (c : Dev nD) (t : Fin grid0.N) (x) : (d.dat b args V c).before (1 : Fin 9) t x = d.w1.blkAt V c t :=
  ((d.dat b args V c).before_in_eq_fetched (1 : Fin 9) rfl (fun _ => rfl) (fun _ _ _ => rfl)
    (fun t => by rw [CAD.after1]; unfold Dat.blockOf WD.blkAt; rw [CAD.dat_A]; try rfl) t x).trans
    (by unfold Dat.fetched Dat.blockOf WD.blkAt; rw [CAD.dat_A]; try rfl)
theorem CAD.before2 (c : Dev nD) (t : Fin grid0.N) (x) : (d.dat b args V c).before (2 : Fin 9) t x = d.w2.blkAt V c t :=
  ((d.dat b args V c).before_in_eq_fetched (2 : Fin 9) rfl (fun _ => rfl) (fun _ _ _ => rfl)
    (fun t => by rw [CAD.after2]; unfold Dat.blockOf WD.blkAt; rw [CAD.dat_A]; try rfl) t x).trans
    (by unfold Dat.fetched Dat.blockOf WD.blkAt; rw [CAD.dat_A]; try rfl)
theorem CAD.before3 (c : Dev nD) (t : Fin grid0.N) (x) : (d.dat b args V c).before (3 : Fin 9) t x = d.w3.blkAt V c t :=
  ((d.dat b args V c).before_in_eq_fetched (3 : Fin 9) rfl (fun _ => rfl) (fun _ _ _ => rfl)
    (fun t => by rw [CAD.after3]; unfold Dat.blockOf WD.blkAt; rw [CAD.dat_A]; try rfl) t x).trans
    (by unfold Dat.fetched Dat.blockOf WD.blkAt; rw [CAD.dat_A]; try rfl)
theorem CAD.before4 (c : Dev nD) (t : Fin grid0.N) (x) : (d.dat b args V c).before (4 : Fin 9) t x = d.w4.blkAt V c t :=
  ((d.dat b args V c).before_in_eq_fetched (4 : Fin 9) rfl (fun _ => rfl) (fun _ _ _ => rfl)
    (fun t => by rw [CAD.after4]; unfold Dat.blockOf WD.blkAt; rw [CAD.dat_A]; try rfl) t x).trans
    (by unfold Dat.fetched Dat.blockOf WD.blkAt; rw [CAD.dat_A]; try rfl)
theorem CAD.before5 (c : Dev nD) (t : Fin grid0.N) (x) : (d.dat b args V c).before (5 : Fin 9) t x = d.w5.blkAt V c t :=
  ((d.dat b args V c).before_in_eq_fetched (5 : Fin 9) rfl (fun _ => rfl) (fun _ _ _ => rfl)
    (fun t => by rw [CAD.after5]; unfold Dat.blockOf WD.blkAt; rw [CAD.dat_A]; try rfl) t x).trans
    (by unfold Dat.fetched Dat.blockOf WD.blkAt; rw [CAD.dat_A]; try rfl)
theorem CAD.before6 (c : Dev nD) (t : Fin grid0.N) (x) : (d.dat b args V c).before (6 : Fin 9) t x = d.w6.blkAt V c t :=
  ((d.dat b args V c).before_in_eq_fetched (6 : Fin 9) rfl (fun _ => rfl) (fun _ _ _ => rfl)
    (fun t => by rw [CAD.after6]; unfold Dat.blockOf WD.blkAt; rw [CAD.dat_A]; try rfl) t x).trans
    (by unfold Dat.fetched Dat.blockOf WD.blkAt; rw [CAD.dat_A]; try rfl)
theorem CAD.before7 (c : Dev nD) (t : Fin grid0.N) (x) : (d.dat b args V c).before (7 : Fin 9) t x = d.w7.blkAt V c t :=
  ((d.dat b args V c).before_in_eq_fetched (7 : Fin 9) rfl (fun _ => rfl) (fun _ _ _ => rfl)
    (fun t => by rw [CAD.after7]; unfold Dat.blockOf WD.blkAt; rw [CAD.dat_A]; try rfl) t x).trans
    (by unfold Dat.fetched Dat.blockOf WD.blkAt; rw [CAD.dat_A]; try rfl)

/-- The call's body at point `t`. -/
abbrev CAD.bodyAt (t : Fin grid0.N) : Prog (TpuEff nD τ sig (Elt F) Λ₀ .tc) PUnit :=
  cc0__ca_body (grid0.coords t)
    (d.w0.stage ((d.cfg b args).slots t 0)) (d.w0.hstage _)
    (d.w1.stage ((d.cfg b args).slots t 1)) (d.w1.hstage _)
    (d.w2.stage ((d.cfg b args).slots t 2)) (d.w2.hstage _)
    (d.w3.stage ((d.cfg b args).slots t 3)) (d.w3.hstage _)
    (d.w4.stage ((d.cfg b args).slots t 4)) (d.w4.hstage _)
    (d.w5.stage ((d.cfg b args).slots t 5)) (d.w5.hstage _)
    (d.w6.stage ((d.cfg b args).slots t 6)) (d.w6.hstage _)
    (d.w7.stage ((d.cfg b args).slots t 7)) (d.w7.hstage _)
    (d.w8.stage ((d.cfg b args).slots t 8)) (d.w8.hstage _)

/-- The pipeline's obligation at every point. -/
theorem CAD.obligation (hrow : ∀ t, defs₀ (F := F) .tc b (args t ((d.cfg b args).slots t)) = CAD.bodyAt d b args t) (c : Dev nD) :
    BodyObligation (d.dat (F := F) b args V c) (defs₀ (F := F)) Variants.none () Set.univ := fun t => by
  rw [bigSep_W0, bigSep_W0, hrow]
  rw [show (d.dat b args V c).Φ t.succ = (d.dat b args V c).Φ t.castSucc from rfl,
    show (d.dat b args V c).owesAt () t.succ = (d.dat b args V c).owesAt () t.castSucc from rfl]
  simp only [CAD.before0, CAD.before1, CAD.before2, CAD.before3, CAD.before4, CAD.before5, CAD.before6, CAD.before7, CAD.after0, CAD.after1, CAD.after2, CAD.after3, CAD.after4, CAD.after5, CAD.after6, CAD.after7, CAD.after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (ca_triple c Set.univ (grid0.coords t) _ _ _ _ _ _ _ _ _ _ _ _ _ _ _ _ _ _ (d.w0.blkAt V c t) (d.w1.blkAt V c t) (d.w2.blkAt V c t) (d.w3.blkAt V c t) (d.w4.blkAt V c t) (d.w5.blkAt V c t) (d.w6.blkAt V c t) (d.w7.blkAt V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end

end Cert.KernelIdeal.Gen

end

end
-- ==== Proof.Sa.lean ====
module

public import proofs.«01_k».proof.Proof.Ca
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

set_option maxHeartbeats 1000000 in
/-- One point of the self attention: the inputs stay, the output block becomes `saBlock`. -/
theorem sa_triple (c : Dev nD) (E : Set ℕ) (i : grid1.Coords)
    (arg1 : Memref sig .tc .vmem S1x64x1024 .f32) (harg1 : arg1.IsWhole)
    (arg2 : Memref sig .tc .vmem S1x3072x1024 .bf16) (harg2 : arg2.IsWhole)
    (arg3 : Memref sig .tc .vmem S1x1x3072 .f32) (harg3 : arg3.IsWhole)
    (arg4 : Memref sig .tc .vmem S1x1024x1024 .bf16) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x64x1024 .f32) (harg8 : arg8.IsWhole)
    (x0 : Vec F S1x64x1024 .f32) (x1 : Vec F S1x3072x1024 .bf16) (x2 : Vec F S1x1x3072 .f32) (x3 : Vec F S1x1024x1024 .bf16) (x4 : Vec F S1x1x1024 .f32) (x5 : Vec F S1x1x1024 .f32) (x6 : Vec F S1x1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (saBlock x0 x1 x2 x3 x4 x5 x6)) -∗ K ⟨⟩))
      ⊢ wp frame (wpE (defs₀ (F := F)) Variants.none c none) E (cc1__sa_body i arg1 harg1 arg2 harg2 arg3 harg3 arg4 harg4 arg5 harg5 arg6 harg6 arg7 harg7 arg8 harg8) K := by
  simp only [cc1__sa_body_eq_skeleton]; unfold cc1__sa_body_skel
  simp only [k1_part1_eq_skeleton, k1_part2_eq_skeleton, k1_part3_eq_skeleton, k1_part4_eq_skeleton, k1_part5_eq_skeleton, k1_part6_eq_skeleton, k1_part7_eq_skeleton, k1_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover_rA _)).trans ((View.canon_unit_zero zero3 _ _).trans ?_)
  refine (show _ = saBlock (View.ld (arg1.view.read (Elt F) f0) (Rect.unit (s := S1x64x1024) ![0, 0, 0] S1x64x1024.size inb_S1x64x1024_S1x64x1024_0_0_0))
    (View.ld (arg2.view.read (Elt F) f1) (Rect.unit (s := S1x3072x1024) ![0, 0, 0] S1x3072x1024.size inb_S1x3072x1024_S1x3072x1024_0_0_0))
    (View.ld (arg3.view.read (Elt F) f2) (Rect.unit (s := S1x1x3072) ![0, 0, 0] S1x1x3072.size inb_S1x1x3072_S1x1x3072_0_0_0))
    (View.ld (arg4.view.read (Elt F) f3) (Rect.unit (s := S1x1024x1024) ![0, 0, 0] S1x1024x1024.size inb_S1x1024x1024_S1x1024x1024_0_0_0))
    (View.ld (arg5.view.read (Elt F) f4) (Rect.unit (s := S1x1x1024) ![0, 0, 0] S1x1x1024.size inb_S1x1x1024_S1x1x1024_0_0_0))
    (View.ld (arg6.view.read (Elt F) f5) (Rect.unit (s := S1x1x1024) ![0, 0, 0] S1x1x1024.size inb_S1x1x1024_S1x1x1024_0_0_0))
    (View.ld (arg7.view.read (Elt F) f6) (Rect.unit (s := S1x1x1024) ![0, 0, 0] S1x1x1024.size inb_S1x1x1024_S1x1x1024_0_0_0)) from rfl).trans ?_
  exact congr (congr (congr (congr (congr (congr (congrArg saBlock (View.ld_unit_zero zero3 _ _)) (View.ld_unit_zero zero3 _ _)) (View.ld_unit_zero zero3 _ _)) (View.ld_unit_zero zero3 _ _)) (View.ld_unit_zero zero3 _ _)) (View.ld_unit_zero zero3 _ _)) (View.ld_unit_zero zero3 _ _)

section

variable (d : SAD) (b : Λ₀.Label) (args : Fin grid1.N → ((w : Fin 8) → Fin (d.win w).nbuf) → Λ₀.Args b)
variable (V : (c : Dev nD) → (b : Ref sig .tc) → Buf (Elt F) ((c : Thread nD τ).loc b))

/-- What the pipeline of the call keeps at each point: every input at its block, the output at the computed block. -/
def SAD.dat (c : Dev nD) : Dat τ (Elt F) Unit ℕ (UR sig nD τ) ℕ (d.cfg b args) c where
  A w := V c (Pipeline.arrRef (d.cfg b args).spec w)
  after w t := match w with
    | ⟨0, _⟩ => d.w0.blkAt V c t
    | ⟨1, _⟩ => d.w1.blkAt V c t
    | ⟨2, _⟩ => d.w2.blkAt V c t
    | ⟨3, _⟩ => d.w3.blkAt V c t
    | ⟨4, _⟩ => d.w4.blkAt V c t
    | ⟨5, _⟩ => d.w5.blkAt V c t
    | ⟨6, _⟩ => d.w6.blkAt V c t
    | ⟨7, _⟩ => saBlock (d.w0.blkAt V c t) (d.w1.blkAt V c t) (d.w2.blkAt V c t) (d.w3.blkAt V c t) (d.w4.blkAt V c t) (d.w5.blkAt V c t) (d.w6.blkAt V c t)
  Φ _ := Pipeline.ΦA (d.cfg b args).spec c
  q _ := fullShare
  owed _ := 0

theorem SAD.dat_A (c : Dev nD) (w : Fin 8) : (d.dat b args V c).A w = V c (Pipeline.arrRef (d.cfg b args).spec w) := by
  dsimp only [SAD.dat]
theorem SAD.after0 (c : Dev nD) (t : Fin grid1.N) : (d.dat b args V c).after (0 : Fin 8) t = d.w0.blkAt V c t := by dsimp only [SAD.dat]
theorem SAD.after1 (c : Dev nD) (t : Fin grid1.N) : (d.dat b args V c).after (1 : Fin 8) t = d.w1.blkAt V c t := by dsimp only [SAD.dat]
theorem SAD.after2 (c : Dev nD) (t : Fin grid1.N) : (d.dat b args V c).after (2 : Fin 8) t = d.w2.blkAt V c t := by dsimp only [SAD.dat]
theorem SAD.after3 (c : Dev nD) (t : Fin grid1.N) : (d.dat b args V c).after (3 : Fin 8) t = d.w3.blkAt V c t := by dsimp only [SAD.dat]
theorem SAD.after4 (c : Dev nD) (t : Fin grid1.N) : (d.dat b args V c).after (4 : Fin 8) t = d.w4.blkAt V c t := by dsimp only [SAD.dat]
theorem SAD.after5 (c : Dev nD) (t : Fin grid1.N) : (d.dat b args V c).after (5 : Fin 8) t = d.w5.blkAt V c t := by dsimp only [SAD.dat]
theorem SAD.after6 (c : Dev nD) (t : Fin grid1.N) : (d.dat b args V c).after (6 : Fin 8) t = d.w6.blkAt V c t := by dsimp only [SAD.dat]
theorem SAD.after7 (c : Dev nD) (t : Fin grid1.N) :
    (d.dat b args V c).after (7 : Fin 8) t = saBlock (d.w0.blkAt V c t) (d.w1.blkAt V c t) (d.w2.blkAt V c t) (d.w3.blkAt V c t) (d.w4.blkAt V c t) (d.w5.blkAt V c t) (d.w6.blkAt V c t) := by dsimp only [SAD.dat]

theorem SAD.before0 (c : Dev nD) (t : Fin grid1.N) (x) : (d.dat b args V c).before (0 : Fin 8) t x = d.w0.blkAt V c t :=
  ((d.dat b args V c).before_in_eq_fetched (0 : Fin 8) rfl (fun _ => rfl) (fun _ _ _ => rfl)
    (fun t => by rw [SAD.after0]; unfold Dat.blockOf WD.blkAt; rw [SAD.dat_A]; try rfl) t x).trans
    (by unfold Dat.fetched Dat.blockOf WD.blkAt; rw [SAD.dat_A]; try rfl)
theorem SAD.before1 (c : Dev nD) (t : Fin grid1.N) (x) : (d.dat b args V c).before (1 : Fin 8) t x = d.w1.blkAt V c t :=
  ((d.dat b args V c).before_in_eq_fetched (1 : Fin 8) rfl (fun _ => rfl) (fun _ _ _ => rfl)
    (fun t => by rw [SAD.after1]; unfold Dat.blockOf WD.blkAt; rw [SAD.dat_A]; try rfl) t x).trans
    (by unfold Dat.fetched Dat.blockOf WD.blkAt; rw [SAD.dat_A]; try rfl)
theorem SAD.before2 (c : Dev nD) (t : Fin grid1.N) (x) : (d.dat b args V c).before (2 : Fin 8) t x = d.w2.blkAt V c t :=
  ((d.dat b args V c).before_in_eq_fetched (2 : Fin 8) rfl (fun _ => rfl) (fun _ _ _ => rfl)
    (fun t => by rw [SAD.after2]; unfold Dat.blockOf WD.blkAt; rw [SAD.dat_A]; try rfl) t x).trans
    (by unfold Dat.fetched Dat.blockOf WD.blkAt; rw [SAD.dat_A]; try rfl)
theorem SAD.before3 (c : Dev nD) (t : Fin grid1.N) (x) : (d.dat b args V c).before (3 : Fin 8) t x = d.w3.blkAt V c t :=
  ((d.dat b args V c).before_in_eq_fetched (3 : Fin 8) rfl (fun _ => rfl) (fun _ _ _ => rfl)
    (fun t => by rw [SAD.after3]; unfold Dat.blockOf WD.blkAt; rw [SAD.dat_A]; try rfl) t x).trans
    (by unfold Dat.fetched Dat.blockOf WD.blkAt; rw [SAD.dat_A]; try rfl)
theorem SAD.before4 (c : Dev nD) (t : Fin grid1.N) (x) : (d.dat b args V c).before (4 : Fin 8) t x = d.w4.blkAt V c t :=
  ((d.dat b args V c).before_in_eq_fetched (4 : Fin 8) rfl (fun _ => rfl) (fun _ _ _ => rfl)
    (fun t => by rw [SAD.after4]; unfold Dat.blockOf WD.blkAt; rw [SAD.dat_A]; try rfl) t x).trans
    (by unfold Dat.fetched Dat.blockOf WD.blkAt; rw [SAD.dat_A]; try rfl)
theorem SAD.before5 (c : Dev nD) (t : Fin grid1.N) (x) : (d.dat b args V c).before (5 : Fin 8) t x = d.w5.blkAt V c t :=
  ((d.dat b args V c).before_in_eq_fetched (5 : Fin 8) rfl (fun _ => rfl) (fun _ _ _ => rfl)
    (fun t => by rw [SAD.after5]; unfold Dat.blockOf WD.blkAt; rw [SAD.dat_A]; try rfl) t x).trans
    (by unfold Dat.fetched Dat.blockOf WD.blkAt; rw [SAD.dat_A]; try rfl)
theorem SAD.before6 (c : Dev nD) (t : Fin grid1.N) (x) : (d.dat b args V c).before (6 : Fin 8) t x = d.w6.blkAt V c t :=
  ((d.dat b args V c).before_in_eq_fetched (6 : Fin 8) rfl (fun _ => rfl) (fun _ _ _ => rfl)
    (fun t => by rw [SAD.after6]; unfold Dat.blockOf WD.blkAt; rw [SAD.dat_A]; try rfl) t x).trans
    (by unfold Dat.fetched Dat.blockOf WD.blkAt; rw [SAD.dat_A]; try rfl)

/-- The call's body at point `t`. -/
abbrev SAD.bodyAt (t : Fin grid1.N) : Prog (TpuEff nD τ sig (Elt F) Λ₀ .tc) PUnit :=
  cc1__sa_body (grid1.coords t)
    (d.w0.stage ((d.cfg b args).slots t 0)) (d.w0.hstage _)
    (d.w1.stage ((d.cfg b args).slots t 1)) (d.w1.hstage _)
    (d.w2.stage ((d.cfg b args).slots t 2)) (d.w2.hstage _)
    (d.w3.stage ((d.cfg b args).slots t 3)) (d.w3.hstage _)
    (d.w4.stage ((d.cfg b args).slots t 4)) (d.w4.hstage _)
    (d.w5.stage ((d.cfg b args).slots t 5)) (d.w5.hstage _)
    (d.w6.stage ((d.cfg b args).slots t 6)) (d.w6.hstage _)
    (d.w7.stage ((d.cfg b args).slots t 7)) (d.w7.hstage _)

/-- The pipeline's obligation at every point. -/
theorem SAD.obligation (hrow : ∀ t, defs₀ (F := F) .tc b (args t ((d.cfg b args).slots t)) = SAD.bodyAt d b args t) (c : Dev nD) :
    BodyObligation (d.dat (F := F) b args V c) (defs₀ (F := F)) Variants.none () Set.univ := fun t => by
  rw [bigSep_W1, bigSep_W1, hrow]
  rw [show (d.dat b args V c).Φ t.succ = (d.dat b args V c).Φ t.castSucc from rfl,
    show (d.dat b args V c).owesAt () t.succ = (d.dat b args V c).owesAt () t.castSucc from rfl]
  simp only [SAD.before0, SAD.before1, SAD.before2, SAD.before3, SAD.before4, SAD.before5, SAD.before6, SAD.after0, SAD.after1, SAD.after2, SAD.after3, SAD.after4, SAD.after5, SAD.after6, SAD.after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sa_triple c Set.univ (grid1.coords t) _ _ _ _ _ _ _ _ _ _ _ _ _ _ _ _ (d.w0.blkAt V c t) (d.w1.blkAt V c t) (d.w2.blkAt V c t) (d.w3.blkAt V c t) (d.w4.blkAt V c t) (d.w5.blkAt V c t) (d.w6.blkAt V c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end

end Cert.KernelIdeal.Gen

end

end
-- ==== Proof.Ml.lean ====
module

public import proofs.«01_k».proof.Proof.Ca
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

abbrev rM : Rect S512x1024 := Rect.unit (s := S512x1024) ![0, 0] S512x1024.size inb_S512x1024_S512x1024_0_0

theorem cover_rM {e : EltTy} (p0 : Vec F S512x1024 e) (L : List (View.Piece (Elt F) S512x1024 e)) (y : S512x1024.Idx) :
    ∃ pc ∈ ((⟨rM, p0⟩ : View.Piece (Elt F) S512x1024 e) :: L), y ∈ pc.1.set := by
  obtain ⟨pc, hm, hy⟩ := View.cover_of_tiled [(⟨rM, p0⟩ : View.Piece (Elt F) S512x1024 e)] S512x1024.size (by rfl) y
  rw [List.mem_singleton] at hm; subst hm
  exact ⟨_, List.mem_cons_self, hy⟩

theorem pay1_congr {a a' : Vec F S512x1024 .bf16} {b b' : Vec F S1x1024x1024 .bf16} {d d' : Vec F S1x1x1024 .f32}
    {o o' : Vec F S512x1024 .f32} {w w' : Vec F S1x1024x1024 .bf16} (ha : a = a') (hb : b = b') (hd : d = d') (ho : o = o')
    (hw : w = w') : k2_pay1 a b d o w = k2_pay1 a' b' d' o' w' := by subst ha hb hd ho hw; rfl

theorem pay2_congr {a a' : Vec F S512x1024 .f32} {b b' d d' : Vec F S1x1x1024 .f32} (ha : a = a') (hb : b = b') (hd : d = d') :
    k2_pay2 a b d = k2_pay2 a' b' d' := by subst ha hb hd; rfl

theorem pay3_congr {a a' : Vec F S512x1024 .f32} {b b' : Vec F S1x1x1024 .f32} (ha : a = a') (hb : b = b') :
    k2_pay3 a b = k2_pay3 a' b' := by subst ha hb; rfl

theorem zero2 : (![0, 0] : Fin 2 → ℕ) = fun _ => 0 := by decide

/-- The body's branch: it is taken at the first of the four points of a row block. -/
abbrev mlFirst (i : grid2.Coords) : Prop := (Scalar.cmpi .ne (Scalar.extui (Scalar.cmpi .eq (BitVec.ofNat 32 (i 1).val) 0#32)) 0#32) = 1#1

theorem mlFirst_iff : ∀ t : Fin grid2.N, mlFirst (grid2.coords t) ↔ t.val % 4 = 0 := by decide +kernel

set_option maxHeartbeats 1000000 in
/-- A first point: the scratch becomes the normalised rows, the output block its starting value and the first chunk. -/
theorem ml_first (c : Dev nD) (E : Set ℕ) (i : grid2.Coords) (hc0 : mlFirst i)
    (arg2 : Memref sig .tc .vmem S512x1024 .f32) (harg2 : arg2.IsWhole)
    (arg3 : Memref sig .tc .vmem S1x1024x1024 .bf16) (harg3 : arg3.IsWhole)
    (arg4 : Memref sig .tc .vmem S1x1x1024 .f32) (harg4 : arg4.IsWhole)
    (arg5 : Memref sig .tc .vmem S1x1024x1024 .bf16) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S512x1024 .f32) (harg9 : arg9.IsWhole)
    (arg10 : Memref sig .tc .vmem S512x1024 .bf16) (harg10 : arg10.IsWhole)
    (x0 : Vec F S512x1024 .f32) (x1 : Vec F S1x1024x1024 .bf16) (x2 : Vec F S1x1x1024 .f32) (x3 : Vec F S1x1024x1024 .bf16) (x4 : Vec F S1x1x1024 .f32) (x5 : Vec F S1x1x1024 .f32) (x6 : Vec F S1x1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k2_pay1 (k2_pay2 x0 x5 x6) x1 x2 (k2_pay3 x0 x4) x3) ∗ owns (c : Thread nD τ) arg10 fullShare (k2_pay2 x0 x5 x6)) -∗ K ⟨⟩))
      ⊢ wp frame (wpE (defs₀ (F := F)) Variants.none c none) E (cc2__mlp_body i arg2 harg2 arg3 harg3 arg4 harg4 arg5 harg5 arg6 harg6 arg7 harg7 arg8 harg8 arg9 harg9 arg10 harg10) K := by
  simp only [cc2__mlp_body_eq_skeleton]; unfold cc2__mlp_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_rM _ _)).trans ((View.canon_cons_unit_zero zero2 _ _ _).trans ?_)
    exact pay1_congr ((View.readCov_unit_zero _ zero2 _ _).trans (pay2_congr (View.ld_unit_zero zero2 _ _) (View.ld_unit_zero zero3 _ _) (View.ld_unit_zero zero3 _ _)))
      (View.ld_unit_zero zero3 _ _) (View.ld_unit_zero zero3 _ _)
      ((View.readCov_unit_zero _ zero2 _ _).trans (pay3_congr (View.ld_unit_zero zero2 _ _) (View.ld_unit_zero zero3 _ _))) (View.ld_unit_zero zero3 _ _)
  iexists _; isplitr
  swap; · iexact H8
  ipureintro
  refine (View.read_writes_eq_canon _ _ _ (cover_rM _ _)).trans ((View.canon_cons_unit_zero zero2 _ _ _).trans ?_)
  exact pay2_congr (View.ld_unit_zero zero2 _ _) (View.ld_unit_zero zero3 _ _) (View.ld_unit_zero zero3 _ _)

set_option maxHeartbeats 1000000 in
/-- A later point: one more chunk onto the output block; the scratch stays. -/
theorem ml_next (c : Dev nD) (E : Set ℕ) (i : grid2.Coords) (hc0 : ¬ mlFirst i)
    (arg2 : Memref sig .tc .vmem S512x1024 .f32) (harg2 : arg2.IsWhole)
    (arg3 : Memref sig .tc .vmem S1x1024x1024 .bf16) (harg3 : arg3.IsWhole)
    (arg4 : Memref sig .tc .vmem S1x1x1024 .f32) (harg4 : arg4.IsWhole)
    (arg5 : Memref sig .tc .vmem S1x1024x1024 .bf16) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S512x1024 .f32) (harg9 : arg9.IsWhole)
    (arg10 : Memref sig .tc .vmem S512x1024 .bf16) (harg10 : arg10.IsWhole)
    (x0 : Vec F S512x1024 .f32) (x1 : Vec F S1x1024x1024 .bf16) (x2 : Vec F S1x1x1024 .f32) (x3 : Vec F S1x1024x1024 .bf16) (x4 : Vec F S1x1x1024 .f32) (x5 : Vec F S1x1x1024 .f32) (x6 : Vec F S1x1x1024 .f32) (x7 : Vec F S512x1024 .f32) (x8 : Vec F S512x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k2_pay1 x8 x1 x2 x7 x3) ∗ owns (c : Thread nD τ) arg10 fullShare (x8)) -∗ K ⟨⟩))
      ⊢ wp frame (wpE (defs₀ (F := F)) Variants.none c none) E (cc2__mlp_body i arg2 harg2 arg3 harg3 arg4 harg4 arg5 harg5 arg6 harg6 arg7 harg7 arg8 harg8 arg9 harg9 arg10 harg10) K := by
  simp only [cc2__mlp_body_eq_skeleton]; unfold cc2__mlp_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_rM _ _)).trans ((View.canon_cons_unit_zero zero2 _ _ _).trans ?_)
    exact pay1_congr (View.ld_unit_zero zero2 _ _) (View.ld_unit_zero zero3 _ _) (View.ld_unit_zero zero3 _ _) (View.ld_unit_zero zero2 _ _) (View.ld_unit_zero zero3 _ _)
  iexists _; isplitr
  swap; · iexact H8
  ipureintro
  rfl

section

variable (d : MLD) (V : (c : Dev nD) → (b : Ref sig .tc) → Buf (Elt F) ((c : Thread nD τ).loc b))

/-- The point of number `n`. -/
abbrev mlPt (n : ℕ) : Fin grid2.N := ⟨n % grid2.N, Nat.mod_lt _ (by decide)⟩

/-- The normalised rows of the block at a point. -/
def MLD.ln (c : Dev nD) (t : Fin grid2.N) : Vec F S512x1024 .bf16 := k2_pay2 (d.w0.blkAt V c t) (d.w5.blkAt V c t) (d.w6.blkAt V c t)

/-- One chunk added at a point. -/
def MLD.step (c : Dev nD) (t : Fin grid2.N) (s : Vec F S512x1024 .bf16) (o : Vec F S512x1024 .f32) : Vec F S512x1024 .f32 :=
  k2_pay1 s (d.w1.blkAt V c t) (d.w2.blkAt V c t) o (d.w3.blkAt V c t)

/-- The output block before the first chunk. -/
def MLD.start (c : Dev nD) (t : Fin grid2.N) : Vec F S512x1024 .f32 := k2_pay3 (d.w0.blkAt V c t) (d.w4.blkAt V c t)

/-- The scratch after point `n`. -/
def MLD.scrAt (c : Dev nD) : ℕ → Vec F S512x1024 .bf16
  | 0 => d.ln V c (mlPt 0)
  | n + 1 => if (n + 1) % 4 = 0 then d.ln V c (mlPt (n + 1)) else MLD.scrAt c n

/-- The output block after point `n`. -/
def MLD.accAt (c : Dev nD) : ℕ → Vec F S512x1024 .f32
  | 0 => d.step V c (mlPt 0) (d.ln V c (mlPt 0)) (d.start V c (mlPt 0))
  | n + 1 => if (n + 1) % 4 = 0 then d.step V c (mlPt (n + 1)) (d.ln V c (mlPt (n + 1))) (d.start V c (mlPt (n + 1)))
      else d.step V c (mlPt (n + 1)) (d.scrAt V c n) (MLD.accAt c n)

theorem mlPt_val (t : Fin grid2.N) : mlPt t.val = t := Fin.ext (Nat.mod_eq_of_lt t.isLt)

theorem MLD.scrAt_first (c : Dev nD) (t : Fin grid2.N) (h : t.val % 4 = 0) : d.scrAt V c t.val = d.ln V c t := by
  conv_rhs => rw [← mlPt_val t]
  cases hn : t.val with
  | zero => rfl
  | succ n => rw [MLD.scrAt, if_pos (hn ▸ h)]

theorem MLD.scrAt_next (c : Dev nD) (t : Fin grid2.N) (h : t.val % 4 ≠ 0) : d.scrAt V c t.val = d.scrAt V c (t.val - 1) := by
  obtain ⟨n, hn⟩ : ∃ n, t.val = n + 1 := Nat.exists_eq_succ_of_ne_zero (fun h0 => h (by rw [h0]))
  rw [hn, MLD.scrAt, if_neg (hn ▸ h)]; rfl

theorem MLD.accAt_first (c : Dev nD) (t : Fin grid2.N) (h : t.val % 4 = 0) :
    d.accAt V c t.val = d.step V c t (d.ln V c t) (d.start V c t) := by
  conv_rhs => rw [← mlPt_val t]
  cases hn : t.val with
  | zero => rfl
  | succ n => rw [MLD.accAt, if_pos (hn ▸ h)]

theorem MLD.accAt_next (c : Dev nD) (t : Fin grid2.N) (h : t.val % 4 ≠ 0) :
    d.accAt V c t.val = d.step V c t (d.scrAt V c (t.val - 1)) (d.accAt V c (t.val - 1)) := by
  obtain ⟨n, hn⟩ : ∃ n, t.val = n + 1 := Nat.exists_eq_succ_of_ne_zero (fun h0 => h (by rw [h0]))
  have ht : mlPt (n + 1) = t := hn ▸ mlPt_val t
  rw [hn, MLD.accAt, if_neg (hn ▸ h), ht]; rfl

/-- The windows' data as the launch reads it. -/
abbrev MLD.spec : Fin 8 → Pipeline.WinSpec sig grid2.rank := fun w => (d.win w).toWinSpec

/-- What the call keeps between its points: its scratch (after a point: at the normalised rows), the generator, the other
    calls' buffers. -/
def MLD.inv (c : Dev nD) (n : ℕ) : sProp 𝕄 :=
  iprop((∃ x, ⌜n ≠ 0 → x = d.scrAt V c (n - 1)⌝ ∗ owns (c : Thread nD τ) d.scr fullShare x)
    ∗ Pipeline.scopedRestBut (Ix := Unit) (Name := ℕ) (U := UR sig nD τ) (Lvl := ℕ) (Val := Elt F) d.spec c [d.scr.view.ref]
    ∗ ∃ r, prngReg c r)

variable (b : Λ₀.Label) (args : Fin grid2.N → ((w : Fin 8) → Fin (d.win w).nbuf) → Λ₀.Args b)

/-- What the pipeline of the call keeps at each point: every input at its block, the output at the partial sum. -/
def MLD.dat (c : Dev nD) : Dat τ (Elt F) Unit ℕ (UR sig nD τ) ℕ (d.cfg b args) c where
  A w := V c (Pipeline.arrRef (d.cfg b args).spec w)
  after w t := match w with
    | ⟨0, _⟩ => d.w0.blkAt V c t
    | ⟨1, _⟩ => d.w1.blkAt V c t
    | ⟨2, _⟩ => d.w2.blkAt V c t
    | ⟨3, _⟩ => d.w3.blkAt V c t
    | ⟨4, _⟩ => d.w4.blkAt V c t
    | ⟨5, _⟩ => d.w5.blkAt V c t
    | ⟨6, _⟩ => d.w6.blkAt V c t
    | ⟨7, _⟩ => d.accAt V c t.val
  Φ k := d.inv V c k.val
  q _ := fullShare
  owed _ := 0

theorem MLD.dat_A (c : Dev nD) (w : Fin 8) : (d.dat V b args c).A w = V c (Pipeline.arrRef (d.cfg b args).spec w) := by
  dsimp only [MLD.dat]
theorem MLD.after0 (c : Dev nD) (t : Fin grid2.N) : (d.dat V b args c).after (0 : Fin 8) t = d.w0.blkAt V c t := by dsimp only [MLD.dat]
theorem MLD.after1 (c : Dev nD) (t : Fin grid2.N) : (d.dat V b args c).after (1 : Fin 8) t = d.w1.blkAt V c t := by dsimp only [MLD.dat]
theorem MLD.after2 (c : Dev nD) (t : Fin grid2.N) : (d.dat V b args c).after (2 : Fin 8) t = d.w2.blkAt V c t := by dsimp only [MLD.dat]
theorem MLD.after3 (c : Dev nD) (t : Fin grid2.N) : (d.dat V b args c).after (3 : Fin 8) t = d.w3.blkAt V c t := by dsimp only [MLD.dat]
theorem MLD.after4 (c : Dev nD) (t : Fin grid2.N) : (d.dat V b args c).after (4 : Fin 8) t = d.w4.blkAt V c t := by dsimp only [MLD.dat]
theorem MLD.after5 (c : Dev nD) (t : Fin grid2.N) : (d.dat V b args c).after (5 : Fin 8) t = d.w5.blkAt V c t := by dsimp only [MLD.dat]
theorem MLD.after6 (c : Dev nD) (t : Fin grid2.N) : (d.dat V b args c).after (6 : Fin 8) t = d.w6.blkAt V c t := by dsimp only [MLD.dat]
theorem MLD.after7 (c : Dev nD) (t : Fin grid2.N) : (d.dat V b args c).after (7 : Fin 8) t = d.accAt V c t.val := by
  dsimp only [MLD.dat]

theorem MLD.before0 (c : Dev nD) (t : Fin grid2.N) (x) : (d.dat V b args c).before (0 : Fin 8) t x = d.w0.blkAt V c t :=
  ((d.dat V b args c).before_in_eq_fetched (0 : Fin 8) rfl (fun _ => rfl) (fun _ _ _ => rfl)
    (fun t => by rw [MLD.after0]; unfold Dat.blockOf WD.blkAt; rw [MLD.dat_A]; try rfl) t x).trans
    (by unfold Dat.fetched Dat.blockOf WD.blkAt; rw [MLD.dat_A]; try rfl)
theorem MLD.before1 (c : Dev nD) (t : Fin grid2.N) (x) : (d.dat V b args c).before (1 : Fin 8) t x = d.w1.blkAt V c t :=
  ((d.dat V b args c).before_in_eq_fetched (1 : Fin 8) rfl (fun _ => rfl) (fun _ _ _ => rfl)
    (fun t => by rw [MLD.after1]; unfold Dat.blockOf WD.blkAt; rw [MLD.dat_A]; try rfl) t x).trans
    (by unfold Dat.fetched Dat.blockOf WD.blkAt; rw [MLD.dat_A]; try rfl)
theorem MLD.before2 (c : Dev nD) (t : Fin grid2.N) (x) : (d.dat V b args c).before (2 : Fin 8) t x = d.w2.blkAt V c t :=
  ((d.dat V b args c).before_in_eq_fetched (2 : Fin 8) rfl (fun _ => rfl) (fun _ _ _ => rfl)
    (fun t => by rw [MLD.after2]; unfold Dat.blockOf WD.blkAt; rw [MLD.dat_A]; try rfl) t x).trans
    (by unfold Dat.fetched Dat.blockOf WD.blkAt; rw [MLD.dat_A]; try rfl)
theorem MLD.before3 (c : Dev nD) (t : Fin grid2.N) (x) : (d.dat V b args c).before (3 : Fin 8) t x = d.w3.blkAt V c t :=
  ((d.dat V b args c).before_in_eq_fetched (3 : Fin 8) rfl (fun _ => rfl) (fun _ _ _ => rfl)
    (fun t => by rw [MLD.after3]; unfold Dat.blockOf WD.blkAt; rw [MLD.dat_A]; try rfl) t x).trans
    (by unfold Dat.fetched Dat.blockOf WD.blkAt; rw [MLD.dat_A]; try rfl)
theorem MLD.before4 (c : Dev nD) (t : Fin grid2.N) (x) : (d.dat V b args c).before (4 : Fin 8) t x = d.w4.blkAt V c t :=
  ((d.dat V b args c).before_in_eq_fetched (4 : Fin 8) rfl (fun _ => rfl) (fun _ _ _ => rfl)
    (fun t => by rw [MLD.after4]; unfold Dat.blockOf WD.blkAt; rw [MLD.dat_A]; try rfl) t x).trans
    (by unfold Dat.fetched Dat.blockOf WD.blkAt; rw [MLD.dat_A]; try rfl)
theorem MLD.before5 (c : Dev nD) (t : Fin grid2.N) (x) : (d.dat V b args c).before (5 : Fin 8) t x = d.w5.blkAt V c t :=
  ((d.dat V b args c).before_in_eq_fetched (5 : Fin 8) rfl (fun _ => rfl) (fun _ _ _ => rfl)
    (fun t => by rw [MLD.after5]; unfold Dat.blockOf WD.blkAt; rw [MLD.dat_A]; try rfl) t x).trans
    (by unfold Dat.fetched Dat.blockOf WD.blkAt; rw [MLD.dat_A]; try rfl)
theorem MLD.before6 (c : Dev nD) (t : Fin grid2.N) (x) : (d.dat V b args c).before (6 : Fin 8) t x = d.w6.blkAt V c t :=
  ((d.dat V b args c).before_in_eq_fetched (6 : Fin 8) rfl (fun _ => rfl) (fun _ _ _ => rfl)
    (fun t => by rw [MLD.after6]; unfold Dat.blockOf WD.blkAt; rw [MLD.dat_A]; try rfl) t x).trans
    (by unfold Dat.fetched Dat.blockOf WD.blkAt; rw [MLD.dat_A]; try rfl)

/-- At a later point of a row block the output buffer still holds the partial sum of the point before. -/
theorem MLD.before7 (hfl : ∀ t : Fin grid2.N, t.val % 4 ≠ 3 → (d.w7.win true).flush t = false) (c : Dev nD) (t : Fin grid2.N)
    (h : t.val % 4 ≠ 0) (x) : (d.dat V b args c).before (7 : Fin 8) t x = d.accAt V c (t.val - 1) :=
  ((d.dat V b args c).before_out_kept (7 : Fin 8) rfl t (fun h0 => h (by rw [h0])) (hfl _ (by dsimp only; omega)) (fun _ => rfl) (fun _ _ => rfl) x).trans
    (MLD.after7 ..)

/-- The call's body at point `t`. -/
abbrev MLD.bodyAt (t : Fin grid2.N) : Prog (TpuEff nD τ sig (Elt F) Λ₀ .tc) PUnit :=
  cc2__mlp_body (grid2.coords t)
    (d.w0.stage ((d.cfg b args).slots t 0)) (d.w0.hstage _)
    (d.w1.stage ((d.cfg b args).slots t 1)) (d.w1.hstage _)
    (d.w2.stage ((d.cfg b args).slots t 2)) (d.w2.hstage _)
    (d.w3.stage ((d.cfg b args).slots t 3)) (d.w3.hstage _)
    (d.w4.stage ((d.cfg b args).slots t 4)) (d.w4.hstage _)
    (d.w5.stage ((d.cfg b args).slots t 5)) (d.w5.hstage _)
    (d.w6.stage ((d.cfg b args).slots t 6)) (d.w6.hstage _)
    (d.w7.stage ((d.cfg b args).slots t 7)) (d.w7.hstage _)
    d.scr d.hscr

/-- The pipeline's obligation at every point. -/
theorem MLD.obligation (hrow : ∀ t, defs₀ (F := F) .tc b (args t ((d.cfg b args).slots t)) = MLD.bodyAt d b args t)
    (hfl : ∀ t : Fin grid2.N, t.val % 4 ≠ 3 → (d.w7.win true).flush t = false) (c : Dev nD) :
    BodyObligation (d.dat (F := F) V b args c) (defs₀ (F := F)) Variants.none () Set.univ := fun t => by
  rw [bigSep_W1, bigSep_W1, hrow]
  rw [show (d.dat V b args c).Φ t.succ = d.inv V c (t.val + 1) from rfl, show (d.dat V b args c).Φ t.castSucc = d.inv V c t.val from rfl,
    show (d.dat V b args c).owesAt () t.succ = (d.dat V b args c).owesAt () t.castSucc from rfl]
  simp only [MLD.before0, MLD.before1, MLD.before2, MLD.before3, MLD.before4, MLD.before5, MLD.before6, MLD.after0, MLD.after1, MLD.after2, MLD.after3, MLD.after4, MLD.after5, MLD.after6, MLD.after7]
  unfold MLD.inv
  by_cases h : t.val % 4 = 0
  · rw [MLD.accAt_first d V c t h]
    iintro ⟨⟨⟨%y, -, Hs⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (ml_first c Set.univ (grid2.coords t) ((mlFirst_iff t).2 h) _ _ _ _ _ _ _ _ _ _ _ _ _ _ _ _ _ _ (d.w0.blkAt V c t) (d.w1.blkAt V c t) (d.w2.blkAt V c t) (d.w3.blkAt V c t) (d.w4.blkAt V c t) (d.w5.blkAt V c t) (d.w6.blkAt V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [Hs]; · iexists _; iexact Hs
    iintro ⟨H0, H1, H2, H3, H4, H5, H6, H7, Hs⟩
    isplitl [Hs HR HP]
    · isplitl [Hs]
      · iexists _; isplitr
        swap; · iexact Hs
        ipureintro; intro _; exact (MLD.scrAt_first d V c t h).symm
      isplitl [HR]; · iexact HR
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [MLD.accAt_next d V c t h]
    simp only [MLD.before7 d V b args hfl c t h]
    iintro ⟨⟨⟨%y, %hy, Hs⟩, HR, HP⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hy' := hy (fun h0 => h (by rw [h0]))
    subst hy'
    iapply (ml_next c Set.univ (grid2.coords t) (fun h' => h ((mlFirst_iff t).1 h')) _ _ _ _ _ _ _ _ _ _ _ _ _ _ _ _ _ _ (d.w0.blkAt V c t) (d.w1.blkAt V c t) (d.w2.blkAt V c t) (d.w3.blkAt V c t) (d.w4.blkAt V c t) (d.w5.blkAt V c t) (d.w6.blkAt V c t) (d.accAt V c (t.val - 1)) (d.scrAt V c (t.val - 1)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hs]; · iexact Hs
    iintro ⟨H0, H1, H2, H3, H4, H5, H6, H7, Hs⟩
    isplitl [Hs HR HP]
    · isplitl [Hs]
      · iexists _; isplitr
        swap; · iexact Hs
        ipureintro; intro _; exact (MLD.scrAt_next d V c t h).symm
      isplitl [HR]; · iexact HR
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem owns_of_isWhole (m : Memref sig .tc .vmem S512x1024 .bf16) (h : m.IsWhole) (c : Dev nD) :
    (iprop(∃ x, owns (c : Thread nD τ) m fullShare x) : sProp 𝕄)
      = iprop(∃ f : Buf (Elt F) ((c : Thread nD τ).loc m.view.ref), ((c : Thread nD τ).loc m.view.ref) ↦{fullShare} f) := by
  obtain ⟨b, h1, h2, h3, h4⟩ := h
  generalize hS : S512x1024 = S at *
  generalize hE : EltTy.bf16 = e at *
  generalize hP : Space.vmem = sp at *
  cases h1; cases h2; cases h3; cases h4
  simp only [owns_whole]

theorem MLD.scoped_eq (c : Dev nD) (hs : d.scr.view.ref.isScoped = true)
    (hne : ∀ (w : Fin 8) (s : Fin (d.win w).nbuf), ((d.win w).stage s).view.ref ≠ d.scr.view.ref) :
    (Pipeline.scopedRest (Ix := Unit) (Name := ℕ) (U := UR sig nD τ) (Lvl := ℕ) (Val := Elt F) (d.cfg b args).spec c : sProp 𝕄)
      = iprop((∃ x, owns (c : Thread nD τ) d.scr fullShare x)
        ∗ Pipeline.scopedRestBut (Ix := Unit) (Name := ℕ) (U := UR sig nD τ) (Lvl := ℕ) (Val := Elt F) d.spec c [d.scr.view.ref]) := by
  refine (Pipeline.scopedRest_split_of_list _ c [d.scr.view.ref] ⟨hs, hne⟩ (List.nodup_singleton _)).trans ?_
  rw [owns_of_isWhole d.scr d.hscr c]; rfl

end

end Cert.KernelIdeal.Gen

end

end
-- ==== Proof.Steps.lean ====
module

public import proofs.«01_k».proof.Proof.Calls
public import proofs.«01_k».proof.Proof.Ca
public import proofs.«01_k».proof.Proof.Sa
public import proofs.«01_k».proof.Proof.Ml
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- All the launch needs of one call's pipeline: its data from any entry contents, and that its body meets them. -/
structure Step (F : FTy → Type) [FloatOps F] [Named F] (cfg : Cfg sig Λ₀) where
  dat : ((c : Dev nD) → (b : Ref sig .tc) → Buf (Elt F) ((c : Thread nD τ).loc b)) → (c : Dev nD) → Dat τ (Elt F) Unit ℕ (UR sig nD τ) ℕ cfg c
  hA : ∀ V c w, (dat V c).A w = V c (Pipeline.arrRef cfg.spec w)
  howed : ∀ V c t, (dat V c).owed t = 0
  hq : ∀ V c w, (dat V c).q w = fullShare
  hrec : ∀ V c, (dat V c).recorded 0 = Set.univ
  hin : ∀ V c, iprop(Pipeline.scopedRest (Ix := Unit) (Name := ℕ) (U := UR sig nD τ) (Lvl := ℕ) (Val := Elt F) cfg.spec c ∗ (∃ r, prngReg c r)) ⊢ (dat V c).Φ 0
  hout : ∀ V c, (dat V c).Φ (Fin.last cfg.N) ⊢ iprop(Pipeline.scopedRest (Ix := Unit) (Name := ℕ) (U := UR sig nD τ) (Lvl := ℕ) (Val := Elt F) cfg.spec c ∗ (∃ r, prngReg c r))
  hbody : ∀ V c, BodyObligation (dat V c) (defs₀ (F := F)) Variants.none () Set.univ

/-- A cross attention call's. -/
def CAD.stepOf (d : CAD) (b : Λ₀.Label) (args : Fin grid0.N → ((w : Fin 9) → Fin (d.win w).nbuf) → Λ₀.Args b)
    (hrow : ∀ t, defs₀ (F := F) .tc b (args t ((d.cfg b args).slots t)) = CAD.bodyAt d b args t) : Step F (d.cfg b args) where
  dat := d.dat b args
  hA := CAD.dat_A d b args
  howed _ _ _ := rfl
  hq _ _ _ := rfl
  hrec _ _ := rfl
  hin _ _ := .rfl
  hout _ _ := .rfl
  hbody V := CAD.obligation d b args V hrow

/-- A self attention call's. -/
def SAD.stepOf (d : SAD) (b : Λ₀.Label) (args : Fin grid1.N → ((w : Fin 8) → Fin (d.win w).nbuf) → Λ₀.Args b)
    (hrow : ∀ t, defs₀ (F := F) .tc b (args t ((d.cfg b args).slots t)) = SAD.bodyAt d b args t) : Step F (d.cfg b args) where
  dat := d.dat b args
  hA := SAD.dat_A d b args
  howed _ _ _ := rfl
  hq _ _ _ := rfl
  hrec _ _ := rfl
  hin _ _ := .rfl
  hout _ _ := .rfl
  hbody V := SAD.obligation d b args V hrow

/-- A feed forward call's: its scratch comes out of the scoped buffers and goes back into them. -/
def MLD.stepOf (d : MLD) (b : Λ₀.Label) (args : Fin grid2.N → ((w : Fin 8) → Fin (d.win w).nbuf) → Λ₀.Args b)
    (hrow : ∀ t, defs₀ (F := F) .tc b (args t ((d.cfg b args).slots t)) = MLD.bodyAt d b args t)
    (hfl : ∀ t : Fin grid2.N, t.val % 4 ≠ 3 → (d.w7.win true).flush t = false)
    (hs : d.scr.view.ref.isScoped = true) (hne : ∀ (w : Fin 8) (s : Fin (d.win w).nbuf), ((d.win w).stage s).view.ref ≠ d.scr.view.ref) :
    Step F (d.cfg b args) where
  dat V c := d.dat V b args c
  hA V := MLD.dat_A d V b args
  howed _ _ _ := rfl
  hq _ _ _ := rfl
  hrec _ _ := rfl
  hin V c := by
    rw [MLD.scoped_eq d b args c hs hne, show (d.dat V b args c).Φ 0 = d.inv V c 0 from rfl]
    unfold MLD.inv
    iintro ⟨⟨⟨%x, Hs⟩, HR⟩, HP⟩
    isplitl [Hs]
    · iexists x; isplitr; · ipureintro; exact fun h => absurd rfl h
      iexact Hs
    isplitl [HR]; · iexact HR
    iexact HP
  hout V c := by
    rw [MLD.scoped_eq d b args c hs hne, show (d.dat V b args c).Φ (Fin.last (d.cfg b args).N) = d.inv V c grid2.N from rfl]
    unfold MLD.inv
    iintro ⟨⟨%x, -, Hs⟩, HR, HP⟩
    isplitl [Hs HR]
    · isplitl [Hs]; · iexists x; iexact Hs
      iexact HR
    iexact HP
  hbody V := MLD.obligation d V b args hrow hfl

/-- Call `p`'s. -/
def stepAt : (p : Fin 24) → Step F (Pipeline.pin (pcfgs (F := F)) (fun p => (cfgs p).toPCfg_adm) p)
  | ⟨0, _⟩ => ca0.stepOf 0 (fun t s => (t, s)) (fun _ => rfl)
  | ⟨1, _⟩ => sa0.stepOf 1 (fun t s => (t, s)) (fun _ => rfl)
  | ⟨2, _⟩ => ml0.stepOf 2 (fun t s => (t, s)) (fun _ => rfl) (by decide +kernel) rfl (by decide)
  | ⟨3, _⟩ => ca1.stepOf 3 (fun t s => (t, s)) (fun _ => rfl)
  | ⟨4, _⟩ => sa1.stepOf 4 (fun t s => (t, s)) (fun _ => rfl)
  | ⟨5, _⟩ => ml1.stepOf 5 (fun t s => (t, s)) (fun _ => rfl) (by decide +kernel) rfl (by decide)
  | ⟨6, _⟩ => ca2.stepOf 6 (fun t s => (t, s)) (fun _ => rfl)
  | ⟨7, _⟩ => sa2.stepOf 7 (fun t s => (t, s)) (fun _ => rfl)
  | ⟨8, _⟩ => ml2.stepOf 8 (fun t s => (t, s)) (fun _ => rfl) (by decide +kernel) rfl (by decide)
  | ⟨9, _⟩ => ca3.stepOf 9 (fun t s => (t, s)) (fun _ => rfl)
  | ⟨10, _⟩ => sa3.stepOf 10 (fun t s => (t, s)) (fun _ => rfl)
  | ⟨11, _⟩ => ml3.stepOf 11 (fun t s => (t, s)) (fun _ => rfl) (by decide +kernel) rfl (by decide)
  | ⟨12, _⟩ => ca4.stepOf 12 (fun t s => (t, s)) (fun _ => rfl)
  | ⟨13, _⟩ => sa4.stepOf 13 (fun t s => (t, s)) (fun _ => rfl)
  | ⟨14, _⟩ => ml4.stepOf 14 (fun t s => (t, s)) (fun _ => rfl) (by decide +kernel) rfl (by decide)
  | ⟨15, _⟩ => ca5.stepOf 15 (fun t s => (t, s)) (fun _ => rfl)
  | ⟨16, _⟩ => sa5.stepOf 16 (fun t s => (t, s)) (fun _ => rfl)
  | ⟨17, _⟩ => ml5.stepOf 17 (fun t s => (t, s)) (fun _ => rfl) (by decide +kernel) rfl (by decide)
  | ⟨18, _⟩ => ca6.stepOf 18 (fun t s => (t, s)) (fun _ => rfl)
  | ⟨19, _⟩ => sa6.stepOf 19 (fun t s => (t, s)) (fun _ => rfl)
  | ⟨20, _⟩ => ml6.stepOf 20 (fun t s => (t, s)) (fun _ => rfl) (by decide +kernel) rfl (by decide)
  | ⟨21, _⟩ => ca7.stepOf 21 (fun t s => (t, s)) (fun _ => rfl)
  | ⟨22, _⟩ => sa7.stepOf 22 (fun t s => (t, s)) (fun _ => rfl)
  | ⟨23, _⟩ => ml7.stepOf 23 (fun t s => (t, s)) (fun _ => rfl) (by decide +kernel) rfl (by decide)
  | ⟨_ + 24, h⟩ => absurd h (Nat.not_lt.2 (Nat.le_add_left _ _))

end Cert.KernelIdeal.Gen

end

end
-- ==== Proof.Regs.lean ====
module

public import proofs.«01_k».proof.Proof.Steps
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

abbrev adm : (p : Fin 24) → (pcfgs (F := F) p).Adm := fun p => (cfgs p).toPCfg_adm
/-- Call `p`'s pipeline. -/
abbrev pipe (p : Fin 24) : Cfg sig Λ₀ := Pipeline.pin (pcfgs (F := F)) adm p

/-- The launch facts of every call. -/
theorem launchAt : (p : Fin 24) → Pipeline.LaunchFacts (nD := nD) (τ := τ) cfgs p
  | ⟨0, _⟩ => launch0
  | ⟨1, _⟩ => launch1
  | ⟨2, _⟩ => launch2
  | ⟨3, _⟩ => launch3
  | ⟨4, _⟩ => launch4
  | ⟨5, _⟩ => launch5
  | ⟨6, _⟩ => launch6
  | ⟨7, _⟩ => launch7
  | ⟨8, _⟩ => launch8
  | ⟨9, _⟩ => launch9
  | ⟨10, _⟩ => launch10
  | ⟨11, _⟩ => launch11
  | ⟨12, _⟩ => launch12
  | ⟨13, _⟩ => launch13
  | ⟨14, _⟩ => launch14
  | ⟨15, _⟩ => launch15
  | ⟨16, _⟩ => launch16
  | ⟨17, _⟩ => launch17
  | ⟨18, _⟩ => launch18
  | ⟨19, _⟩ => launch19
  | ⟨20, _⟩ => launch20
  | ⟨21, _⟩ => launch21
  | ⟨22, _⟩ => launch22
  | ⟨23, _⟩ => launch23
  | ⟨_ + 24, h⟩ => absurd h (Nat.not_lt.2 (Nat.le_add_left _ _))

/-- The host operations between call `p` and the next. -/
def opsAfter : ℕ → List (HloOp τ sig (Elt F))
  | 1 => hostOps2
  | 2 => hostOps3
  | 4 => hostOps5
  | 5 => hostOps6
  | 7 => hostOps8
  | 8 => hostOps9
  | 10 => hostOps11
  | 11 => hostOps12
  | 13 => hostOps14
  | 14 => hostOps15
  | 16 => hostOps17
  | 17 => hostOps18
  | 19 => hostOps20
  | 20 => hostOps21
  | 22 => hostOps23
  | 23 => hostOps24
  | _ => []

/-- A valuation read at the TensorCore's references. -/
abbrev atRefs (W : Dev nD → Valuation τ sig (Elt F)) : (c : Dev nD) → (b : Ref sig .tc) → Buf (Elt F) ((c : Thread nD τ).loc b) :=
  fun c b => W c b

/-- The buffers at call `p`'s exit, from those at its entry: its arrays at what the pipeline leaves, the others as they were. -/
def exitOf (p : Fin 24) (W : Dev nD → Valuation τ sig (Elt F)) (c : Dev nD) : Valuation τ sig (Elt F) :=
  Pipeline.withArrays (pipe (F := F) p).spec c (W c) fun w => ((stepAt (F := F) p).dat (atRefs W) c).arrAt w (pipe (F := F) p).N

theorem exitOf_arr (p : Fin 24) (W : Dev nD → Valuation τ sig (Elt F)) (c : Dev nD) (w : Fin (pipe (F := F) p).W) :
    exitOf p W c (Proc.devRef .tc (Pipeline.arrRef (pipe (F := F) p).spec w)) = ((stepAt (F := F) p).dat (atRefs W) c).arrAt w (pipe (F := F) p).N := by
  unfold exitOf; exact Pipeline.withArrays_arr _ (launchAt p).win.arr_inj c _ _ w

theorem exitOf_ne (p : Fin 24) (W : Dev nD → Valuation τ sig (Elt F)) (c : Dev nD) (b : Ref sig .tc)
    (hb : ∀ w, Pipeline.arrRef (pipe (F := F) p).spec w ≠ b) : exitOf p W c (Proc.devRef .tc b) = W c (Proc.devRef .tc b) := by
  unfold exitOf; exact Pipeline.withArrays_of_ne _ c _ _ b hb

/-- A buffer that is no output of the call keeps its contents. -/
theorem exitOf_in (p : Fin 24) (W : Dev nD → Valuation τ sig (Elt F)) (c : Dev nD) (b : Ref sig .tc)
    (hb : ∀ w, Pipeline.arrRef (pipe (F := F) p).spec w = b → ((pipe (F := F) p).win w).isOut = false) :
    exitOf p W c (Proc.devRef .tc b) = W c (Proc.devRef .tc b) := by
  by_cases hw : ∃ w, Pipeline.arrRef (pipe (F := F) p).spec w = b
  · obtain ⟨w, rfl⟩ := hw
    exact (exitOf_arr p W c w).trans ((((stepAt (F := F) p).dat (atRefs W) c).arrAt_in w (hb w rfl) _).trans ((stepAt (F := F) p).hA _ c w))
  · exact exitOf_ne p W c b fun w e => hw ⟨w, e⟩

/-- The buffers at call `n`'s entry (at `24`: at the program's end). -/
def entryW : ℕ → Dev nD → Valuation τ sig (Elt F)
  | 0 => fun c => StableHlo.after hostOps0 (fun b => m ((c : Dev nD), b))
  | n + 1 => fun c => StableHlo.after (opsAfter n) (if h : n < 24 then exitOf ⟨n, h⟩ (entryW n) c else entryW n c)

theorem entryW_succ (p : Fin 24) (c : Dev nD) :
    entryW m (p.val + 1) c = StableHlo.after (opsAfter p.val) (exitOf p (entryW m p.val) c) := by
  rw [entryW]; dsimp only; rw [dif_pos p.isLt]

/-- Every call's proof data, from its entry contents. -/
def pdats (p : Fin 24) (c : Dev nD) : Dat τ (Elt F) Unit ℕ (UR sig nD τ) ℕ (pipe (F := F) p) c :=
  (stepAt (F := F) p).dat (atRefs (entryW m p.val)) c

abbrev 𝒱₀ : Variants := Variants.none
abbrev L : GSem nD τ sig → Finset Unit := fun _ => ∅
abbrev lv : GSem nD τ sig → Unit → ℕ := fun _ _ => 0
/-- What rides beside the buffers: the generator register, and that nothing is owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Call `p` as a segment of @main: entered from the buffers at `entryW p`, left at `exitOf p`. -/
def reg (p : Fin 24) : Pipeline.RegionSeg (pcfgs (F := F)) adm (pdats m) () defs₀ 𝒱₀ L lv p where
  win := (launchAt p).win.to₀
  block_pos := (launchAt p).block_pos
  stage_whole := (launchAt p).stage_whole
  K := PEmpty
  osem k := k.elim
  ho := Pipeline.OwnSemFacts.none _
  hbody c := ((stepAt (F := F) p).hbody (atRefs (entryW m p.val)) c).loose
  hwaits := Pipeline.hwaits_of_owed_zero _ _ _ _ L lv p fun c t => (stepAt (F := F) p).howed (atRefs (entryW m p.val)) c t
  pre c := iprop(StableHlo.held (c : Thread nD τ) (Pipeline.ucRefs τ sig) (entryW m p.val c) ∗ R c)
  post c := iprop(StableHlo.held (c : Thread nD τ) (Pipeline.ucRefs τ sig) (exitOf p (entryW m p.val) c) ∗ R c)
  X c := iprop(∃ r, prngReg c r)
  Y c := iprop(∃ r, prngReg c r)
  Z c := Pipeline.unscopedRest (Ix := Unit) (Name := ℕ) (U := UR sig nD τ) (Lvl := ℕ) (pipe (F := F) p).spec c (atRefs (entryW m p.val) c)
  hentry c := by
    rw [Pipeline.ownSems0_none]
    have hsplit := Pipeline.arrays_of_unscopedBufs (p := p) (pcfgs (F := F)) adm (pdats m) (launchAt p).win (launchAt p).arr_whole c
      ((pdats m p c).share_full fun w => (stepAt (F := F) p).hq _ c w) (atRefs (entryW m p.val) c) ((stepAt (F := F) p).hA (atRefs (entryW m p.val)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [show (pdats m p c).owed 0 = 0 from (stepAt (F := F) p).howed _ c 0, show (pdats m p c).recorded 0 = Set.univ from (stepAt (F := F) p).hrec _ c]
      icases HO with ⟨%W, HO⟩; iexists W; isplitr; · ipureintro; exact fun _ _ => Or.inl trivial
      iexact HO
    isplitl [Hp]; · iexact Hp
    iexact Hrest
  hin c := (show _ ⊢ iprop(Pipeline.scopedRest (Ix := Unit) (Name := ℕ) (U := UR sig nD τ) (Lvl := ℕ) (Val := Elt F) (pipe (F := F) p).spec c ∗ (∃ r, prngReg c r)) from by
    iintro ⟨Hp, -, Hr⟩
    isplitl [Hr]; · iexact Hr
    iexact Hp).trans ((stepAt (F := F) p).hin (atRefs (entryW m p.val)) c)
  hout c := ((stepAt (F := F) p).hout (atRefs (entryW m p.val)) c).trans (by
    rw [Pipeline.ownSems0_none]
    iintro ⟨Hr, Hp⟩
    isplitl [Hp]; · iexact Hp
    isplitr; · iempintro
    iexact Hr)
  hexit c := by
    have hjoin := Pipeline.unscopedBufs_of_arrays (p := p) (pcfgs (F := F)) adm (Ix := Unit) (Name := ℕ) (U := UR sig nD τ) (Lvl := ℕ)
      (launchAt p).win (launchAt p).arr_whole c (pdats m) ((pdats m p c).share_full fun w => (stepAt (F := F) p).hq _ c w)
      (atRefs (entryW m p.val) c) (atRefs (exitOf p (entryW m p.val)) c) ((pdats m p c).arrAt · (pipe (F := F) p).N)
      (fun w => (exitOf_arr p (entryW m p.val) c w).symm)
      (fun b hb => exitOf_ne p (entryW m p.val) c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m p c).owed (Fin.last _) = 0 from (stepAt (F := F) p).howed _ c _]
    icases HO with ⟨%W, -, HO⟩; iexists W; iexact HO

end Cert.KernelIdeal.Gen

end

end
-- ==== Proof.Run.lean ====
module

public import proofs.«01_k».proof.Proof.Regs
public import Idealize.ShloMosaic.Lib.Pipeline.Value
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the host operations after call `p` write. -/
def written : ℕ → List (Ref sig .tc)
  | 1 => [main_v25]
  | 2 => [main_v27]
  | 4 => [main_v30]
  | 5 => [main_v32]
  | 7 => [main_v35]
  | 8 => [main_v37]
  | 10 => [main_v40]
  | 11 => [main_v42]
  | 13 => [main_v45]
  | 14 => [main_v47]
  | 16 => [main_v50]
  | 17 => [main_v52]
  | 19 => [main_v55]
  | 20 => [main_v57]
  | 22 => [main_v60]
  | 23 => [main_v62]
  | _ => []

theorem opsAfter_writes : (p : Fin 24) →
    (opsAfter (F := F) p.val).map HloOp.writes = (written p.val).map fun w => {Proc.devRef (τ := τ) .tc w}
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨_ + 24, h⟩ => absurd h (Nat.not_lt.2 (Nat.le_add_left _ _))

/-- Call `p` and the host operations after it leave the buffer as it is. -/
abbrev kept (p : Fin 24) (b : Ref sig .tc) : Prop :=
  (∀ w : Fin (cfgs p).W, Pipeline.arrRef (cfgs p).spec w = b → ((cfgs p).win w).isOut = false) ∧ b ∉ written p.val

theorem entryW_keep (b : Ref sig .tc) (p : Fin 24) (h : kept p b) (c : Dev nD) :
    entryW m (p.val + 1) c (Proc.devRef .tc b) = entryW m p.val c (Proc.devRef .tc b) := by
  rw [entryW_succ, StableHlo.after_unwritten (written p.val) (opsAfter_writes p) h.2]
  exact exitOf_in p _ c b h.1

theorem entryW_keeps (b : Ref sig .tc) (i : ℕ) (c : Dev nD) : ∀ j, i ≤ j → j ≤ 24 → (∀ p : Fin 24, i ≤ p.val → p.val < j → kept p b) →
    entryW m j c (Proc.devRef .tc b) = entryW m i c (Proc.devRef .tc b) := by
  intro j hij
  induction j, hij using Nat.le_induction with
  | base => intros; rfl
  | succ j hj ih =>
    intro hle h
    exact (entryW_keep m b ⟨j, hle⟩ (h ⟨j, hle⟩ hj (Nat.lt_succ_self j)) c).trans
      (ih (Nat.le_of_succ_le hle) fun p hp hlt => h p hp (Nat.lt_succ_of_lt hlt))

theorem args_kept : ∀ a ∈ argRefs, ∀ p : Fin 24, kept p a := ListAll.forall_mem_of_all_decide (by decide +kernel)

/-- What the first host operations write. -/
abbrev written0 : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_v21, main_v22]

/-- The arguments hold at every call what they held at launch. -/
theorem entryW_args (a : Ref sig .tc) (ha : a ∈ argRefs) (n : ℕ) (hn : n ≤ 24) (c : Dev nD) :
    entryW m n c (Proc.devRef .tc a) = m ((c : Thread nD τ).loc a) :=
  (entryW_keeps m a 0 c n (Nat.zero_le _) hn fun p _ _ => args_kept a ha p).trans
    (StableHlo.after_unwritten written0 rfl ((show ∀ a ∈ argRefs, a ∉ written0 from ListAll.forall_mem_of_all_decide (by decide +kernel)) a ha) _)

/-- From a call's exit, past the host operations after it, to the next entry. -/
theorem link (p : Fin 24) (c : Dev nD) :
    iprop(StableHlo.held (c : Thread nD τ) (Pipeline.ucRefs τ sig) (StableHlo.after (opsAfter p.val) (exitOf p (entryW m p.val) c)) ∗ R (F := F) c)
      ⊢ (iprop(StableHlo.held (c : Thread nD τ) (Pipeline.ucRefs τ sig) (entryW m (p.val + 1) c) ∗ R c) : sProp 𝕄) := by
  rw [entryW_succ]

/-- The last thread state: every buffer at what the program leaves. -/
abbrev Tₙ (c : Dev nD) : sProp 𝕄 := iprop(StableHlo.held (c : Thread nD τ) (Pipeline.ucRefs τ sig) (entryW m 24 c) ∗ ∃ r, prngReg c r)

theorem link_last (c : Dev nD) :
    iprop(StableHlo.held (c : Thread nD τ) (Pipeline.ucRefs τ sig) (StableHlo.after (opsAfter 23) (exitOf ⟨23, by decide⟩ (entryW m 23) c)) ∗ R (F := F) c)
      ⊢ (iprop(Tₙ m c ∗ ∃ W, owes (c : Thread nD τ) (0 : CellTallies nD τ sig Unit) W) : sProp 𝕄) :=
  (link m ⟨23, by decide⟩ c).trans (by
    iintro ⟨Hh, Hp, HO⟩
    isplitl [Hh Hp]
    · isplitl [Hh]; · iexact Hh
      iexact Hp
    iexact HO)

/-- The host operations after call `p` as a segment. -/
abbrev hsegAfter (p : Fin 24) (ops : List (HloOp τ sig (Elt F))) (hsub : ops.Forall fun op => op.bufs ⊆ StableHlo.tcRefs τ sig)
    (hfresh : ops.Forall fun op => op.fresh = ∅) : Pipeline.HostSeg (Name := ℕ) (U := UR sig nD τ) (pcfgs (F := F)) defs₀ 𝒱₀ L lv :=
  hseg ops hsub hfresh (exitOf p (entryW m p.val))

/-- @main's segments in order. -/
abbrev segs : List (Pipeline.Seg (pcfgs (F := F)) adm (pdats m) () defs₀ 𝒱₀ L lv) :=
  [ .host (hseg hostOps0 hostOps0_sub ⟨rfl, rfl, rfl, rfl, rfl, rfl, rfl, rfl, rfl, rfl, rfl, rfl, rfl, rfl, rfl, rfl, rfl, rfl, rfl, rfl, rfl, rfl, rfl, rfl⟩ (fun c b => m ((c : Dev nD), b))),
    .region (reg m 0),
    .region (reg m 1),
    .host (hsegAfter m 1 hostOps2 hostOps2_sub rfl),
    .region (reg m 2),
    .host (hsegAfter m 2 hostOps3 hostOps3_sub rfl),
    .region (reg m 3),
    .region (reg m 4),
    .host (hsegAfter m 4 hostOps5 hostOps5_sub rfl),
    .region (reg m 5),
    .host (hsegAfter m 5 hostOps6 hostOps6_sub rfl),
    .region (reg m 6),
    .region (reg m 7),
    .host (hsegAfter m 7 hostOps8 hostOps8_sub rfl),
    .region (reg m 8),
    .host (hsegAfter m 8 hostOps9 hostOps9_sub rfl),
    .region (reg m 9),
    .region (reg m 10),
    .host (hsegAfter m 10 hostOps11 hostOps11_sub rfl),
    .region (reg m 11),
    .host (hsegAfter m 11 hostOps12 hostOps12_sub rfl),
    .region (reg m 12),
    .region (reg m 13),
    .host (hsegAfter m 13 hostOps14 hostOps14_sub rfl),
    .region (reg m 14),
    .host (hsegAfter m 14 hostOps15 hostOps15_sub rfl),
    .region (reg m 15),
    .region (reg m 16),
    .host (hsegAfter m 16 hostOps17 hostOps17_sub rfl),
    .region (reg m 17),
    .host (hsegAfter m 17 hostOps18 hostOps18_sub rfl),
    .region (reg m 18),
    .region (reg m 19),
    .host (hsegAfter m 19 hostOps20 hostOps20_sub rfl),
    .region (reg m 20),
    .host (hsegAfter m 20 hostOps21 hostOps21_sub rfl),
    .region (reg m 21),
    .region (reg m 22),
    .host (hsegAfter m 22 hostOps23 hostOps23_sub rfl),
    .region (reg m 23),
    .host (hsegAfter m 23 hostOps24 hostOps24_sub rfl) ]

/-- @main is the run of the segments. -/
theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- Every run of the program ends with every buffer at `entryW 24` and every counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = entryW m 24 c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m ((c : Dev nD), b)) ∗ R c)) (Tₙ := Tₙ m)
    (hch := ⟨fun _ => .rfl, fun _ => .rfl, link m 0, fun _ => .rfl, link m 1, fun _ => .rfl, link m 2, link m 3, fun _ => .rfl, link m 4, fun _ => .rfl, link m 5, link m 6, fun _ => .rfl, link m 7, fun _ => .rfl, link m 8, link m 9, fun _ => .rfl, link m 10, fun _ => .rfl, link m 11, link m 12, fun _ => .rfl, link m 13, fun _ => .rfl, link m 14, link m 15, fun _ => .rfl, link m 16, fun _ => .rfl, link m 17, link m 18, fun _ => .rfl, link m 19, fun _ => .rfl, link m 20, link m 21, fun _ => .rfl, link m 22, fun _ => .rfl, link_last m⟩)
    (hinit := by
      refine Pipeline.initEach L lv fun c => ?_
      rw [show unscopedBufs c (fun b => m ((c : Thread nD τ).loc b)) = StableHlo.held (c : Thread nD τ) (Pipeline.ucRefs τ sig) (fun b => m ((c : Dev nD), b))
        from Pipeline.unscopedBufs_held c (fun b => m ((c : Dev nD), b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = entryW m 24 c b)
    (hfin := fun c s' => by
      iintro ⟨⟨Hh, -⟩, HSI⟩
      unfold StableHlo.held
      imodintro
      iapply (pointsTo_read_all (Pipeline.ucRefs τ sig) (fun b => (((c : Thread nD τ)).1, b)) (entryW m 24 c) s')
      isplitl [Hh] <;> iassumption)
    (hQ := fun s h hz => ⟨h, funext fun g => hz g (.inr (no_unscoped g.2))⟩)

end Cert.KernelIdeal.Gen

end

end
-- ==== Proof.Ends.lean ====
/- Both printed programs leave their arguments as they were, from their runs. -/
module

public import proofs.«01_k».proof.Proof.Run
public import proofs.«01_k».proof.Proof.Bits.Run

@[expose] public section

noncomputable section

open Idealize.ShloMosaic Idealize.ShloMosaic.TcCoe

namespace Cert.KernelIdeal.Gen

variable {F : FTy → Type} [FloatOps F] [Named F]

/-- A memory that is what the program leaves has every argument as at launch. -/
theorem args_end (m : (ℓ : Loc nD τ sig) → Buf (Elt F) ℓ) (M : (ℓ : Loc nD τ sig) → Buf (Elt F) ℓ)
    (h : ∀ c : Dev nD, ∀ b ∈ Pipeline.ucRefs τ sig, M ((c : Thread nD τ).1, b) = entryW m 24 c b) :
    ∀ a ∈ argRefs, ∀ c : Dev nD, M ((c : Thread nD τ).loc a) = m ((c : Thread nD τ).loc a) := fun a ha c =>
  (h c _ (mem_uc a ((show ∀ a ∈ argRefs, ¬ (Proc.devRef .tc a : DevRef τ sig).isScoped from
    ListAll.forall_mem_of_all_decide (by decide +kernel)) a ha))).trans (entryW_args m a ha 24 le_rfl c)

end Cert.KernelIdeal.Gen

namespace Cert.Kernel.Gen

variable {F : FTy → Type} [FloatOps F]

/-- The same of the program as written. -/
theorem args_end (m : (ℓ : Loc nD τ sig) → Buf (Elt F) ℓ) (M : (ℓ : Loc nD τ sig) → Buf (Elt F) ℓ)
    (h : ∀ c : Dev nD, ∀ b ∈ Pipeline.ucRefs τ sig, M ((c : Thread nD τ).1, b) = entryW m 24 c b) :
    ∀ a ∈ argRefs, ∀ c : Dev nD, M ((c : Thread nD τ).loc a) = m ((c : Thread nD τ).loc a) := fun a ha c =>
  (h c _ (mem_uc a ((show ∀ a ∈ argRefs, ¬ (Proc.devRef .tc a : DevRef τ sig).isScoped from
    ListAll.forall_mem_of_all_decide (by decide +kernel)) a ha))).trans (entryW_args m a ha 24 le_rfl c)

end Cert.Kernel.Gen

end

end
-- ==== Proof.Math.lean ====
/- The mathematics of one layer over the extended reals: layer normalisation, attention of one row and the feed-forward
   sum, each stated on plain index functions, with the few laws by which the kernel's form of a value is the
   reference's. -/
module

public import Idealize.ShloMosaic.Lib.Pointwise

@[expose] public section

noncomputable section

namespace Cert.Layer

open Idealize.ShloMosaic

/-- The number 1024, as both programs write it. -/
abbrev c1024 : EReal := Ideal.ofBits .f32 0x44800000#32
/-- The layer normalisation's small constant. -/
abbrev eps : EReal := Ideal.ofBits .f32 0x3727C5AC#32

/-- The value minus infinity, from which a maximum starts and which a masked score has. -/
abbrev ninf : EReal := Ideal.ofBits .f32 0xFF800000#32

/-- The mean of a row. -/
def mean (x : Fin 1024 → EReal) : EReal := Ideal.div (∑ j, x j) c1024

/-- The variance of a row: the mean of the squared deviations. -/
def var (x : Fin 1024 → EReal) : EReal := Ideal.div (∑ j, (x j - mean x) * (x j - mean x)) c1024

/-- A row normalised, scaled by `g` and shifted by `b`. -/
def ln (x g b : Fin 1024 → EReal) (j : Fin 1024) : EReal :=
  Ideal.div (x j - mean x) (Ideal.sqrt (var x + eps)) * g j + b j

/-- The softmax of a row of scores, the maximum taken off first. -/
def soft {n : ℕ} (s : Fin n → EReal) (t : Fin n) : EReal :=
  Ideal.div (Ideal.exp (s t - Finset.univ.fold max ninf s)) (∑ u, Ideal.exp (s u - Finset.univ.fold max ninf s))

/-- Entry `j` of a row times a matrix given by its rows, with the bias. -/
def proj {n : ℕ} (x : Fin 1024 → EReal) (w : Fin n → Fin 1024 → EReal) (b : Fin n → EReal) (j : Fin n) : EReal :=
  ∑ k, x k * w j k + b j

/-- Column `64 h + d` of the 1024, with `h` the head of column `m`. -/
abbrev col (m : Fin 1024) (d : Fin 64) : Fin 1024 := ⟨64 * (m.val / 64) + d.val, by omega⟩

/-- Column `m` of the keys' and of the values' part of the joint projection. -/
abbrev kcol (m : Fin 1024) : Fin 3072 := ⟨1024 + m.val, by omega⟩
abbrev vcol (m : Fin 1024) : Fin 3072 := ⟨2048 + m.val, by omega⟩
abbrev qcol (m : Fin 1024) : Fin 3072 := ⟨m.val, by omega⟩

/-- The heads' outputs of one row side by side, from the row's queries `q`, the keys `k` and the values `v`, the scores
    passing through `f`: column `m` belongs to head `m / 64`. -/
def heads {n : ℕ} (f : Fin n → EReal → EReal) (q : Fin 1024 → EReal) (k v : Fin n → Fin 1024 → EReal) (m : Fin 1024) : EReal :=
  ∑ t, soft (fun t => f t (∑ d : Fin 64, q (col m d) * k t (col m d))) t * v t m

/-- Multi-head attention of one row `x` to the rows `y`: the scores are divided by eight and then pass through `f`. -/
def mha {n : ℕ} (f : Fin n → EReal → EReal) (x : Fin 1024 → EReal) (y : Fin n → Fin 1024 → EReal)
    (w : Fin 3072 → Fin 1024 → EReal) (b : Fin 3072 → EReal) (wo : Fin 1024 → Fin 1024 → EReal) (bo : Fin 1024 → EReal) :
    Fin 1024 → EReal :=
  proj (heads (fun t s => f t (Ideal.div s (Ideal.ofBits .f32 0x41000000#32))) (fun m => proj x w b (qcol m))
    (fun t m => proj (y t) w b (kcol m)) (fun t m => proj (y t) w b (vcol m))) wo bo

/-- The feed-forward part of one row. -/
def ffn (x : Fin 1024 → EReal) (w1 : Fin 4096 → Fin 1024 → EReal) (b1 : Fin 4096 → EReal) (w2 : Fin 1024 → Fin 4096 → EReal)
    (b2 : Fin 1024 → EReal) (j : Fin 1024) : EReal :=
  ∑ i, max (proj x w1 b1 i) 0 * w2 j i + b2 j

/-- The scores of row `l` masked to the rows up to `l`. -/
def causal (l : Fin 64) (t : Fin 64) (s : EReal) : EReal := if l < t then ninf else s

theorem ninf_eq : ninf = ⊥ := by
  simp [ninf, Ideal.ofBits, Ideal.ieee]

theorem c1024_eq : c1024 = ((1024 : ℝ) : EReal) := by
  simp [c1024, Ideal.ofBits, Ideal.ieee]
  rw [← EReal.coe_mul]
  norm_num

theorem eps_pos : ∃ r : ℝ, 0 < r ∧ eps = (r : EReal) := by
  refine ⟨_, ?_, by simp [eps, Ideal.ofBits, Ideal.ieee]; norm_cast⟩
  norm_num

/-- A square is not negative. -/
theorem mul_self_nonneg' (a : EReal) : 0 ≤ a * a := by
  induction a with
  | bot => simp
  | top => simp
  | coe r => exact_mod_cast mul_self_nonneg r

theorem var_nonneg (x : Fin 1024 → EReal) : 0 ≤ var x := by
  unfold var
  rw [c1024_eq, Ideal.div_coe (by norm_num)]
  exact mul_nonneg (Finset.sum_nonneg fun j _ => mul_self_nonneg' _) (by exact_mod_cast (by norm_num : (0:ℝ) ≤ 1 / 1024))

/-- Multiplying by the reciprocal root is dividing by the root, above a positive constant. -/
theorem mul_rsqrt (c v : EReal) (hv : 0 ≤ v) : c * Ideal.rsqrt (v + eps) = Ideal.div c (Ideal.sqrt (v + eps)) := by
  obtain ⟨r, hr, he⟩ := eps_pos
  rw [he]
  induction v with
  | bot => simp at hv
  | top => simp [Ideal.div]
  | coe v =>
    have hv' : (0 : ℝ) ≤ v := by exact_mod_cast hv
    have hp : 0 < v + r := by linarith
    have hs : Real.sqrt (v + r) ≠ 0 := (Real.sqrt_pos.mpr hp).ne'
    rw [← EReal.coe_add, Ideal.rsqrt_coe, Ideal.sqrt_coe, if_neg hp.not_gt, if_neg hp.ne']
    rw [if_neg hp.not_gt, Ideal.div_coe hs, one_div]

/-- A finite factor that is not negative goes out of a sum. -/
theorem mul_sum_coe {ι : Type} (s : Finset ι) (r : ℝ) (hr : 0 ≤ r) (f : ι → EReal) :
    ∑ i ∈ s, f i * (r : EReal) = (∑ i ∈ s, f i) * (r : EReal) := by
  classical
  induction s using Finset.induction_on with
  | empty => simp
  | insert a s ha ih =>
    rw [Finset.sum_insert ha, Finset.sum_insert ha, ih]
    have h := EReal.left_distrib_of_nonneg_of_ne_top (x := (r : EReal)) (by exact_mod_cast hr) (EReal.coe_ne_top r) (f a) (∑ i ∈ s, f i)
    rw [mul_comm (f a + _), h, mul_comm _ (f a), mul_comm _ (∑ i ∈ s, f i)]

theorem c8_eq : Ideal.ofBits .f32 0x41000000#32 = ((8 : ℝ) : EReal) := by
  simp [Ideal.ofBits, Ideal.ieee]
  rw [← EReal.coe_mul]
  norm_num

theorem ceighth_eq : Ideal.ofBits .f32 0x3E000000#32 = ((1 / 8 : ℝ) : EReal) := by
  simp [Ideal.ofBits, Ideal.ieee]
  rw [← EReal.coe_mul]
  norm_num

/-- Scaling the queries by an eighth is dividing the scores by eight. -/
theorem score_scale {n : ℕ} (q k : Fin n → EReal) :
    ∑ d, q d * Ideal.ofBits .f32 0x3E000000#32 * k d = Ideal.div (∑ d, q d * k d) (Ideal.ofBits .f32 0x41000000#32) := by
  rw [c8_eq, ceighth_eq, Ideal.div_coe (by norm_num), ← mul_sum_coe _ _ (by norm_num)]
  exact Finset.sum_congr rfl fun d _ => by rw [mul_assoc, mul_comm _ (k d), mul_assoc]

/-- The heads at scaled queries are the heads at scores divided by eight. -/
theorem heads_scale {n : ℕ} (f : Fin n → EReal → EReal) (q : Fin 1024 → EReal) (k v : Fin n → Fin 1024 → EReal) :
    heads f (fun m => q m * Ideal.ofBits .f32 0x3E000000#32) k v
      = heads (fun t s => f t (Ideal.div s (Ideal.ofBits .f32 0x41000000#32))) q k v := by
  funext m
  unfold heads
  simp only [score_scale]

/-- The kernel's form of a normalised entry. -/
theorem ln_rsqrt (x g b : Fin 1024 → EReal) (j : Fin 1024) :
    (x j - mean x) * Ideal.rsqrt (var x + eps) * g j + b j = ln x g b j := by
  unfold ln; rw [mul_rsqrt _ _ (var_nonneg x)]

/-- The hidden units summed in four chunks on top of the row and the bias. -/
theorem ffn_chunks (q : EReal) (x : Fin 1024 → EReal) (w1 : Fin 4096 → Fin 1024 → EReal) (b1 : Fin 4096 → EReal)
    (w2 : Fin 1024 → Fin 4096 → EReal) (b2 : Fin 1024 → EReal) (j : Fin 1024) :
    q + b2 j + ∑ c : Fin 4, ∑ i : Fin 1024, max (proj x w1 b1 ⟨1024 * c.val + i.val, by omega⟩) 0 * w2 j ⟨1024 * c.val + i.val, by omega⟩
      = q + ffn x w1 b1 w2 b2 j := by
  unfold ffn
  rw [add_assoc, add_comm (b2 j)]
  congr 2
  have h := Fintype.sum_equiv (finProdFinEquiv (m := 4) (n := 1024)) (fun p : Fin 4 × Fin 1024 =>
    max (proj x w1 b1 ⟨1024 * p.1.val + p.2.val, by omega⟩) 0 * w2 j ⟨1024 * p.1.val + p.2.val, by omega⟩)
    (fun i : Fin 4096 => max (proj x w1 b1 i) 0 * w2 j i) (fun p => by
      have e : (⟨1024 * p.1.val + p.2.val, by omega⟩ : Fin 4096) = finProdFinEquiv p := Fin.ext (by simp [finProdFinEquiv]; omega)
      rw [e])
  rw [← h, Fintype.sum_prod_type]

end Cert.Layer

end

end
-- ==== Proof.Ker.lean ====
module

public import proofs.«01_k».proof.Proof.Math
public import proofs.«01_k».proof.Proof.Blocks

@[expose] public section

set_option maxRecDepth 16384

noncomputable section

namespace Cert.KernelIdeal.Gen

open Idealize.ShloMosaic

theorem caHead_apply (o : ℕ) (hq : S64x1024.Slices ![0, o] S64x64) (hk : S512x1024.Slices ![0, o] S512x64)
    (q : FVec Ideal S64x1024 .bf16) (k v : FVec Ideal S512x1024 .bf16) (l : Fin 64) (m : Fin 1024) (ho : o = 64 * (m.val / 64))
    (d : Fin 64) (hd : m.val = o + d.val) :
    caHead o hq hk q k v (ix2 l d)
      = Layer.heads (fun _ s => s) (fun m => q (ix2 l m)) (fun t m => k (ix2 t m)) (fun t m => v (ix2 t m)) m := by
  obtain ⟨m, hm⟩ := m
  simp only at ho hd
  subst ho
  unfold caHead Layer.heads Layer.soft
  pointwise
  refine Finset.sum_congr rfl fun t _ => ?_
  congr 3
  exact Fin.ext hd.symm

/-- Blocks of 64 columns side by side, from position `c` of the list on: the block `c / 64`, at column `c % 64`. -/
theorem catAt_apply (p : Fin 16 → FVec Ideal S64x64 .f32) (l : Fin 64) (m : Fin 1024) :
    ∀ (is : List (Fin 16)) (hs) (c : ℕ) (hc) (h : c / 64 < is.length),
      concatenateAt S64x1024 1 (ix2 l m) (is.map fun i => (⟨S64x64, p i⟩ : (s : Shape) × (s.Idx → Ideal .f32))) hs c hc
        = p (is[c / 64]) (ix2 l ⟨c % 64, Nat.mod_lt _ (by decide)⟩)
  | [], _, _, _, h => absurd h (Nat.not_lt_zero _)
  | [i], hs, c, hc, h => by
    have hc' : c < 64 := by simp at h; omega
    simp only [List.map_cons, List.map_nil, concatenateAt_singleton]
    have e : c / 64 = 0 := by omega
    simp only [e, List.getElem_cons_zero]
    refine congrArg (p _) (funext fun b => Fin.ext ?_)
    match b with
    | ⟨0, _⟩ => rfl
    | ⟨1, _⟩ => exact (show c = c % 64 by omega)
  | i :: i' :: is, hs, c, hc, h => by
    simp only [List.map_cons]
    rw [concatenateAt_cons]
    by_cases hlt : c < 64
    · refine (dif_pos (show c < 64 from hlt)).trans ?_
      have e : c / 64 = 0 := by omega
      simp only [e, List.getElem_cons_zero]
      refine congrArg (p _) (funext fun b => Fin.ext ?_)
      match b with
      | ⟨0, _⟩ => rfl
      | ⟨1, _⟩ => exact (show c = c % 64 by omega)
    · refine (dif_neg (show ¬ c < 64 from hlt)).trans ?_
      have e : c / 64 = (c - 64) / 64 + 1 := by omega
      have h' : (c - 64) / 64 < (i' :: is).length := by simp only [List.length_cons] at h ⊢; omega
      have ih := catAt_apply p l m (i' :: is) (fun s h => hs s (List.mem_cons_of_mem _ h)) (c - 64)
        (by have := hc; simp only [List.map_cons] at this ⊢; rw [axisSizes_cons _ _ _ _ (hs _ List.mem_cons_self), List.sum_cons] at this
            exact Nat.sub_lt_left_of_lt_add (Nat.le_of_not_lt hlt) this) h'
      simp only [e, List.getElem_cons_succ]
      refine ih.trans ?_
      exact congrArg (fun e => p (i' :: is)[(c - 64) / 64] (ix2 l e)) (Fin.ext (by simp only; omega))

/-- Sixteen blocks of 64 columns side by side. -/
theorem cat16_apply (p : Fin 16 → FVec Ideal S64x64 .f32) (l : Fin 64) (m : Fin 1024) :
    concatenate S64x1024 1 [⟨S64x64, p 0⟩, ⟨S64x64, p 1⟩, ⟨S64x64, p 2⟩, ⟨S64x64, p 3⟩, ⟨S64x64, p 4⟩, ⟨S64x64, p 5⟩, ⟨S64x64, p 6⟩, ⟨S64x64, p 7⟩, ⟨S64x64, p 8⟩, ⟨S64x64, p 9⟩, ⟨S64x64, p 10⟩, ⟨S64x64, p 11⟩, ⟨S64x64, p 12⟩, ⟨S64x64, p 13⟩, ⟨S64x64, p 14⟩, ⟨S64x64, p 15⟩] concatenates_S64x64_S64x64_S64x64_S64x64_S64x64_S64x64_S64x64_S64x64_S64x64_S64x64_S64x64_S64x64_S64x64_S64x64_S64x64_S64x64_S64x1024_d1 (ix2 l m)
      = p ⟨m.val / 64, by omega⟩ (ix2 l ⟨m.val % 64, by omega⟩) := by
  rw [concatenate_apply]
  refine (catAt_apply p l m (List.finRange 16) _ _ _ (by simp; omega)).trans ?_
  simp

theorem caCat_apply (q : FVec Ideal S64x1024 .bf16) (k v : FVec Ideal S512x1024 .bf16) (l : Fin 64) (m : Fin 1024) :
    caCat q k v (ix2 l m) = Layer.heads (fun _ s => s) (fun m => q (ix2 l m)) (fun t m => k (ix2 t m)) (fun t m => v (ix2 t m)) m := by
  have hs : ∀ i : Fin 16, S64x1024.Slices ![0, 64 * i.val] S64x64 := by decide
  have hk : ∀ i : Fin 16, S512x1024.Slices ![0, 64 * i.val] S512x64 := by decide
  refine (cat16_apply (fun i => caHead (64 * i.val) (hs i) (hk i) q k v) l m).trans ?_
  exact caHead_apply _ _ _ _ _ _ _ _ rfl _ (by simp only; omega)

/-- The scaled queries of a row. -/
theorem caQ_apply (x0 : Vec Ideal S1x64x1024 .f32) (x2 : Vec Ideal S1x3072x1024 .bf16) (x3 : Vec Ideal S1x1x3072 .f32)
    (x6 x7 : Vec Ideal S1x1x1024 .f32) (l : Fin 64) (m : Fin 1024) :
    k0_pay9 (k0_pay7 x0 x6 x7 x2 x3) (ix2 l m)
      = Layer.proj (Layer.ln (fun j => x0 (ix3 0 l j)) (fun j => x6 (ix3 0 0 j)) (fun j => x7 (ix3 0 0 j)))
          (fun i j => x2 (ix3 0 i j)) (fun i => x3 (ix3 0 0 i)) (Layer.qcol m) * Ideal.ofBits .f32 0x3E000000#32 := by
  unfold k0_pay9 k0_pay7 k0_pay4 k0_pay5 k0_pay6 Layer.proj
  simp only [← Layer.ln_rsqrt]
  unfold Layer.var Layer.mean
  pointwise!

theorem caK_apply (x1 : Vec Ideal S1x512x1024 .bf16) (x2 : Vec Ideal S1x3072x1024 .bf16) (x3 : Vec Ideal S1x1x3072 .f32)
    (t : Fin 512) (m : Fin 1024) :
    k0_pay10 (k0_pay5 x2) (k0_pay6 x3) x1 (ix2 t m)
      = Layer.proj (fun j => x1 (ix3 0 t j)) (fun i j => x2 (ix3 0 i j)) (fun i => x3 (ix3 0 0 i)) (Layer.kcol m) := by
  unfold k0_pay10 k0_pay8 k0_pay5 k0_pay6 Layer.proj
  pointwise!

theorem caV_apply (x1 : Vec Ideal S1x512x1024 .bf16) (x2 : Vec Ideal S1x3072x1024 .bf16) (x3 : Vec Ideal S1x1x3072 .f32)
    (t : Fin 512) (m : Fin 1024) :
    k0_pay11 (k0_pay5 x2) (k0_pay6 x3) x1 (ix2 t m)
      = Layer.proj (fun j => x1 (ix3 0 t j)) (fun i j => x2 (ix3 0 i j)) (fun i => x3 (ix3 0 0 i)) (Layer.vcol m) := by
  unfold k0_pay11 k0_pay8 k0_pay5 k0_pay6 Layer.proj
  pointwise!

/-- The written block, entry by entry: the row plus its attention to the rows of `x1`. -/
theorem caBlock_apply (x0 : Vec Ideal S1x64x1024 .f32) (x1 : Vec Ideal S1x512x1024 .bf16) (x2 : Vec Ideal S1x3072x1024 .bf16)
    (x3 : Vec Ideal S1x1x3072 .f32) (x4 : Vec Ideal S1x1024x1024 .bf16) (x5 : Vec Ideal S1x1x1024 .f32) (x6 : Vec Ideal S1x1x1024 .f32)
    (x7 : Vec Ideal S1x1x1024 .f32) (l : Fin 64) (j : Fin 1024) :
    caBlock x0 x1 x2 x3 x4 x5 x6 x7 (ix3 0 l j)
      = x0 (ix3 0 l j) + Layer.mha (fun _ s => s) (Layer.ln (fun j => x0 (ix3 0 l j)) (fun j => x6 (ix3 0 0 j)) (fun j => x7 (ix3 0 0 j)))
          (fun t j => x1 (ix3 0 t j)) (fun i j => x2 (ix3 0 i j)) (fun i => x3 (ix3 0 0 i))
          (fun i j => x4 (ix3 0 i j)) (fun i => x5 (ix3 0 0 i)) j := by
  have hc : ∀ m, caCat (k0_pay9 (k0_pay7 x0 x6 x7 x2 x3)) (k0_pay10 (k0_pay5 x2) (k0_pay6 x3) x1)
      (k0_pay11 (k0_pay5 x2) (k0_pay6 x3) x1) (ix2 l m) = _ := fun m => caCat_apply _ _ _ l m
  simp only [caQ_apply, caK_apply, caV_apply, Layer.heads_scale] at hc
  unfold caBlock Layer.mha
  generalize caCat (F := Ideal) _ _ _ = c at hc ⊢
  unfold k0_pay3 k0_pay4 Layer.proj
  pointwise [hc]
  rw [add_assoc]
  rfl

/-- Column `x` lies behind row `l`. -/
theorem sel_mask {α : Type} (l x : Fin 64) (a b : α) :
    Scalar.select (IntOp.cmpi .sgt (BitVec.ofNat 32 x.val) (BitVec.ofNat 32 l.val)) a b = if l < x then a else b := by
  have h : ∀ l x : Fin 64, IntOp.cmpi .sgt (BitVec.ofNat 32 x.val) (BitVec.ofNat 32 l.val) = if l < x then 1#1 else 0#1 := by decide
  rw [h]
  split_ifs <;> rfl

theorem mask_eq : (Named.named κ "mask" 0xF149F2CA#32 : Ideal .f32) = Layer.ninf := by
  rw [Layer.ninf_eq]
  rfl

theorem saHead_apply (o : ℕ) (hq : S64x1024.Slices ![0, o] S64x64)
    (q k v : FVec Ideal S64x1024 .bf16) (l : Fin 64) (m : Fin 1024) (ho : o = 64 * (m.val / 64))
    (d : Fin 64) (hd : m.val = o + d.val) :
    saHead o hq q k v (ix2 l d)
      = Layer.heads (Layer.causal l) (fun m => q (ix2 l m)) (fun t m => k (ix2 t m)) (fun t m => v (ix2 t m)) m := by
  obtain ⟨m, hm⟩ := m
  simp only at ho hd
  subst ho
  unfold saHead Layer.heads Layer.soft Layer.causal
  rw [mask_eq]
  pointwise [sel_mask]
  refine Finset.sum_congr rfl fun t _ => ?_
  congr 3
  exact Fin.ext hd.symm

theorem saCat_apply (q k v : FVec Ideal S64x1024 .bf16) (l : Fin 64) (m : Fin 1024) :
    saCat q k v (ix2 l m) = Layer.heads (Layer.causal l) (fun m => q (ix2 l m)) (fun t m => k (ix2 t m)) (fun t m => v (ix2 t m)) m := by
  have hs : ∀ i : Fin 16, S64x1024.Slices ![0, 64 * i.val] S64x64 := by decide
  refine (cat16_apply (fun i => saHead (64 * i.val) (hs i) q k v) l m).trans ?_
  exact saHead_apply _ _ _ _ _ _ _ rfl _ (by simp only; omega)

theorem saQ_apply (x0 : Vec Ideal S1x64x1024 .f32) (x1 : Vec Ideal S1x3072x1024 .bf16) (x2 : Vec Ideal S1x1x3072 .f32)
    (x5 x6 : Vec Ideal S1x1x1024 .f32) (l : Fin 64) (m : Fin 1024) :
    k1_pay5 (k1_pay4 x0 x5 x6 x1 x2) (ix2 l m)
      = Layer.proj (Layer.ln (fun j => x0 (ix3 0 l j)) (fun j => x5 (ix3 0 0 j)) (fun j => x6 (ix3 0 0 j)))
          (fun i j => x1 (ix3 0 i j)) (fun i => x2 (ix3 0 0 i)) (Layer.qcol m) * Ideal.ofBits .f32 0x3E000000#32 := by
  unfold k1_pay5 k1_pay4 k1_pay3 k1_pay2 Layer.proj
  simp only [← Layer.ln_rsqrt]
  unfold Layer.var Layer.mean
  pointwise!

theorem saK_apply (x0 : Vec Ideal S1x64x1024 .f32) (x1 : Vec Ideal S1x3072x1024 .bf16) (x2 : Vec Ideal S1x1x3072 .f32)
    (x5 x6 : Vec Ideal S1x1x1024 .f32) (l : Fin 64) (m : Fin 1024) :
    k1_pay6 (k1_pay3 x0 x5 x6 x1 x2) (ix2 l m)
      = Layer.proj (Layer.ln (fun j => x0 (ix3 0 l j)) (fun j => x5 (ix3 0 0 j)) (fun j => x6 (ix3 0 0 j)))
          (fun i j => x1 (ix3 0 i j)) (fun i => x2 (ix3 0 0 i)) (Layer.kcol m) := by
  unfold k1_pay6 k1_pay3 k1_pay2 Layer.proj
  simp only [← Layer.ln_rsqrt]
  unfold Layer.var Layer.mean
  pointwise!

theorem saV_apply (x0 : Vec Ideal S1x64x1024 .f32) (x1 : Vec Ideal S1x3072x1024 .bf16) (x2 : Vec Ideal S1x1x3072 .f32)
    (x5 x6 : Vec Ideal S1x1x1024 .f32) (l : Fin 64) (m : Fin 1024) :
    k1_pay7 (k1_pay3 x0 x5 x6 x1 x2) (ix2 l m)
      = Layer.proj (Layer.ln (fun j => x0 (ix3 0 l j)) (fun j => x5 (ix3 0 0 j)) (fun j => x6 (ix3 0 0 j)))
          (fun i j => x1 (ix3 0 i j)) (fun i => x2 (ix3 0 0 i)) (Layer.vcol m) := by
  unfold k1_pay7 k1_pay3 k1_pay2 Layer.proj
  simp only [← Layer.ln_rsqrt]
  unfold Layer.var Layer.mean
  pointwise!

/-- The written block, entry by entry: the row plus its causal attention to the block's rows. -/
theorem saBlock_apply (x0 : Vec Ideal S1x64x1024 .f32) (x1 : Vec Ideal S1x3072x1024 .bf16)
    (x2 : Vec Ideal S1x1x3072 .f32) (x3 : Vec Ideal S1x1024x1024 .bf16) (x4 : Vec Ideal S1x1x1024 .f32) (x5 : Vec Ideal S1x1x1024 .f32) (x6 : Vec Ideal S1x1x1024 .f32)
    (l : Fin 64) (j : Fin 1024) :
    saBlock x0 x1 x2 x3 x4 x5 x6 (ix3 0 l j)
      = x0 (ix3 0 l j) + Layer.mha (Layer.causal l) (Layer.ln (fun j => x0 (ix3 0 l j)) (fun j => x5 (ix3 0 0 j)) (fun j => x6 (ix3 0 0 j)))
          (fun t => Layer.ln (fun j => x0 (ix3 0 t j)) (fun j => x5 (ix3 0 0 j)) (fun j => x6 (ix3 0 0 j)))
          (fun i j => x1 (ix3 0 i j)) (fun i => x2 (ix3 0 0 i))
          (fun i j => x3 (ix3 0 i j)) (fun i => x4 (ix3 0 0 i)) j := by
  have hc : ∀ m, saCat (k1_pay5 (k1_pay4 x0 x5 x6 x1 x2)) (k1_pay6 (k1_pay3 x0 x5 x6 x1 x2)) (k1_pay7 (k1_pay3 x0 x5 x6 x1 x2)) (ix2 l m) = _ :=
    fun m => saCat_apply _ _ _ l m
  simp only [saQ_apply, saK_apply, saV_apply, Layer.heads_scale] at hc
  unfold saBlock Layer.mha
  generalize saCat (F := Ideal) _ _ _ = c at hc ⊢
  unfold k1_pay1 k1_pay2 k1_pay29 Layer.proj
  pointwise [hc]
  rw [add_assoc]
  rfl

/-! ## The feed-forward kernel's three values -/

/-- The normalised rows kept for the chunks. -/
theorem mlpLn_apply (x : Vec Ideal S512x1024 .f32) (g b : Vec Ideal S1x1x1024 .f32) (r : Fin 512) (j : Fin 1024) :
    k2_pay2 x g b (ix2 r j)
      = Layer.ln (fun j => x (ix2 r j)) (fun j => g (ix3 0 0 j)) (fun j => b (ix3 0 0 j)) j := by
  unfold k2_pay2
  simp only [← Layer.ln_rsqrt]
  unfold Layer.var Layer.mean
  pointwise!

/-- What the accumulated block starts from. -/
theorem mlpInit_apply (x : Vec Ideal S512x1024 .f32) (b : Vec Ideal S1x1x1024 .f32) (r : Fin 512) (j : Fin 1024) :
    k2_pay3 x b (ix2 r j) = x (ix2 r j) + b (ix3 0 0 j) := by
  unfold k2_pay3
  pointwise!

/-- One chunk of 1024 hidden units added to the block. -/
theorem mlpStep_apply (s : Vec Ideal S512x1024 .bf16) (w1 : Vec Ideal S1x1024x1024 .bf16) (b1 : Vec Ideal S1x1x1024 .f32)
    (o : Vec Ideal S512x1024 .f32) (w2 : Vec Ideal S1x1024x1024 .bf16) (r : Fin 512) (j : Fin 1024) :
    k2_pay1 s w1 b1 o w2 (ix2 r j) = o (ix2 r j)
      + ∑ i : Fin 1024, max (Layer.proj (fun k => s (ix2 r k)) (fun i k => w1 (ix3 0 i k)) (fun i => b1 (ix3 0 0 i)) i) 0 * w2 (ix3 0 j i) := by
  unfold k2_pay1 Layer.proj
  pointwise!

end Cert.KernelIdeal.Gen

end

end
-- ==== Proof.Values.lean ====
module

public import proofs.«01_k».proof.Proof.Ca
public import proofs.«01_k».proof.Proof.Sa
public import proofs.«01_k».proof.Proof.Ml
public import proofs.«01_k».proof.Proof.Ker
public import Idealize.ShloMosaic.Lib.Pipeline.ValueKit

@[expose] public section

set_option maxRecDepth 16384

noncomputable section

namespace Cert.Layer

/-! The three parts of a layer on a batch of 64 sequences of 64 rows. -/

/-- Cross attention: every row attends to the context of its sequence. -/
def cross (x : Fin 64 → Fin 64 → Fin 1024 → EReal) (ctx : Fin 64 → Fin 512 → Fin 1024 → EReal) (w : Fin 3072 → Fin 1024 → EReal)
    (b : Fin 3072 → EReal) (wo : Fin 1024 → Fin 1024 → EReal) (bo g h : Fin 1024 → EReal) (i l : Fin 64) (j : Fin 1024) : EReal :=
  x i l j + mha (fun _ s => s) (ln (x i l) g h) (ctx i) w b wo bo j

/-- Causal self attention of the normalised rows. -/
def selfA (x : Fin 64 → Fin 64 → Fin 1024 → EReal) (w : Fin 3072 → Fin 1024 → EReal)
    (b : Fin 3072 → EReal) (wo : Fin 1024 → Fin 1024 → EReal) (bo g h : Fin 1024 → EReal) (i l : Fin 64) (j : Fin 1024) : EReal :=
  x i l j + mha (causal l) (ln (x i l) g h) (fun t => ln (x i t) g h) w b wo bo j

/-- The feed-forward part, row by row. -/
def ff {n : ℕ} (x : Fin n → Fin 1024 → EReal) (w1 : Fin 4096 → Fin 1024 → EReal) (b1 : Fin 4096 → EReal)
    (w2 : Fin 1024 → Fin 4096 → EReal) (b2 g h : Fin 1024 → EReal) (r : Fin n) (j : Fin 1024) : EReal :=
  x r j + ffn (ln (x r) g h) w1 b1 w2 b2 j

end Cert.Layer

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

section

variable {F : FTy → Type} [FloatOps F] [Named F]
variable (V : (c : Dev nD) → (b : Ref sig .tc) → Buf (Elt F) ((c : Thread nD τ).loc b)) (c : Dev nD)

/-- A window's array as the call finds it. -/
def WD.A {G : Pipeline.Grid} {s : Shape} {size : Fin s.rank → ℕ} {e : EltTy} (d : WD G s size e) : Vec F s e :=
  d.arr.view.read (Elt F) (V c d.arr.view.ref)

/-- An entry of a block is the array's entry at the block's offset. -/
theorem WD.blkAt_apply {G : Pipeline.Grid} {s : Shape} {size : Fin s.rank → ℕ} {e : EltTy} (d : WD G s size e) (t : Fin G.N)
    (j : Shape.Idx ⟨s.rank, size⟩) (i : s.Idx) (h : ∀ a, (i a).val = d.ix (G.coords t) a * size a + (j a).val) :
    d.blkAt V c t j = d.A V c i := by
  have e : i = ((d.win false).rect t).emb j := funext fun a => Fin.ext (by
    rw [h a, Rect.emb_apply]
    show _ = d.ix (G.coords t) a * size a + 1 * (j a).val
    omega)
  subst e
  rfl

/-- An output array after the run, entry by entry: every entry lies in a block which is written back, and what is
    written there is `G`'s value. -/
theorem out_read {cfg : Cfg sig Λ₀} (dat : Dat τ (Elt F) Unit ℕ (UR sig nD τ) ℕ cfg c) (w : Fin cfg.W)
    (G : Vec F (cfg.win w).shape (cfg.win w).elt) (harr : (cfg.win w).arr.IsWhole)
    (hcov : ∀ i : (cfg.win w).shape.Idx, ∃ t, (cfg.win w).flush t = true ∧ ∃ y, i = ((cfg.win w).rect t).emb y)
    (hG : ∀ t, (cfg.win w).flush t = true → ∀ y, dat.flushed w t y = G (((cfg.win w).rect t).emb y)) (i : (cfg.win w).shape.Idx) :
    (cfg.win w).arr.view.read (Elt F) (dat.arrAt w cfg.N) i = G i := by
  refine dat.arrAt_forall_of_cover w (fun k v => ∀ i, (cfg.win w).arr.view.emb i = k
    → _root_.cast (congrArg (Elt F) (cfg.win w).arr.view.elt_eq) v = G i) ?_ ?_ _ i rfl
  · intro t hf y i hi
    have e : i = ((cfg.win w).rect t).emb y := (cfg.win w).arr.view.emb.injective hi
    subst e
    rw [← hG t hf y, cast_cast, cast_eq]
  · intro k
    have hk : k ∈ (cfg.win w).arr.view.set := harr.set_eq_univ ▸ Finset.mem_univ k
    obtain ⟨i, rfl⟩ := View.exists_emb_of_mem_set _ hk
    obtain ⟨t, hf, y, rfl⟩ := hcov i
    exact ⟨t, hf, View.emb_mem_set .. ⟩

end

/-- Which blocks the windows of a cross attention call of layer `ℓ` show. -/
structure CAD.Fits (d : CAD) (ℓ : Fin 8) : Prop where
  h0 : ∀ t : Fin 64, d.w0.ix (grid0.coords t) = ![t.val, 0, 0]
  h1 : ∀ t : Fin 64, d.w1.ix (grid0.coords t) = ![t.val, 0, 0]
  h2 : ∀ t : Fin 64, d.w2.ix (grid0.coords t) = ![ℓ.val, 0, 0]
  h3 : ∀ t : Fin 64, d.w3.ix (grid0.coords t) = ![ℓ.val, 0, 0]
  h4 : ∀ t : Fin 64, d.w4.ix (grid0.coords t) = ![ℓ.val, 0, 0]
  h5 : ∀ t : Fin 64, d.w5.ix (grid0.coords t) = ![ℓ.val, 0, 0]
  h6 : ∀ t : Fin 64, d.w6.ix (grid0.coords t) = ![ℓ.val, 0, 0]
  h7 : ∀ t : Fin 64, d.w7.ix (grid0.coords t) = ![ℓ.val, 0, 0]
  h8 : ∀ t : Fin 64, d.w8.ix (grid0.coords t) = ![t.val, 0, 0]
  hf : ∀ t : Fin 64, (d.w8.win true).flush t = true

/-- An entry of a block at block position `(n, 0, 0)` of an array of slabs. -/
theorem WD.slab {F : FTy → Type} [FloatOps F] [Named F] {G : Pipeline.Grid} {n₀ n₁ n₂ : ℕ} {e : EltTy}
    (d : WD G ⟨3, ![n₀, n₁, n₂]⟩ ![1, n₁, n₂] e)
    (V : (c : Dev nD) → (b : Ref sig .tc) → Buf (Elt F) ((c : Thread nD τ).loc b)) (c : Dev nD) (t : Fin G.N) (n : Fin n₀)
    (h : d.ix (G.coords t) = ![n.val, 0, 0]) (l : Fin n₁) (j : Fin n₂) :
    d.blkAt V c t (ix3 0 l j) = d.A V c (ix3 n l j) :=
  d.blkAt_apply V c t _ _ fun a => by
    rw [h]
    match a with
    | ⟨0, _⟩ => exact (show n.val = n.val * 1 + 0 by omega)
    | ⟨1, _⟩ => exact (show l.val = 0 * n₁ + l.val by omega)
    | ⟨2, _⟩ => exact (show j.val = 0 * n₂ + j.val by omega)

/-- The slab `t` of an array of 64 slabs holds the entries at `(t, ·, ·)`. -/
theorem slab_emb (off : Fin 3 → ℕ) (inb) (t : Fin 64) (h : off = ![t.val * 1, 0 * 64, 0 * 1024]) (l : Fin 64) (j : Fin 1024) :
    (Rect.unit (s := S64x64x1024) off ![1, 64, 1024] inb).emb (ix3 0 l j) = ix3 t l j := by
  subst h
  refine funext fun a => Fin.ext ((ValueKit.rect_emb_unit_val _ _ _ _ a).trans ?_)
  match a with
  | ⟨0, _⟩ => exact (show t.val * 1 + 0 = t.val by omega)
  | ⟨1, _⟩ => exact (show 0 * 64 + l.val = l.val by omega)
  | ⟨2, _⟩ => exact (show 0 * 1024 + j.val = j.val by omega)

/-- A slab's offsets from its block position. -/
theorem slab_off {f : Fin 3 → ℕ} {n : ℕ} (h : f = ![n, 0, 0]) :
    (fun a => f a * S1x64x1024.size a) = ![n * 1, 0 * 64, 0 * 1024] := by
  subst h
  funext a
  match a with | 0 => rfl | 1 => rfl | 2 => rfl

/-- What a cross attention call leaves in its result array. -/
theorem CAD.out (d : CAD) (b : Λ₀.Label) (args : Fin grid0.N → ((w : Fin 9) → Fin (d.win w).nbuf) → Λ₀.Args b)
    (V : (c : Dev nD) → (b : Ref sig .tc) → Buf (Elt Ideal) ((c : Thread nD τ).loc b)) (c : Dev nD) (ℓ : Fin 8) (hd : d.Fits ℓ)
    (i l : Fin 64) (j : Fin 1024) :
    d.w8.arr.view.read (Elt Ideal) ((d.dat b args V c).arrAt (8 : Fin 9) grid0.N) (ix3 i l j)
      = Layer.cross (fun i l j => d.w0.A V c (ix3 i l j)) (fun i l j => d.w1.A V c (ix3 i l j)) (fun i j => d.w2.A V c (ix3 ℓ i j)) (fun j => d.w3.A V c (ix3 ℓ 0 j)) (fun i j => d.w4.A V c (ix3 ℓ i j)) (fun j => d.w5.A V c (ix3 ℓ 0 j)) (fun j => d.w6.A V c (ix3 ℓ 0 j)) (fun j => d.w7.A V c (ix3 ℓ 0 j)) i l j := by
  have key : ∀ (t l : Fin 64) (j : Fin 1024), caBlock (d.w0.blkAt V c t) (d.w1.blkAt V c t) (d.w2.blkAt V c t) (d.w3.blkAt V c t) (d.w4.blkAt V c t) (d.w5.blkAt V c t) (d.w6.blkAt V c t) (d.w7.blkAt V c t) (ix3 0 l j)
      = Layer.cross (fun i l j => d.w0.A V c (ix3 i l j)) (fun i l j => d.w1.A V c (ix3 i l j)) (fun i j => d.w2.A V c (ix3 ℓ i j)) (fun j => d.w3.A V c (ix3 ℓ 0 j)) (fun i j => d.w4.A V c (ix3 ℓ i j)) (fun j => d.w5.A V c (ix3 ℓ 0 j)) (fun j => d.w6.A V c (ix3 ℓ 0 j)) (fun j => d.w7.A V c (ix3 ℓ 0 j)) t l j := by
    intro t l j
    refine (caBlock_apply _ _ _ _ _ _ _ _ l j).trans ?_
    unfold Layer.cross
    simp only [WD.slab d.w0 V c t t (hd.h0 t), WD.slab d.w1 V c t t (hd.h1 t), WD.slab d.w2 V c t ℓ (hd.h2 t), WD.slab d.w3 V c t ℓ (hd.h3 t), WD.slab d.w4 V c t ℓ (hd.h4 t), WD.slab d.w5 V c t ℓ (hd.h5 t), WD.slab d.w6 V c t ℓ (hd.h6 t), WD.slab d.w7 V c t ℓ (hd.h7 t)]
  refine out_read c (d.dat b args V c) (8 : Fin 9) (fun k => Layer.cross (fun i l j => d.w0.A V c (ix3 i l j)) (fun i l j => d.w1.A V c (ix3 i l j)) (fun i j => d.w2.A V c (ix3 ℓ i j)) (fun j => d.w3.A V c (ix3 ℓ 0 j)) (fun i j => d.w4.A V c (ix3 ℓ i j)) (fun j => d.w5.A V c (ix3 ℓ 0 j)) (fun j => d.w6.A V c (ix3 ℓ 0 j)) (fun j => d.w7.A V c (ix3 ℓ 0 j)) (k 0) (k 1) (k 2)) d.w8.harr ?_ ?_ (ix3 i l j)
  · intro k
    refine ⟨(k 0 : Fin 64), hd.hf _, ix3 0 (k 1) (k 2), ?_⟩
    refine (ix3_eta k).symm.trans (slab_emb _ _ (k 0) ?_ (k 1) (k 2)).symm
    exact slab_off (hd.h8 (k 0))
  · intro t _ y
    have hy : y = ix3 0 (y 1) (y 2) := by
      refine (ix3_eta y).symm.trans ?_
      congr 1
      exact Subsingleton.elim (α := Fin 1) _ _
    have he : (((d.cfg b args).win (8 : Fin 9)).rect t).emb y = ix3 t (y 1) (y 2) := by
      rw [hy]
      exact slab_emb _ _ t (slab_off (hd.h8 t)) (y 1) (y 2)
    rw [he]
    show (d.dat b args V c).after (8 : Fin 9) t y = _
    rw [CAD.after8, hy]
    exact key t (y 1) (y 2)

/-- Which blocks the windows of a self attention call of layer `ℓ` show. -/
structure SAD.Fits (d : SAD) (ℓ : Fin 8) : Prop where
  h0 : ∀ t : Fin 64, d.w0.ix (grid1.coords t) = ![t.val, 0, 0]
  h1 : ∀ t : Fin 64, d.w1.ix (grid1.coords t) = ![ℓ.val, 0, 0]
  h2 : ∀ t : Fin 64, d.w2.ix (grid1.coords t) = ![ℓ.val, 0, 0]
  h3 : ∀ t : Fin 64, d.w3.ix (grid1.coords t) = ![ℓ.val, 0, 0]
  h4 : ∀ t : Fin 64, d.w4.ix (grid1.coords t) = ![ℓ.val, 0, 0]
  h5 : ∀ t : Fin 64, d.w5.ix (grid1.coords t) = ![ℓ.val, 0, 0]
  h6 : ∀ t : Fin 64, d.w6.ix (grid1.coords t) = ![ℓ.val, 0, 0]
  h7 : ∀ t : Fin 64, d.w7.ix (grid1.coords t) = ![t.val, 0, 0]
  hf : ∀ t : Fin 64, (d.w7.win true).flush t = true

/-- What a self attention call leaves in its result array. -/
theorem SAD.out (d : SAD) (b : Λ₀.Label) (args : Fin grid1.N → ((w : Fin 8) → Fin (d.win w).nbuf) → Λ₀.Args b)
    (V : (c : Dev nD) → (b : Ref sig .tc) → Buf (Elt Ideal) ((c : Thread nD τ).loc b)) (c : Dev nD) (ℓ : Fin 8) (hd : d.Fits ℓ)
    (i l : Fin 64) (j : Fin 1024) :
    d.w7.arr.view.read (Elt Ideal) ((d.dat b args V c).arrAt (7 : Fin 8) grid1.N) (ix3 i l j)
      = Layer.selfA (fun i l j => d.w0.A V c (ix3 i l j)) (fun i j => d.w1.A V c (ix3 ℓ i j)) (fun j => d.w2.A V c (ix3 ℓ 0 j)) (fun i j => d.w3.A V c (ix3 ℓ i j)) (fun j => d.w4.A V c (ix3 ℓ 0 j)) (fun j => d.w5.A V c (ix3 ℓ 0 j)) (fun j => d.w6.A V c (ix3 ℓ 0 j)) i l j := by
  have key : ∀ (t l : Fin 64) (j : Fin 1024), saBlock (d.w0.blkAt V c t) (d.w1.blkAt V c t) (d.w2.blkAt V c t) (d.w3.blkAt V c t) (d.w4.blkAt V c t) (d.w5.blkAt V c t) (d.w6.blkAt V c t) (ix3 0 l j)
      = Layer.selfA (fun i l j => d.w0.A V c (ix3 i l j)) (fun i j => d.w1.A V c (ix3 ℓ i j)) (fun j => d.w2.A V c (ix3 ℓ 0 j)) (fun i j => d.w3.A V c (ix3 ℓ i j)) (fun j => d.w4.A V c (ix3 ℓ 0 j)) (fun j => d.w5.A V c (ix3 ℓ 0 j)) (fun j => d.w6.A V c (ix3 ℓ 0 j)) t l j := by
    intro t l j
    refine (saBlock_apply _ _ _ _ _ _ _ l j).trans ?_
    unfold Layer.selfA
    simp only [WD.slab d.w0 V c t t (hd.h0 t), WD.slab d.w1 V c t ℓ (hd.h1 t), WD.slab d.w2 V c t ℓ (hd.h2 t), WD.slab d.w3 V c t ℓ (hd.h3 t), WD.slab d.w4 V c t ℓ (hd.h4 t), WD.slab d.w5 V c t ℓ (hd.h5 t), WD.slab d.w6 V c t ℓ (hd.h6 t)]
  refine out_read c (d.dat b args V c) (7 : Fin 8) (fun k => Layer.selfA (fun i l j => d.w0.A V c (ix3 i l j)) (fun i j => d.w1.A V c (ix3 ℓ i j)) (fun j => d.w2.A V c (ix3 ℓ 0 j)) (fun i j => d.w3.A V c (ix3 ℓ i j)) (fun j => d.w4.A V c (ix3 ℓ 0 j)) (fun j => d.w5.A V c (ix3 ℓ 0 j)) (fun j => d.w6.A V c (ix3 ℓ 0 j)) (k 0) (k 1) (k 2)) d.w7.harr ?_ ?_ (ix3 i l j)
  · intro k
    refine ⟨(k 0 : Fin 64), hd.hf _, ix3 0 (k 1) (k 2), ?_⟩
    refine (ix3_eta k).symm.trans (slab_emb _ _ (k 0) ?_ (k 1) (k 2)).symm
    exact slab_off (hd.h7 (k 0))
  · intro t _ y
    have hy : y = ix3 0 (y 1) (y 2) := by
      refine (ix3_eta y).symm.trans ?_
      congr 1
      exact Subsingleton.elim (α := Fin 1) _ _
    have he : (((d.cfg b args).win (7 : Fin 8)).rect t).emb y = ix3 t (y 1) (y 2) := by
      rw [hy]
      exact slab_emb _ _ t (slab_off (hd.h7 t)) (y 1) (y 2)
    rw [he]
    show (d.dat b args V c).after (7 : Fin 8) t y = _
    rw [SAD.after7, hy]
    exact key t (y 1) (y 2)

/-- Which blocks the windows of a feed forward call of layer `ℓ` show: point `t` works on row block `t / 4` and on chunk
    `t % 4` of the hidden units. The second bias and the normalisation's weights are shown at position `t % 4`, whatever
    the layer. -/
structure MLD.Fits (d : MLD) (ℓ : Fin 8) : Prop where
  h0 : ∀ t : Fin 32, d.w0.ix (grid2.coords t) = ![t.val / 4, 0]
  h1 : ∀ t : Fin 32, d.w1.ix (grid2.coords t) = ![ℓ.val, t.val % 4, 0]
  h2 : ∀ t : Fin 32, d.w2.ix (grid2.coords t) = ![ℓ.val, 0, t.val % 4]
  h3 : ∀ t : Fin 32, d.w3.ix (grid2.coords t) = ![ℓ.val, 0, t.val % 4]
  h4 : ∀ t : Fin 32, d.w4.ix (grid2.coords t) = ![t.val % 4, 0, 0]
  h5 : ∀ t : Fin 32, d.w5.ix (grid2.coords t) = ![t.val % 4, 0, 0]
  h6 : ∀ t : Fin 32, d.w6.ix (grid2.coords t) = ![t.val % 4, 0, 0]
  h7 : ∀ t : Fin 32, d.w7.ix (grid2.coords t) = ![t.val / 4, 0]
  hf : ∀ t : Fin 32, (d.w7.win true).flush t = true ↔ t.val % 4 = 3

/-- Row `r` of row block `q`. -/
abbrev row (q : Fin 8) (r : Fin 512) : Fin 4096 := ⟨512 * q.val + r.val, by omega⟩

/-- Point `c` of row block `q`. -/
abbrev pt (q : Fin 8) (c : Fin 4) : Fin 32 := ⟨4 * q.val + c.val, by omega⟩

section

variable (d : MLD) (V : (c : Dev nD) → (b : Ref sig .tc) → Buf (Elt Ideal) ((c : Thread nD τ).loc b)) (cd : Dev nD) (ℓ : Fin 8)
  (hd : d.Fits ℓ) (q : Fin 8) (c : Fin 4)

include hd

theorem MLD.b0 (r : Fin 512) (j : Fin 1024) : d.w0.blkAt V cd (pt q c) (ix2 r j) = d.w0.A V cd (ix2 (row q r) j) :=
  d.w0.blkAt_apply V cd _ _ _ fun a => by
    rw [hd.h0 (pt q c)]
    match a with
    | ⟨0, _⟩ => exact (show 512 * q.val + r.val = (4 * q.val + c.val) / 4 * 512 + r.val by omega)
    | ⟨1, _⟩ => exact (show j.val = 0 * 1024 + j.val by omega)

theorem MLD.b1 (i j : Fin 1024) :
    d.w1.blkAt V cd (pt q c) (ix3 0 i j) = d.w1.A V cd (ix3 ℓ ⟨1024 * c.val + i.val, by omega⟩ j) :=
  d.w1.blkAt_apply V cd _ _ _ fun a => by
    rw [hd.h1 (pt q c)]
    match a with
    | ⟨0, _⟩ => exact (show ℓ.val = ℓ.val * 1 + 0 by omega)
    | ⟨1, _⟩ => exact (show 1024 * c.val + i.val = (4 * q.val + c.val) % 4 * 1024 + i.val by omega)
    | ⟨2, _⟩ => exact (show j.val = 0 * 1024 + j.val by omega)

theorem MLD.b2 (i : Fin 1024) :
    d.w2.blkAt V cd (pt q c) (ix3 0 0 i) = d.w2.A V cd (ix3 ℓ 0 ⟨1024 * c.val + i.val, by omega⟩) :=
  d.w2.blkAt_apply V cd _ _ _ fun a => by
    rw [hd.h2 (pt q c)]
    match a with
    | ⟨0, _⟩ => exact (show ℓ.val = ℓ.val * 1 + 0 by omega)
    | ⟨1, _⟩ => exact (show 0 = 0 * 1 + 0 by omega)
    | ⟨2, _⟩ => exact (show 1024 * c.val + i.val = (4 * q.val + c.val) % 4 * 1024 + i.val by omega)

theorem MLD.b3 (j i : Fin 1024) :
    d.w3.blkAt V cd (pt q c) (ix3 0 j i) = d.w3.A V cd (ix3 ℓ j ⟨1024 * c.val + i.val, by omega⟩) :=
  d.w3.blkAt_apply V cd _ _ _ fun a => by
    rw [hd.h3 (pt q c)]
    match a with
    | ⟨0, _⟩ => exact (show ℓ.val = ℓ.val * 1 + 0 by omega)
    | ⟨1, _⟩ => exact (show j.val = 0 * 1024 + j.val by omega)
    | ⟨2, _⟩ => exact (show 1024 * c.val + i.val = (4 * q.val + c.val) % 4 * 1024 + i.val by omega)

/-- The layer normalised row block, kept over its four points. -/
theorem MLD.scr_apply (r : Fin 512) (j : Fin 1024) : d.scrAt V cd (4 * q.val + c.val) (ix2 r j)
      = Layer.ln (fun j => d.w0.A V cd (ix2 (row q r) j)) (fun j => d.w5.A V cd (ix3 0 0 j)) (fun j => d.w6.A V cd (ix3 0 0 j)) j := by
  have h0 : d.scrAt V cd (4 * q.val) (ix2 r j)
      = Layer.ln (fun j => d.w0.A V cd (ix2 (row q r) j)) (fun j => d.w5.A V cd (ix3 0 0 j)) (fun j => d.w6.A V cd (ix3 0 0 j)) j := by
    refine (congrFun (d.scrAt_first V cd (pt q 0) (by show (4 * q.val + 0) % 4 = 0; omega)) (ix2 r j)).trans ?_
    refine (mlpLn_apply _ _ _ r j).trans ?_
    simp only [d.b0 V cd ℓ hd q 0, WD.slab d.w5 V cd (pt q 0) 0 ((hd.h5 _).trans (by congr 1; show (4 * q.val + 0) % 4 = 0; omega)),
      WD.slab d.w6 V cd (pt q 0) 0 ((hd.h6 _).trans (by congr 1; show (4 * q.val + 0) % 4 = 0; omega))]
  have step : ∀ n : ℕ, n < 4 → d.scrAt V cd (4 * q.val + n) = d.scrAt V cd (4 * q.val) := by
    intro n
    induction n with
    | zero => intro _; rfl
    | succ n ih =>
      intro hn
      rw [← ih (by omega)]
      exact d.scrAt_next V cd (pt q ⟨n + 1, hn⟩) (by show (4 * q.val + (n + 1)) % 4 ≠ 0; omega)
  rw [step c.val c.isLt, h0]

/-- What one chunk adds. -/
theorem MLD.step_apply (s : Vec Ideal S512x1024 .bf16) (o : Vec Ideal S512x1024 .f32) (r : Fin 512) (j : Fin 1024) :
    d.step V cd (pt q c) s o (ix2 r j) = o (ix2 r j)
      + ∑ i : Fin 1024, max (Layer.proj (fun k => s (ix2 r k)) (fun i k => d.w1.A V cd (ix3 ℓ i k)) (fun i => d.w2.A V cd (ix3 ℓ 0 i))
          ⟨1024 * c.val + i.val, by omega⟩) 0 * d.w3.A V cd (ix3 ℓ j ⟨1024 * c.val + i.val, by omega⟩) := by
  refine (mlpStep_apply _ _ _ _ _ r j).trans ?_
  unfold Layer.proj
  simp only [d.b1 V cd ℓ hd q c, d.b2 V cd ℓ hd q c, d.b3 V cd ℓ hd q c]

/-- One chunk more. -/
theorem MLD.acc_next (r : Fin 512) (j : Fin 1024) (n : ℕ) (h : n + 1 < 4) : d.accAt V cd (4 * q.val + (n + 1)) (ix2 r j)
      = d.accAt V cd (4 * q.val + n) (ix2 r j)
        + ∑ i : Fin 1024, max (Layer.proj (fun k => d.scrAt V cd (4 * q.val + n) (ix2 r k)) (fun i k => d.w1.A V cd (ix3 ℓ i k))
            (fun i => d.w2.A V cd (ix3 ℓ 0 i)) ⟨1024 * (n + 1) + i.val, by omega⟩) 0 * d.w3.A V cd (ix3 ℓ j ⟨1024 * (n + 1) + i.val, by omega⟩) :=
  (congrFun (d.accAt_next V cd (pt q ⟨n + 1, h⟩) (by show (4 * q.val + (n + 1)) % 4 ≠ 0; omega)) (ix2 r j)).trans
    (d.step_apply V cd ℓ hd q ⟨n + 1, h⟩ _ _ r j)

/-- The output block after its last point. -/
theorem MLD.acc_apply (r : Fin 512) (j : Fin 1024) : d.accAt V cd (4 * q.val + 3) (ix2 r j)
      = Layer.ff (fun r j => d.w0.A V cd (ix2 r j)) (fun i k => d.w1.A V cd (ix3 ℓ i k)) (fun i => d.w2.A V cd (ix3 ℓ 0 i))
          (fun j i => d.w3.A V cd (ix3 ℓ j i)) (fun j => d.w4.A V cd (ix3 0 0 j)) (fun j => d.w5.A V cd (ix3 0 0 j))
          (fun j => d.w6.A V cd (ix3 0 0 j)) (row q r) j := by
  rw [d.acc_next V cd ℓ hd q r j 2 (by omega), d.acc_next V cd ℓ hd q r j 1 (by omega), d.acc_next V cd ℓ hd q r j 0 (by omega)]
  have h0 : d.accAt V cd (4 * q.val + 0) (ix2 r j) = _ :=
    (congrFun (d.accAt_first V cd (pt q 0) (by show (4 * q.val + 0) % 4 = 0; omega)) (ix2 r j)).trans (d.step_apply V cd ℓ hd q 0 _ _ r j)
  rw [h0]
  have hl : ∀ k, d.ln V cd (pt q 0) (ix2 r k) = _ := fun k =>
    (congrFun (d.scrAt_first V cd (pt q 0) (by show (4 * q.val + 0) % 4 = 0; omega)) (ix2 r k)).symm.trans (d.scr_apply V cd ℓ hd q 0 r k)
  have hs : d.start V cd (pt q 0) (ix2 r j) = d.w0.A V cd (ix2 (row q r) j) + d.w4.A V cd (ix3 0 0 j) := by
    refine (mlpInit_apply _ _ r j).trans ?_
    rw [d.b0 V cd ℓ hd q 0, WD.slab d.w4 V cd (pt q 0) 0 ((hd.h4 _).trans (by congr 1; show (4 * q.val + 0) % 4 = 0; omega))]
  have hk : ∀ (n : ℕ) (h : n < 4) k, d.scrAt V cd (4 * q.val + n) (ix2 r k) = _ := fun n h k => d.scr_apply V cd ℓ hd q ⟨n, h⟩ r k
  simp only [hl, hs, hk _ (show 2 < 4 by omega), hk _ (show 1 < 4 by omega), hk _ (show 0 < 4 by omega)]
  unfold Layer.ff
  rw [← Layer.ffn_chunks, Fin.sum_univ_four]
  simp only [← add_assoc]
  rfl

end

/-- A row block's entries placed in the array. -/
theorem rows_emb (off : Fin 2 → ℕ) (inb) (q : Fin 8) (h : off = ![q.val * 512, 0 * 1024]) (r : Fin 512) (j : Fin 1024) :
    (Rect.unit (s := S4096x1024) off ![512, 1024] inb).emb (ix2 r j) = ix2 (row q r) j := by
  subst h
  refine funext fun a => Fin.ext ((ValueKit.rect_emb_unit_val _ _ _ _ a).trans ?_)
  match a with
  | ⟨0, _⟩ => exact (show q.val * 512 + r.val = 512 * q.val + r.val by omega)
  | ⟨1, _⟩ => exact (show 0 * 1024 + j.val = j.val by omega)

/-- A row block's offsets from its block position. -/
theorem rows_off {f : Fin 2 → ℕ} {n : ℕ} (h : f = ![n, 0]) : (fun a => f a * S512x1024.size a) = ![n * 512, 0 * 1024] := by
  subst h
  funext a
  match a with | 0 => rfl | 1 => rfl

/-- What a feed forward call leaves in its result array. -/
theorem MLD.out (d : MLD) (V : (c : Dev nD) → (b : Ref sig .tc) → Buf (Elt Ideal) ((c : Thread nD τ).loc b))
    (b : Λ₀.Label) (args : Fin grid2.N → ((w : Fin 8) → Fin (d.win w).nbuf) → Λ₀.Args b) (c : Dev nD) (ℓ : Fin 8) (hd : d.Fits ℓ)
    (r : Fin 4096) (j : Fin 1024) :
    d.w7.arr.view.read (Elt Ideal) ((d.dat V b args c).arrAt (7 : Fin 8) grid2.N) (ix2 r j)
      = Layer.ff (fun r j => d.w0.A V c (ix2 r j)) (fun i k => d.w1.A V c (ix3 ℓ i k)) (fun i => d.w2.A V c (ix3 ℓ 0 i))
          (fun j i => d.w3.A V c (ix3 ℓ j i)) (fun j => d.w4.A V c (ix3 0 0 j)) (fun j => d.w5.A V c (ix3 0 0 j))
          (fun j => d.w6.A V c (ix3 0 0 j)) r j := by
  refine out_read c (d.dat V b args c) (7 : Fin 8) (fun k => Layer.ff (fun r j => d.w0.A V c (ix2 r j)) (fun i k => d.w1.A V c (ix3 ℓ i k))
    (fun i => d.w2.A V c (ix3 ℓ 0 i)) (fun j i => d.w3.A V c (ix3 ℓ j i)) (fun j => d.w4.A V c (ix3 0 0 j)) (fun j => d.w5.A V c (ix3 0 0 j))
    (fun j => d.w6.A V c (ix3 0 0 j)) (k 0) (k 1)) d.w7.harr ?_ ?_ (ix2 r j)
  · intro k
    have hlt : (k 0).val < 4096 := (k 0).isLt
    refine ⟨pt ⟨(k 0).val / 512, by omega⟩ 3, (hd.hf _).2 (by show (4 * ((k 0).val / 512) + 3) % 4 = 3; omega),
      ix2 ⟨(k 0).val % 512, Nat.mod_lt _ (by decide)⟩ (k 1), ?_⟩
    refine Eq.trans ?_ (rows_emb _ _ ⟨(k 0).val / 512, by omega⟩ (rows_off ((hd.h7 (pt ⟨(k 0).val / 512, by omega⟩ 3)).trans ?_)) _ (k 1)).symm
    · refine (ix2_eta k).symm.trans ?_
      congr 1
      exact Fin.ext (show (k 0).val = 512 * ((k 0).val / 512) + (k 0).val % 512 by omega)
    · congr 1
      show (4 * ((k 0).val / 512) + 3) / 4 = (k 0).val / 512
      omega
  · intro t hf y
    have h3 : t.val % 4 = 3 := (hd.hf t).1 hf
    have ht : t.val < 32 := t.isLt
    obtain ⟨q, hq⟩ : ∃ q : Fin 8, t = pt q 3 := ⟨⟨t.val / 4, by omega⟩, Fin.ext (show t.val = 4 * (t.val / 4) + 3 by omega)⟩
    subst hq
    have hy : y = ix2 (y 0) (y 1) := (ix2_eta y).symm
    have he : (((d.cfg b args).win (7 : Fin 8)).rect (pt q 3)).emb y = ix2 (row q (y 0)) (y 1) := by
      rw [hy]
      exact rows_emb _ _ q (rows_off ((hd.h7 (pt q 3)).trans (by congr 1; show (4 * q.val + 3) / 4 = q.val; omega))) (y 0) (y 1)
    rw [he]
    refine (congrFun (MLD.after7 d V b args c (pt q 3)) y).trans ?_
    rw [hy]
    exact d.acc_apply V c ℓ hd q (y 0) (y 1)

end Cert.KernelIdeal.Gen

end

end
-- ==== Proof.Net.lean ====
/- The whole stack over the extended reals: its weights read as index functions, one layer, and the eight layers. -/
module

public import proofs.«01_k».proof.Proof.Values

@[expose] public section

noncomputable section

namespace Cert.Layer

open Idealize.ShloMosaic

/-- A batch of 64 sequences of 64 rows. -/
abbrev Rows := Fin 64 → Fin 64 → Fin 1024 → EReal

/-- The context and the weights of the eight layers. -/
structure Wts where
  ctx : Fin 64 → Fin 512 → Fin 1024 → EReal
  caw : Fin 8 → Fin 3072 → Fin 1024 → EReal
  cab : Fin 8 → Fin 3072 → EReal
  cao : Fin 8 → Fin 1024 → Fin 1024 → EReal
  cac : Fin 8 → Fin 1024 → EReal
  cag : Fin 8 → Fin 1024 → EReal
  cah : Fin 8 → Fin 1024 → EReal
  saw : Fin 8 → Fin 3072 → Fin 1024 → EReal
  sab : Fin 8 → Fin 3072 → EReal
  sao : Fin 8 → Fin 1024 → Fin 1024 → EReal
  sac : Fin 8 → Fin 1024 → EReal
  sag : Fin 8 → Fin 1024 → EReal
  sah : Fin 8 → Fin 1024 → EReal
  mg : Fin 8 → Fin 1024 → EReal
  mh : Fin 8 → Fin 1024 → EReal
  w1 : Fin 8 → Fin 4096 → Fin 1024 → EReal
  b1 : Fin 8 → Fin 4096 → EReal
  w2 : Fin 8 → Fin 1024 → Fin 4096 → EReal
  b2 : Fin 8 → Fin 1024 → EReal

/-- The arrays as the programs hold them, read as index functions. -/
def Wts.of (a0 : FVec Ideal ⟨3, ![64, 512, 1024]⟩ .f32) (a3 : FVec Ideal ⟨3, ![8, 3072, 1024]⟩ .f32) (a4 : FVec Ideal ⟨2, ![8, 3072]⟩ .f32)
    (a5 : FVec Ideal ⟨3, ![8, 1024, 1024]⟩ .f32) (a6 a7 a8 : FVec Ideal ⟨2, ![8, 1024]⟩ .f32)
    (a9 : FVec Ideal ⟨3, ![8, 3072, 1024]⟩ .f32) (a10 : FVec Ideal ⟨2, ![8, 3072]⟩ .f32)
    (a11 : FVec Ideal ⟨3, ![8, 1024, 1024]⟩ .f32) (a12 a13 a14 a15 a16 : FVec Ideal ⟨2, ![8, 1024]⟩ .f32)
    (a17 : FVec Ideal ⟨3, ![8, 4096, 1024]⟩ .f32) (a18 : FVec Ideal ⟨2, ![8, 4096]⟩ .f32)
    (a19 : FVec Ideal ⟨3, ![8, 1024, 4096]⟩ .f32) (a20 : FVec Ideal ⟨2, ![8, 1024]⟩ .f32) : Wts where
  ctx i t j := a0 (ix3 i t j)
  caw ℓ i j := a3 (ix3 ℓ i j)
  cab ℓ j := a4 (ix2 ℓ j)
  cao ℓ i j := a5 (ix3 ℓ i j)
  cac ℓ j := a6 (ix2 ℓ j)
  cag ℓ j := a7 (ix2 ℓ j)
  cah ℓ j := a8 (ix2 ℓ j)
  saw ℓ i j := a9 (ix3 ℓ i j)
  sab ℓ j := a10 (ix2 ℓ j)
  sao ℓ i j := a11 (ix3 ℓ i j)
  sac ℓ j := a12 (ix2 ℓ j)
  sag ℓ j := a13 (ix2 ℓ j)
  sah ℓ j := a14 (ix2 ℓ j)
  mg ℓ j := a15 (ix2 ℓ j)
  mh ℓ j := a16 (ix2 ℓ j)
  w1 ℓ i j := a17 (ix3 ℓ i j)
  b1 ℓ j := a18 (ix2 ℓ j)
  w2 ℓ i j := a19 (ix3 ℓ i j)
  b2 ℓ j := a20 (ix2 ℓ j)

/-- The rows before the first layer: the queries plus the positions `p`. -/
def start (a2 : FVec Ideal ⟨3, ![1, 64, 1024]⟩ .f32) (p : FVec Ideal ⟨2, ![64, 1024]⟩ .f32) : Rows :=
  fun i l j => a2 (ix3 0 l j) + p (ix2 l j)

variable (A : Wts) (ℓ : Fin 8)

/-- Layer `ℓ`'s cross attention. -/
def stepC (x : Rows) : Rows := cross x A.ctx (A.caw ℓ) (A.cab ℓ) (A.cao ℓ) (A.cac ℓ) (A.cag ℓ) (A.cah ℓ)

/-- Layer `ℓ`'s self attention. -/
def stepS (x : Rows) : Rows := selfA x (A.saw ℓ) (A.sab ℓ) (A.sao ℓ) (A.sac ℓ) (A.sag ℓ) (A.sah ℓ)

/-- Layer `ℓ`'s feed-forward part. -/
def stepF (x : Rows) : Rows := fun i l j => x i l j + ffn (ln (x i l) (A.mg ℓ) (A.mh ℓ)) (A.w1 ℓ) (A.b1 ℓ) (A.w2 ℓ) (A.b2 ℓ) j

/-- Layer `ℓ`. -/
def step (x : Rows) : Rows := stepF A ℓ (stepS A ℓ (stepC A ℓ x))

/-- The rows after the first `n` layers. -/
def net (x : Rows) : ℕ → Rows
  | 0 => x
  | n + 1 => if h : n < 8 then step A ⟨n, h⟩ (net x n) else net x n

theorem net_succ (x : Rows) (ℓ : Fin 8) : net A x (ℓ.val + 1) = step A ℓ (net A x ℓ.val) := by
  rw [net, dif_pos ℓ.isLt]

end Cert.Layer

end

end
-- ==== Proof.Entry.lean ====
/- What the first host operations leave: the starting rows and the weights in the forms the calls read them. -/
module

public import proofs.«01_k».proof.Proof.Run
public import proofs.«01_k».proof.Proof.Net

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

variable (m : (ℓ : Loc nD τ sig) → Buf (Elt Ideal) ℓ) (c : Dev nD)

/-- The arrays every layer reads. -/
abbrev wRefs : List (Ref sig .tc) := [main_v4, main_v5, main_v6, main_v7, main_v8, main_v9, main_v10, main_v11, main_v12, main_v13, main_v14, main_v15, main_v16, main_v17, main_v18, main_v19, main_v20, main_v21, main_v22]

theorem wRefs_kept : ∀ a ∈ wRefs, ∀ p : Fin 24, kept p a := ListAll.forall_mem_of_all_decide (by decide +kernel)

/-- They hold at every call what the first host operations left. -/
theorem entryW_w (a : Ref sig .tc) (ha : a ∈ wRefs) (n : ℕ) (hn : n ≤ 24) :
    entryW m n c (Proc.devRef .tc a) = entryW m 0 c (Proc.devRef .tc a) :=
  entryW_keeps m a 0 c n (Nat.zero_le _) hn fun p _ _ => wRefs_kept a ha p

/-! A row array with a unit axis put in is the row array. -/

theorem unit_row1024 (x : S8x1024.Idx → EReal) (h : S8x1024.ShapeCasts S8x1x1024) (ℓ : Fin 8) (j : Fin 1024) :
    shapeCast S8x1x1024 x h (ix3 ℓ 0 j) = x (ix2 ℓ j) := by
  pointwise

theorem unit_row3072 (x : S8x3072.Idx → EReal) (h : S8x3072.ShapeCasts S8x1x3072) (ℓ : Fin 8) (j : Fin 3072) :
    shapeCast S8x1x3072 x h (ix3 ℓ 0 j) = x (ix2 ℓ j) := by
  pointwise

theorem unit_row4096 (x : S8x4096.Idx → EReal) (h : S8x4096.ShapeCasts S8x1x4096) (ℓ : Fin 8) (j : Fin 4096) :
    shapeCast S8x1x4096 x h (ix3 ℓ 0 j) = x (ix2 ℓ j) := by
  pointwise

theorem entry_v4 (n : ℕ) (hn : n ≤ 24) : @Eq (S64x512x1024.Idx → EReal) (entryW m n c (Proc.devRef .tc main_v4)) (m ((c : Thread nD τ).loc main_arg0)) := by
  refine (entryW_w m c main_v4 (by decide) n hn).trans ?_
  show StableHlo.after hostOps0 (fun b => m ((c : Dev nD), b)) (Proc.devRef .tc main_v4) = _
  after_reads_simp
  rfl

theorem entry_v5 (n : ℕ) (hn : n ≤ 24) : @Eq (S8x3072x1024.Idx → EReal) (entryW m n c (Proc.devRef .tc main_v5)) (m ((c : Thread nD τ).loc main_arg3)) := by
  refine (entryW_w m c main_v5 (by decide) n hn).trans ?_
  show StableHlo.after hostOps0 (fun b => m ((c : Dev nD), b)) (Proc.devRef .tc main_v5) = _
  after_reads_simp
  rfl

theorem entry_v6 (n : ℕ) (hn : n ≤ 24) : @Eq (S8x1024x1024.Idx → EReal) (entryW m n c (Proc.devRef .tc main_v6)) (m ((c : Thread nD τ).loc main_arg5)) := by
  refine (entryW_w m c main_v6 (by decide) n hn).trans ?_
  show StableHlo.after hostOps0 (fun b => m ((c : Dev nD), b)) (Proc.devRef .tc main_v6) = _
  after_reads_simp
  rfl

theorem entry_v7 (n : ℕ) (hn : n ≤ 24) : @Eq (S8x3072x1024.Idx → EReal) (entryW m n c (Proc.devRef .tc main_v7)) (m ((c : Thread nD τ).loc main_arg9)) := by
  refine (entryW_w m c main_v7 (by decide) n hn).trans ?_
  show StableHlo.after hostOps0 (fun b => m ((c : Dev nD), b)) (Proc.devRef .tc main_v7) = _
  after_reads_simp
  rfl

theorem entry_v8 (n : ℕ) (hn : n ≤ 24) : @Eq (S8x1024x1024.Idx → EReal) (entryW m n c (Proc.devRef .tc main_v8)) (m ((c : Thread nD τ).loc main_arg11)) := by
  refine (entryW_w m c main_v8 (by decide) n hn).trans ?_
  show StableHlo.after hostOps0 (fun b => m ((c : Dev nD), b)) (Proc.devRef .tc main_v8) = _
  after_reads_simp
  rfl

theorem entry_v9 (n : ℕ) (hn : n ≤ 24) : @Eq (S8x4096x1024.Idx → EReal) (entryW m n c (Proc.devRef .tc main_v9)) (m ((c : Thread nD τ).loc main_arg17)) := by
  refine (entryW_w m c main_v9 (by decide) n hn).trans ?_
  show StableHlo.after hostOps0 (fun b => m ((c : Dev nD), b)) (Proc.devRef .tc main_v9) = _
  after_reads_simp
  rfl

theorem entry_v10 (n : ℕ) (hn : n ≤ 24) : @Eq (S8x1024x4096.Idx → EReal) (entryW m n c (Proc.devRef .tc main_v10)) (m ((c : Thread nD τ).loc main_arg19)) := by
  refine (entryW_w m c main_v10 (by decide) n hn).trans ?_
  show StableHlo.after hostOps0 (fun b => m ((c : Dev nD), b)) (Proc.devRef .tc main_v10) = _
  after_reads_simp
  rfl

theorem entry_v11 (n : ℕ) (hn : n ≤ 24) (ℓ : Fin 8) (j : Fin 3072) :
    @Eq EReal ((entryW m n c (Proc.devRef .tc main_v11) : S8x1x3072.Idx → EReal) (ix3 ℓ 0 j)) ((m ((c : Thread nD τ).loc main_arg4) : S8x3072.Idx → EReal) (ix2 ℓ j)) := by
  refine (congrFun (entryW_w m c main_v11 (by decide) n hn) (ix3 ℓ 0 j)).trans ?_
  show StableHlo.after hostOps0 (fun b => m ((c : Dev nD), b)) (Proc.devRef .tc main_v11) (ix3 ℓ 0 j) = _
  after_reads_simp
  exact unit_row3072 _ _ ℓ j

theorem entry_v12 (n : ℕ) (hn : n ≤ 24) (ℓ : Fin 8) (j : Fin 1024) :
    @Eq EReal ((entryW m n c (Proc.devRef .tc main_v12) : S8x1x1024.Idx → EReal) (ix3 ℓ 0 j)) ((m ((c : Thread nD τ).loc main_arg6) : S8x1024.Idx → EReal) (ix2 ℓ j)) := by
  refine (congrFun (entryW_w m c main_v12 (by decide) n hn) (ix3 ℓ 0 j)).trans ?_
  show StableHlo.after hostOps0 (fun b => m ((c : Dev nD), b)) (Proc.devRef .tc main_v12) (ix3 ℓ 0 j) = _
  after_reads_simp
  exact unit_row1024 _ _ ℓ j

theorem entry_v13 (n : ℕ) (hn : n ≤ 24) (ℓ : Fin 8) (j : Fin 3072) :
    @Eq EReal ((entryW m n c (Proc.devRef .tc main_v13) : S8x1x3072.Idx → EReal) (ix3 ℓ 0 j)) ((m ((c : Thread nD τ).loc main_arg10) : S8x3072.Idx → EReal) (ix2 ℓ j)) := by
  refine (congrFun (entryW_w m c main_v13 (by decide) n hn) (ix3 ℓ 0 j)).trans ?_
  show StableHlo.after hostOps0 (fun b => m ((c : Dev nD), b)) (Proc.devRef .tc main_v13) (ix3 ℓ 0 j) = _
  after_reads_simp
  exact unit_row3072 _ _ ℓ j

theorem entry_v14 (n : ℕ) (hn : n ≤ 24) (ℓ : Fin 8) (j : Fin 1024) :
    @Eq EReal ((entryW m n c (Proc.devRef .tc main_v14) : S8x1x1024.Idx → EReal) (ix3 ℓ 0 j)) ((m ((c : Thread nD τ).loc main_arg12) : S8x1024.Idx → EReal) (ix2 ℓ j)) := by
  refine (congrFun (entryW_w m c main_v14 (by decide) n hn) (ix3 ℓ 0 j)).trans ?_
  show StableHlo.after hostOps0 (fun b => m ((c : Dev nD), b)) (Proc.devRef .tc main_v14) (ix3 ℓ 0 j) = _
  after_reads_simp
  exact unit_row1024 _ _ ℓ j

theorem entry_v15 (n : ℕ) (hn : n ≤ 24) (ℓ : Fin 8) (j : Fin 4096) :
    @Eq EReal ((entryW m n c (Proc.devRef .tc main_v15) : S8x1x4096.Idx → EReal) (ix3 ℓ 0 j)) ((m ((c : Thread nD τ).loc main_arg18) : S8x4096.Idx → EReal) (ix2 ℓ j)) := by
  refine (congrFun (entryW_w m c main_v15 (by decide) n hn) (ix3 ℓ 0 j)).trans ?_
  show StableHlo.after hostOps0 (fun b => m ((c : Dev nD), b)) (Proc.devRef .tc main_v15) (ix3 ℓ 0 j) = _
  after_reads_simp
  exact unit_row4096 _ _ ℓ j

theorem entry_v16 (n : ℕ) (hn : n ≤ 24) (ℓ : Fin 8) (j : Fin 1024) :
    @Eq EReal ((entryW m n c (Proc.devRef .tc main_v16) : S8x1x1024.Idx → EReal) (ix3 ℓ 0 j)) ((m ((c : Thread nD τ).loc main_arg20) : S8x1024.Idx → EReal) (ix2 ℓ j)) := by
  refine (congrFun (entryW_w m c main_v16 (by decide) n hn) (ix3 ℓ 0 j)).trans ?_
  show StableHlo.after hostOps0 (fun b => m ((c : Dev nD), b)) (Proc.devRef .tc main_v16) (ix3 ℓ 0 j) = _
  after_reads_simp
  exact unit_row1024 _ _ ℓ j

theorem entry_v17 (n : ℕ) (hn : n ≤ 24) (ℓ : Fin 8) (j : Fin 1024) :
    @Eq EReal ((entryW m n c (Proc.devRef .tc main_v17) : S8x1x1024.Idx → EReal) (ix3 ℓ 0 j)) ((m ((c : Thread nD τ).loc main_arg7) : S8x1024.Idx → EReal) (ix2 ℓ j)) := by
  refine (congrFun (entryW_w m c main_v17 (by decide) n hn) (ix3 ℓ 0 j)).trans ?_
  show StableHlo.after hostOps0 (fun b => m ((c : Dev nD), b)) (Proc.devRef .tc main_v17) (ix3 ℓ 0 j) = _
  after_reads_simp
  exact unit_row1024 _ _ ℓ j

theorem entry_v18 (n : ℕ) (hn : n ≤ 24) (ℓ : Fin 8) (j : Fin 1024) :
    @Eq EReal ((entryW m n c (Proc.devRef .tc main_v18) : S8x1x1024.Idx → EReal) (ix3 ℓ 0 j)) ((m ((c : Thread nD τ).loc main_arg8) : S8x1024.Idx → EReal) (ix2 ℓ j)) := by
  refine (congrFun (entryW_w m c main_v18 (by decide) n hn) (ix3 ℓ 0 j)).trans ?_
  show StableHlo.after hostOps0 (fun b => m ((c : Dev nD), b)) (Proc.devRef .tc main_v18) (ix3 ℓ 0 j) = _
  after_reads_simp
  exact unit_row1024 _ _ ℓ j

theorem entry_v19 (n : ℕ) (hn : n ≤ 24) (ℓ : Fin 8) (j : Fin 1024) :
    @Eq EReal ((entryW m n c (Proc.devRef .tc main_v19) : S8x1x1024.Idx → EReal) (ix3 ℓ 0 j)) ((m ((c : Thread nD τ).loc main_arg13) : S8x1024.Idx → EReal) (ix2 ℓ j)) := by
  refine (congrFun (entryW_w m c main_v19 (by decide) n hn) (ix3 ℓ 0 j)).trans ?_
  show StableHlo.after hostOps0 (fun b => m ((c : Dev nD), b)) (Proc.devRef .tc main_v19) (ix3 ℓ 0 j) = _
  after_reads_simp
  exact unit_row1024 _ _ ℓ j

theorem entry_v20 (n : ℕ) (hn : n ≤ 24) (ℓ : Fin 8) (j : Fin 1024) :
    @Eq EReal ((entryW m n c (Proc.devRef .tc main_v20) : S8x1x1024.Idx → EReal) (ix3 ℓ 0 j)) ((m ((c : Thread nD τ).loc main_arg14) : S8x1024.Idx → EReal) (ix2 ℓ j)) := by
  refine (congrFun (entryW_w m c main_v20 (by decide) n hn) (ix3 ℓ 0 j)).trans ?_
  show StableHlo.after hostOps0 (fun b => m ((c : Dev nD), b)) (Proc.devRef .tc main_v20) (ix3 ℓ 0 j) = _
  after_reads_simp
  exact unit_row1024 _ _ ℓ j

theorem entry_v21 (n : ℕ) (hn : n ≤ 24) (ℓ : Fin 8) (j : Fin 1024) :
    @Eq EReal ((entryW m n c (Proc.devRef .tc main_v21) : S8x1x1024.Idx → EReal) (ix3 ℓ 0 j)) ((m ((c : Thread nD τ).loc main_arg15) : S8x1024.Idx → EReal) (ix2 ℓ j)) := by
  refine (congrFun (entryW_w m c main_v21 (by decide) n hn) (ix3 ℓ 0 j)).trans ?_
  show StableHlo.after hostOps0 (fun b => m ((c : Dev nD), b)) (Proc.devRef .tc main_v21) (ix3 ℓ 0 j) = _
  after_reads_simp
  exact unit_row1024 _ _ ℓ j

theorem entry_v22 (n : ℕ) (hn : n ≤ 24) (ℓ : Fin 8) (j : Fin 1024) :
    @Eq EReal ((entryW m n c (Proc.devRef .tc main_v22) : S8x1x1024.Idx → EReal) (ix3 ℓ 0 j)) ((m ((c : Thread nD τ).loc main_arg16) : S8x1024.Idx → EReal) (ix2 ℓ j)) := by
  refine (congrFun (entryW_w m c main_v22 (by decide) n hn) (ix3 ℓ 0 j)).trans ?_
  show StableHlo.after hostOps0 (fun b => m ((c : Dev nD), b)) (Proc.devRef .tc main_v22) (ix3 ℓ 0 j) = _
  after_reads_simp
  exact unit_row1024 _ _ ℓ j

end Cert.KernelIdeal.Gen

end

end
-- ==== Proof.Fits.lean ====
/- The calls' windows: layer `ℓ`'s calls take layer `ℓ`'s weights, except that the feed-forward calls take their
   last three weights at the point's number. -/
module

public import proofs.«01_k».proof.Proof.Calls
public import proofs.«01_k».proof.Proof.Net

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

/-! Layer `ℓ`'s three calls. -/

noncomputable def caAt : Fin 8 → CAD
  | 0 => ca0
  | 1 => ca1
  | 2 => ca2
  | 3 => ca3
  | 4 => ca4
  | 5 => ca5
  | 6 => ca6
  | 7 => ca7

noncomputable def saAt : Fin 8 → SAD
  | 0 => sa0
  | 1 => sa1
  | 2 => sa2
  | 3 => sa3
  | 4 => sa4
  | 5 => sa5
  | 6 => sa6
  | 7 => sa7

noncomputable def mlAt : Fin 8 → MLD
  | 0 => ml0
  | 1 => ml1
  | 2 => ml2
  | 3 => ml3
  | 4 => ml4
  | 5 => ml5
  | 6 => ml6
  | 7 => ml7

theorem ca_fits (ℓ : Fin 8) : (caAt ℓ).Fits ℓ :=
  ⟨by revert ℓ; decide +kernel, by revert ℓ; decide +kernel, by revert ℓ; decide +kernel, by revert ℓ; decide +kernel,
    by revert ℓ; decide +kernel, by revert ℓ; decide +kernel, by revert ℓ; decide +kernel, by revert ℓ; decide +kernel,
    by revert ℓ; decide +kernel, (show ∀ (ℓ : Fin 8) (t : Fin grid0.N), ((caAt ℓ).w8.win true).flush t = true by decide +kernel) ℓ⟩

theorem sa_fits (ℓ : Fin 8) : (saAt ℓ).Fits ℓ :=
  ⟨by revert ℓ; decide +kernel, by revert ℓ; decide +kernel, by revert ℓ; decide +kernel, by revert ℓ; decide +kernel,
    by revert ℓ; decide +kernel, by revert ℓ; decide +kernel, by revert ℓ; decide +kernel, by revert ℓ; decide +kernel,
    (show ∀ (ℓ : Fin 8) (t : Fin grid1.N), ((saAt ℓ).w7.win true).flush t = true by decide +kernel) ℓ⟩

theorem ml_fits (ℓ : Fin 8) : (mlAt ℓ).Fits ℓ :=
  ⟨by revert ℓ; decide +kernel, by revert ℓ; decide +kernel, by revert ℓ; decide +kernel, by revert ℓ; decide +kernel,
    by revert ℓ; decide +kernel, by revert ℓ; decide +kernel, by revert ℓ; decide +kernel, by revert ℓ; decide +kernel,
    (show ∀ (ℓ : Fin 8) (t : Fin grid2.N), ((mlAt ℓ).w7.win true).flush t = true ↔ t.val % 4 = 3 by decide +kernel) ℓ⟩

end Cert.KernelIdeal.Gen

end

end
-- ==== Proof.Chain.lean ====
/- The kernel's calls one after another: what each leaves, from what it found, is the stack's next rows. -/
module

public import proofs.«01_k».proof.Proof.Entry
public import proofs.«01_k».proof.Proof.Fits
public import proofs.«01_k».proof.Proof.Net

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

variable (m : (ℓ : Loc nD τ sig) → Buf (Elt Ideal) ℓ) (c : Dev nD)

/-- A window's array with the array's memory named. -/
theorem WD.A_of {G : Pipeline.Grid} {s : Shape} {size : Fin s.rank → ℕ} {e : EltTy} (d : WD G s size e) (r : Memref sig .tc .hbm s e) (h : d.arr = r)
    (V : (c : Dev nD) → (b : Ref sig .tc) → Buf (Elt Ideal) ((c : Thread nD τ).loc b)) :
    d.A V c = r.view.read (Elt Ideal) (V c r.view.ref) := by
  unfold WD.A; rw [h]

/-- What call `p` leaves in its array `w` is there at the next call, if the host operations between do not write it. -/
theorem left (p : Fin 24) (w : Fin (pipe (F := Ideal) p).W) (hw : Pipeline.arrRef (pipe (F := Ideal) p).spec w ∉ written p.val) :
    entryW m (p.val + 1) c (Proc.devRef .tc (Pipeline.arrRef (pipe (F := Ideal) p).spec w))
      = ((stepAt (F := Ideal) p).dat (atRefs (entryW m p.val)) c).arrAt w (pipe (F := Ideal) p).N := by
  rw [entryW_succ, StableHlo.after_unwritten (written p.val) (opsAfter_writes p) hw]
  exact exitOf_arr p _ c w

/-- The weights at launch. -/
noncomputable def wtsK : Layer.Wts := Layer.Wts.of (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))

/-- The rows a call of layer `ℓ` finds and leaves. -/
abbrev caIn (ℓ : Fin 8) : Layer.Rows := fun i l j => (caAt ℓ).w0.A (atRefs (entryW m (3 * ℓ.val))) c (ix3 i l j)
abbrev caOut (ℓ : Fin 8) : Layer.Rows := fun i l j => (caAt ℓ).w8.A (atRefs (entryW m (3 * ℓ.val + 1))) c (ix3 i l j)
abbrev saIn (ℓ : Fin 8) : Layer.Rows := fun i l j => (saAt ℓ).w0.A (atRefs (entryW m (3 * ℓ.val + 1))) c (ix3 i l j)
abbrev saOut (ℓ : Fin 8) : Layer.Rows := fun i l j => (saAt ℓ).w7.A (atRefs (entryW m (3 * ℓ.val + 2))) c (ix3 i l j)
abbrev mlIn (ℓ : Fin 8) : Fin 4096 → Fin 1024 → EReal := fun r j => (mlAt ℓ).w0.A (atRefs (entryW m (3 * ℓ.val + 2))) c (ix2 r j)
abbrev mlOut (ℓ : Fin 8) : Fin 4096 → Fin 1024 → EReal := fun r j => (mlAt ℓ).w7.A (atRefs (entryW m (3 * ℓ.val + 3))) c (ix2 r j)

/-! The arrays the calls' windows take: the same in every layer. -/

theorem ca_arrs (ℓ : Fin 8) : (caAt ℓ).w1.arr = Memref.whole main_v4 ∧ (caAt ℓ).w2.arr = Memref.whole main_v5 ∧ (caAt ℓ).w3.arr = Memref.whole main_v11 ∧ (caAt ℓ).w4.arr = Memref.whole main_v6 ∧ (caAt ℓ).w5.arr = Memref.whole main_v12 ∧ (caAt ℓ).w6.arr = Memref.whole main_v17 ∧ (caAt ℓ).w7.arr = Memref.whole main_v18 := by
  fin_cases ℓ <;> exact ⟨rfl, rfl, rfl, rfl, rfl, rfl, rfl⟩

theorem sa_arrs (ℓ : Fin 8) : (saAt ℓ).w1.arr = Memref.whole main_v7 ∧ (saAt ℓ).w2.arr = Memref.whole main_v13 ∧ (saAt ℓ).w3.arr = Memref.whole main_v8 ∧ (saAt ℓ).w4.arr = Memref.whole main_v14 ∧ (saAt ℓ).w5.arr = Memref.whole main_v19 ∧ (saAt ℓ).w6.arr = Memref.whole main_v20 := by
  fin_cases ℓ <;> exact ⟨rfl, rfl, rfl, rfl, rfl, rfl⟩

theorem ml_arrs (ℓ : Fin 8) : (mlAt ℓ).w1.arr = Memref.whole main_v9 ∧ (mlAt ℓ).w2.arr = Memref.whole main_v15 ∧ (mlAt ℓ).w3.arr = Memref.whole main_v10 ∧ (mlAt ℓ).w4.arr = Memref.whole main_v16 ∧ (mlAt ℓ).w5.arr = Memref.whole main_v21 ∧ (mlAt ℓ).w6.arr = Memref.whole main_v22 := by
  fin_cases ℓ <;> exact ⟨rfl, rfl, rfl, rfl, rfl, rfl⟩

/-! What a call leaves, from what its windows' arrays hold. -/

theorem ca_arr : ∀ (ℓ : Fin 8) (i l : Fin 64) (j : Fin 1024), caOut m c ℓ i l j = Layer.cross (caIn m c ℓ) (fun i l j => (caAt ℓ).w1.A (atRefs (entryW m (3 * ℓ.val))) c (ix3 i l j)) (fun i j => (caAt ℓ).w2.A (atRefs (entryW m (3 * ℓ.val))) c (ix3 ℓ i j)) (fun j => (caAt ℓ).w3.A (atRefs (entryW m (3 * ℓ.val))) c (ix3 ℓ 0 j)) (fun i j => (caAt ℓ).w4.A (atRefs (entryW m (3 * ℓ.val))) c (ix3 ℓ i j)) (fun j => (caAt ℓ).w5.A (atRefs (entryW m (3 * ℓ.val))) c (ix3 ℓ 0 j)) (fun j => (caAt ℓ).w6.A (atRefs (entryW m (3 * ℓ.val))) c (ix3 ℓ 0 j)) (fun j => (caAt ℓ).w7.A (atRefs (entryW m (3 * ℓ.val))) c (ix3 ℓ 0 j)) i l j
  | 0, i, l, j => (congrFun (congrArg ((caAt 0).w8.arr.view.read (Elt Ideal)) (left m c 0 (8 : Fin 9) (by decide))) (ix3 i l j)).trans
      (CAD.out (caAt 0) _ _ (atRefs (entryW m 0)) c 0 (ca_fits 0) i l j)
  | 1, i, l, j => (congrFun (congrArg ((caAt 1).w8.arr.view.read (Elt Ideal)) (left m c 3 (8 : Fin 9) (by decide))) (ix3 i l j)).trans
      (CAD.out (caAt 1) _ _ (atRefs (entryW m 3)) c 1 (ca_fits 1) i l j)
  | 2, i, l, j => (congrFun (congrArg ((caAt 2).w8.arr.view.read (Elt Ideal)) (left m c 6 (8 : Fin 9) (by decide))) (ix3 i l j)).trans
      (CAD.out (caAt 2) _ _ (atRefs (entryW m 6)) c 2 (ca_fits 2) i l j)
  | 3, i, l, j => (congrFun (congrArg ((caAt 3).w8.arr.view.read (Elt Ideal)) (left m c 9 (8 : Fin 9) (by decide))) (ix3 i l j)).trans
      (CAD.out (caAt 3) _ _ (atRefs (entryW m 9)) c 3 (ca_fits 3) i l j)
  | 4, i, l, j => (congrFun (congrArg ((caAt 4).w8.arr.view.read (Elt Ideal)) (left m c 12 (8 : Fin 9) (by decide))) (ix3 i l j)).trans
      (CAD.out (caAt 4) _ _ (atRefs (entryW m 12)) c 4 (ca_fits 4) i l j)
  | 5, i, l, j => (congrFun (congrArg ((caAt 5).w8.arr.view.read (Elt Ideal)) (left m c 15 (8 : Fin 9) (by decide))) (ix3 i l j)).trans
      (CAD.out (caAt 5) _ _ (atRefs (entryW m 15)) c 5 (ca_fits 5) i l j)
  | 6, i, l, j => (congrFun (congrArg ((caAt 6).w8.arr.view.read (Elt Ideal)) (left m c 18 (8 : Fin 9) (by decide))) (ix3 i l j)).trans
      (CAD.out (caAt 6) _ _ (atRefs (entryW m 18)) c 6 (ca_fits 6) i l j)
  | 7, i, l, j => (congrFun (congrArg ((caAt 7).w8.arr.view.read (Elt Ideal)) (left m c 21 (8 : Fin 9) (by decide))) (ix3 i l j)).trans
      (CAD.out (caAt 7) _ _ (atRefs (entryW m 21)) c 7 (ca_fits 7) i l j)

theorem sa_arr : ∀ (ℓ : Fin 8) (i l : Fin 64) (j : Fin 1024), saOut m c ℓ i l j = Layer.selfA (saIn m c ℓ) (fun i j => (saAt ℓ).w1.A (atRefs (entryW m (3 * ℓ.val + 1))) c (ix3 ℓ i j)) (fun j => (saAt ℓ).w2.A (atRefs (entryW m (3 * ℓ.val + 1))) c (ix3 ℓ 0 j)) (fun i j => (saAt ℓ).w3.A (atRefs (entryW m (3 * ℓ.val + 1))) c (ix3 ℓ i j)) (fun j => (saAt ℓ).w4.A (atRefs (entryW m (3 * ℓ.val + 1))) c (ix3 ℓ 0 j)) (fun j => (saAt ℓ).w5.A (atRefs (entryW m (3 * ℓ.val + 1))) c (ix3 ℓ 0 j)) (fun j => (saAt ℓ).w6.A (atRefs (entryW m (3 * ℓ.val + 1))) c (ix3 ℓ 0 j)) i l j
  | 0, i, l, j => (congrFun (congrArg ((saAt 0).w7.arr.view.read (Elt Ideal)) (left m c 1 (7 : Fin 8) (by decide))) (ix3 i l j)).trans
      (SAD.out (saAt 0) _ _ (atRefs (entryW m 1)) c 0 (sa_fits 0) i l j)
  | 1, i, l, j => (congrFun (congrArg ((saAt 1).w7.arr.view.read (Elt Ideal)) (left m c 4 (7 : Fin 8) (by decide))) (ix3 i l j)).trans
      (SAD.out (saAt 1) _ _ (atRefs (entryW m 4)) c 1 (sa_fits 1) i l j)
  | 2, i, l, j => (congrFun (congrArg ((saAt 2).w7.arr.view.read (Elt Ideal)) (left m c 7 (7 : Fin 8) (by decide))) (ix3 i l j)).trans
      (SAD.out (saAt 2) _ _ (atRefs (entryW m 7)) c 2 (sa_fits 2) i l j)
  | 3, i, l, j => (congrFun (congrArg ((saAt 3).w7.arr.view.read (Elt Ideal)) (left m c 10 (7 : Fin 8) (by decide))) (ix3 i l j)).trans
      (SAD.out (saAt 3) _ _ (atRefs (entryW m 10)) c 3 (sa_fits 3) i l j)
  | 4, i, l, j => (congrFun (congrArg ((saAt 4).w7.arr.view.read (Elt Ideal)) (left m c 13 (7 : Fin 8) (by decide))) (ix3 i l j)).trans
      (SAD.out (saAt 4) _ _ (atRefs (entryW m 13)) c 4 (sa_fits 4) i l j)
  | 5, i, l, j => (congrFun (congrArg ((saAt 5).w7.arr.view.read (Elt Ideal)) (left m c 16 (7 : Fin 8) (by decide))) (ix3 i l j)).trans
      (SAD.out (saAt 5) _ _ (atRefs (entryW m 16)) c 5 (sa_fits 5) i l j)
  | 6, i, l, j => (congrFun (congrArg ((saAt 6).w7.arr.view.read (Elt Ideal)) (left m c 19 (7 : Fin 8) (by decide))) (ix3 i l j)).trans
      (SAD.out (saAt 6) _ _ (atRefs (entryW m 19)) c 6 (sa_fits 6) i l j)
  | 7, i, l, j => (congrFun (congrArg ((saAt 7).w7.arr.view.read (Elt Ideal)) (left m c 22 (7 : Fin 8) (by decide))) (ix3 i l j)).trans
      (SAD.out (saAt 7) _ _ (atRefs (entryW m 22)) c 7 (sa_fits 7) i l j)

theorem ml_arr : ∀ (ℓ : Fin 8) (r : Fin 4096) (j : Fin 1024), mlOut m c ℓ r j = Layer.ff (mlIn m c ℓ) (fun i j => (mlAt ℓ).w1.A (atRefs (entryW m (3 * ℓ.val + 2))) c (ix3 ℓ i j)) (fun j => (mlAt ℓ).w2.A (atRefs (entryW m (3 * ℓ.val + 2))) c (ix3 ℓ 0 j)) (fun i j => (mlAt ℓ).w3.A (atRefs (entryW m (3 * ℓ.val + 2))) c (ix3 ℓ i j)) (fun j => (mlAt ℓ).w4.A (atRefs (entryW m (3 * ℓ.val + 2))) c (ix3 0 0 j)) (fun j => (mlAt ℓ).w5.A (atRefs (entryW m (3 * ℓ.val + 2))) c (ix3 0 0 j)) (fun j => (mlAt ℓ).w6.A (atRefs (entryW m (3 * ℓ.val + 2))) c (ix3 0 0 j)) r j
  | 0, r, j => (congrFun (congrArg ((mlAt 0).w7.arr.view.read (Elt Ideal)) (left m c 2 (7 : Fin 8) (by decide))) (ix2 r j)).trans
      (MLD.out (mlAt 0) (atRefs (entryW m 2)) _ _ c 0 (ml_fits 0) r j)
  | 1, r, j => (congrFun (congrArg ((mlAt 1).w7.arr.view.read (Elt Ideal)) (left m c 5 (7 : Fin 8) (by decide))) (ix2 r j)).trans
      (MLD.out (mlAt 1) (atRefs (entryW m 5)) _ _ c 1 (ml_fits 1) r j)
  | 2, r, j => (congrFun (congrArg ((mlAt 2).w7.arr.view.read (Elt Ideal)) (left m c 8 (7 : Fin 8) (by decide))) (ix2 r j)).trans
      (MLD.out (mlAt 2) (atRefs (entryW m 8)) _ _ c 2 (ml_fits 2) r j)
  | 3, r, j => (congrFun (congrArg ((mlAt 3).w7.arr.view.read (Elt Ideal)) (left m c 11 (7 : Fin 8) (by decide))) (ix2 r j)).trans
      (MLD.out (mlAt 3) (atRefs (entryW m 11)) _ _ c 3 (ml_fits 3) r j)
  | 4, r, j => (congrFun (congrArg ((mlAt 4).w7.arr.view.read (Elt Ideal)) (left m c 14 (7 : Fin 8) (by decide))) (ix2 r j)).trans
      (MLD.out (mlAt 4) (atRefs (entryW m 14)) _ _ c 4 (ml_fits 4) r j)
  | 5, r, j => (congrFun (congrArg ((mlAt 5).w7.arr.view.read (Elt Ideal)) (left m c 17 (7 : Fin 8) (by decide))) (ix2 r j)).trans
      (MLD.out (mlAt 5) (atRefs (entryW m 17)) _ _ c 5 (ml_fits 5) r j)
  | 6, r, j => (congrFun (congrArg ((mlAt 6).w7.arr.view.read (Elt Ideal)) (left m c 20 (7 : Fin 8) (by decide))) (ix2 r j)).trans
      (MLD.out (mlAt 6) (atRefs (entryW m 20)) _ _ c 6 (ml_fits 6) r j)
  | 7, r, j => (congrFun (congrArg ((mlAt 7).w7.arr.view.read (Elt Ideal)) (left m c 23 (7 : Fin 8) (by decide))) (ix2 r j)).trans
      (MLD.out (mlAt 7) (atRefs (entryW m 23)) _ _ c 7 (ml_fits 7) r j)

/-! The same with the weights named. -/

theorem ca_step (ℓ : Fin 8) : caOut m c ℓ = Layer.stepC (wtsK m c) ℓ (caIn m c ℓ) := by
  have h1 : (fun i l j => (caAt ℓ).w1.A (atRefs (entryW m (3 * ℓ.val))) c (ix3 i l j)) = (wtsK m c).ctx := by
    funext i l j
    exact (congrFun (WD.A_of c (caAt ℓ).w1 (Memref.whole main_v4) (ca_arrs ℓ).1 (atRefs (entryW m (3 * ℓ.val)))) (ix3 i l j)).trans (congrFun (entry_v4 m c (3 * ℓ.val) (by omega)) (ix3 i l j))
  have h2 : (fun i j => (caAt ℓ).w2.A (atRefs (entryW m (3 * ℓ.val))) c (ix3 ℓ i j)) = (wtsK m c).caw ℓ := by
    funext i j
    exact (congrFun (WD.A_of c (caAt ℓ).w2 (Memref.whole main_v5) (ca_arrs ℓ).2.1 (atRefs (entryW m (3 * ℓ.val)))) (ix3 ℓ i j)).trans (congrFun (entry_v5 m c (3 * ℓ.val) (by omega)) (ix3 ℓ i j))
  have h3 : (fun j => (caAt ℓ).w3.A (atRefs (entryW m (3 * ℓ.val))) c (ix3 ℓ 0 j)) = (wtsK m c).cab ℓ := by
    funext j
    exact (congrFun (WD.A_of c (caAt ℓ).w3 (Memref.whole main_v11) (ca_arrs ℓ).2.2.1 (atRefs (entryW m (3 * ℓ.val)))) (ix3 ℓ 0 j)).trans (entry_v11 m c (3 * ℓ.val) (by omega) ℓ j)
  have h4 : (fun i j => (caAt ℓ).w4.A (atRefs (entryW m (3 * ℓ.val))) c (ix3 ℓ i j)) = (wtsK m c).cao ℓ := by
    funext i j
    exact (congrFun (WD.A_of c (caAt ℓ).w4 (Memref.whole main_v6) (ca_arrs ℓ).2.2.2.1 (atRefs (entryW m (3 * ℓ.val)))) (ix3 ℓ i j)).trans (congrFun (entry_v6 m c (3 * ℓ.val) (by omega)) (ix3 ℓ i j))
  have h5 : (fun j => (caAt ℓ).w5.A (atRefs (entryW m (3 * ℓ.val))) c (ix3 ℓ 0 j)) = (wtsK m c).cac ℓ := by
    funext j
    exact (congrFun (WD.A_of c (caAt ℓ).w5 (Memref.whole main_v12) (ca_arrs ℓ).2.2.2.2.1 (atRefs (entryW m (3 * ℓ.val)))) (ix3 ℓ 0 j)).trans (entry_v12 m c (3 * ℓ.val) (by omega) ℓ j)
  have h6 : (fun j => (caAt ℓ).w6.A (atRefs (entryW m (3 * ℓ.val))) c (ix3 ℓ 0 j)) = (wtsK m c).cag ℓ := by
    funext j
    exact (congrFun (WD.A_of c (caAt ℓ).w6 (Memref.whole main_v17) (ca_arrs ℓ).2.2.2.2.2.1 (atRefs (entryW m (3 * ℓ.val)))) (ix3 ℓ 0 j)).trans (entry_v17 m c (3 * ℓ.val) (by omega) ℓ j)
  have h7 : (fun j => (caAt ℓ).w7.A (atRefs (entryW m (3 * ℓ.val))) c (ix3 ℓ 0 j)) = (wtsK m c).cah ℓ := by
    funext j
    exact (congrFun (WD.A_of c (caAt ℓ).w7 (Memref.whole main_v18) (ca_arrs ℓ).2.2.2.2.2.2 (atRefs (entryW m (3 * ℓ.val)))) (ix3 ℓ 0 j)).trans (entry_v18 m c (3 * ℓ.val) (by omega) ℓ j)
  funext i l j
  rw [ca_arr, h1, h2, h3, h4, h5, h6, h7]
  rfl

theorem sa_step (ℓ : Fin 8) : saOut m c ℓ = Layer.stepS (wtsK m c) ℓ (saIn m c ℓ) := by
  have h1 : (fun i j => (saAt ℓ).w1.A (atRefs (entryW m (3 * ℓ.val + 1))) c (ix3 ℓ i j)) = (wtsK m c).saw ℓ := by
    funext i j
    exact (congrFun (WD.A_of c (saAt ℓ).w1 (Memref.whole main_v7) (sa_arrs ℓ).1 (atRefs (entryW m (3 * ℓ.val + 1)))) (ix3 ℓ i j)).trans (congrFun (entry_v7 m c (3 * ℓ.val + 1) (by omega)) (ix3 ℓ i j))
  have h2 : (fun j => (saAt ℓ).w2.A (atRefs (entryW m (3 * ℓ.val + 1))) c (ix3 ℓ 0 j)) = (wtsK m c).sab ℓ := by
    funext j
    exact (congrFun (WD.A_of c (saAt ℓ).w2 (Memref.whole main_v13) (sa_arrs ℓ).2.1 (atRefs (entryW m (3 * ℓ.val + 1)))) (ix3 ℓ 0 j)).trans (entry_v13 m c (3 * ℓ.val + 1) (by omega) ℓ j)
  have h3 : (fun i j => (saAt ℓ).w3.A (atRefs (entryW m (3 * ℓ.val + 1))) c (ix3 ℓ i j)) = (wtsK m c).sao ℓ := by
    funext i j
    exact (congrFun (WD.A_of c (saAt ℓ).w3 (Memref.whole main_v8) (sa_arrs ℓ).2.2.1 (atRefs (entryW m (3 * ℓ.val + 1)))) (ix3 ℓ i j)).trans (congrFun (entry_v8 m c (3 * ℓ.val + 1) (by omega)) (ix3 ℓ i j))
  have h4 : (fun j => (saAt ℓ).w4.A (atRefs (entryW m (3 * ℓ.val + 1))) c (ix3 ℓ 0 j)) = (wtsK m c).sac ℓ := by
    funext j
    exact (congrFun (WD.A_of c (saAt ℓ).w4 (Memref.whole main_v14) (sa_arrs ℓ).2.2.2.1 (atRefs (entryW m (3 * ℓ.val + 1)))) (ix3 ℓ 0 j)).trans (entry_v14 m c (3 * ℓ.val + 1) (by omega) ℓ j)
  have h5 : (fun j => (saAt ℓ).w5.A (atRefs (entryW m (3 * ℓ.val + 1))) c (ix3 ℓ 0 j)) = (wtsK m c).sag ℓ := by
    funext j
    exact (congrFun (WD.A_of c (saAt ℓ).w5 (Memref.whole main_v19) (sa_arrs ℓ).2.2.2.2.1 (atRefs (entryW m (3 * ℓ.val + 1)))) (ix3 ℓ 0 j)).trans (entry_v19 m c (3 * ℓ.val + 1) (by omega) ℓ j)
  have h6 : (fun j => (saAt ℓ).w6.A (atRefs (entryW m (3 * ℓ.val + 1))) c (ix3 ℓ 0 j)) = (wtsK m c).sah ℓ := by
    funext j
    exact (congrFun (WD.A_of c (saAt ℓ).w6 (Memref.whole main_v20) (sa_arrs ℓ).2.2.2.2.2 (atRefs (entryW m (3 * ℓ.val + 1)))) (ix3 ℓ 0 j)).trans (entry_v20 m c (3 * ℓ.val + 1) (by omega) ℓ j)
  funext i l j
  rw [sa_arr, h1, h2, h3, h4, h5, h6]
  rfl

/-- The feed-forward call of any layer takes the first layer's second bias, scale and shift. -/
theorem ml_step (ℓ : Fin 8) (r : Fin 4096) (j : Fin 1024) :
    mlOut m c ℓ r j = Layer.ff (mlIn m c ℓ) ((wtsK m c).w1 ℓ) ((wtsK m c).b1 ℓ) ((wtsK m c).w2 ℓ) ((wtsK m c).b2 0) ((wtsK m c).mg 0) ((wtsK m c).mh 0) r j := by
  have h1 : (fun i j => (mlAt ℓ).w1.A (atRefs (entryW m (3 * ℓ.val + 2))) c (ix3 ℓ i j)) = (wtsK m c).w1 ℓ := by
    funext i j
    exact (congrFun (WD.A_of c (mlAt ℓ).w1 (Memref.whole main_v9) (ml_arrs ℓ).1 (atRefs (entryW m (3 * ℓ.val + 2)))) (ix3 ℓ i j)).trans (congrFun (entry_v9 m c (3 * ℓ.val + 2) (by omega)) (ix3 ℓ i j))
  have h2 : (fun j => (mlAt ℓ).w2.A (atRefs (entryW m (3 * ℓ.val + 2))) c (ix3 ℓ 0 j)) = (wtsK m c).b1 ℓ := by
    funext j
    exact (congrFun (WD.A_of c (mlAt ℓ).w2 (Memref.whole main_v15) (ml_arrs ℓ).2.1 (atRefs (entryW m (3 * ℓ.val + 2)))) (ix3 ℓ 0 j)).trans (entry_v15 m c (3 * ℓ.val + 2) (by omega) ℓ j)
  have h3 : (fun i j => (mlAt ℓ).w3.A (atRefs (entryW m (3 * ℓ.val + 2))) c (ix3 ℓ i j)) = (wtsK m c).w2 ℓ := by
    funext i j
    exact (congrFun (WD.A_of c (mlAt ℓ).w3 (Memref.whole main_v10) (ml_arrs ℓ).2.2.1 (atRefs (entryW m (3 * ℓ.val + 2)))) (ix3 ℓ i j)).trans (congrFun (entry_v10 m c (3 * ℓ.val + 2) (by omega)) (ix3 ℓ i j))
  have h4 : (fun j => (mlAt ℓ).w4.A (atRefs (entryW m (3 * ℓ.val + 2))) c (ix3 0 0 j)) = (wtsK m c).b2 0 := by
    funext j
    exact (congrFun (WD.A_of c (mlAt ℓ).w4 (Memref.whole main_v16) (ml_arrs ℓ).2.2.2.1 (atRefs (entryW m (3 * ℓ.val + 2)))) (ix3 0 0 j)).trans (entry_v16 m c (3 * ℓ.val + 2) (by omega) 0 j)
  have h5 : (fun j => (mlAt ℓ).w5.A (atRefs (entryW m (3 * ℓ.val + 2))) c (ix3 0 0 j)) = (wtsK m c).mg 0 := by
    funext j
    exact (congrFun (WD.A_of c (mlAt ℓ).w5 (Memref.whole main_v21) (ml_arrs ℓ).2.2.2.2.1 (atRefs (entryW m (3 * ℓ.val + 2)))) (ix3 0 0 j)).trans (entry_v21 m c (3 * ℓ.val + 2) (by omega) 0 j)
  have h6 : (fun j => (mlAt ℓ).w6.A (atRefs (entryW m (3 * ℓ.val + 2))) c (ix3 0 0 j)) = (wtsK m c).mh 0 := by
    funext j
    exact (congrFun (WD.A_of c (mlAt ℓ).w6 (Memref.whole main_v22) (ml_arrs ℓ).2.2.2.2.2 (atRefs (entryW m (3 * ℓ.val + 2)))) (ix3 0 0 j)).trans (entry_v22 m c (3 * ℓ.val + 2) (by omega) 0 j)
  rw [ml_arr, h1, h2, h3, h4, h5, h6]

/-! From one call to the next. -/

theorem sa_in (ℓ : Fin 8) : saIn m c ℓ = caOut m c ℓ := by
  fin_cases ℓ <;> rfl

theorem flat_of (X : Dev nD → Valuation τ sig (Elt Ideal)) (ℓ : Fin 8) :
    (mlAt ℓ).w0.A (atRefs fun c => StableHlo.after (opsAfter (3 * ℓ.val + 1)) (X c)) c
      = shapeCast S4096x1024 ((saAt ℓ).w7.A (atRefs fun c => StableHlo.after (opsAfter (3 * ℓ.val + 1)) (X c)) c) shapeCasts_S64x64x1024_S4096x1024 := by
  fin_cases ℓ <;> rfl

theorem unflat_of (X : Dev nD → Valuation τ sig (Elt Ideal)) (ℓ : Fin 7) :
    (caAt ℓ.succ).w0.A (atRefs fun c => StableHlo.after (opsAfter (3 * ℓ.val + 2)) (X c)) c
      = shapeCast S64x64x1024 ((mlAt ℓ.castSucc).w7.A (atRefs fun c => StableHlo.after (opsAfter (3 * ℓ.val + 2)) (X c)) c) shapeCasts_S4096x1024_S64x64x1024 := by
  fin_cases ℓ <;> rfl

end Cert.KernelIdeal.Gen

end

end
-- ==== Proof.KerNet.lean ====
/- The kernel's result is the stack of eight layers on the starting rows, where the layers agree in the second bias, the
   scale and the shift of their feed-forward parts. -/
module

public import proofs.«01_k».proof.Proof.Chain
public import proofs.«01_k».proof.Proof.Net

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

variable (m : (ℓ : Loc nD τ sig) → Buf (Elt Ideal) ℓ) (c : Dev nD)

theorem flat_apply (x : S64x64x1024.Idx → EReal) (h : S64x64x1024.ShapeCasts S4096x1024) (r : Fin 4096) (j : Fin 1024) :
    shapeCast S4096x1024 x h (ix2 r j) = x (ix3 (⟨r.val / 64, by omega⟩ : Fin 64) (⟨r.val % 64, by omega⟩ : Fin 64) j) := by
  pointwise

theorem unflat_apply (x : S4096x1024.Idx → EReal) (h : S4096x1024.ShapeCasts S64x64x1024) (i l : Fin 64) (j : Fin 1024) :
    shapeCast S64x64x1024 x h (ix3 i l j) = x (ix2 (⟨i.val * 64 + l.val, by omega⟩ : Fin 4096) j) := by
  pointwise

/-- The buffers at the entry after call `p`, as the host operations leave them. -/
theorem entry_after (p : Fin 24) : atRefs (entryW m (p.val + 1)) = atRefs fun c => StableHlo.after (opsAfter p.val) (exitOf p (entryW m p.val) c) := by
  funext c b
  exact congrFun (entryW_succ m p c) _

theorem ml_in (ℓ : Fin 8) (r : Fin 4096) (j : Fin 1024) :
    mlIn m c ℓ r j = saOut m c ℓ (⟨r.val / 64, by omega⟩ : Fin 64) (⟨r.val % 64, by omega⟩ : Fin 64) j := by
  have e := entry_after m ⟨3 * ℓ.val + 1, by omega⟩
  have h := congrFun (flat_of c (fun c => exitOf ⟨3 * ℓ.val + 1, by omega⟩ (entryW m (3 * ℓ.val + 1)) c) ℓ) (ix2 r j)
  rw [← e] at h
  exact h.trans (flat_apply _ _ r j)

/-- The rows after layer `ℓ`, batch by batch. -/
abbrev after (ℓ : Fin 8) : Layer.Rows := fun i l j => mlOut m c ℓ (⟨i.val * 64 + l.val, by omega⟩ : Fin 4096) j

theorem ca_in (ℓ : Fin 7) : caIn m c ℓ.succ = after m c ℓ.castSucc := by
  funext i l j
  have e := entry_after m ⟨3 * ℓ.val + 2, by omega⟩
  have h := congrFun (unflat_of c (fun c => exitOf ⟨3 * ℓ.val + 2, by omega⟩ (entryW m (3 * ℓ.val + 2)) c) ℓ) (ix3 i l j)
  rw [← e] at h
  exact h.trans (unflat_apply _ _ i l j)

theorem result_of (X : Dev nD → Valuation τ sig (Elt Ideal)) :
    @Eq (S64x64x1024.Idx → EReal) (StableHlo.after (opsAfter 23) (X c) (Proc.devRef .tc main_v62))
      (shapeCast S64x64x1024 ((mlAt 7).w7.A (atRefs fun c => StableHlo.after (opsAfter 23) (X c)) c) shapeCasts_S4096x1024_S64x64x1024) := rfl

theorem result_eq (i l : Fin 64) (j : Fin 1024) :
    @Eq EReal ((entryW m 24 c (Proc.devRef .tc main_v62) : S64x64x1024.Idx → EReal) (ix3 i l j)) (after m c 7 i l j) := by
  have e : atRefs (entryW m 24) = atRefs fun c => StableHlo.after (opsAfter 23) (exitOf 23 (entryW m 23) c) := entry_after m 23
  have h := congrFun (result_of c (fun c => exitOf 23 (entryW m 23) c)) (ix3 i l j)
  rw [← e] at h
  exact (congrFun (congrFun (entryW_succ m 23 c) (Proc.devRef .tc main_v62)) (ix3 i l j)).trans (h.trans (unflat_apply _ _ i l j))

/-- The layers agree in the second bias, the scale and the shift of their feed-forward parts. -/
def Agree (A : Layer.Wts) : Prop := ∀ ℓ, A.b2 ℓ = A.b2 0 ∧ A.mg ℓ = A.mg 0 ∧ A.mh ℓ = A.mh 0

theorem layer_step (hA : Agree (wtsK m c)) (ℓ : Fin 8) : after m c ℓ = Layer.step (wtsK m c) ℓ (caIn m c ℓ) := by
  obtain ⟨e1, e2, e3⟩ := hA ℓ
  have hin : ∀ i l : Fin 64, mlIn m c ℓ (⟨i.val * 64 + l.val, by omega⟩ : Fin 4096) = saOut m c ℓ i l := by
    intro i l
    funext j
    refine (ml_in m c ℓ _ j).trans ?_
    have hi : (⟨(⟨i.val * 64 + l.val, by omega⟩ : Fin 4096).val / 64, by omega⟩ : Fin 64) = i := Fin.ext (by simp only; omega)
    have hl : (⟨(⟨i.val * 64 + l.val, by omega⟩ : Fin 4096).val % 64, by omega⟩ : Fin 64) = l := Fin.ext (by simp only; omega)
    rw [hi, hl]
  funext i l j
  refine (ml_step m c ℓ _ j).trans ?_
  unfold Layer.ff Layer.step Layer.stepF
  rw [hin, e1, e2, e3, ← ca_step, ← sa_in, ← sa_step]

/-- The positions, as the program writes them. -/
noncomputable def positions : FVec Ideal S64x1024 .f32 := fun i => FloatOps.ofBits .f32 (lit0 (S64x1024.rowMajor i))

theorem start_apply (a : FVec Ideal S1x64x1024 .f32) (q : FVec Ideal S64x1024 .f32) (i l : Fin 64) (j : Fin 1024) :
    addf (broadcastInDim S64x64x1024 ![0, 1, 2] bcast_S1x64x1024_S64x64x1024_0_1_2 a)
        (broadcastInDim S64x64x1024 ![0, 1, 2] bcast_S1x64x1024_S64x64x1024_0_1_2 (broadcastInDim S1x64x1024 ![1, 2] bcast_S64x1024_S1x64x1024_1_2 q)) (ix3 i l j)
      = a (ix3 0 l j) + q (ix2 l j) := by
  pointwise

/-- The rows the first call finds. -/
abbrev startK : Layer.Rows := Layer.start (m ((c : Thread nD τ).loc main_arg2)) positions

theorem start_eq : caIn m c 0 = startK m c := by
  funext i l j
  refine Eq.trans ?_ (start_apply (m ((c : Thread nD τ).loc main_arg2)) positions i l j)
  show StableHlo.after hostOps0 (fun b => m ((c : Dev nD), b)) (Proc.devRef .tc main_v3) (ix3 i l j) = _
  after_reads_simp
  rfl

theorem net_in (hA : Agree (wtsK m c)) : ∀ n (h : n < 8), caIn m c ⟨n, h⟩ = Layer.net (wtsK m c) (startK m c) n
  | 0, _ => start_eq m c
  | n + 1, h => by
    have h7 : n < 7 := Nat.lt_of_succ_lt_succ h
    refine (ca_in m c ⟨n, h7⟩).trans ((layer_step m c hA ⟨n, Nat.lt_of_succ_lt h⟩).trans ?_)
    rw [net_in hA n (Nat.lt_of_succ_lt h)]
    exact (Layer.net_succ _ _ ⟨n, Nat.lt_of_succ_lt h⟩).symm

/-- The kernel's result at its end. -/
theorem result_net (hA : Agree (wtsK m c)) (i l : Fin 64) (j : Fin 1024) :
    @Eq EReal ((entryW m 24 c (Proc.devRef .tc main_v62) : S64x64x1024.Idx → EReal) (ix3 i l j)) (Layer.net (wtsK m c) (startK m c) 8 i l j) := by
  refine (result_eq m c i l j).trans (congrFun (congrFun (congrFun ((layer_step m c hA 7).trans ?_) i) l) j)
  rw [show (7 : Fin 8) = ⟨7, by decide⟩ from rfl, net_in m c hA]
  exact (Layer.net_succ _ _ 7).symm

end Cert.KernelIdeal.Gen

end

end
-- ==== Proof.RefDefs.lean ====
/- The reference's layer as three functions of the rows, in the reference's own operations: cross attention, causal self
   attention and the feed-forward part, with the sliced weights of the layer as arguments. -/
module

public import proofs.«01_k».proof.Proof.Gen.ReferenceIdeal
public import Idealize.ShloMosaic.Lib.StableHlo.Run
public import Idealize.ShloMosaic.Lib.Pointwise

@[expose] public section

set_option maxRecDepth 16384

noncomputable section

namespace Cert.ReferenceIdeal.Layer

open Cert.ReferenceIdeal Cert.ReferenceIdeal.Gen Idealize.ShloMosaic Idealize.ShloMosaic.TcCoe Idealize.SL.Sem Idealize.ShloMosaic.StableHlo

variable {F : FTy → Type} [FloatOps F]

/-- The number of entries of a row less the degrees of freedom. -/
def cntR  : FVec F S_ .f32 :=
  subf (constant S_ .f32 0x44800000#32) (sitofp .f32 (constantI S_ 32 0#32))

/-- The rows less their means. -/
def devR (x : FVec F S64x64x1024 .f32) : FVec F S64x64x1024 .f32 :=
  subf x (broadcastInDim S64x64x1024 ![0, 1, 2] bcast_S64x64x1_S64x64x1024_0_1_2 (Host.divf (broadcastInDim S64x64x1 ![0, 1] bcast_S64x64_S64x64x1_0_1 (Host.reduceAdd x (constant S_ .f32 0x00000000#32) reducesTo_S64x64x1024_S64x64_d2 h_S_)) (broadcastInDim S64x64x1 ![] bcast_S_S64x64x1 (constant S_ .f32 0x44800000#32))))

/-- The rows normalised, scaled and shifted. -/
def lnR (x : FVec F S64x64x1024 .f32) (g h : FVec F S1024 .f32) : FVec F S64x64x1024 .f32 :=
  addf (mulf (Host.divf (subf x (broadcastInDim S64x64x1024 ![0, 1, 2] bcast_S64x64x1_S64x64x1024_0_1_2 (Host.divf (broadcastInDim S64x64x1 ![0, 1] bcast_S64x64_S64x64x1_0_1 (Host.reduceAdd x (constant S_ .f32 0x00000000#32) reducesTo_S64x64x1024_S64x64_d2 h_S_)) (broadcastInDim S64x64x1 ![] bcast_S_S64x64x1 (constant S_ .f32 0x44800000#32))))) (broadcastInDim S64x64x1024 ![0, 1, 2] bcast_S64x64x1_S64x64x1024_0_1_2 (Host.sqrt (addf (select (broadcastInDim S64x64x1 ![] bcast_S_S64x64x1 (cmpf .ogt (cntR (F := F)) (constant S_ .f32 0x00000000#32))) (Host.divf (broadcastInDim S64x64x1 ![0, 1] bcast_S64x64_S64x64x1_0_1 (Host.reduceAdd (mulf (devR x) (devR x)) (constant S_ .f32 0x00000000#32) reducesTo_S64x64x1024_S64x64_d2 h_S_)) (broadcastInDim S64x64x1 ![] bcast_S_S64x64x1 (cntR (F := F)))) (broadcastInDim S64x64x1 ![] bcast_S_S64x64x1 (id (constant S_ .f32 0x7FC00000#32)))) (broadcastInDim S64x64x1 ![] bcast_S_S64x64x1 (constant S_ .f32 0x3727C5AC#32)))))) (broadcastInDim S64x64x1024 ![0, 1, 2] bcast_S1x1x1024_S64x64x1024_0_1_2 (broadcastInDim S1x1x1024 ![2] bcast_S1024_S1x1x1024_2 g))) (broadcastInDim S64x64x1024 ![0, 1, 2] bcast_S1x1x1024_S64x64x1024_0_1_2 (broadcastInDim S1x1x1024 ![2] bcast_S1024_S1x1x1024_2 h))

/-- A projection of the rows, split into heads. -/
def headR (x : FVec F S64x64x1024 .f32) (w : FVec F S1024x1024 .f32) (b : FVec F S1024 .f32) : FVec F S64x16x64x64 .f32 :=
  transpose S64x16x64x64 [0, 2, 1, 3] (shapeCast _ (addf (Host.dotGeneral dot_S64x64x1024_S1024x1024_S64x64x1024_2_0_01_1_n_n none x (transpose S1024x1024 [1, 0] w transposes_S1024x1024_S1024x1024_1_0)) (broadcastInDim S64x64x1024 ![0, 1, 2] bcast_S1x1x1024_S64x64x1024_0_1_2 (broadcastInDim S1x1x1024 ![2] bcast_S1024_S1x1x1024_2 b))) shapeCasts_S64x64x1024_S64x64x16x64) transposes_S64x64x16x64_S64x16x64x64_0_2_1_3

/-- A projection of the context, split into heads. -/
def headC (x : FVec F S64x512x1024 .f32) (w : FVec F S1024x1024 .f32) (b : FVec F S1024 .f32) : FVec F S64x16x512x64 .f32 :=
  transpose S64x16x512x64 [0, 2, 1, 3] (shapeCast _ (addf (Host.dotGeneral dot_S64x512x1024_S1024x1024_S64x512x1024_2_0_01_1_n_n none x (transpose S1024x1024 [1, 0] w transposes_S1024x1024_S1024x1024_1_0)) (broadcastInDim S64x512x1024 ![0, 1, 2] bcast_S1x1x1024_S64x512x1024_0_1_2 (broadcastInDim S1x1x1024 ![2] bcast_S1024_S1x1x1024_2 b))) shapeCasts_S64x512x1024_S64x512x16x64) transposes_S64x512x16x64_S64x16x512x64_0_2_1_3

/-- The scores of the cross attention. -/
def scoreC (q : FVec F S64x16x64x64 .f32) (k : FVec F S64x16x512x64 .f32) : FVec F S64x16x64x512 .f32 :=
  Host.divf (Host.dotGeneral dot_S64x16x64x64_S64x16x512x64_S64x16x64x512_3_3_2_2_01_01 none q k) (broadcastInDim S64x16x64x512 ![] bcast_S_S64x16x64x512 (constant S_ .f32 0x41000000#32))

/-- The exponentials of the scores less their maximum. -/
def expC (s : FVec F S64x16x64x512 .f32) : FVec F S64x16x64x512 .f32 :=
  Host.exp (subf s (broadcastInDim S64x16x64x512 ![0, 1, 2, 3] bcast_S64x16x64x1_S64x16x64x512_0_1_2_3 (broadcastInDim S64x16x64x1 ![0, 1, 2] bcast_S64x16x64_S64x16x64x1_0_1_2 (maximumf (broadcastInDim S64x16x64 ![] bcast_S_S64x16x64 (constant S_ .f32 0xFF800000#32)) (Host.reduce FloatOps.maximumf s (constant S_ .f32 0xFF800000#32) reducesTo_S64x16x64x512_S64x16x64_d3 h_S_)))))

/-- The rows plus the cross attention's output, from the exponentials `e` and the values `v`. -/
def outC (x : FVec F S64x64x1024 .f32) (e : FVec F S64x16x64x512 .f32) (v : FVec F S64x16x512x64 .f32) (wo : FVec F S1024x1024 .f32) (bo : FVec F S1024 .f32) : FVec F S64x64x1024 .f32 :=
  addf x (addf (Host.dotGeneral dot_S64x64x1024_S1024x1024_S64x64x1024_2_0_01_1_n_n none (shapeCast _ (transpose S64x64x16x64 [0, 2, 1, 3] (Host.dotGeneral dot_S64x16x64x512_S64x16x512x64_S64x16x64x64_3_2_2_3_01_01 none (Host.divf e (broadcastInDim S64x16x64x512 ![0, 1, 2, 3] bcast_S64x16x64x1_S64x16x64x512_0_1_2_3 (broadcastInDim S64x16x64x1 ![0, 1, 2] bcast_S64x16x64_S64x16x64x1_0_1_2 (Host.reduceAdd e (constant S_ .f32 0x00000000#32) reducesTo_S64x16x64x512_S64x16x64_d3 h_S_)))) v) transposes_S64x16x64x64_S64x64x16x64_0_2_1_3) shapeCasts_S64x64x16x64_S64x64x1024) (transpose S1024x1024 [1, 0] wo transposes_S1024x1024_S1024x1024_1_0)) (broadcastInDim S64x64x1024 ![0, 1, 2] bcast_S1x1x1024_S64x64x1024_0_1_2 (broadcastInDim S1x1x1024 ![2] bcast_S1024_S1x1x1024_2 bo)))

/-- The mask of the later positions. -/
def maskR  : IVec S64x64 1 :=
  select (cmpi .sge (addi (iotaInDim S64x64 32 0) (broadcastInDim S64x64 ![] bcast_S_S64x64 (constantI S_ 32 0#32))) (iotaInDim S64x64 32 1)) (broadcastInDim S64x64 ![] bcast_S_S64x64 (constantI S_ 1 0#1)) (broadcastInDim S64x64 ![] bcast_S_S64x64 (constantI S_ 1 1#1))

/-- The masked scores of the self attention. -/
def scoreS (q k : FVec F S64x16x64x64 .f32) : FVec F S64x16x64x64 .f32 :=
  select (broadcastInDim S64x16x64x64 ![2, 3] bcast_S64x64_S64x16x64x64_2_3 maskR) (broadcastInDim S64x16x64x64 ![] bcast_S_S64x16x64x64 (id (constant S_ .f32 0xFF800000#32))) (Host.divf (Host.dotGeneral dot_S64x16x64x64_S64x16x64x64_S64x16x64x64_3_3_2_2_01_01 none q k) (broadcastInDim S64x16x64x64 ![] bcast_S_S64x16x64x64 (constant S_ .f32 0x41000000#32)))

/-- The exponentials of the scores less their maximum. -/
def expS (s : FVec F S64x16x64x64 .f32) : FVec F S64x16x64x64 .f32 :=
  Host.exp (subf s (broadcastInDim S64x16x64x64 ![0, 1, 2, 3] bcast_S64x16x64x1_S64x16x64x64_0_1_2_3 (broadcastInDim S64x16x64x1 ![0, 1, 2] bcast_S64x16x64_S64x16x64x1_0_1_2 (maximumf (broadcastInDim S64x16x64 ![] bcast_S_S64x16x64 (constant S_ .f32 0xFF800000#32)) (Host.reduce FloatOps.maximumf s (constant S_ .f32 0xFF800000#32) reducesTo_S64x16x64x64_S64x16x64_d3 h_S_)))))

/-- The rows plus the self attention's output. -/
def outS (x : FVec F S64x64x1024 .f32) (e v : FVec F S64x16x64x64 .f32) (wo : FVec F S1024x1024 .f32) (bo : FVec F S1024 .f32) : FVec F S64x64x1024 .f32 :=
  addf x (addf (Host.dotGeneral dot_S64x64x1024_S1024x1024_S64x64x1024_2_0_01_1_n_n none (shapeCast _ (transpose S64x64x16x64 [0, 2, 1, 3] (Host.dotGeneral dot_S64x16x64x64_S64x16x64x64_S64x16x64x64_3_2_2_3_01_01 none (Host.divf e (broadcastInDim S64x16x64x64 ![0, 1, 2, 3] bcast_S64x16x64x1_S64x16x64x64_0_1_2_3 (broadcastInDim S64x16x64x1 ![0, 1, 2] bcast_S64x16x64_S64x16x64x1_0_1_2 (Host.reduceAdd e (constant S_ .f32 0x00000000#32) reducesTo_S64x16x64x64_S64x16x64_d3 h_S_)))) v) transposes_S64x16x64x64_S64x64x16x64_0_2_1_3) shapeCasts_S64x64x16x64_S64x64x1024) (transpose S1024x1024 [1, 0] wo transposes_S1024x1024_S1024x1024_1_0)) (broadcastInDim S64x64x1024 ![0, 1, 2] bcast_S1x1x1024_S64x64x1024_0_1_2 (broadcastInDim S1x1x1024 ![2] bcast_S1024_S1x1x1024_2 bo)))

/-- The cross attention of a layer. -/
def crossR (x : FVec F S64x64x1024 .f32) (y : FVec F S64x512x1024 .f32) (w : FVec F S3072x1024 .f32) (b : FVec F S3072 .f32) (wo : FVec F S1024x1024 .f32) (bo g h : FVec F S1024 .f32) : FVec F S64x64x1024 .f32 :=
  outC x (expC (scoreC (headR (lnR x g h) (extractStridedSlice S1024x1024 ![0, 0] w slices_S3072x1024_S1024x1024_0_0) (extractStridedSlice S1024 ![0] b slices_S3072_S1024_0)) (headC y (extractStridedSlice S1024x1024 ![1024, 0] w slices_S3072x1024_S1024x1024_1024_0) (extractStridedSlice S1024 ![1024] b slices_S3072_S1024_1024)))) (headC y (extractStridedSlice S1024x1024 ![2048, 0] w slices_S3072x1024_S1024x1024_2048_0) (extractStridedSlice S1024 ![2048] b slices_S3072_S1024_2048)) wo bo

/-- The self attention of a layer. -/
def selfR (x : FVec F S64x64x1024 .f32) (w : FVec F S3072x1024 .f32) (b : FVec F S3072 .f32) (wo : FVec F S1024x1024 .f32) (bo g h : FVec F S1024 .f32) : FVec F S64x64x1024 .f32 :=
  outS x (expS (scoreS (headR (lnR x g h) (extractStridedSlice S1024x1024 ![0, 0] w slices_S3072x1024_S1024x1024_0_0) (extractStridedSlice S1024 ![0] b slices_S3072_S1024_0)) (headR (lnR x g h) (extractStridedSlice S1024x1024 ![1024, 0] w slices_S3072x1024_S1024x1024_1024_0) (extractStridedSlice S1024 ![1024] b slices_S3072_S1024_1024)))) (headR (lnR x g h) (extractStridedSlice S1024x1024 ![2048, 0] w slices_S3072x1024_S1024x1024_2048_0) (extractStridedSlice S1024 ![2048] b slices_S3072_S1024_2048)) wo bo

/-- The feed-forward part of a layer. -/
def ffR (x : FVec F S64x64x1024 .f32) (w1 : FVec F S4096x1024 .f32) (b1 : FVec F S4096 .f32) (w2 : FVec F S1024x4096 .f32) (b2 g h : FVec F S1024 .f32) : FVec F S64x64x1024 .f32 :=
  addf x (addf (Host.dotGeneral dot_S64x64x4096_S4096x1024_S64x64x1024_2_0_01_1_n_n none (maximumf (addf (Host.dotGeneral dot_S64x64x1024_S1024x4096_S64x64x4096_2_0_01_1_n_n none (lnR x g h) (transpose S1024x4096 [1, 0] w1 transposes_S4096x1024_S1024x4096_1_0)) (broadcastInDim S64x64x4096 ![0, 1, 2] bcast_S1x1x4096_S64x64x4096_0_1_2 (broadcastInDim S1x1x4096 ![2] bcast_S4096_S1x1x4096_2 b1))) (broadcastInDim S64x64x4096 ![] bcast_S_S64x64x4096 (constant S_ .f32 0x00000000#32))) (transpose S4096x1024 [1, 0] w2 transposes_S1024x4096_S4096x1024_1_0)) (broadcastInDim S64x64x1024 ![0, 1, 2] bcast_S1x1x1024_S64x64x1024_0_1_2 (broadcastInDim S1x1x1024 ![2] bcast_S1024_S1x1x1024_2 b2)))

/-- The rows at the start: the queries plus the positions. -/
def startR (a : FVec F S1x64x1024 .f32) : FVec F S64x64x1024 .f32 :=
  addf (broadcastInDim S64x64x1024 ![0, 1, 2] bcast_S1x64x1024_S64x64x1024_0_1_2 a) (broadcastInDim S64x64x1024 ![0, 1, 2] bcast_S1x64x1024_S64x64x1024_0_1_2 (broadcastInDim S1x64x1024 ![1, 2] bcast_S64x1024_S1x64x1024_1_2 ((fun i => FloatOps.ofBits .f32 (lit0 (S64x1024.rowMajor i))))))

end Cert.ReferenceIdeal.Layer
end
end
-- ==== Proof.RefRead.lean ====
/- The reference's layer read entry by entry: each of its three parts is the part stated on index functions. -/
module

public import proofs.«01_k».proof.Proof.RefDefs
public import proofs.«01_k».proof.Proof.Values

@[expose] public section

set_option maxRecDepth 16384

noncomputable section

namespace Cert.ReferenceIdeal.Layer

open Cert.ReferenceIdeal Cert.ReferenceIdeal.Gen Idealize.ShloMosaic Idealize.ShloMosaic.TcCoe Idealize.SL.Sem Idealize.ShloMosaic.StableHlo

theorem headR_apply (x : FVec Ideal S64x64x1024 .f32) (w : FVec Ideal S1024x1024 .f32) (b : FVec Ideal S1024 .f32)
    (i : Fin 64) (h : Fin 16) (l d : Fin 64) :
    headR x w b (ix4 i h l d) = ∑ k : Fin 1024, x (ix3 i l k) * w (ix2 (⟨h.val * 64 + d.val, by omega⟩ : Fin 1024) k)
      + b (ix1 (⟨h.val * 64 + d.val, by omega⟩ : Fin 1024)) := by
  pointwise [headR]

theorem headC_apply (x : FVec Ideal S64x512x1024 .f32) (w : FVec Ideal S1024x1024 .f32) (b : FVec Ideal S1024 .f32)
    (i : Fin 64) (h : Fin 16) (l : Fin 512) (d : Fin 64) :
    headC x w b (ix4 i h l d) = ∑ k : Fin 1024, x (ix3 i l k) * w (ix2 (⟨h.val * 64 + d.val, by omega⟩ : Fin 1024) k)
      + b (ix1 (⟨h.val * 64 + d.val, by omega⟩ : Fin 1024)) := by
  pointwise [headC]

theorem lnR_apply (x : FVec Ideal S64x64x1024 .f32) (g h : FVec Ideal S1024 .f32) (i l : Fin 64) (j : Fin 1024) :
    lnR x g h (ix3 i l j) = Cert.Layer.ln (fun j => x (ix3 i l j)) (fun j => g (ix1 j)) (fun j => h (ix1 j)) j := by
  pointwise [lnR, devR, cntR, Cert.Layer.ln, Cert.Layer.var, Cert.Layer.mean]
  have hc : Ideal.ofBits .f32 0x44800000#32 - FloatOps.sitofp (F := Ideal) .f32 (0#32) = Cert.Layer.c1024 := by
    show Cert.Layer.c1024 - (((0#32 : BitVec 32).toInt : ℝ) : EReal) = _
    simp
  rw [hc, if_pos]
  rw [Cert.Layer.c1024_eq]
  exact_mod_cast (by norm_num : (0:ℝ) < 1024)

theorem scoreC_apply (q : FVec Ideal S64x16x64x64 .f32) (k : FVec Ideal S64x16x512x64 .f32) (i : Fin 64) (h : Fin 16) (l : Fin 64) (t : Fin 512) :
    scoreC q k (ix4 i h l t) = Ideal.div (∑ d : Fin 64, q (ix4 i h l d) * k (ix4 i h t d)) (Ideal.ofBits .f32 0x41000000#32) := by
  pointwise [scoreC]

/-- A maximum that starts from minus infinity is not below it. -/
theorem max_ninf (a : EReal) : max Cert.Layer.ninf a = a := by rw [Cert.Layer.ninf_eq]; exact max_eq_right bot_le

theorem maxC_apply (s : FVec Ideal S64x16x64x512 .f32) (i : Fin 64) (h : Fin 16) (l : Fin 64) :
    Host.reduce FloatOps.maximumf s (constant S_ .f32 0xFF800000#32) reducesTo_S64x16x64x512_S64x16x64_d3 h_S_ (ix3 i h l)
      = Finset.univ.fold max Cert.Layer.ninf fun u : Fin 512 => s (ix4 i h l u) := by
  pointwise

theorem maxS_apply (s : FVec Ideal S64x16x64x64 .f32) (i : Fin 64) (h : Fin 16) (l : Fin 64) :
    Host.reduce FloatOps.maximumf s (constant S_ .f32 0xFF800000#32) reducesTo_S64x16x64x64_S64x16x64_d3 h_S_ (ix3 i h l)
      = Finset.univ.fold max Cert.Layer.ninf fun u : Fin 64 => s (ix4 i h l u) := by
  pointwise

/-- The exponential of a score less a given bound `r` of its row. -/
theorem expC_of (s : FVec Ideal S64x16x64x512 .f32) (r : FVec Ideal S64x16x64 .f32) (i : Fin 64) (h : Fin 16) (l : Fin 64) (t : Fin 512) :
    (Host.exp (subf s (broadcastInDim S64x16x64x512 ![0, 1, 2, 3] bcast_S64x16x64x1_S64x16x64x512_0_1_2_3 (broadcastInDim S64x16x64x1 ![0, 1, 2] bcast_S64x16x64_S64x16x64x1_0_1_2 (maximumf (broadcastInDim S64x16x64 ![] bcast_S_S64x16x64 (constant S_ .f32 0xFF800000#32)) r)))) : FVec Ideal S64x16x64x512 .f32) (ix4 i h l t)
      = Ideal.exp (s (ix4 i h l t) - r (ix3 i h l)) := by
  pointwise
  rw [max_ninf]

theorem expC_apply (s : FVec Ideal S64x16x64x512 .f32) (i : Fin 64) (h : Fin 16) (l : Fin 64) (t : Fin 512) :
    expC s (ix4 i h l t) = Ideal.exp (s (ix4 i h l t) - Finset.univ.fold max Cert.Layer.ninf fun u : Fin 512 => s (ix4 i h l u)) := by
  unfold expC
  rw [expC_of, maxC_apply]

/-- The exponential of a score less a given bound `r` of its row. -/
theorem expS_of (s : FVec Ideal S64x16x64x64 .f32) (r : FVec Ideal S64x16x64 .f32) (i : Fin 64) (h : Fin 16) (l : Fin 64) (t : Fin 64) :
    (Host.exp (subf s (broadcastInDim S64x16x64x64 ![0, 1, 2, 3] bcast_S64x16x64x1_S64x16x64x64_0_1_2_3 (broadcastInDim S64x16x64x1 ![0, 1, 2] bcast_S64x16x64_S64x16x64x1_0_1_2 (maximumf (broadcastInDim S64x16x64 ![] bcast_S_S64x16x64 (constant S_ .f32 0xFF800000#32)) r)))) : FVec Ideal S64x16x64x64 .f32) (ix4 i h l t)
      = Ideal.exp (s (ix4 i h l t) - r (ix3 i h l)) := by
  pointwise
  rw [max_ninf]

theorem expS_apply (s : FVec Ideal S64x16x64x64 .f32) (i : Fin 64) (h : Fin 16) (l : Fin 64) (t : Fin 64) :
    expS s (ix4 i h l t) = Ideal.exp (s (ix4 i h l t) - Finset.univ.fold max Cert.Layer.ninf fun u : Fin 64 => s (ix4 i h l u)) := by
  unfold expS
  rw [expS_of, maxS_apply]

theorem outC_apply (x : FVec Ideal S64x64x1024 .f32) (e : FVec Ideal S64x16x64x512 .f32) (v : FVec Ideal S64x16x512x64 .f32)
    (wo : FVec Ideal S1024x1024 .f32) (bo : FVec Ideal S1024 .f32) (i l : Fin 64) (j : Fin 1024) :
    outC x e v wo bo (ix3 i l j) = x (ix3 i l j) + (∑ m : Fin 1024, (∑ t : Fin 512, Ideal.div (e (ix4 i (⟨m.val / 64, by omega⟩ : Fin 16) l t))
      (∑ u : Fin 512, e (ix4 i (⟨m.val / 64, by omega⟩ : Fin 16) l u)) * v (ix4 i (⟨m.val / 64, by omega⟩ : Fin 16) t (⟨m.val % 64, by omega⟩ : Fin 64))) * wo (ix2 j m)
      + bo (ix1 j)) := by
  pointwise [outC]

theorem outS_apply (x : FVec Ideal S64x64x1024 .f32) (e : FVec Ideal S64x16x64x64 .f32) (v : FVec Ideal S64x16x64x64 .f32)
    (wo : FVec Ideal S1024x1024 .f32) (bo : FVec Ideal S1024 .f32) (i l : Fin 64) (j : Fin 1024) :
    outS x e v wo bo (ix3 i l j) = x (ix3 i l j) + (∑ m : Fin 1024, (∑ t : Fin 64, Ideal.div (e (ix4 i (⟨m.val / 64, by omega⟩ : Fin 16) l t))
      (∑ u : Fin 64, e (ix4 i (⟨m.val / 64, by omega⟩ : Fin 16) l u)) * v (ix4 i (⟨m.val / 64, by omega⟩ : Fin 16) t (⟨m.val % 64, by omega⟩ : Fin 64))) * wo (ix2 j m)
      + bo (ix1 j)) := by
  pointwise [outS]

theorem scoreS_apply (q k : FVec Ideal S64x16x64x64 .f32) (i : Fin 64) (h : Fin 16) (l t : Fin 64) :
    scoreS q k (ix4 i h l t) = Cert.Layer.causal l t (Ideal.div (∑ d : Fin 64, q (ix4 i h l d) * k (ix4 i h t d)) (Ideal.ofBits .f32 0x41000000#32)) := by
  pointwise [scoreS, maskR, Cert.Layer.causal]
  have hm : ∀ l t : Fin 64, (Scalar.select (IntOp.cmpi CmpIPredicate.sge (IntOp.addi (BitVec.ofNat 32 l.val) 0#32) (BitVec.ofNat 32 t.val)) 0#1 1#1 : BitVec 1)
      = if l < t then 1#1 else 0#1 := by decide +kernel
  rw [hm]
  by_cases hlt : l < t
  · rw [if_pos hlt, if_pos hlt]; rfl
  · rw [if_neg hlt, if_neg hlt]; rfl

theorem ffR_apply (x : FVec Ideal S64x64x1024 .f32) (w1 : FVec Ideal S4096x1024 .f32) (b1 : FVec Ideal S4096 .f32)
    (w2 : FVec Ideal S1024x4096 .f32) (b2 g h : FVec Ideal S1024 .f32) (i l : Fin 64) (j : Fin 1024) :
    ffR x w1 b1 w2 b2 g h (ix3 i l j) = x (ix3 i l j) + Cert.Layer.ffn (Cert.Layer.ln (fun j => x (ix3 i l j)) (fun j => g (ix1 j)) (fun j => h (ix1 j)))
      (fun i j => w1 (ix2 i j)) (fun i => b1 (ix1 i)) (fun i j => w2 (ix2 i j)) (fun j => b2 (ix1 j)) j := by
  pointwise [ffR, Cert.Layer.ffn, Cert.Layer.proj]

  simp only [lnR_apply]

end Cert.ReferenceIdeal.Layer
end
end
-- ==== Proof.RefAtt.lean ====
/- The reference's two attentions read entry by entry: they are the attentions stated on index functions. -/
module

public import proofs.«01_k».proof.Proof.RefRead

@[expose] public section

set_option maxRecDepth 16384

noncomputable section

namespace Cert.ReferenceIdeal.Layer

open Cert.ReferenceIdeal Cert.ReferenceIdeal.Gen Idealize.ShloMosaic Idealize.ShloMosaic.TcCoe Idealize.SL.Sem Idealize.ShloMosaic.StableHlo

/-! The three parts of the joint projection, read at the head and the column a column of the joined heads has. -/

theorem headR_q (x : FVec Ideal S64x64x1024 .f32) (w : FVec Ideal S3072x1024 .f32) (b : FVec Ideal S3072 .f32)
    (i : Fin 64) (h : Fin 16) (l : Fin 64) (d : Fin 64) (a : Fin 1024) (ha : h.val * 64 + d.val = a.val) :
    headR x (extractStridedSlice S1024x1024 ![0, 0] w slices_S3072x1024_S1024x1024_0_0)
        (extractStridedSlice S1024 ![0] b slices_S3072_S1024_0) (ix4 i h l d)
      = Cert.Layer.proj (fun k => x (ix3 i l k)) (fun i j => w (ix2 i j)) (fun j => b (ix1 j)) (Cert.Layer.qcol a) := by
  rw [headR_apply, show (⟨h.val * 64 + d.val, by omega⟩ : Fin 1024) = a from Fin.ext ha]
  unfold Cert.Layer.proj
  pointwise

theorem headR_k (x : FVec Ideal S64x64x1024 .f32) (w : FVec Ideal S3072x1024 .f32) (b : FVec Ideal S3072 .f32)
    (i : Fin 64) (h : Fin 16) (l : Fin 64) (d : Fin 64) (a : Fin 1024) (ha : h.val * 64 + d.val = a.val) :
    headR x (extractStridedSlice S1024x1024 ![1024, 0] w slices_S3072x1024_S1024x1024_1024_0)
        (extractStridedSlice S1024 ![1024] b slices_S3072_S1024_1024) (ix4 i h l d)
      = Cert.Layer.proj (fun k => x (ix3 i l k)) (fun i j => w (ix2 i j)) (fun j => b (ix1 j)) (Cert.Layer.kcol a) := by
  rw [headR_apply, show (⟨h.val * 64 + d.val, by omega⟩ : Fin 1024) = a from Fin.ext ha]
  unfold Cert.Layer.proj
  pointwise

theorem headR_v (x : FVec Ideal S64x64x1024 .f32) (w : FVec Ideal S3072x1024 .f32) (b : FVec Ideal S3072 .f32)
    (i : Fin 64) (h : Fin 16) (l : Fin 64) (d : Fin 64) (a : Fin 1024) (ha : h.val * 64 + d.val = a.val) :
    headR x (extractStridedSlice S1024x1024 ![2048, 0] w slices_S3072x1024_S1024x1024_2048_0)
        (extractStridedSlice S1024 ![2048] b slices_S3072_S1024_2048) (ix4 i h l d)
      = Cert.Layer.proj (fun k => x (ix3 i l k)) (fun i j => w (ix2 i j)) (fun j => b (ix1 j)) (Cert.Layer.vcol a) := by
  rw [headR_apply, show (⟨h.val * 64 + d.val, by omega⟩ : Fin 1024) = a from Fin.ext ha]
  unfold Cert.Layer.proj
  pointwise

theorem headC_k (x : FVec Ideal S64x512x1024 .f32) (w : FVec Ideal S3072x1024 .f32) (b : FVec Ideal S3072 .f32)
    (i : Fin 64) (h : Fin 16) (l : Fin 512) (d : Fin 64) (a : Fin 1024) (ha : h.val * 64 + d.val = a.val) :
    headC x (extractStridedSlice S1024x1024 ![1024, 0] w slices_S3072x1024_S1024x1024_1024_0)
        (extractStridedSlice S1024 ![1024] b slices_S3072_S1024_1024) (ix4 i h l d)
      = Cert.Layer.proj (fun k => x (ix3 i l k)) (fun i j => w (ix2 i j)) (fun j => b (ix1 j)) (Cert.Layer.kcol a) := by
  rw [headC_apply, show (⟨h.val * 64 + d.val, by omega⟩ : Fin 1024) = a from Fin.ext ha]
  unfold Cert.Layer.proj
  pointwise

theorem headC_v (x : FVec Ideal S64x512x1024 .f32) (w : FVec Ideal S3072x1024 .f32) (b : FVec Ideal S3072 .f32)
    (i : Fin 64) (h : Fin 16) (l : Fin 512) (d : Fin 64) (a : Fin 1024) (ha : h.val * 64 + d.val = a.val) :
    headC x (extractStridedSlice S1024x1024 ![2048, 0] w slices_S3072x1024_S1024x1024_2048_0)
        (extractStridedSlice S1024 ![2048] b slices_S3072_S1024_2048) (ix4 i h l d)
      = Cert.Layer.proj (fun k => x (ix3 i l k)) (fun i j => w (ix2 i j)) (fun j => b (ix1 j)) (Cert.Layer.vcol a) := by
  rw [headC_apply, show (⟨h.val * 64 + d.val, by omega⟩ : Fin 1024) = a from Fin.ext ha]
  unfold Cert.Layer.proj
  pointwise

theorem crossR_apply (x : FVec Ideal S64x64x1024 .f32) (y : FVec Ideal S64x512x1024 .f32) (w : FVec Ideal S3072x1024 .f32)
    (b : FVec Ideal S3072 .f32) (wo : FVec Ideal S1024x1024 .f32) (bo g h : FVec Ideal S1024 .f32) (i l : Fin 64) (j : Fin 1024) :
    crossR x y w b wo bo g h (ix3 i l j) = Cert.Layer.cross (fun i l j => x (ix3 i l j)) (fun i l j => y (ix3 i l j))
      (fun i j => w (ix2 i j)) (fun j => b (ix1 j)) (fun i j => wo (ix2 i j)) (fun j => bo (ix1 j)) (fun j => g (ix1 j))
      (fun j => h (ix1 j)) i l j := by
  unfold crossR
  rw [outC_apply]
  refine congrArg (x (ix3 i l j) + ·) (congrArg (· + bo (ix1 j)) (Finset.sum_congr rfl fun m _ => congrArg (· * wo (ix2 j m)) ?_))
  refine Finset.sum_congr rfl fun t _ => ?_
  have hs : ∀ t : Fin 512, scoreC (headR (lnR x g h) (extractStridedSlice S1024x1024 ![0, 0] w slices_S3072x1024_S1024x1024_0_0)
        (extractStridedSlice S1024 ![0] b slices_S3072_S1024_0))
      (headC y (extractStridedSlice S1024x1024 ![1024, 0] w slices_S3072x1024_S1024x1024_1024_0)
        (extractStridedSlice S1024 ![1024] b slices_S3072_S1024_1024)) (ix4 i (⟨m.val / 64, by omega⟩ : Fin 16) l t)
      = Ideal.div (∑ d : Fin 64, Cert.Layer.proj (Cert.Layer.ln (fun j => x (ix3 i l j)) (fun j => g (ix1 j)) (fun j => h (ix1 j))) (fun i j => w (ix2 i j)) (fun j => b (ix1 j)) (Cert.Layer.qcol (Cert.Layer.col m d)) * Cert.Layer.proj (fun k => y (ix3 i t k)) (fun i j => w (ix2 i j)) (fun j => b (ix1 j)) (Cert.Layer.kcol (Cert.Layer.col m d))) (Ideal.ofBits .f32 0x41000000#32) := by
    intro t
    rw [scoreC_apply]
    refine congrArg (fun s => Ideal.div s (Ideal.ofBits .f32 0x41000000#32)) (Finset.sum_congr rfl fun d _ => ?_)
    rw [headR_q (a := Cert.Layer.col m d) (ha := by simp only; omega), headC_k (a := Cert.Layer.col m d) (ha := by simp only; omega)]
    simp only [lnR_apply]
  rw [headC_v (a := m) (ha := by simp only; omega)]
  simp only [expC_apply, hs]
  rfl

theorem selfR_apply (x : FVec Ideal S64x64x1024 .f32) (w : FVec Ideal S3072x1024 .f32)
    (b : FVec Ideal S3072 .f32) (wo : FVec Ideal S1024x1024 .f32) (bo g h : FVec Ideal S1024 .f32) (i l : Fin 64) (j : Fin 1024) :
    selfR x w b wo bo g h (ix3 i l j) = Cert.Layer.selfA (fun i l j => x (ix3 i l j))
      (fun i j => w (ix2 i j)) (fun j => b (ix1 j)) (fun i j => wo (ix2 i j)) (fun j => bo (ix1 j)) (fun j => g (ix1 j))
      (fun j => h (ix1 j)) i l j := by
  unfold selfR
  rw [outS_apply]
  refine congrArg (x (ix3 i l j) + ·) (congrArg (· + bo (ix1 j)) (Finset.sum_congr rfl fun m _ => congrArg (· * wo (ix2 j m)) ?_))
  refine Finset.sum_congr rfl fun t _ => ?_
  have hs : ∀ t : Fin 64, scoreS (headR (lnR x g h) (extractStridedSlice S1024x1024 ![0, 0] w slices_S3072x1024_S1024x1024_0_0)
        (extractStridedSlice S1024 ![0] b slices_S3072_S1024_0))
      (headR (lnR x g h) (extractStridedSlice S1024x1024 ![1024, 0] w slices_S3072x1024_S1024x1024_1024_0)
        (extractStridedSlice S1024 ![1024] b slices_S3072_S1024_1024)) (ix4 i (⟨m.val / 64, by omega⟩ : Fin 16) l t)
      = Cert.Layer.causal l t (Ideal.div (∑ d : Fin 64, Cert.Layer.proj (Cert.Layer.ln (fun j => x (ix3 i l j)) (fun j => g (ix1 j)) (fun j => h (ix1 j))) (fun i j => w (ix2 i j)) (fun j => b (ix1 j)) (Cert.Layer.qcol (Cert.Layer.col m d)) * Cert.Layer.proj (Cert.Layer.ln (fun j => x (ix3 i t j)) (fun j => g (ix1 j)) (fun j => h (ix1 j))) (fun i j => w (ix2 i j)) (fun j => b (ix1 j)) (Cert.Layer.kcol (Cert.Layer.col m d))) (Ideal.ofBits .f32 0x41000000#32)) := by
    intro t
    rw [scoreS_apply]
    refine congrArg (fun s => Cert.Layer.causal l t (Ideal.div s (Ideal.ofBits .f32 0x41000000#32))) (Finset.sum_congr rfl fun d _ => ?_)
    rw [headR_q (a := Cert.Layer.col m d) (ha := by simp only; omega), headR_k (a := Cert.Layer.col m d) (ha := by simp only; omega)]
    simp only [lnR_apply]
  rw [headR_v (a := m) (ha := by simp only; omega)]
  simp only [expS_apply, hs]
  simp only [lnR_apply]
  rfl

end Cert.ReferenceIdeal.Layer
end
end
-- ==== Proof.RefNet.lean ====
/- The reference's result is the stack of eight layers on the starting rows. -/
module

public import proofs.«01_k».proof.Proof.RefAtt
public import proofs.«01_k».proof.Proof.Net
public import proofs.«01_k».proof.Proof.Gen.ReferenceIdeal.Run

@[expose] public section

set_option maxRecDepth 16384

noncomputable section

namespace Cert.ReferenceIdeal.Layer

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! Layer `ℓ`'s part of an array of weights. -/

def cut1 (ℓ : Fin 8) (x : FVec F S8x1024 .f32) : FVec F S1024 .f32 :=
  shapeCast S1024 (extractStridedSlice S1x1024 ![ℓ.val, 0] x (by revert ℓ; decide)) shapeCasts_S1x1024_S1024

def cut3 (ℓ : Fin 8) (x : FVec F S8x3072 .f32) : FVec F S3072 .f32 :=
  shapeCast S3072 (extractStridedSlice S1x3072 ![ℓ.val, 0] x (by revert ℓ; decide)) shapeCasts_S1x3072_S3072

def cut4 (ℓ : Fin 8) (x : FVec F S8x4096 .f32) : FVec F S4096 .f32 :=
  shapeCast S4096 (extractStridedSlice S1x4096 ![ℓ.val, 0] x (by revert ℓ; decide)) shapeCasts_S1x4096_S4096

def cut11 (ℓ : Fin 8) (x : FVec F S8x1024x1024 .f32) : FVec F S1024x1024 .f32 :=
  shapeCast S1024x1024 (extractStridedSlice S1x1024x1024 ![ℓ.val, 0, 0] x (by revert ℓ; decide)) shapeCasts_S1x1024x1024_S1024x1024

def cut31 (ℓ : Fin 8) (x : FVec F S8x3072x1024 .f32) : FVec F S3072x1024 .f32 :=
  shapeCast S3072x1024 (extractStridedSlice S1x3072x1024 ![ℓ.val, 0, 0] x (by revert ℓ; decide)) shapeCasts_S1x3072x1024_S3072x1024

def cut41 (ℓ : Fin 8) (x : FVec F S8x4096x1024 .f32) : FVec F S4096x1024 .f32 :=
  shapeCast S4096x1024 (extractStridedSlice S1x4096x1024 ![ℓ.val, 0, 0] x (by revert ℓ; decide)) shapeCasts_S1x4096x1024_S4096x1024

def cut14 (ℓ : Fin 8) (x : FVec F S8x1024x4096 .f32) : FVec F S1024x4096 .f32 :=
  shapeCast S1024x4096 (extractStridedSlice S1x1024x4096 ![ℓ.val, 0, 0] x (by revert ℓ; decide)) shapeCasts_S1x1024x4096_S1024x4096

theorem cut1_apply (ℓ : Fin 8) (x : FVec Ideal S8x1024 .f32) (j : Fin 1024) : cut1 ℓ x (ix1 j) = x (ix2 ℓ j) := by
  pointwise [cut1]
theorem cut3_apply (ℓ : Fin 8) (x : FVec Ideal S8x3072 .f32) (j : Fin 3072) : cut3 ℓ x (ix1 j) = x (ix2 ℓ j) := by
  pointwise [cut3]
theorem cut4_apply (ℓ : Fin 8) (x : FVec Ideal S8x4096 .f32) (j : Fin 4096) : cut4 ℓ x (ix1 j) = x (ix2 ℓ j) := by
  pointwise [cut4]
theorem cut11_apply (ℓ : Fin 8) (x : FVec Ideal S8x1024x1024 .f32) (i j : Fin 1024) : cut11 ℓ x (ix2 i j) = x (ix3 ℓ i j) := by
  pointwise [cut11]
theorem cut31_apply (ℓ : Fin 8) (x : FVec Ideal S8x3072x1024 .f32) (i : Fin 3072) (j : Fin 1024) : cut31 ℓ x (ix2 i j) = x (ix3 ℓ i j) := by
  pointwise [cut31]
theorem cut41_apply (ℓ : Fin 8) (x : FVec Ideal S8x4096x1024 .f32) (i : Fin 4096) (j : Fin 1024) : cut41 ℓ x (ix2 i j) = x (ix3 ℓ i j) := by
  pointwise [cut41]
theorem cut14_apply (ℓ : Fin 8) (x : FVec Ideal S8x1024x4096 .f32) (i : Fin 1024) (j : Fin 4096) : cut14 ℓ x (ix2 i j) = x (ix3 ℓ i j) := by
  pointwise [cut14]

variable (V : Valuation τ sig (Elt F))

/-- Layer `ℓ`'s cross attention with the weights the buffers hold. -/
def layC (ℓ : Fin 8) (x : FVec F S64x64x1024 .f32) : FVec F S64x64x1024 .f32 :=
  crossR x (V (Proc.devRef .tc main_arg0)) (cut31 ℓ (V (Proc.devRef .tc main_arg3))) (cut3 ℓ (V (Proc.devRef .tc main_arg4))) (cut11 ℓ (V (Proc.devRef .tc main_arg5)))
    (cut1 ℓ (V (Proc.devRef .tc main_arg6))) (cut1 ℓ (V (Proc.devRef .tc main_arg7))) (cut1 ℓ (V (Proc.devRef .tc main_arg8)))

def layS (ℓ : Fin 8) (x : FVec F S64x64x1024 .f32) : FVec F S64x64x1024 .f32 :=
  selfR x (cut31 ℓ (V (Proc.devRef .tc main_arg9))) (cut3 ℓ (V (Proc.devRef .tc main_arg10))) (cut11 ℓ (V (Proc.devRef .tc main_arg11)))
    (cut1 ℓ (V (Proc.devRef .tc main_arg12))) (cut1 ℓ (V (Proc.devRef .tc main_arg13))) (cut1 ℓ (V (Proc.devRef .tc main_arg14)))

def layF (ℓ : Fin 8) (x : FVec F S64x64x1024 .f32) : FVec F S64x64x1024 .f32 :=
  ffR x (cut41 ℓ (V (Proc.devRef .tc main_arg17))) (cut4 ℓ (V (Proc.devRef .tc main_arg18))) (cut14 ℓ (V (Proc.devRef .tc main_arg19)))
    (cut1 ℓ (V (Proc.devRef .tc main_arg20))) (cut1 ℓ (V (Proc.devRef .tc main_arg15))) (cut1 ℓ (V (Proc.devRef .tc main_arg16)))

/-- The rows before layer `ℓ`, after its cross attention and after its self attention. -/
def refX : Fin 8 → FVec F S64x64x1024 .f32 := ![res_main_v3 V, res_main_v208 V, res_main_v411 V, res_main_v614 V, res_main_v817 V, res_main_v1020 V, res_main_v1223 V, res_main_v1426 V]
def refC : Fin 8 → FVec F S64x64x1024 .f32 := ![res_main_v85 V, res_main_v288 V, res_main_v491 V, res_main_v694 V, res_main_v897 V, res_main_v1100 V, res_main_v1303 V, res_main_v1506 V]
def refS : Fin 8 → FVec F S64x64x1024 .f32 := ![res_main_v166 V, res_main_v369 V, res_main_v572 V, res_main_v775 V, res_main_v978 V, res_main_v1181 V, res_main_v1384 V, res_main_v1587 V]

theorem refC_eq : ∀ ℓ : Fin 8, refC V ℓ = layC V ℓ (refX V ℓ)
  | 0 => rfl | 1 => rfl | 2 => rfl | 3 => rfl | 4 => rfl | 5 => rfl | 6 => rfl | 7 => rfl

theorem refS_eq : ∀ ℓ : Fin 8, refS V ℓ = layS V ℓ (refC V ℓ)
  | 0 => rfl | 1 => rfl | 2 => rfl | 3 => rfl | 4 => rfl | 5 => rfl | 6 => rfl | 7 => rfl

theorem refX_succ : ∀ ℓ : Fin 7, refX V ℓ.succ = layF V ℓ.castSucc (refS V ℓ.castSucc)
  | 0 => rfl | 1 => rfl | 2 => rfl | 3 => rfl | 4 => rfl | 5 => rfl | 6 => rfl

section Read

variable (V : Valuation τ sig (Elt Ideal))

/-- The weights the buffers hold. -/
def wts : Cert.Layer.Wts := Cert.Layer.Wts.of (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20))

/-- An array of rows as an index function. -/
def rd (x : FVec Ideal S64x64x1024 .f32) : Cert.Layer.Rows := fun i l j => x (ix3 i l j)

theorem layC_rd (ℓ : Fin 8) (x : FVec Ideal S64x64x1024 .f32) : rd (layC V ℓ x) = Cert.Layer.stepC (wts V) ℓ (rd x) := by
  funext i l j
  unfold rd layC
  rw [crossR_apply]
  simp only [cut31_apply, cut3_apply, cut11_apply, cut1_apply]
  rfl

theorem layS_rd (ℓ : Fin 8) (x : FVec Ideal S64x64x1024 .f32) : rd (layS V ℓ x) = Cert.Layer.stepS (wts V) ℓ (rd x) := by
  funext i l j
  unfold rd layS
  rw [selfR_apply]
  simp only [cut31_apply, cut3_apply, cut11_apply, cut1_apply]
  rfl

theorem layF_rd (ℓ : Fin 8) (x : FVec Ideal S64x64x1024 .f32) : rd (layF V ℓ x) = Cert.Layer.stepF (wts V) ℓ (rd x) := by
  funext i l j
  unfold rd layF
  rw [ffR_apply]
  simp only [cut41_apply, cut4_apply, cut14_apply, cut1_apply]
  rfl

/-- The positions, as the program writes them. -/
def positions : FVec Ideal S64x1024 .f32 := fun i => FloatOps.ofBits .f32 (lit0 (S64x1024.rowMajor i))

theorem start_apply (a : FVec Ideal S1x64x1024 .f32) (q : FVec Ideal S64x1024 .f32) (i l : Fin 64) (j : Fin 1024) :
    addf (broadcastInDim S64x64x1024 ![0, 1, 2] bcast_S1x64x1024_S64x64x1024_0_1_2 a)
        (broadcastInDim S64x64x1024 ![0, 1, 2] bcast_S1x64x1024_S64x64x1024_0_1_2 (broadcastInDim S1x64x1024 ![1, 2] bcast_S64x1024_S1x64x1024_1_2 q)) (ix3 i l j)
      = a (ix3 0 l j) + q (ix2 l j) := by
  pointwise

theorem start_rd : rd (refX V 0) = Cert.Layer.start (V (Proc.devRef .tc main_arg2)) positions := by
  funext i l j
  exact start_apply (V (Proc.devRef .tc main_arg2)) positions i l j

/-- After the first layers the buffers hold the stack's rows. -/
theorem refX_net : ∀ n (h : n < 8), rd (refX V ⟨n, h⟩) = Cert.Layer.net (wts V) (Cert.Layer.start (V (Proc.devRef .tc main_arg2)) positions) n
  | 0, _ => start_rd V
  | n + 1, h => by
    have h7 : n < 7 := Nat.lt_of_succ_lt_succ h
    have e := refX_succ V ⟨n, h7⟩
    rw [show (⟨n + 1, h⟩ : Fin 8) = (⟨n, h7⟩ : Fin 7).succ from rfl, e, layF_rd, refS_eq, layS_rd, refC_eq, layC_rd,
      show (⟨n, h7⟩ : Fin 7).castSucc = (⟨n, Nat.lt_of_succ_lt h⟩ : Fin 8) from rfl, refX_net n (Nat.lt_of_succ_lt h)]
    exact (Cert.Layer.net_succ _ _ ⟨n, Nat.lt_of_succ_lt h⟩).symm

/-- What the reference's last operations make of the last self attention's rows is the stack's result. -/
theorem last_net : rd (layF V 7 (refS V 7)) = Cert.Layer.net (wts V) (Cert.Layer.start (V (Proc.devRef .tc main_arg2)) positions) 8 := by
  rw [layF_rd, refS_eq, layS_rd, refC_eq, layC_rd, show (7 : Fin 8) = ⟨7, by decide⟩ from rfl, refX_net]
  exact (Cert.Layer.net_succ _ _ 7).symm

end Read

variable (m : (ℓ : Loc nD τ sig) → Buf (Elt Ideal) ℓ) (ρ : Dev nD → PrngReg)

/-- The reference's run: its result is the stack's, its arguments are unchanged. -/
theorem run_net : θ_run defs (onTc (τ := τ) (main (F := Ideal))) ⟨m, fun _ => 0, ρ⟩ fun r => ∀ c : Dev nD,
    r.2.mem ((c.tc : Thread nD τ).loc main_v1629) = layF (launchContents m c) 7 (refS (launchContents m c) 7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  exact run m ρ

end Cert.ReferenceIdeal.Layer

end

end
-- ==== Proof.Same.lean ====
/- The precondition read entry by entry, and the equality of the two programs' results under it. -/
module

public import proofs.«01_k».proof.Pre_mlp_rows_agree
public import proofs.«01_k».proof.Proof.KerNet
public import proofs.«01_k».proof.Proof.RefNet

@[expose] public section

set_option maxRecDepth 16384

noncomputable section

open Idealize.ShloMosaic Idealize.ShloMosaic.TcCoe

namespace Cert.Pre_mlp_rows_agree

/-- The precondition's shape conditions. -/
theorem facts : Cert.Pre_mlp_rows_agree.Facts where
  slices_S8x1024_S1x1024_0_0 := by decide
  bcast_S1x1024_S8x1024_0_1 := by decide

/-- An array equal to its first row, row by row. -/
theorem rows_of (x : FVec Ideal S8x1024 .f32) (hs : S8x1024.Slices ![0, 0] S1x1024) (hb : S1x1024.BroadcastsInDim S8x1024 (![0, 1] : Fin 2 → Fin S8x1024.rank))
    (ℓ : Fin 8) (j : Fin 1024)
    (h : cmpf .oeq x (broadcastInDim S8x1024 ![0, 1] hb (extractStridedSlice S1x1024 ![0, 0] x hs)) (ix2 ℓ j) = 1#1) :
    x (ix2 ℓ j) = x (ix2 0 j) := by
  pointwise at h
  by_contra hne
  rw [decide_eq_false hne] at h
  exact absurd h (by decide)

theorem and_one (a b : BitVec 1) (h : IntOp.andi a b = 1#1) : a = 1#1 ∧ b = 1#1 := by
  revert a b; decide

/-- The precondition's three arrays have equal rows. -/
theorem rows_agree [Facts] (a0 : FVec Ideal S64x512x1024 .f32) (a1 : FVec Ideal S64x1x768 .f32) (a2 : FVec Ideal S1x64x1024 .f32) (a3 : FVec Ideal S8x3072x1024 .f32) (a4 : FVec Ideal S8x3072 .f32) (a5 : FVec Ideal S8x1024x1024 .f32) (a6 : FVec Ideal S8x1024 .f32) (a7 : FVec Ideal S8x1024 .f32) (a8 : FVec Ideal S8x1024 .f32) (a9 : FVec Ideal S8x3072x1024 .f32) (a10 : FVec Ideal S8x3072 .f32) (a11 : FVec Ideal S8x1024x1024 .f32) (a12 : FVec Ideal S8x1024 .f32) (a13 : FVec Ideal S8x1024 .f32) (a14 : FVec Ideal S8x1024 .f32) (a15 : FVec Ideal S8x1024 .f32) (a16 : FVec Ideal S8x1024 .f32) (a17 : FVec Ideal S8x4096x1024 .f32) (a18 : FVec Ideal S8x4096 .f32) (a19 : FVec Ideal S8x1024x4096 .f32) (a20 : FVec Ideal S8x1024 .f32)
    (h : fn (F := Ideal) a0 a1 a2 a3 a4 a5 a6 a7 a8 a9 a10 a11 a12 a13 a14 a15 a16 a17 a18 a19 a20 = fun _ => 1#1) (ℓ : Fin 8) (j : Fin 1024) :
    a15 (ix2 ℓ j) = a15 (ix2 0 j) ∧ a16 (ix2 ℓ j) = a16 (ix2 0 j) ∧ a20 (ix2 ℓ j) = a20 (ix2 0 j) := by
  have e := and_one _ _ (congrFun h (ix2 ℓ j))
  have e' := and_one _ _ e.1
  exact ⟨rows_of a15 _ _ ℓ j e'.1, rows_of a16 _ _ ℓ j e'.2, rows_of a20 _ _ ℓ j e.2⟩

end Cert.Pre_mlp_rows_agree

namespace Cert.Same

/-- Equal arrays have equal weights. -/
theorem of_congr {a0 : FVec Ideal ⟨3, ![64, 512, 1024]⟩ .f32} {a3 : FVec Ideal ⟨3, ![8, 3072, 1024]⟩ .f32} {a4 : FVec Ideal ⟨2, ![8, 3072]⟩ .f32}
    {a5 : FVec Ideal ⟨3, ![8, 1024, 1024]⟩ .f32} {a6 a7 a8 : FVec Ideal ⟨2, ![8, 1024]⟩ .f32}
    {a9 : FVec Ideal ⟨3, ![8, 3072, 1024]⟩ .f32} {a10 : FVec Ideal ⟨2, ![8, 3072]⟩ .f32}
    {a11 : FVec Ideal ⟨3, ![8, 1024, 1024]⟩ .f32} {a12 a13 a14 a15 a16 : FVec Ideal ⟨2, ![8, 1024]⟩ .f32}
    {a17 : FVec Ideal ⟨3, ![8, 4096, 1024]⟩ .f32} {a18 : FVec Ideal ⟨2, ![8, 4096]⟩ .f32}
    {a19 : FVec Ideal ⟨3, ![8, 1024, 4096]⟩ .f32} {a20 : FVec Ideal ⟨2, ![8, 1024]⟩ .f32}
    {b0 : FVec Ideal ⟨3, ![64, 512, 1024]⟩ .f32} {b3 : FVec Ideal ⟨3, ![8, 3072, 1024]⟩ .f32} {b4 : FVec Ideal ⟨2, ![8, 3072]⟩ .f32}
    {b5 : FVec Ideal ⟨3, ![8, 1024, 1024]⟩ .f32} {b6 b7 b8 : FVec Ideal ⟨2, ![8, 1024]⟩ .f32}
    {b9 : FVec Ideal ⟨3, ![8, 3072, 1024]⟩ .f32} {b10 : FVec Ideal ⟨2, ![8, 3072]⟩ .f32}
    {b11 : FVec Ideal ⟨3, ![8, 1024, 1024]⟩ .f32} {b12 b13 b14 b15 b16 : FVec Ideal ⟨2, ![8, 1024]⟩ .f32}
    {b17 : FVec Ideal ⟨3, ![8, 4096, 1024]⟩ .f32} {b18 : FVec Ideal ⟨2, ![8, 4096]⟩ .f32}
    {b19 : FVec Ideal ⟨3, ![8, 1024, 4096]⟩ .f32} {b20 : FVec Ideal ⟨2, ![8, 1024]⟩ .f32}
    (h0 : a0 = b0) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) :
    Layer.Wts.of a0 a3 a4 a5 a6 a7 a8 a9 a10 a11 a12 a13 a14 a15 a16 a17 a18 a19 a20 = Layer.Wts.of b0 b3 b4 b5 b6 b7 b8 b9 b10 b11 b12 b13 b14 b15 b16 b17 b18 b19 b20 := by
  subst h0 h3 h4 h5 h6 h7 h8 h9 h10 h11 h12 h13 h14 h15 h16 h17 h18 h19 h20
  rfl

/-- The two programs write the same positions. -/
theorem lit_eq : Cert.KernelIdeal.lit0 = Cert.ReferenceIdeal.lit0 := rfl

theorem positions_eq : Cert.KernelIdeal.Gen.positions = Cert.ReferenceIdeal.Layer.positions := by
  unfold Cert.KernelIdeal.Gen.positions Cert.ReferenceIdeal.Layer.positions
  rw [lit_eq]

/-- From equal weights and equal starting rows the reference's result is the kernel's. -/
theorem results_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hA : Cert.KernelIdeal.Gen.Agree (Cert.KernelIdeal.Gen.wtsK m c))
    (hw : Cert.ReferenceIdeal.Layer.wts V = Cert.KernelIdeal.Gen.wtsK m c)
    (hs : Layer.start (V (Proc.devRef .tc Cert.ReferenceIdeal.main_arg2)) Cert.ReferenceIdeal.Layer.positions = Cert.KernelIdeal.Gen.startK m c) :
    @Eq (Cert.KernelIdeal.S64x64x1024.Idx → EReal) (Cert.ReferenceIdeal.Layer.layF V 7 (Cert.ReferenceIdeal.Layer.refS V 7))
      (Cert.KernelIdeal.Gen.entryW m 24 c (Proc.devRef .tc Cert.KernelIdeal.main_v62)) := by
  funext k
  rw [← ix3_eta k]
  refine Eq.trans ?_ (Cert.KernelIdeal.Gen.result_net m c hA (k 0) (k 1) (k 2)).symm
  have h := Cert.ReferenceIdeal.Layer.last_net V
  rw [hw, hs] at h
  exact congrFun (congrFun (congrFun h (k 0)) (k 1)) (k 2)

end Cert.Same

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Ends
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_mlp_rows_agree.Facts := Cert.Pre_mlp_rows_agree.facts

/-- The kernel as written runs, leaves its arguments and every counter at zero. -/
theorem kernel_frame : Cert.quiescent_Kernel := fun m g _ =>
  (θ_run _ _ _).mono (fun r h => ⟨fun c => by
    refine ⟨?_,?_,?_,?_,?_,?_,?_,?_,?_,?_,?_,?_,?_,?_,?_,?_,?_,?_,?_,?_,?_⟩ <;>
      exact Cert.Kernel.Gen.args_end m r.2.mem h.1 _ (by decide) c, h.2⟩) (Cert.Kernel.Gen.run (F := Bits) m g)

/-- So does the kernel over the extended reals. -/
theorem ideal_frame : Cert.quiescent_KernelIdeal := fun m g _ =>
  (θ_run _ _ _).mono (fun r h => ⟨fun c => by
    refine ⟨?_,?_,?_,?_,?_,?_,?_,?_,?_,?_,?_,?_,?_,?_,?_,?_,?_,?_,?_,?_,?_⟩ <;>
      exact Cert.KernelIdeal.Gen.args_end m r.2.mem h.1 _ (by decide) c, h.2⟩) (Cert.KernelIdeal.Gen.run (F := Ideal) m g)

/-- So does the reference. -/
theorem reference_frame : Cert.quiescent_ReferenceIdeal := fun m g _ =>
  (θ_run _ _ _).mono (fun r h => ⟨fun c => (h c).2, sem_eq_zero_of_no_sems rfl _⟩) (Cert.ReferenceIdeal.Value.run (F := Ideal) m g)

/-- The one named constant is the kernel's mask. -/
theorem preserves : Cert.preserves_Kernel_KernelIdeal :=
  IdealRules.named_const.statement Cert.KernelIdeal.κ "mask" .f32 0xF149F2CA#32 _ rfl

/-- The two frames where the precondition holds: they hold everywhere. -/
theorem ideal_frame_pre : Cert.quiescent_KernelIdeal_pre_mlp_rows_agree := fun m g _ => ideal_frame m g trivial

theorem reference_frame_pre : Cert.quiescent_ReferenceIdeal_pre_mlp_rows_agree := fun m g _ => reference_frame m g trivial

/-- Where the precondition holds the layers agree as the kernel's feed-forward calls need it. -/
theorem agree (m : (ℓ : Loc Cert.KernelIdeal.nD Cert.KernelIdeal.τ Cert.KernelIdeal.sig) → Buf (Elt Ideal) ℓ)
    (h : Cert.Pre_KernelIdeal_mlp_rows_agree m) (c : Dev Cert.KernelIdeal.nD) :
    Cert.KernelIdeal.Gen.Agree (Cert.KernelIdeal.Gen.wtsK m c) := fun ℓ =>
  have e := fun j => Cert.Pre_mlp_rows_agree.rows_agree _ _ _ _ _ _ _ _ _ _ _ _ _ _ _ _ _ _ _ _ _ (h c) ℓ j
  ⟨funext fun j => (e j).2.2, funext fun j => (e j).1, funext fun j => (e j).2.1⟩

/-- Over the extended reals the kernel's result is the reference's. -/
theorem algebraic : Cert.algebraic_KernelIdeal_ReferenceIdeal_pre_mlp_rows_agree := fun m g m' g' hpre hin => by
  refine ⟨fun c => Cert.KernelIdeal.Gen.entryW m 24 c (Proc.devRef .tc Cert.KernelIdeal.main_v62), ?_, ?_⟩
  · refine (θ_run _ _ _).mono (fun r h c => ?_) (Cert.KernelIdeal.Gen.run (F := Ideal) m g)
    refine ⟨h.1 c _ (Cert.KernelIdeal.Gen.mem_uc _ (by decide)), ?_⟩
    refine ⟨?_, ?_, ?_, ?_, ?_, ?_, ?_, ?_, ?_, ?_, ?_, ?_, ?_, ?_, ?_, ?_, ?_, ?_, ?_, ?_, ?_⟩ <;>
      exact Cert.KernelIdeal.Gen.args_end m r.2.mem h.1 _ (by decide) c
  · refine (θ_run _ _ _).mono (fun r h c => ?_) (Cert.ReferenceIdeal.Layer.run_net m' g')
    obtain ⟨h0, h1, h2, h3, h4, h5, h6, h7, h8, h9, h10, h11, h12, h13, h14, h15, h16, h17, h18, h19, h20⟩ := hin c
    refine ⟨(h c).1.trans (Cert.Same.results_eq m (StableHlo.launchContents m' c) c (agree m hpre c) ?_ ?_), (h c).2⟩
    · exact Cert.Same.of_congr h0 h3 h4 h5 h6 h7 h8 h9 h10 h11 h12 h13 h14 h15 h16 h17 h18 h19 h20
    · exact congrArg₂ Cert.Layer.start h2 Cert.Same.positions_eq.symm

theorem claim : Cert.Claim := ⟨Cert.Kernel.Gen.facts, Cert.KernelIdeal.Gen.facts, Cert.ReferenceIdeal.Gen.facts,
  Cert.Pre_mlp_rows_agree.facts, kernel_frame, ideal_frame, ideal_frame_pre, reference_frame, reference_frame_pre, preserves, algebraic⟩

end Cert.Proof

end

end
